-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_KernelIdeal (hKernelIdeal := hKernelIdeal)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal_pre_distinct (hKernelIdeal := hKernelIdeal) (hReferenceIdeal := hReferenceIdeal) (hPre_distinct := hPre_distinct)
-- ==== Pre_distinct.lean ====
abbrev S512x20x32x32 : Shape := ⟨4, ![512, 20, 32, 32]⟩
abbrev S32x1x4x4 : Shape := ⟨4, ![32, 1, 4, 4]⟩
abbrev S32 : Shape := ⟨1, ![32]⟩
abbrev S32x32x4x4 : Shape := ⟨4, ![32, 32, 4, 4]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1024x384 : Shape := ⟨2, ![1024, 384]⟩
abbrev S1024x256 : Shape := ⟨2, ![1024, 256]⟩
abbrev S1024 : Shape := ⟨1, ![1024]⟩
abbrev S256x256 : Shape := ⟨2, ![256, 256]⟩
abbrev S8x512 : Shape := ⟨2, ![8, 512]⟩
abbrev S8 : Shape := ⟨1, ![8]⟩
abbrev S20x256 : Shape := ⟨2, ![20, 256]⟩
abbrev S10240x1x32x32 : Shape := ⟨4, ![10240, 1, 32, 32]⟩
abbrev S_ : Shape := ⟨0, ![]⟩
abbrev S10240x1x34x34 : Shape := ⟨4, ![10240, 1, 34, 34]⟩
abbrev S10240x1x16x16 : Shape := ⟨4, ![10240, 1, 16, 16]⟩
abbrev S32x1x1x1 : Shape := ⟨4, ![32, 1, 1, 1]⟩
abbrev S32x1 : Shape := ⟨2, ![32, 1]⟩
abbrev S10240x16x16x32 : Shape := ⟨4, ![10240, 16, 16, 32]⟩
abbrev S10240x32x16x16 : Shape := ⟨4, ![10240, 32, 16, 16]⟩
abbrev S1x32x1x1 : Shape := ⟨4, ![1, 32, 1, 1]⟩
abbrev S10240x32x18x18 : Shape := ⟨4, ![10240, 32, 18, 18]⟩
abbrev S10240x32x8x8 : Shape := ⟨4, ![10240, 32, 8, 8]⟩
abbrev S32x32x1x1 : Shape := ⟨4, ![32, 32, 1, 1]⟩
abbrev S32x32 : Shape := ⟨2, ![32, 32]⟩
abbrev S10240x8x8x32 : Shape := ⟨4, ![10240, 8, 8, 32]⟩
abbrev S10240x32x10x10 : Shape := ⟨4, ![10240, 32, 10, 10]⟩
abbrev S10240x32x4x4 : Shape := ⟨4, ![10240, 32, 4, 4]⟩
abbrev S10240x4x4x32 : Shape := ⟨4, ![10240, 4, 4, 32]⟩
abbrev S10240x512 : Shape := ⟨2, ![10240, 512]⟩
abbrev S512x256 : Shape := ⟨2, ![512, 256]⟩
abbrev S10240x256 : Shape := ⟨2, ![10240, 256]⟩
abbrev S1x256 : Shape := ⟨2, ![1, 256]⟩
abbrev S256x128 : Shape := ⟨2, ![256, 128]⟩
abbrev S10240x128 : Shape := ⟨2, ![10240, 128]⟩
abbrev S1x128 : Shape := ⟨2, ![1, 128]⟩
abbrev S512x20x128 : Shape := ⟨3, ![512, 20, 128]⟩
abbrev S512x128 : Shape := ⟨2, ![512, 128]⟩
abbrev S512x1x128 : Shape := ⟨3, ![512, 1, 128]⟩
abbrev S1x1x128 : Shape := ⟨3, ![1, 1, 128]⟩
abbrev S512x1x1x1 : Shape := ⟨4, ![512, 1, 1, 1]⟩
abbrev S512x1 : Shape := ⟨2, ![512, 1]⟩
abbrev S1x20x256 : Shape := ⟨3, ![1, 20, 256]⟩
abbrev S512x20x256 : Shape := ⟨3, ![512, 20, 256]⟩
abbrev S512x4 : Shape := ⟨2, ![512, 4]⟩
abbrev S512x384 : Shape := ⟨2, ![512, 384]⟩
abbrev S384x1024 : Shape := ⟨2, ![384, 1024]⟩
abbrev S512x1024 : Shape := ⟨2, ![512, 1024]⟩
abbrev S256x1024 : Shape := ⟨2, ![256, 1024]⟩
abbrev S1x1024 : Shape := ⟨2, ![1, 1024]⟩
abbrev S512 : Shape := ⟨1, ![512]⟩
abbrev S512x20 : Shape := ⟨2, ![512, 20]⟩
abbrev S512x20x1 : Shape := ⟨3, ![512, 20, 1]⟩
abbrev S512x5 : Shape := ⟨2, ![512, 5]⟩
abbrev S512x4x1 : Shape := ⟨3, ![512, 4, 1]⟩
abbrev S512x4x256 : Shape := ⟨3, ![512, 4, 256]⟩
abbrev S512x1x256 : Shape := ⟨3, ![512, 1, 256]⟩

class Facts : Prop where
  shapeCasts_S512x20x32x32_S10240x1x32x32 : S512x20x32x32.ShapeCasts S10240x1x32x32
  pads_S10240x1x32x32_S10240x1x34x34_000_000_110_110 : S10240x1x32x32.Pads (![0, 0, 1, 1] : Fin 4 → Nat) ![0, 0, 1, 1] ![0, 0, 0, 0] S10240x1x34x34
  h_S_ : 0 < S_.numel
  slicesBy_S10240x1x34x34_S10240x1x16x16_0s1_0s1_0s2_0s2 : S10240x1x34x34.SlicesBy (![0, 0, 0, 0] : Fin 4 → Nat) ![1, 1, 2, 2] S10240x1x16x16
  slices_S32x1x4x4_S32x1x1x1_0_0_0_0 : S32x1x4x4.Slices ![0, 0, 0, 0] S32x1x1x1
  shapeCasts_S32x1x1x1_S32x1 : S32x1x1x1.ShapeCasts S32x1
  transposes_S10240x16x16x32_S10240x32x16x16_0_3_1_2 : S10240x16x16x32.Transposes [0, 3, 1, 2] S10240x32x16x16
  slicesBy_S10240x1x34x34_S10240x1x16x16_0s1_0s1_0s2_1s2 : S10240x1x34x34.SlicesBy (![0, 0, 0, 1] : Fin 4 → Nat) ![1, 1, 2, 2] S10240x1x16x16
  slices_S32x1x4x4_S32x1x1x1_0_0_0_1 : S32x1x4x4.Slices ![0, 0, 0, 1] S32x1x1x1
  slicesBy_S10240x1x34x34_S10240x1x16x16_0s1_0s1_0s2_2s2 : S10240x1x34x34.SlicesBy (![0, 0, 0, 2] : Fin 4 → Nat) ![1, 1, 2, 2] S10240x1x16x16
  slices_S32x1x4x4_S32x1x1x1_0_0_0_2 : S32x1x4x4.Slices ![0, 0, 0, 2] S32x1x1x1
  slicesBy_S10240x1x34x34_S10240x1x16x16_0s1_0s1_0s2_3s2 : S10240x1x34x34.SlicesBy (![0, 0, 0, 3] : Fin 4 → Nat) ![1, 1, 2, 2] S10240x1x16x16
  slices_S32x1x4x4_S32x1x1x1_0_0_0_3 : S32x1x4x4.Slices ![0, 0, 0, 3] S32x1x1x1
  slicesBy_S10240x1x34x34_S10240x1x16x16_0s1_0s1_1s2_0s2 : S10240x1x34x34.SlicesBy (![0, 0, 1, 0] : Fin 4 → Nat) ![1, 1, 2, 2] S10240x1x16x16
  slices_S32x1x4x4_S32x1x1x1_0_0_1_0 : S32x1x4x4.Slices ![0, 0, 1, 0] S32x1x1x1
  slicesBy_S10240x1x34x34_S10240x1x16x16_0s1_0s1_1s2_1s2 : S10240x1x34x34.SlicesBy (![0, 0, 1, 1] : Fin 4 → Nat) ![1, 1, 2, 2] S10240x1x16x16
  slices_S32x1x4x4_S32x1x1x1_0_0_1_1 : S32x1x4x4.Slices ![0, 0, 1, 1] S32x1x1x1
  slicesBy_S10240x1x34x34_S10240x1x16x16_0s1_0s1_1s2_2s2 : S10240x1x34x34.SlicesBy (![0, 0, 1, 2] : Fin 4 → Nat) ![1, 1, 2, 2] S10240x1x16x16
  slices_S32x1x4x4_S32x1x1x1_0_0_1_2 : S32x1x4x4.Slices ![0, 0, 1, 2] S32x1x1x1
  slicesBy_S10240x1x34x34_S10240x1x16x16_0s1_0s1_1s2_3s2 : S10240x1x34x34.SlicesBy (![0, 0, 1, 3] : Fin 4 → Nat) ![1, 1, 2, 2] S10240x1x16x16
  slices_S32x1x4x4_S32x1x1x1_0_0_1_3 : S32x1x4x4.Slices ![0, 0, 1, 3] S32x1x1x1
  slicesBy_S10240x1x34x34_S10240x1x16x16_0s1_0s1_2s2_0s2 : S10240x1x34x34.SlicesBy (![0, 0, 2, 0] : Fin 4 → Nat) ![1, 1, 2, 2] S10240x1x16x16
  slices_S32x1x4x4_S32x1x1x1_0_0_2_0 : S32x1x4x4.Slices ![0, 0, 2, 0] S32x1x1x1
  slicesBy_S10240x1x34x34_S10240x1x16x16_0s1_0s1_2s2_1s2 : S10240x1x34x34.SlicesBy (![0, 0, 2, 1] : Fin 4 → Nat) ![1, 1, 2, 2] S10240x1x16x16
  slices_S32x1x4x4_S32x1x1x1_0_0_2_1 : S32x1x4x4.Slices ![0, 0, 2, 1] S32x1x1x1
  slicesBy_S10240x1x34x34_S10240x1x16x16_0s1_0s1_2s2_2s2 : S10240x1x34x34.SlicesBy (![0, 0, 2, 2] : Fin 4 → Nat) ![1, 1, 2, 2] S10240x1x16x16
  slices_S32x1x4x4_S32x1x1x1_0_0_2_2 : S32x1x4x4.Slices ![0, 0, 2, 2] S32x1x1x1
  slicesBy_S10240x1x34x34_S10240x1x16x16_0s1_0s1_2s2_3s2 : S10240x1x34x34.SlicesBy (![0, 0, 2, 3] : Fin 4 → Nat) ![1, 1, 2, 2] S10240x1x16x16
  slices_S32x1x4x4_S32x1x1x1_0_0_2_3 : S32x1x4x4.Slices ![0, 0, 2, 3] S32x1x1x1
  slicesBy_S10240x1x34x34_S10240x1x16x16_0s1_0s1_3s2_0s2 : S10240x1x34x34.SlicesBy (![0, 0, 3, 0] : Fin 4 → Nat) ![1, 1, 2, 2] S10240x1x16x16
  slices_S32x1x4x4_S32x1x1x1_0_0_3_0 : S32x1x4x4.Slices ![0, 0, 3, 0] S32x1x1x1
  slicesBy_S10240x1x34x34_S10240x1x16x16_0s1_0s1_3s2_1s2 : S10240x1x34x34.SlicesBy (![0, 0, 3, 1] : Fin 4 → Nat) ![1, 1, 2, 2] S10240x1x16x16
  slices_S32x1x4x4_S32x1x1x1_0_0_3_1 : S32x1x4x4.Slices ![0, 0, 3, 1] S32x1x1x1
  slicesBy_S10240x1x34x34_S10240x1x16x16_0s1_0s1_3s2_2s2 : S10240x1x34x34.SlicesBy (![0, 0, 3, 2] : Fin 4 → Nat) ![1, 1, 2, 2] S10240x1x16x16
  slices_S32x1x4x4_S32x1x1x1_0_0_3_2 : S32x1x4x4.Slices ![0, 0, 3, 2] S32x1x1x1
  slicesBy_S10240x1x34x34_S10240x1x16x16_0s1_0s1_3s2_3s2 : S10240x1x34x34.SlicesBy (![0, 0, 3, 3] : Fin 4 → Nat) ![1, 1, 2, 2] S10240x1x16x16
  slices_S32x1x4x4_S32x1x1x1_0_0_3_3 : S32x1x4x4.Slices ![0, 0, 3, 3] S32x1x1x1
  bcast_S32_S1x32x1x1_1 : S32.BroadcastsInDim S1x32x1x1 (![1] : Fin 1 → Fin S1x32x1x1.rank)
  bcast_S1x32x1x1_S10240x32x16x16_0_1_2_3 : S1x32x1x1.BroadcastsInDim S10240x32x16x16 (![0, 1, 2, 3] : Fin 4 → Fin S10240x32x16x16.rank)
  bcast_S_S10240x32x16x16 : S_.BroadcastsInDim S10240x32x16x16 (![] : Fin 0 → Fin S10240x32x16x16.rank)
  pads_S10240x32x16x16_S10240x32x18x18_000_000_110_110 : S10240x32x16x16.Pads (![0, 0, 1, 1] : Fin 4 → Nat) ![0, 0, 1, 1] ![0, 0, 0, 0] S10240x32x18x18
  slicesBy_S10240x32x18x18_S10240x32x8x8_0s1_0s1_0s2_0s2 : S10240x32x18x18.SlicesBy (![0, 0, 0, 0] : Fin 4 → Nat) ![1, 1, 2, 2] S10240x32x8x8
  slices_S32x32x4x4_S32x32x1x1_0_0_0_0 : S32x32x4x4.Slices ![0, 0, 0, 0] S32x32x1x1
  shapeCasts_S32x32x1x1_S32x32 : S32x32x1x1.ShapeCasts S32x32
  transposes_S10240x8x8x32_S10240x32x8x8_0_3_1_2 : S10240x8x8x32.Transposes [0, 3, 1, 2] S10240x32x8x8
  slicesBy_S10240x32x18x18_S10240x32x8x8_0s1_0s1_0s2_1s2 : S10240x32x18x18.SlicesBy (![0, 0, 0, 1] : Fin 4 → Nat) ![1, 1, 2, 2] S10240x32x8x8
  slices_S32x32x4x4_S32x32x1x1_0_0_0_1 : S32x32x4x4.Slices ![0, 0, 0, 1] S32x32x1x1
  slicesBy_S10240x32x18x18_S10240x32x8x8_0s1_0s1_0s2_2s2 : S10240x32x18x18.SlicesBy (![0, 0, 0, 2] : Fin 4 → Nat) ![1, 1, 2, 2] S10240x32x8x8
  slices_S32x32x4x4_S32x32x1x1_0_0_0_2 : S32x32x4x4.Slices ![0, 0, 0, 2] S32x32x1x1
  slicesBy_S10240x32x18x18_S10240x32x8x8_0s1_0s1_0s2_3s2 : S10240x32x18x18.SlicesBy (![0, 0, 0, 3] : Fin 4 → Nat) ![1, 1, 2, 2] S10240x32x8x8
  slices_S32x32x4x4_S32x32x1x1_0_0_0_3 : S32x32x4x4.Slices ![0, 0, 0, 3] S32x32x1x1
  slicesBy_S10240x32x18x18_S10240x32x8x8_0s1_0s1_1s2_0s2 : S10240x32x18x18.SlicesBy (![0, 0, 1, 0] : Fin 4 → Nat) ![1, 1, 2, 2] S10240x32x8x8
  slices_S32x32x4x4_S32x32x1x1_0_0_1_0 : S32x32x4x4.Slices ![0, 0, 1, 0] S32x32x1x1
  slicesBy_S10240x32x18x18_S10240x32x8x8_0s1_0s1_1s2_1s2 : S10240x32x18x18.SlicesBy (![0, 0, 1, 1] : Fin 4 → Nat) ![1, 1, 2, 2] S10240x32x8x8
  slices_S32x32x4x4_S32x32x1x1_0_0_1_1 : S32x32x4x4.Slices ![0, 0, 1, 1] S32x32x1x1
  slicesBy_S10240x32x18x18_S10240x32x8x8_0s1_0s1_1s2_2s2 : S10240x32x18x18.SlicesBy (![0, 0, 1, 2] : Fin 4 → Nat) ![1, 1, 2, 2] S10240x32x8x8
  slices_S32x32x4x4_S32x32x1x1_0_0_1_2 : S32x32x4x4.Slices ![0, 0, 1, 2] S32x32x1x1
  slicesBy_S10240x32x18x18_S10240x32x8x8_0s1_0s1_1s2_3s2 : S10240x32x18x18.SlicesBy (![0, 0, 1, 3] : Fin 4 → Nat) ![1, 1, 2, 2] S10240x32x8x8
  slices_S32x32x4x4_S32x32x1x1_0_0_1_3 : S32x32x4x4.Slices ![0, 0, 1, 3] S32x32x1x1
  slicesBy_S10240x32x18x18_S10240x32x8x8_0s1_0s1_2s2_0s2 : S10240x32x18x18.SlicesBy (![0, 0, 2, 0] : Fin 4 → Nat) ![1, 1, 2, 2] S10240x32x8x8
  slices_S32x32x4x4_S32x32x1x1_0_0_2_0 : S32x32x4x4.Slices ![0, 0, 2, 0] S32x32x1x1
  slicesBy_S10240x32x18x18_S10240x32x8x8_0s1_0s1_2s2_1s2 : S10240x32x18x18.SlicesBy (![0, 0, 2, 1] : Fin 4 → Nat) ![1, 1, 2, 2] S10240x32x8x8
  slices_S32x32x4x4_S32x32x1x1_0_0_2_1 : S32x32x4x4.Slices ![0, 0, 2, 1] S32x32x1x1
  slicesBy_S10240x32x18x18_S10240x32x8x8_0s1_0s1_2s2_2s2 : S10240x32x18x18.SlicesBy (![0, 0, 2, 2] : Fin 4 → Nat) ![1, 1, 2, 2] S10240x32x8x8
  slices_S32x32x4x4_S32x32x1x1_0_0_2_2 : S32x32x4x4.Slices ![0, 0, 2, 2] S32x32x1x1
  slicesBy_S10240x32x18x18_S10240x32x8x8_0s1_0s1_2s2_3s2 : S10240x32x18x18.SlicesBy (![0, 0, 2, 3] : Fin 4 → Nat) ![1, 1, 2, 2] S10240x32x8x8
  slices_S32x32x4x4_S32x32x1x1_0_0_2_3 : S32x32x4x4.Slices ![0, 0, 2, 3] S32x32x1x1
  slicesBy_S10240x32x18x18_S10240x32x8x8_0s1_0s1_3s2_0s2 : S10240x32x18x18.SlicesBy (![0, 0, 3, 0] : Fin 4 → Nat) ![1, 1, 2, 2] S10240x32x8x8
  slices_S32x32x4x4_S32x32x1x1_0_0_3_0 : S32x32x4x4.Slices ![0, 0, 3, 0] S32x32x1x1
  slicesBy_S10240x32x18x18_S10240x32x8x8_0s1_0s1_3s2_1s2 : S10240x32x18x18.SlicesBy (![0, 0, 3, 1] : Fin 4 → Nat) ![1, 1, 2, 2] S10240x32x8x8
  slices_S32x32x4x4_S32x32x1x1_0_0_3_1 : S32x32x4x4.Slices ![0, 0, 3, 1] S32x32x1x1
  slicesBy_S10240x32x18x18_S10240x32x8x8_0s1_0s1_3s2_2s2 : S10240x32x18x18.SlicesBy (![0, 0, 3, 2] : Fin 4 → Nat) ![1, 1, 2, 2] S10240x32x8x8
  slices_S32x32x4x4_S32x32x1x1_0_0_3_2 : S32x32x4x4.Slices ![0, 0, 3, 2] S32x32x1x1
  slicesBy_S10240x32x18x18_S10240x32x8x8_0s1_0s1_3s2_3s2 : S10240x32x18x18.SlicesBy (![0, 0, 3, 3] : Fin 4 → Nat) ![1, 1, 2, 2] S10240x32x8x8
  slices_S32x32x4x4_S32x32x1x1_0_0_3_3 : S32x32x4x4.Slices ![0, 0, 3, 3] S32x32x1x1
  bcast_S1x32x1x1_S10240x32x8x8_0_1_2_3 : S1x32x1x1.BroadcastsInDim S10240x32x8x8 (![0, 1, 2, 3] : Fin 4 → Fin S10240x32x8x8.rank)
  bcast_S_S10240x32x8x8 : S_.BroadcastsInDim S10240x32x8x8 (![] : Fin 0 → Fin S10240x32x8x8.rank)
  pads_S10240x32x8x8_S10240x32x10x10_000_000_110_110 : S10240x32x8x8.Pads (![0, 0, 1, 1] : Fin 4 → Nat) ![0, 0, 1, 1] ![0, 0, 0, 0] S10240x32x10x10
  slicesBy_S10240x32x10x10_S10240x32x4x4_0s1_0s1_0s2_0s2 : S10240x32x10x10.SlicesBy (![0, 0, 0, 0] : Fin 4 → Nat) ![1, 1, 2, 2] S10240x32x4x4
  transposes_S10240x4x4x32_S10240x32x4x4_0_3_1_2 : S10240x4x4x32.Transposes [0, 3, 1, 2] S10240x32x4x4
  slicesBy_S10240x32x10x10_S10240x32x4x4_0s1_0s1_0s2_1s2 : S10240x32x10x10.SlicesBy (![0, 0, 0, 1] : Fin 4 → Nat) ![1, 1, 2, 2] S10240x32x4x4
  slicesBy_S10240x32x10x10_S10240x32x4x4_0s1_0s1_0s2_2s2 : S10240x32x10x10.SlicesBy (![0, 0, 0, 2] : Fin 4 → Nat) ![1, 1, 2, 2] S10240x32x4x4
  slicesBy_S10240x32x10x10_S10240x32x4x4_0s1_0s1_0s2_3s2 : S10240x32x10x10.SlicesBy (![0, 0, 0, 3] : Fin 4 → Nat) ![1, 1, 2, 2] S10240x32x4x4
  slicesBy_S10240x32x10x10_S10240x32x4x4_0s1_0s1_1s2_0s2 : S10240x32x10x10.SlicesBy (![0, 0, 1, 0] : Fin 4 → Nat) ![1, 1, 2, 2] S10240x32x4x4
  slicesBy_S10240x32x10x10_S10240x32x4x4_0s1_0s1_1s2_1s2 : S10240x32x10x10.SlicesBy (![0, 0, 1, 1] : Fin 4 → Nat) ![1, 1, 2, 2] S10240x32x4x4
  slicesBy_S10240x32x10x10_S10240x32x4x4_0s1_0s1_1s2_2s2 : S10240x32x10x10.SlicesBy (![0, 0, 1, 2] : Fin 4 → Nat) ![1, 1, 2, 2] S10240x32x4x4
  slicesBy_S10240x32x10x10_S10240x32x4x4_0s1_0s1_1s2_3s2 : S10240x32x10x10.SlicesBy (![0, 0, 1, 3] : Fin 4 → Nat) ![1, 1, 2, 2] S10240x32x4x4
  slicesBy_S10240x32x10x10_S10240x32x4x4_0s1_0s1_2s2_0s2 : S10240x32x10x10.SlicesBy (![0, 0, 2, 0] : Fin 4 → Nat) ![1, 1, 2, 2] S10240x32x4x4
  slicesBy_S10240x32x10x10_S10240x32x4x4_0s1_0s1_2s2_1s2 : S10240x32x10x10.SlicesBy (![0, 0, 2, 1] : Fin 4 → Nat) ![1, 1, 2, 2] S10240x32x4x4
  slicesBy_S10240x32x10x10_S10240x32x4x4_0s1_0s1_2s2_2s2 : S10240x32x10x10.SlicesBy (![0, 0, 2, 2] : Fin 4 → Nat) ![1, 1, 2, 2] S10240x32x4x4
  slicesBy_S10240x32x10x10_S10240x32x4x4_0s1_0s1_2s2_3s2 : S10240x32x10x10.SlicesBy (![0, 0, 2, 3] : Fin 4 → Nat) ![1, 1, 2, 2] S10240x32x4x4
  slicesBy_S10240x32x10x10_S10240x32x4x4_0s1_0s1_3s2_0s2 : S10240x32x10x10.SlicesBy (![0, 0, 3, 0] : Fin 4 → Nat) ![1, 1, 2, 2] S10240x32x4x4
  slicesBy_S10240x32x10x10_S10240x32x4x4_0s1_0s1_3s2_1s2 : S10240x32x10x10.SlicesBy (![0, 0, 3, 1] : Fin 4 → Nat) ![1, 1, 2, 2] S10240x32x4x4
  slicesBy_S10240x32x10x10_S10240x32x4x4_0s1_0s1_3s2_2s2 : S10240x32x10x10.SlicesBy (![0, 0, 3, 2] : Fin 4 → Nat) ![1, 1, 2, 2] S10240x32x4x4
  slicesBy_S10240x32x10x10_S10240x32x4x4_0s1_0s1_3s2_3s2 : S10240x32x10x10.SlicesBy (![0, 0, 3, 3] : Fin 4 → Nat) ![1, 1, 2, 2] S10240x32x4x4
  bcast_S1x32x1x1_S10240x32x4x4_0_1_2_3 : S1x32x1x1.BroadcastsInDim S10240x32x4x4 (![0, 1, 2, 3] : Fin 4 → Fin S10240x32x4x4.rank)
  bcast_S_S10240x32x4x4 : S_.BroadcastsInDim S10240x32x4x4 (![] : Fin 0 → Fin S10240x32x4x4.rank)
  shapeCasts_S10240x32x4x4_S10240x512 : S10240x32x4x4.ShapeCasts S10240x512
  transposes_S256x512_S512x256_1_0 : S256x512.Transposes [1, 0] S512x256
  bcast_S256_S1x256_1 : S256.BroadcastsInDim S1x256 (![1] : Fin 1 → Fin S1x256.rank)
  bcast_S1x256_S10240x256_0_1 : S1x256.BroadcastsInDim S10240x256 (![0, 1] : Fin 2 → Fin S10240x256.rank)
  bcast_S_S10240x256 : S_.BroadcastsInDim S10240x256 (![] : Fin 0 → Fin S10240x256.rank)
  transposes_S128x256_S256x128_1_0 : S128x256.Transposes [1, 0] S256x128
  bcast_S128_S1x128_1 : S128.BroadcastsInDim S1x128 (![1] : Fin 1 → Fin S1x128.rank)
  bcast_S1x128_S10240x128_0_1 : S1x128.BroadcastsInDim S10240x128 (![0, 1] : Fin 2 → Fin S10240x128.rank)
  bcast_S_S10240x128 : S_.BroadcastsInDim S10240x128 (![] : Fin 0 → Fin S10240x128.rank)
  shapeCasts_S10240x128_S512x20x128 : S10240x128.ShapeCasts S512x20x128
  reducesTo_S512x20x128_S512x128_d1 : S512x20x128.ReducesTo [1] S512x128
  bcast_S_S512x128 : S_.BroadcastsInDim S512x128 (![] : Fin 0 → Fin S512x128.rank)
  bcast_S512x128_S512x1x128_0_2 : S512x128.BroadcastsInDim S512x1x128 (![0, 2] : Fin 2 → Fin S512x1x128.rank)
  bcast_S512x1x128_S512x20x128_0_1_2 : S512x1x128.BroadcastsInDim S512x20x128 (![0, 1, 2] : Fin 3 → Fin S512x20x128.rank)
  bcast_S128_S1x1x128_2 : S128.BroadcastsInDim S1x1x128 (![2] : Fin 1 → Fin S1x1x128.rank)
  bcast_S1x1x128_S512x20x128_0_1_2 : S1x1x128.BroadcastsInDim S512x20x128 (![0, 1, 2] : Fin 3 → Fin S512x20x128.rank)
  slices_S512x20x32x32_S512x1x1x1_0_0_0_0 : S512x20x32x32.Slices ![0, 0, 0, 0] S512x1x1x1
  shapeCasts_S512x1x1x1_S512x1 : S512x1x1x1.ShapeCasts S512x1
  bcast_S_S512x1 : S_.BroadcastsInDim S512x1 (![] : Fin 0 → Fin S512x1.rank)
  bcast_S512x1_S512x256_0_1 : S512x1.BroadcastsInDim S512x256 (![0, 1] : Fin 2 → Fin S512x256.rank)
  bcast_S20x256_S1x20x256_1_2 : S20x256.BroadcastsInDim S1x20x256 (![1, 2] : Fin 2 → Fin S1x20x256.rank)
  bcast_S1x20x256_S512x20x256_0_1_2 : S1x20x256.BroadcastsInDim S512x20x256 (![0, 1, 2] : Fin 3 → Fin S512x20x256.rank)
  bcast_S_S512x4 : S_.BroadcastsInDim S512x4 (![] : Fin 0 → Fin S512x4.rank)
  slices_S512x20x128_S512x1x128_0_0_0 : S512x20x128.Slices ![0, 0, 0] S512x1x128
  shapeCasts_S512x1x128_S512x128 : S512x1x128.ShapeCasts S512x128
  concatenates_S512x128_S512x256_S512x384_d1 : Shape.Concatenates [S512x128, S512x256] S512x384 1
  transposes_S1024x384_S384x1024_1_0 : S1024x384.Transposes [1, 0] S384x1024
  transposes_S1024x256_S256x1024_1_0 : S1024x256.Transposes [1, 0] S256x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  slices_S512x1024_S512x256_0_0 : S512x1024.Slices ![0, 0] S512x256
  slices_S512x1024_S512x256_0_256 : S512x1024.Slices ![0, 256] S512x256
  slices_S512x1024_S512x256_0_512 : S512x1024.Slices ![0, 512] S512x256
  slices_S512x1024_S512x256_0_768 : S512x1024.Slices ![0, 768] S512x256
  bcast_S_S512x256 : S_.BroadcastsInDim S512x256 (![] : Fin 0 → Fin S512x256.rank)
  transposes_S256x256_S256x256_1_0 : S256x256.Transposes [1, 0] S256x256
  reducesTo_S512x256_S512_d1 : S512x256.ReducesTo [1] S512
  bcast_S512_S512x1_0 : S512.BroadcastsInDim S512x1 (![0] : Fin 1 → Fin S512x1.rank)
  reducesTo_S512x20x256_S512x20_d2 : S512x20x256.ReducesTo [2] S512x20
  bcast_S512x20_S512x20x1_0_1 : S512x20.BroadcastsInDim S512x20x1 (![0, 1] : Fin 2 → Fin S512x20x1.rank)
  bcast_S_S512x20x1 : S_.BroadcastsInDim S512x20x1 (![] : Fin 0 → Fin S512x20x1.rank)
  bcast_S512x20x1_S512x20x256_0_1_2 : S512x20x1.BroadcastsInDim S512x20x256 (![0, 1, 2] : Fin 3 → Fin S512x20x256.rank)
  sliceFits_S512x20_S512x5 : S512x20.Slices (fun _ => 0) S512x5
  slices_S512x5_S512x4_0_0 : S512x5.Slices ![0, 0] S512x4
  slices_S512x5_S512x4_0_1 : S512x5.Slices ![0, 1] S512x4
  sliceFits_S512x20_S512x4 : S512x20.Slices (fun _ => 0) S512x4
  reducesTo_S512x4_S512_d1 : S512x4.ReducesTo [1] S512
  bcast_S_S512 : S_.BroadcastsInDim S512 (![] : Fin 0 → Fin S512.rank)
  bcast_S512x1_S512x4_0_1 : S512x1.BroadcastsInDim S512x4 (![0, 1] : Fin 2 → Fin S512x4.rank)
  bcast_S512x4_S512x4x1_0_1 : S512x4.BroadcastsInDim S512x4x1 (![0, 1] : Fin 2 → Fin S512x4x1.rank)
  bcast_S_S512x4x1 : S_.BroadcastsInDim S512x4x1 (![] : Fin 0 → Fin S512x4x1.rank)
  bcast_S512x4x1_S512x4x256_0_1_2 : S512x4x1.BroadcastsInDim S512x4x256 (![0, 1, 2] : Fin 3 → Fin S512x4x256.rank)
  reducesTo_S512x4x256_S512x256_d1 : S512x4x256.ReducesTo [1] S512x256
  reducesTo_S512x20_S512_d1 : S512x20.ReducesTo [1] S512
  bcast_S512x1_S512x20_0_1 : S512x1.BroadcastsInDim S512x20 (![0, 1] : Fin 2 → Fin S512x20.rank)
  bcast_S512x256_S512x1x256_0_2 : S512x256.BroadcastsInDim S512x1x256 (![0, 2] : Fin 2 → Fin S512x1x256.rank)
  bcast_S512x1x256_S512x20x256_0_1_2 : S512x1x256.BroadcastsInDim S512x20x256 (![0, 1, 2] : Fin 3 → Fin S512x20x256.rank)
  bcast_S_S512x20x256 : S_.BroadcastsInDim S512x20x256 (![] : Fin 0 → Fin S512x20x256.rank)
  slices_S512x20x128_S512x1x128_0_1_0 : S512x20x128.Slices ![0, 1, 0] S512x1x128
  slices_S512x20x128_S512x1x128_0_2_0 : S512x20x128.Slices ![0, 2, 0] S512x1x128
  slices_S512x20x128_S512x1x128_0_3_0 : S512x20x128.Slices ![0, 3, 0] S512x1x128
  slices_S512x20x128_S512x1x128_0_4_0 : S512x20x128.Slices ![0, 4, 0] S512x1x128
  slices_S512x20x128_S512x1x128_0_5_0 : S512x20x128.Slices ![0, 5, 0] S512x1x128
  slices_S512x20x128_S512x1x128_0_6_0 : S512x20x128.Slices ![0, 6, 0] S512x1x128
  slices_S512x20x128_S512x1x128_0_7_0 : S512x20x128.Slices ![0, 7, 0] S512x1x128
  slices_S512x20x128_S512x1x128_0_8_0 : S512x20x128.Slices ![0, 8, 0] S512x1x128
  slices_S512x20x128_S512x1x128_0_9_0 : S512x20x128.Slices ![0, 9, 0] S512x1x128
  slices_S512x20x128_S512x1x128_0_10_0 : S512x20x128.Slices ![0, 10, 0] S512x1x128
  slices_S512x20x128_S512x1x128_0_11_0 : S512x20x128.Slices ![0, 11, 0] S512x1x128
  slices_S512x20x128_S512x1x128_0_12_0 : S512x20x128.Slices ![0, 12, 0] S512x1x128
  slices_S512x20x128_S512x1x128_0_13_0 : S512x20x128.Slices ![0, 13, 0] S512x1x128
  slices_S512x20x128_S512x1x128_0_14_0 : S512x20x128.Slices ![0, 14, 0] S512x1x128
  slices_S512x20x128_S512x1x128_0_15_0 : S512x20x128.Slices ![0, 15, 0] S512x1x128
  slices_S512x20x128_S512x1x128_0_16_0 : S512x20x128.Slices ![0, 16, 0] S512x1x128
  slices_S512x20x128_S512x1x128_0_17_0 : S512x20x128.Slices ![0, 17, 0] S512x1x128
  slices_S512x20x128_S512x1x128_0_18_0 : S512x20x128.Slices ![0, 18, 0] S512x1x128
  slices_S512x20x128_S512x1x128_0_19_0 : S512x20x128.Slices ![0, 19, 0] S512x1x128
  dot_S10240x1x16x16_S32x1_S10240x16x16x32_1_1_023_0_n_n_wf : DotDims.WF S10240x1x16x16 S32x1 S10240x16x16x32 [1] [1] [0, 2, 3] [0] [] []
  dot_S10240x32x8x8_S32x32_S10240x8x8x32_1_1_023_0_n_n_wf : DotDims.WF S10240x32x8x8 S32x32 S10240x8x8x32 [1] [1] [0, 2, 3] [0] [] []
  dot_S10240x32x4x4_S32x32_S10240x4x4x32_1_1_023_0_n_n_wf : DotDims.WF S10240x32x4x4 S32x32 S10240x4x4x32 [1] [1] [0, 2, 3] [0] [] []
  dot_S10240x512_S512x256_S10240x256_1_0_0_1_n_n_wf : DotDims.WF S10240x512 S512x256 S10240x256 [1] [0] [0] [1] [] []
  dot_S10240x256_S256x128_S10240x128_1_0_0_1_n_n_wf : DotDims.WF S10240x256 S256x128 S10240x128 [1] [0] [0] [1] [] []
  dot_S512x384_S384x1024_S512x1024_1_0_0_1_n_n_wf : DotDims.WF S512x384 S384x1024 S512x1024 [1] [0] [0] [1] [] []
  dot_S512x256_S256x1024_S512x1024_1_0_0_1_n_n_wf : DotDims.WF S512x256 S256x1024 S512x1024 [1] [0] [0] [1] [] []
  dot_S512x256_S256x256_S512x256_1_0_0_1_n_n_wf : DotDims.WF S512x256 S256x256 S512x256 [1] [0] [0] [1] [] []
  dot_S512x256_S512x20x256_S512x20_1_2_n_1_0_0_wf : DotDims.WF S512x256 S512x20x256 S512x20 [1] [2] [] [1] [0] [0]
  gather_S512x20x256_S512x4x1_S512x4x256_2_1_0_0_1_2_11256_wf : GatherDims.WF S512x20x256 S512x4x1 S512x4x256 [2] [1] [0] [1] [0] 2 ![1, 1, 256]

variable [Facts]

def dot_S10240x1x16x16_S32x1_S10240x16x16x32_1_1_023_0_n_n : DotDims S10240x1x16x16 S32x1 S10240x16x16x32 where
  lhsContracting := [1]
  rhsContracting := [1]
  lhsNonContracting := [0, 2, 3]
  rhsNonContracting := [0]
  lhsBatch := []
  rhsBatch := []
  wf := dot_S10240x1x16x16_S32x1_S10240x16x16x32_1_1_023_0_n_n_wf
def dot_S10240x32x8x8_S32x32_S10240x8x8x32_1_1_023_0_n_n : DotDims S10240x32x8x8 S32x32 S10240x8x8x32 where
  lhsContracting := [1]
  rhsContracting := [1]
  lhsNonContracting := [0, 2, 3]
  rhsNonContracting := [0]
  lhsBatch := []
  rhsBatch := []
  wf := dot_S10240x32x8x8_S32x32_S10240x8x8x32_1_1_023_0_n_n_wf
def dot_S10240x32x4x4_S32x32_S10240x4x4x32_1_1_023_0_n_n : DotDims S10240x32x4x4 S32x32 S10240x4x4x32 where
  lhsContracting := [1]
  rhsContracting := [1]
  lhsNonContracting := [0, 2, 3]
  rhsNonContracting := [0]
  lhsBatch := []
  rhsBatch := []
  wf := dot_S10240x32x4x4_S32x32_S10240x4x4x32_1_1_023_0_n_n_wf
def dot_S10240x512_S512x256_S10240x256_1_0_0_1_n_n : DotDims S10240x512 S512x256 S10240x256 where
  lhsContracting := [1]
  rhsContracting := [0]
  lhsNonContracting := [0]
  rhsNonContracting := [1]
  lhsBatch := []
  rhsBatch := []
  wf := dot_S10240x512_S512x256_S10240x256_1_0_0_1_n_n_wf
def dot_S10240x256_S256x128_S10240x128_1_0_0_1_n_n : DotDims S10240x256 S256x128 S10240x128 where
  lhsContracting := [1]
  rhsContracting := [0]
  lhsNonContracting := [0]
  rhsNonContracting := [1]
  lhsBatch := []
  rhsBatch := []
  wf := dot_S10240x256_S256x128_S10240x128_1_0_0_1_n_n_wf
def dot_S512x384_S384x1024_S512x1024_1_0_0_1_n_n : DotDims S512x384 S384x1024 S512x1024 where
  lhsContracting := [1]
  rhsContracting := [0]
  lhsNonContracting := [0]
  rhsNonContracting := [1]
  lhsBatch := []
  rhsBatch := []
  wf := dot_S512x384_S384x1024_S512x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S512x20x256_S512x20_1_2_n_1_0_0 : DotDims S512x256 S512x20x256 S512x20 where
  lhsContracting := [1]
  rhsContracting := [2]
  lhsNonContracting := []
  rhsNonContracting := [1]
  lhsBatch := [0]
  rhsBatch := [0]
  wf := dot_S512x256_S512x20x256_S512x20_1_2_n_1_0_0_wf
def gather_S512x20x256_S512x4x1_S512x4x256_2_1_0_0_1_2_11256 : GatherDims S512x20x256 S512x4x1 S512x4x256 where
  offsetDims := [2]
  collapsedSliceDims := [1]
  operandBatchingDims := [0]
  startIndicesBatchingDims := [0]
  startIndexMap := [1]
  indexVectorDim := 2
  sliceSizes := ![1, 1, 256]
  wf := gather_S512x20x256_S512x4x1_S512x4x256_2_1_0_0_1_2_11256_wf
def fn_pad {F : FTy → Type} [FloatOps F] (arg0 : FVec F S10240x1x32x32 .f32) (arg1 : IVec S_ 32) : FVec F S10240x1x34x34 .f32 :=
  let v0 : FVec F S_ .f32 := sitofp .f32 arg1
  let v1 : FVec F S10240x1x34x34 .f32 := (fun x v => pad S10240x1x34x34 ![0, 0, 1, 1] ![0, 0, 1, 1] ![0, 0, 0, 0] x v pads_S10240x1x32x32_S10240x1x34x34_000_000_110_110 h_S_) arg0 v0
  v1

def fn_conv_relu_part4 {F : FTy → Type} [FloatOps F] (arg2 : FVec F S32 .f32) (v89 : FVec F S10240x32x16x16 .f32) (v94 : FVec F S10240x32x16x16 .f32) : FVec F S10240x32x16x16 .f32 :=
  let v95 : FVec F S10240x32x16x16 .f32 := addf v89 v94
  let v96 : FVec F S1x32x1x1 .f32 := broadcastInDim S1x32x1x1 ![1] bcast_S32_S1x32x1x1_1 arg2
  let v97 : FVec F S10240x32x16x16 .f32 := broadcastInDim S10240x32x16x16 ![0, 1, 2, 3] bcast_S1x32x1x1_S10240x32x16x16_0_1_2_3 v96
  let v98 : FVec F S10240x32x16x16 .f32 := addf v95 v97
  let cst : FVec F S_ .f32 := constant S_ .f32 0x00000000#32
  let v99 : FVec F S10240x32x16x16 .f32 := broadcastInDim S10240x32x16x16 ![] bcast_S_S10240x32x16x16 cst
  let v100 : FVec F S10240x32x16x16 .f32 := maximumf v98 v99
  v100

def fn_conv_relu_part3 {F : FTy → Type} [FloatOps F] (arg1 : FVec F S32x1x4x4 .f32) (arg2 : FVec F S32 .f32) (v0 : FVec F S10240x1x34x34 .f32) (v65 : FVec F S10240x32x16x16 .f32) (v70 : FVec F S10240x32x16x16 .f32) : FVec F S10240x32x16x16 .f32 :=
  let v71 : FVec F S10240x32x16x16 .f32 := addf v65 v70
  let v72 : FVec F S10240x1x16x16 .f32 := (Host.slice S10240x1x16x16 ![0, 0, 3, 0] ![1, 1, 2, 2] · slicesBy_S10240x1x34x34_S10240x1x16x16_0s1_0s1_3s2_0s2) v0
  let v73 : FVec F S32x1x1x1 .f32 := (extractStridedSlice S32x1x1x1 ![0, 0, 3, 0] · slices_S32x1x4x4_S32x1x1x1_0_0_3_0) arg1
  let v74 : FVec F S32x1 .f32 := shapeCast S32x1 v73 shapeCasts_S32x1x1x1_S32x1
  let v75 : FVec F S10240x16x16x32 .f32 := (fun l r => Host.dotGeneral dot_S10240x1x16x16_S32x1_S10240x16x16x32_1_1_023_0_n_n none l r) v72 v74
  let v76 : FVec F S10240x32x16x16 .f32 := (transpose S10240x32x16x16 [0, 3, 1, 2] · transposes_S10240x16x16x32_S10240x32x16x16_0_3_1_2) v75
  let v77 : FVec F S10240x32x16x16 .f32 := addf v71 v76
  let v78 : FVec F S10240x1x16x16 .f32 := (Host.slice S10240x1x16x16 ![0, 0, 3, 1] ![1, 1, 2, 2] · slicesBy_S10240x1x34x34_S10240x1x16x16_0s1_0s1_3s2_1s2) v0
  let v79 : FVec F S32x1x1x1 .f32 := (extractStridedSlice S32x1x1x1 ![0, 0, 3, 1] · slices_S32x1x4x4_S32x1x1x1_0_0_3_1) arg1
  let v80 : FVec F S32x1 .f32 := shapeCast S32x1 v79 shapeCasts_S32x1x1x1_S32x1
  let v81 : FVec F S10240x16x16x32 .f32 := (fun l r => Host.dotGeneral dot_S10240x1x16x16_S32x1_S10240x16x16x32_1_1_023_0_n_n none l r) v78 v80
  let v82 : FVec F S10240x32x16x16 .f32 := (transpose S10240x32x16x16 [0, 3, 1, 2] · transposes_S10240x16x16x32_S10240x32x16x16_0_3_1_2) v81
  let v83 : FVec F S10240x32x16x16 .f32 := addf v77 v82
  let v84 : FVec F S10240x1x16x16 .f32 := (Host.slice S10240x1x16x16 ![0, 0, 3, 2] ![1, 1, 2, 2] · slicesBy_S10240x1x34x34_S10240x1x16x16_0s1_0s1_3s2_2s2) v0
  let v85 : FVec F S32x1x1x1 .f32 := (extractStridedSlice S32x1x1x1 ![0, 0, 3, 2] · slices_S32x1x4x4_S32x1x1x1_0_0_3_2) arg1
  let v86 : FVec F S32x1 .f32 := shapeCast S32x1 v85 shapeCasts_S32x1x1x1_S32x1
  let v87 : FVec F S10240x16x16x32 .f32 := (fun l r => Host.dotGeneral dot_S10240x1x16x16_S32x1_S10240x16x16x32_1_1_023_0_n_n none l r) v84 v86
  let v88 : FVec F S10240x32x16x16 .f32 := (transpose S10240x32x16x16 [0, 3, 1, 2] · transposes_S10240x16x16x32_S10240x32x16x16_0_3_1_2) v87
  let v89 : FVec F S10240x32x16x16 .f32 := addf v83 v88
  let v90 : FVec F S10240x1x16x16 .f32 := (Host.slice S10240x1x16x16 ![0, 0, 3, 3] ![1, 1, 2, 2] · slicesBy_S10240x1x34x34_S10240x1x16x16_0s1_0s1_3s2_3s2) v0
  let v91 : FVec F S32x1x1x1 .f32 := (extractStridedSlice S32x1x1x1 ![0, 0, 3, 3] · slices_S32x1x4x4_S32x1x1x1_0_0_3_3) arg1
  let v92 : FVec F S32x1 .f32 := shapeCast S32x1 v91 shapeCasts_S32x1x1x1_S32x1
  let v93 : FVec F S10240x16x16x32 .f32 := (fun l r => Host.dotGeneral dot_S10240x1x16x16_S32x1_S10240x16x16x32_1_1_023_0_n_n none l r) v90 v92
  let v94 : FVec F S10240x32x16x16 .f32 := (transpose S10240x32x16x16 [0, 3, 1, 2] · transposes_S10240x16x16x32_S10240x32x16x16_0_3_1_2) v93
  fn_conv_relu_part4 (F := F) arg2 v89 v94

def fn_conv_relu_part2 {F : FTy → Type} [FloatOps F] (arg1 : FVec F S32x1x4x4 .f32) (arg2 : FVec F S32 .f32) (v0 : FVec F S10240x1x34x34 .f32) (v41 : FVec F S10240x32x16x16 .f32) (v46 : FVec F S10240x32x16x16 .f32) : FVec F S10240x32x16x16 .f32 :=
  let v47 : FVec F S10240x32x16x16 .f32 := addf v41 v46
  let v48 : FVec F S10240x1x16x16 .f32 := (Host.slice S10240x1x16x16 ![0, 0, 2, 0] ![1, 1, 2, 2] · slicesBy_S10240x1x34x34_S10240x1x16x16_0s1_0s1_2s2_0s2) v0
  let v49 : FVec F S32x1x1x1 .f32 := (extractStridedSlice S32x1x1x1 ![0, 0, 2, 0] · slices_S32x1x4x4_S32x1x1x1_0_0_2_0) arg1
  let v50 : FVec F S32x1 .f32 := shapeCast S32x1 v49 shapeCasts_S32x1x1x1_S32x1
  let v51 : FVec F S10240x16x16x32 .f32 := (fun l r => Host.dotGeneral dot_S10240x1x16x16_S32x1_S10240x16x16x32_1_1_023_0_n_n none l r) v48 v50
  let v52 : FVec F S10240x32x16x16 .f32 := (transpose S10240x32x16x16 [0, 3, 1, 2] · transposes_S10240x16x16x32_S10240x32x16x16_0_3_1_2) v51
  let v53 : FVec F S10240x32x16x16 .f32 := addf v47 v52
  let v54 : FVec F S10240x1x16x16 .f32 := (Host.slice S10240x1x16x16 ![0, 0, 2, 1] ![1, 1, 2, 2] · slicesBy_S10240x1x34x34_S10240x1x16x16_0s1_0s1_2s2_1s2) v0
  let v55 : FVec F S32x1x1x1 .f32 := (extractStridedSlice S32x1x1x1 ![0, 0, 2, 1] · slices_S32x1x4x4_S32x1x1x1_0_0_2_1) arg1
  let v56 : FVec F S32x1 .f32 := shapeCast S32x1 v55 shapeCasts_S32x1x1x1_S32x1
  let v57 : FVec F S10240x16x16x32 .f32 := (fun l r => Host.dotGeneral dot_S10240x1x16x16_S32x1_S10240x16x16x32_1_1_023_0_n_n none l r) v54 v56
  let v58 : FVec F S10240x32x16x16 .f32 := (transpose S10240x32x16x16 [0, 3, 1, 2] · transposes_S10240x16x16x32_S10240x32x16x16_0_3_1_2) v57
  let v59 : FVec F S10240x32x16x16 .f32 := addf v53 v58
  let v60 : FVec F S10240x1x16x16 .f32 := (Host.slice S10240x1x16x16 ![0, 0, 2, 2] ![1, 1, 2, 2] · slicesBy_S10240x1x34x34_S10240x1x16x16_0s1_0s1_2s2_2s2) v0
  let v61 : FVec F S32x1x1x1 .f32 := (extractStridedSlice S32x1x1x1 ![0, 0, 2, 2] · slices_S32x1x4x4_S32x1x1x1_0_0_2_2) arg1
  let v62 : FVec F S32x1 .f32 := shapeCast S32x1 v61 shapeCasts_S32x1x1x1_S32x1
  let v63 : FVec F S10240x16x16x32 .f32 := (fun l r => Host.dotGeneral dot_S10240x1x16x16_S32x1_S10240x16x16x32_1_1_023_0_n_n none l r) v60 v62
  let v64 : FVec F S10240x32x16x16 .f32 := (transpose S10240x32x16x16 [0, 3, 1, 2] · transposes_S10240x16x16x32_S10240x32x16x16_0_3_1_2) v63
  let v65 : FVec F S10240x32x16x16 .f32 := addf v59 v64
  let v66 : FVec F S10240x1x16x16 .f32 := (Host.slice S10240x1x16x16 ![0, 0, 2, 3] ![1, 1, 2, 2] · slicesBy_S10240x1x34x34_S10240x1x16x16_0s1_0s1_2s2_3s2) v0
  let v67 : FVec F S32x1x1x1 .f32 := (extractStridedSlice S32x1x1x1 ![0, 0, 2, 3] · slices_S32x1x4x4_S32x1x1x1_0_0_2_3) arg1
  let v68 : FVec F S32x1 .f32 := shapeCast S32x1 v67 shapeCasts_S32x1x1x1_S32x1
  let v69 : FVec F S10240x16x16x32 .f32 := (fun l r => Host.dotGeneral dot_S10240x1x16x16_S32x1_S10240x16x16x32_1_1_023_0_n_n none l r) v66 v68
  let v70 : FVec F S10240x32x16x16 .f32 := (transpose S10240x32x16x16 [0, 3, 1, 2] · transposes_S10240x16x16x32_S10240x32x16x16_0_3_1_2) v69
  fn_conv_relu_part3 (F := F) arg1 arg2 v0 v65 v70

def fn_conv_relu_part1 {F : FTy → Type} [FloatOps F] (arg1 : FVec F S32x1x4x4 .f32) (arg2 : FVec F S32 .f32) (v0 : FVec F S10240x1x34x34 .f32) (v17 : FVec F S10240x32x16x16 .f32) (v22 : FVec F S10240x32x16x16 .f32) : FVec F S10240x32x16x16 .f32 :=
  let v23 : FVec F S10240x32x16x16 .f32 := addf v17 v22
  let v24 : FVec F S10240x1x16x16 .f32 := (Host.slice S10240x1x16x16 ![0, 0, 1, 0] ![1, 1, 2, 2] · slicesBy_S10240x1x34x34_S10240x1x16x16_0s1_0s1_1s2_0s2) v0
  let v25 : FVec F S32x1x1x1 .f32 := (extractStridedSlice S32x1x1x1 ![0, 0, 1, 0] · slices_S32x1x4x4_S32x1x1x1_0_0_1_0) arg1
  let v26 : FVec F S32x1 .f32 := shapeCast S32x1 v25 shapeCasts_S32x1x1x1_S32x1
  let v27 : FVec F S10240x16x16x32 .f32 := (fun l r => Host.dotGeneral dot_S10240x1x16x16_S32x1_S10240x16x16x32_1_1_023_0_n_n none l r) v24 v26
  let v28 : FVec F S10240x32x16x16 .f32 := (transpose S10240x32x16x16 [0, 3, 1, 2] · transposes_S10240x16x16x32_S10240x32x16x16_0_3_1_2) v27
  let v29 : FVec F S10240x32x16x16 .f32 := addf v23 v28
  let v30 : FVec F S10240x1x16x16 .f32 := (Host.slice S10240x1x16x16 ![0, 0, 1, 1] ![1, 1, 2, 2] · slicesBy_S10240x1x34x34_S10240x1x16x16_0s1_0s1_1s2_1s2) v0
  let v31 : FVec F S32x1x1x1 .f32 := (extractStridedSlice S32x1x1x1 ![0, 0, 1, 1] · slices_S32x1x4x4_S32x1x1x1_0_0_1_1) arg1
  let v32 : FVec F S32x1 .f32 := shapeCast S32x1 v31 shapeCasts_S32x1x1x1_S32x1
  let v33 : FVec F S10240x16x16x32 .f32 := (fun l r => Host.dotGeneral dot_S10240x1x16x16_S32x1_S10240x16x16x32_1_1_023_0_n_n none l r) v30 v32
  let v34 : FVec F S10240x32x16x16 .f32 := (transpose S10240x32x16x16 [0, 3, 1, 2] · transposes_S10240x16x16x32_S10240x32x16x16_0_3_1_2) v33
  let v35 : FVec F S10240x32x16x16 .f32 := addf v29 v34
  let v36 : FVec F S10240x1x16x16 .f32 := (Host.slice S10240x1x16x16 ![0, 0, 1, 2] ![1, 1, 2, 2] · slicesBy_S10240x1x34x34_S10240x1x16x16_0s1_0s1_1s2_2s2) v0
  let v37 : FVec F S32x1x1x1 .f32 := (extractStridedSlice S32x1x1x1 ![0, 0, 1, 2] · slices_S32x1x4x4_S32x1x1x1_0_0_1_2) arg1
  let v38 : FVec F S32x1 .f32 := shapeCast S32x1 v37 shapeCasts_S32x1x1x1_S32x1
  let v39 : FVec F S10240x16x16x32 .f32 := (fun l r => Host.dotGeneral dot_S10240x1x16x16_S32x1_S10240x16x16x32_1_1_023_0_n_n none l r) v36 v38
  let v40 : FVec F S10240x32x16x16 .f32 := (transpose S10240x32x16x16 [0, 3, 1, 2] · transposes_S10240x16x16x32_S10240x32x16x16_0_3_1_2) v39
  let v41 : FVec F S10240x32x16x16 .f32 := addf v35 v40
  let v42 : FVec F S10240x1x16x16 .f32 := (Host.slice S10240x1x16x16 ![0, 0, 1, 3] ![1, 1, 2, 2] · slicesBy_S10240x1x34x34_S10240x1x16x16_0s1_0s1_1s2_3s2) v0
  let v43 : FVec F S32x1x1x1 .f32 := (extractStridedSlice S32x1x1x1 ![0, 0, 1, 3] · slices_S32x1x4x4_S32x1x1x1_0_0_1_3) arg1
  let v44 : FVec F S32x1 .f32 := shapeCast S32x1 v43 shapeCasts_S32x1x1x1_S32x1
  let v45 : FVec F S10240x16x16x32 .f32 := (fun l r => Host.dotGeneral dot_S10240x1x16x16_S32x1_S10240x16x16x32_1_1_023_0_n_n none l r) v42 v44
  let v46 : FVec F S10240x32x16x16 .f32 := (transpose S10240x32x16x16 [0, 3, 1, 2] · transposes_S10240x16x16x32_S10240x32x16x16_0_3_1_2) v45
  fn_conv_relu_part2 (F := F) arg1 arg2 v0 v41 v46

def fn_conv_relu {F : FTy → Type} [FloatOps F] (arg0 : FVec F S10240x1x32x32 .f32) (arg1 : FVec F S32x1x4x4 .f32) (arg2 : FVec F S32 .f32) : FVec F S10240x32x16x16 .f32 :=
  let c : IVec S_ 32 := constantI S_ 32 0#32
  let v0 : FVec F S10240x1x34x34 .f32 := fn_pad (F := F) arg0 c
  let v1 : FVec F S10240x1x16x16 .f32 := (Host.slice S10240x1x16x16 ![0, 0, 0, 0] ![1, 1, 2, 2] · slicesBy_S10240x1x34x34_S10240x1x16x16_0s1_0s1_0s2_0s2) v0
  let v2 : FVec F S32x1x1x1 .f32 := (extractStridedSlice S32x1x1x1 ![0, 0, 0, 0] · slices_S32x1x4x4_S32x1x1x1_0_0_0_0) arg1
  let v3 : FVec F S32x1 .f32 := shapeCast S32x1 v2 shapeCasts_S32x1x1x1_S32x1
  let v4 : FVec F S10240x16x16x32 .f32 := (fun l r => Host.dotGeneral dot_S10240x1x16x16_S32x1_S10240x16x16x32_1_1_023_0_n_n none l r) v1 v3
  let v5 : FVec F S10240x32x16x16 .f32 := (transpose S10240x32x16x16 [0, 3, 1, 2] · transposes_S10240x16x16x32_S10240x32x16x16_0_3_1_2) v4
  let v6 : FVec F S10240x1x16x16 .f32 := (Host.slice S10240x1x16x16 ![0, 0, 0, 1] ![1, 1, 2, 2] · slicesBy_S10240x1x34x34_S10240x1x16x16_0s1_0s1_0s2_1s2) v0
  let v7 : FVec F S32x1x1x1 .f32 := (extractStridedSlice S32x1x1x1 ![0, 0, 0, 1] · slices_S32x1x4x4_S32x1x1x1_0_0_0_1) arg1
  let v8 : FVec F S32x1 .f32 := shapeCast S32x1 v7 shapeCasts_S32x1x1x1_S32x1
  let v9 : FVec F S10240x16x16x32 .f32 := (fun l r => Host.dotGeneral dot_S10240x1x16x16_S32x1_S10240x16x16x32_1_1_023_0_n_n none l r) v6 v8
  let v10 : FVec F S10240x32x16x16 .f32 := (transpose S10240x32x16x16 [0, 3, 1, 2] · transposes_S10240x16x16x32_S10240x32x16x16_0_3_1_2) v9
  let v11 : FVec F S10240x32x16x16 .f32 := addf v5 v10
  let v12 : FVec F S10240x1x16x16 .f32 := (Host.slice S10240x1x16x16 ![0, 0, 0, 2] ![1, 1, 2, 2] · slicesBy_S10240x1x34x34_S10240x1x16x16_0s1_0s1_0s2_2s2) v0
  let v13 : FVec F S32x1x1x1 .f32 := (extractStridedSlice S32x1x1x1 ![0, 0, 0, 2] · slices_S32x1x4x4_S32x1x1x1_0_0_0_2) arg1
  let v14 : FVec F S32x1 .f32 := shapeCast S32x1 v13 shapeCasts_S32x1x1x1_S32x1
  let v15 : FVec F S10240x16x16x32 .f32 := (fun l r => Host.dotGeneral dot_S10240x1x16x16_S32x1_S10240x16x16x32_1_1_023_0_n_n none l r) v12 v14
  let v16 : FVec F S10240x32x16x16 .f32 := (transpose S10240x32x16x16 [0, 3, 1, 2] · transposes_S10240x16x16x32_S10240x32x16x16_0_3_1_2) v15
  let v17 : FVec F S10240x32x16x16 .f32 := addf v11 v16
  let v18 : FVec F S10240x1x16x16 .f32 := (Host.slice S10240x1x16x16 ![0, 0, 0, 3] ![1, 1, 2, 2] · slicesBy_S10240x1x34x34_S10240x1x16x16_0s1_0s1_0s2_3s2) v0
  let v19 : FVec F S32x1x1x1 .f32 := (extractStridedSlice S32x1x1x1 ![0, 0, 0, 3] · slices_S32x1x4x4_S32x1x1x1_0_0_0_3) arg1
  let v20 : FVec F S32x1 .f32 := shapeCast S32x1 v19 shapeCasts_S32x1x1x1_S32x1
  let v21 : FVec F S10240x16x16x32 .f32 := (fun l r => Host.dotGeneral dot_S10240x1x16x16_S32x1_S10240x16x16x32_1_1_023_0_n_n none l r) v18 v20
  let v22 : FVec F S10240x32x16x16 .f32 := (transpose S10240x32x16x16 [0, 3, 1, 2] · transposes_S10240x16x16x32_S10240x32x16x16_0_3_1_2) v21
  fn_conv_relu_part1 (F := F) arg1 arg2 v0 v17 v22

def fn_pad_1 {F : FTy → Type} [FloatOps F] (arg0 : FVec F S10240x32x16x16 .f32) (arg1 : IVec S_ 32) : FVec F S10240x32x18x18 .f32 :=
  let v0 : FVec F S_ .f32 := sitofp .f32 arg1
  let v1 : FVec F S10240x32x18x18 .f32 := (fun x v => pad S10240x32x18x18 ![0, 0, 1, 1] ![0, 0, 1, 1] ![0, 0, 0, 0] x v pads_S10240x32x16x16_S10240x32x18x18_000_000_110_110 h_S_) arg0 v0
  v1

def fn_conv_relu_0_part4 {F : FTy → Type} [FloatOps F] (arg2 : FVec F S32 .f32) (v89 : FVec F S10240x32x8x8 .f32) (v94 : FVec F S10240x32x8x8 .f32) : FVec F S10240x32x8x8 .f32 :=
  let v95 : FVec F S10240x32x8x8 .f32 := addf v89 v94
  let v96 : FVec F S1x32x1x1 .f32 := broadcastInDim S1x32x1x1 ![1] bcast_S32_S1x32x1x1_1 arg2
  let v97 : FVec F S10240x32x8x8 .f32 := broadcastInDim S10240x32x8x8 ![0, 1, 2, 3] bcast_S1x32x1x1_S10240x32x8x8_0_1_2_3 v96
  let v98 : FVec F S10240x32x8x8 .f32 := addf v95 v97
  let cst : FVec F S_ .f32 := constant S_ .f32 0x00000000#32
  let v99 : FVec F S10240x32x8x8 .f32 := broadcastInDim S10240x32x8x8 ![] bcast_S_S10240x32x8x8 cst
  let v100 : FVec F S10240x32x8x8 .f32 := maximumf v98 v99
  v100

def fn_conv_relu_0_part3 {F : FTy → Type} [FloatOps F] (arg1 : FVec F S32x32x4x4 .f32) (arg2 : FVec F S32 .f32) (v0 : FVec F S10240x32x18x18 .f32) (v65 : FVec F S10240x32x8x8 .f32) (v70 : FVec F S10240x32x8x8 .f32) : FVec F S10240x32x8x8 .f32 :=
  let v71 : FVec F S10240x32x8x8 .f32 := addf v65 v70
  let v72 : FVec F S10240x32x8x8 .f32 := (Host.slice S10240x32x8x8 ![0, 0, 3, 0] ![1, 1, 2, 2] · slicesBy_S10240x32x18x18_S10240x32x8x8_0s1_0s1_3s2_0s2) v0
  let v73 : FVec F S32x32x1x1 .f32 := (extractStridedSlice S32x32x1x1 ![0, 0, 3, 0] · slices_S32x32x4x4_S32x32x1x1_0_0_3_0) arg1
  let v74 : FVec F S32x32 .f32 := shapeCast S32x32 v73 shapeCasts_S32x32x1x1_S32x32
  let v75 : FVec F S10240x8x8x32 .f32 := (fun l r => Host.dotGeneral dot_S10240x32x8x8_S32x32_S10240x8x8x32_1_1_023_0_n_n none l r) v72 v74
  let v76 : FVec F S10240x32x8x8 .f32 := (transpose S10240x32x8x8 [0, 3, 1, 2] · transposes_S10240x8x8x32_S10240x32x8x8_0_3_1_2) v75
  let v77 : FVec F S10240x32x8x8 .f32 := addf v71 v76
  let v78 : FVec F S10240x32x8x8 .f32 := (Host.slice S10240x32x8x8 ![0, 0, 3, 1] ![1, 1, 2, 2] · slicesBy_S10240x32x18x18_S10240x32x8x8_0s1_0s1_3s2_1s2) v0
  let v79 : FVec F S32x32x1x1 .f32 := (extractStridedSlice S32x32x1x1 ![0, 0, 3, 1] · slices_S32x32x4x4_S32x32x1x1_0_0_3_1) arg1
  let v80 : FVec F S32x32 .f32 := shapeCast S32x32 v79 shapeCasts_S32x32x1x1_S32x32
  let v81 : FVec F S10240x8x8x32 .f32 := (fun l r => Host.dotGeneral dot_S10240x32x8x8_S32x32_S10240x8x8x32_1_1_023_0_n_n none l r) v78 v80
  let v82 : FVec F S10240x32x8x8 .f32 := (transpose S10240x32x8x8 [0, 3, 1, 2] · transposes_S10240x8x8x32_S10240x32x8x8_0_3_1_2) v81
  let v83 : FVec F S10240x32x8x8 .f32 := addf v77 v82
  let v84 : FVec F S10240x32x8x8 .f32 := (Host.slice S10240x32x8x8 ![0, 0, 3, 2] ![1, 1, 2, 2] · slicesBy_S10240x32x18x18_S10240x32x8x8_0s1_0s1_3s2_2s2) v0
  let v85 : FVec F S32x32x1x1 .f32 := (extractStridedSlice S32x32x1x1 ![0, 0, 3, 2] · slices_S32x32x4x4_S32x32x1x1_0_0_3_2) arg1
  let v86 : FVec F S32x32 .f32 := shapeCast S32x32 v85 shapeCasts_S32x32x1x1_S32x32
  let v87 : FVec F S10240x8x8x32 .f32 := (fun l r => Host.dotGeneral dot_S10240x32x8x8_S32x32_S10240x8x8x32_1_1_023_0_n_n none l r) v84 v86
  let v88 : FVec F S10240x32x8x8 .f32 := (transpose S10240x32x8x8 [0, 3, 1, 2] · transposes_S10240x8x8x32_S10240x32x8x8_0_3_1_2) v87
  let v89 : FVec F S10240x32x8x8 .f32 := addf v83 v88
  let v90 : FVec F S10240x32x8x8 .f32 := (Host.slice S10240x32x8x8 ![0, 0, 3, 3] ![1, 1, 2, 2] · slicesBy_S10240x32x18x18_S10240x32x8x8_0s1_0s1_3s2_3s2) v0
  let v91 : FVec F S32x32x1x1 .f32 := (extractStridedSlice S32x32x1x1 ![0, 0, 3, 3] · slices_S32x32x4x4_S32x32x1x1_0_0_3_3) arg1
  let v92 : FVec F S32x32 .f32 := shapeCast S32x32 v91 shapeCasts_S32x32x1x1_S32x32
  let v93 : FVec F S10240x8x8x32 .f32 := (fun l r => Host.dotGeneral dot_S10240x32x8x8_S32x32_S10240x8x8x32_1_1_023_0_n_n none l r) v90 v92
  let v94 : FVec F S10240x32x8x8 .f32 := (transpose S10240x32x8x8 [0, 3, 1, 2] · transposes_S10240x8x8x32_S10240x32x8x8_0_3_1_2) v93
  fn_conv_relu_0_part4 (F := F) arg2 v89 v94

def fn_conv_relu_0_part2 {F : FTy → Type} [FloatOps F] (arg1 : FVec F S32x32x4x4 .f32) (arg2 : FVec F S32 .f32) (v0 : FVec F S10240x32x18x18 .f32) (v41 : FVec F S10240x32x8x8 .f32) (v46 : FVec F S10240x32x8x8 .f32) : FVec F S10240x32x8x8 .f32 :=
  let v47 : FVec F S10240x32x8x8 .f32 := addf v41 v46
  let v48 : FVec F S10240x32x8x8 .f32 := (Host.slice S10240x32x8x8 ![0, 0, 2, 0] ![1, 1, 2, 2] · slicesBy_S10240x32x18x18_S10240x32x8x8_0s1_0s1_2s2_0s2) v0
  let v49 : FVec F S32x32x1x1 .f32 := (extractStridedSlice S32x32x1x1 ![0, 0, 2, 0] · slices_S32x32x4x4_S32x32x1x1_0_0_2_0) arg1
  let v50 : FVec F S32x32 .f32 := shapeCast S32x32 v49 shapeCasts_S32x32x1x1_S32x32
  let v51 : FVec F S10240x8x8x32 .f32 := (fun l r => Host.dotGeneral dot_S10240x32x8x8_S32x32_S10240x8x8x32_1_1_023_0_n_n none l r) v48 v50
  let v52 : FVec F S10240x32x8x8 .f32 := (transpose S10240x32x8x8 [0, 3, 1, 2] · transposes_S10240x8x8x32_S10240x32x8x8_0_3_1_2) v51
  let v53 : FVec F S10240x32x8x8 .f32 := addf v47 v52
  let v54 : FVec F S10240x32x8x8 .f32 := (Host.slice S10240x32x8x8 ![0, 0, 2, 1] ![1, 1, 2, 2] · slicesBy_S10240x32x18x18_S10240x32x8x8_0s1_0s1_2s2_1s2) v0
  let v55 : FVec F S32x32x1x1 .f32 := (extractStridedSlice S32x32x1x1 ![0, 0, 2, 1] · slices_S32x32x4x4_S32x32x1x1_0_0_2_1) arg1
  let v56 : FVec F S32x32 .f32 := shapeCast S32x32 v55 shapeCasts_S32x32x1x1_S32x32
  let v57 : FVec F S10240x8x8x32 .f32 := (fun l r => Host.dotGeneral dot_S10240x32x8x8_S32x32_S10240x8x8x32_1_1_023_0_n_n none l r) v54 v56
  let v58 : FVec F S10240x32x8x8 .f32 := (transpose S10240x32x8x8 [0, 3, 1, 2] · transposes_S10240x8x8x32_S10240x32x8x8_0_3_1_2) v57
  let v59 : FVec F S10240x32x8x8 .f32 := addf v53 v58
  let v60 : FVec F S10240x32x8x8 .f32 := (Host.slice S10240x32x8x8 ![0, 0, 2, 2] ![1, 1, 2, 2] · slicesBy_S10240x32x18x18_S10240x32x8x8_0s1_0s1_2s2_2s2) v0
  let v61 : FVec F S32x32x1x1 .f32 := (extractStridedSlice S32x32x1x1 ![0, 0, 2, 2] · slices_S32x32x4x4_S32x32x1x1_0_0_2_2) arg1
  let v62 : FVec F S32x32 .f32 := shapeCast S32x32 v61 shapeCasts_S32x32x1x1_S32x32
  let v63 : FVec F S10240x8x8x32 .f32 := (fun l r => Host.dotGeneral dot_S10240x32x8x8_S32x32_S10240x8x8x32_1_1_023_0_n_n none l r) v60 v62
  let v64 : FVec F S10240x32x8x8 .f32 := (transpose S10240x32x8x8 [0, 3, 1, 2] · transposes_S10240x8x8x32_S10240x32x8x8_0_3_1_2) v63
  let v65 : FVec F S10240x32x8x8 .f32 := addf v59 v64
  let v66 : FVec F S10240x32x8x8 .f32 := (Host.slice S10240x32x8x8 ![0, 0, 2, 3] ![1, 1, 2, 2] · slicesBy_S10240x32x18x18_S10240x32x8x8_0s1_0s1_2s2_3s2) v0
  let v67 : FVec F S32x32x1x1 .f32 := (extractStridedSlice S32x32x1x1 ![0, 0, 2, 3] · slices_S32x32x4x4_S32x32x1x1_0_0_2_3) arg1
  let v68 : FVec F S32x32 .f32 := shapeCast S32x32 v67 shapeCasts_S32x32x1x1_S32x32
  let v69 : FVec F S10240x8x8x32 .f32 := (fun l r => Host.dotGeneral dot_S10240x32x8x8_S32x32_S10240x8x8x32_1_1_023_0_n_n none l r) v66 v68
  let v70 : FVec F S10240x32x8x8 .f32 := (transpose S10240x32x8x8 [0, 3, 1, 2] · transposes_S10240x8x8x32_S10240x32x8x8_0_3_1_2) v69
  fn_conv_relu_0_part3 (F := F) arg1 arg2 v0 v65 v70

def fn_conv_relu_0_part1 {F : FTy → Type} [FloatOps F] (arg1 : FVec F S32x32x4x4 .f32) (arg2 : FVec F S32 .f32) (v0 : FVec F S10240x32x18x18 .f32) (v17 : FVec F S10240x32x8x8 .f32) (v22 : FVec F S10240x32x8x8 .f32) : FVec F S10240x32x8x8 .f32 :=
  let v23 : FVec F S10240x32x8x8 .f32 := addf v17 v22
  let v24 : FVec F S10240x32x8x8 .f32 := (Host.slice S10240x32x8x8 ![0, 0, 1, 0] ![1, 1, 2, 2] · slicesBy_S10240x32x18x18_S10240x32x8x8_0s1_0s1_1s2_0s2) v0
  let v25 : FVec F S32x32x1x1 .f32 := (extractStridedSlice S32x32x1x1 ![0, 0, 1, 0] · slices_S32x32x4x4_S32x32x1x1_0_0_1_0) arg1
  let v26 : FVec F S32x32 .f32 := shapeCast S32x32 v25 shapeCasts_S32x32x1x1_S32x32
  let v27 : FVec F S10240x8x8x32 .f32 := (fun l r => Host.dotGeneral dot_S10240x32x8x8_S32x32_S10240x8x8x32_1_1_023_0_n_n none l r) v24 v26
  let v28 : FVec F S10240x32x8x8 .f32 := (transpose S10240x32x8x8 [0, 3, 1, 2] · transposes_S10240x8x8x32_S10240x32x8x8_0_3_1_2) v27
  let v29 : FVec F S10240x32x8x8 .f32 := addf v23 v28
  let v30 : FVec F S10240x32x8x8 .f32 := (Host.slice S10240x32x8x8 ![0, 0, 1, 1] ![1, 1, 2, 2] · slicesBy_S10240x32x18x18_S10240x32x8x8_0s1_0s1_1s2_1s2) v0
  let v31 : FVec F S32x32x1x1 .f32 := (extractStridedSlice S32x32x1x1 ![0, 0, 1, 1] · slices_S32x32x4x4_S32x32x1x1_0_0_1_1) arg1
  let v32 : FVec F S32x32 .f32 := shapeCast S32x32 v31 shapeCasts_S32x32x1x1_S32x32
  let v33 : FVec F S10240x8x8x32 .f32 := (fun l r => Host.dotGeneral dot_S10240x32x8x8_S32x32_S10240x8x8x32_1_1_023_0_n_n none l r) v30 v32
  let v34 : FVec F S10240x32x8x8 .f32 := (transpose S10240x32x8x8 [0, 3, 1, 2] · transposes_S10240x8x8x32_S10240x32x8x8_0_3_1_2) v33
  let v35 : FVec F S10240x32x8x8 .f32 := addf v29 v34
  let v36 : FVec F S10240x32x8x8 .f32 := (Host.slice S10240x32x8x8 ![0, 0, 1, 2] ![1, 1, 2, 2] · slicesBy_S10240x32x18x18_S10240x32x8x8_0s1_0s1_1s2_2s2) v0
  let v37 : FVec F S32x32x1x1 .f32 := (extractStridedSlice S32x32x1x1 ![0, 0, 1, 2] · slices_S32x32x4x4_S32x32x1x1_0_0_1_2) arg1
  let v38 : FVec F S32x32 .f32 := shapeCast S32x32 v37 shapeCasts_S32x32x1x1_S32x32
  let v39 : FVec F S10240x8x8x32 .f32 := (fun l r => Host.dotGeneral dot_S10240x32x8x8_S32x32_S10240x8x8x32_1_1_023_0_n_n none l r) v36 v38
  let v40 : FVec F S10240x32x8x8 .f32 := (transpose S10240x32x8x8 [0, 3, 1, 2] · transposes_S10240x8x8x32_S10240x32x8x8_0_3_1_2) v39
  let v41 : FVec F S10240x32x8x8 .f32 := addf v35 v40
  let v42 : FVec F S10240x32x8x8 .f32 := (Host.slice S10240x32x8x8 ![0, 0, 1, 3] ![1, 1, 2, 2] · slicesBy_S10240x32x18x18_S10240x32x8x8_0s1_0s1_1s2_3s2) v0
  let v43 : FVec F S32x32x1x1 .f32 := (extractStridedSlice S32x32x1x1 ![0, 0, 1, 3] · slices_S32x32x4x4_S32x32x1x1_0_0_1_3) arg1
  let v44 : FVec F S32x32 .f32 := shapeCast S32x32 v43 shapeCasts_S32x32x1x1_S32x32
  let v45 : FVec F S10240x8x8x32 .f32 := (fun l r => Host.dotGeneral dot_S10240x32x8x8_S32x32_S10240x8x8x32_1_1_023_0_n_n none l r) v42 v44
  let v46 : FVec F S10240x32x8x8 .f32 := (transpose S10240x32x8x8 [0, 3, 1, 2] · transposes_S10240x8x8x32_S10240x32x8x8_0_3_1_2) v45
  fn_conv_relu_0_part2 (F := F) arg1 arg2 v0 v41 v46

def fn_conv_relu_0 {F : FTy → Type} [FloatOps F] (arg0 : FVec F S10240x32x16x16 .f32) (arg1 : FVec F S32x32x4x4 .f32) (arg2 : FVec F S32 .f32) : FVec F S10240x32x8x8 .f32 :=
  let c : IVec S_ 32 := constantI S_ 32 0#32
  let v0 : FVec F S10240x32x18x18 .f32 := fn_pad_1 (F := F) arg0 c
  let v1 : FVec F S10240x32x8x8 .f32 := (Host.slice S10240x32x8x8 ![0, 0, 0, 0] ![1, 1, 2, 2] · slicesBy_S10240x32x18x18_S10240x32x8x8_0s1_0s1_0s2_0s2) v0
  let v2 : FVec F S32x32x1x1 .f32 := (extractStridedSlice S32x32x1x1 ![0, 0, 0, 0] · slices_S32x32x4x4_S32x32x1x1_0_0_0_0) arg1
  let v3 : FVec F S32x32 .f32 := shapeCast S32x32 v2 shapeCasts_S32x32x1x1_S32x32
  let v4 : FVec F S10240x8x8x32 .f32 := (fun l r => Host.dotGeneral dot_S10240x32x8x8_S32x32_S10240x8x8x32_1_1_023_0_n_n none l r) v1 v3
  let v5 : FVec F S10240x32x8x8 .f32 := (transpose S10240x32x8x8 [0, 3, 1, 2] · transposes_S10240x8x8x32_S10240x32x8x8_0_3_1_2) v4
  let v6 : FVec F S10240x32x8x8 .f32 := (Host.slice S10240x32x8x8 ![0, 0, 0, 1] ![1, 1, 2, 2] · slicesBy_S10240x32x18x18_S10240x32x8x8_0s1_0s1_0s2_1s2) v0
  let v7 : FVec F S32x32x1x1 .f32 := (extractStridedSlice S32x32x1x1 ![0, 0, 0, 1] · slices_S32x32x4x4_S32x32x1x1_0_0_0_1) arg1
  let v8 : FVec F S32x32 .f32 := shapeCast S32x32 v7 shapeCasts_S32x32x1x1_S32x32
  let v9 : FVec F S10240x8x8x32 .f32 := (fun l r => Host.dotGeneral dot_S10240x32x8x8_S32x32_S10240x8x8x32_1_1_023_0_n_n none l r) v6 v8
  let v10 : FVec F S10240x32x8x8 .f32 := (transpose S10240x32x8x8 [0, 3, 1, 2] · transposes_S10240x8x8x32_S10240x32x8x8_0_3_1_2) v9
  let v11 : FVec F S10240x32x8x8 .f32 := addf v5 v10
  let v12 : FVec F S10240x32x8x8 .f32 := (Host.slice S10240x32x8x8 ![0, 0, 0, 2] ![1, 1, 2, 2] · slicesBy_S10240x32x18x18_S10240x32x8x8_0s1_0s1_0s2_2s2) v0
  let v13 : FVec F S32x32x1x1 .f32 := (extractStridedSlice S32x32x1x1 ![0, 0, 0, 2] · slices_S32x32x4x4_S32x32x1x1_0_0_0_2) arg1
  let v14 : FVec F S32x32 .f32 := shapeCast S32x32 v13 shapeCasts_S32x32x1x1_S32x32
  let v15 : FVec F S10240x8x8x32 .f32 := (fun l r => Host.dotGeneral dot_S10240x32x8x8_S32x32_S10240x8x8x32_1_1_023_0_n_n none l r) v12 v14
  let v16 : FVec F S10240x32x8x8 .f32 := (transpose S10240x32x8x8 [0, 3, 1, 2] · transposes_S10240x8x8x32_S10240x32x8x8_0_3_1_2) v15
  let v17 : FVec F S10240x32x8x8 .f32 := addf v11 v16
  let v18 : FVec F S10240x32x8x8 .f32 := (Host.slice S10240x32x8x8 ![0, 0, 0, 3] ![1, 1, 2, 2] · slicesBy_S10240x32x18x18_S10240x32x8x8_0s1_0s1_0s2_3s2) v0
  let v19 : FVec F S32x32x1x1 .f32 := (extractStridedSlice S32x32x1x1 ![0, 0, 0, 3] · slices_S32x32x4x4_S32x32x1x1_0_0_0_3) arg1
  let v20 : FVec F S32x32 .f32 := shapeCast S32x32 v19 shapeCasts_S32x32x1x1_S32x32
  let v21 : FVec F S10240x8x8x32 .f32 := (fun l r => Host.dotGeneral dot_S10240x32x8x8_S32x32_S10240x8x8x32_1_1_023_0_n_n none l r) v18 v20
  let v22 : FVec F S10240x32x8x8 .f32 := (transpose S10240x32x8x8 [0, 3, 1, 2] · transposes_S10240x8x8x32_S10240x32x8x8_0_3_1_2) v21
  fn_conv_relu_0_part1 (F := F) arg1 arg2 v0 v17 v22

def fn_pad_3 {F : FTy → Type} [FloatOps F] (arg0 : FVec F S10240x32x8x8 .f32) (arg1 : IVec S_ 32) : FVec F S10240x32x10x10 .f32 :=
  let v0 : FVec F S_ .f32 := sitofp .f32 arg1
  let v1 : FVec F S10240x32x10x10 .f32 := (fun x v => pad S10240x32x10x10 ![0, 0, 1, 1] ![0, 0, 1, 1] ![0, 0, 0, 0] x v pads_S10240x32x8x8_S10240x32x10x10_000_000_110_110 h_S_) arg0 v0
  v1

def fn_conv_relu_2_part4 {F : FTy → Type} [FloatOps F] (arg2 : FVec F S32 .f32) (v89 : FVec F S10240x32x4x4 .f32) (v94 : FVec F S10240x32x4x4 .f32) : FVec F S10240x32x4x4 .f32 :=
  let v95 : FVec F S10240x32x4x4 .f32 := addf v89 v94
  let v96 : FVec F S1x32x1x1 .f32 := broadcastInDim S1x32x1x1 ![1] bcast_S32_S1x32x1x1_1 arg2
  let v97 : FVec F S10240x32x4x4 .f32 := broadcastInDim S10240x32x4x4 ![0, 1, 2, 3] bcast_S1x32x1x1_S10240x32x4x4_0_1_2_3 v96
  let v98 : FVec F S10240x32x4x4 .f32 := addf v95 v97
  let cst : FVec F S_ .f32 := constant S_ .f32 0x00000000#32
  let v99 : FVec F S10240x32x4x4 .f32 := broadcastInDim S10240x32x4x4 ![] bcast_S_S10240x32x4x4 cst
  let v100 : FVec F S10240x32x4x4 .f32 := maximumf v98 v99
  v100

def fn_conv_relu_2_part3 {F : FTy → Type} [FloatOps F] (arg1 : FVec F S32x32x4x4 .f32) (arg2 : FVec F S32 .f32) (v0 : FVec F S10240x32x10x10 .f32) (v65 : FVec F S10240x32x4x4 .f32) (v70 : FVec F S10240x32x4x4 .f32) : FVec F S10240x32x4x4 .f32 :=
  let v71 : FVec F S10240x32x4x4 .f32 := addf v65 v70
  let v72 : FVec F S10240x32x4x4 .f32 := (Host.slice S10240x32x4x4 ![0, 0, 3, 0] ![1, 1, 2, 2] · slicesBy_S10240x32x10x10_S10240x32x4x4_0s1_0s1_3s2_0s2) v0
  let v73 : FVec F S32x32x1x1 .f32 := (extractStridedSlice S32x32x1x1 ![0, 0, 3, 0] · slices_S32x32x4x4_S32x32x1x1_0_0_3_0) arg1
  let v74 : FVec F S32x32 .f32 := shapeCast S32x32 v73 shapeCasts_S32x32x1x1_S32x32
  let v75 : FVec F S10240x4x4x32 .f32 := (fun l r => Host.dotGeneral dot_S10240x32x4x4_S32x32_S10240x4x4x32_1_1_023_0_n_n none l r) v72 v74
  let v76 : FVec F S10240x32x4x4 .f32 := (transpose S10240x32x4x4 [0, 3, 1, 2] · transposes_S10240x4x4x32_S10240x32x4x4_0_3_1_2) v75
  let v77 : FVec F S10240x32x4x4 .f32 := addf v71 v76
  let v78 : FVec F S10240x32x4x4 .f32 := (Host.slice S10240x32x4x4 ![0, 0, 3, 1] ![1, 1, 2, 2] · slicesBy_S10240x32x10x10_S10240x32x4x4_0s1_0s1_3s2_1s2) v0
  let v79 : FVec F S32x32x1x1 .f32 := (extractStridedSlice S32x32x1x1 ![0, 0, 3, 1] · slices_S32x32x4x4_S32x32x1x1_0_0_3_1) arg1
  let v80 : FVec F S32x32 .f32 := shapeCast S32x32 v79 shapeCasts_S32x32x1x1_S32x32
  let v81 : FVec F S10240x4x4x32 .f32 := (fun l r => Host.dotGeneral dot_S10240x32x4x4_S32x32_S10240x4x4x32_1_1_023_0_n_n none l r) v78 v80
  let v82 : FVec F S10240x32x4x4 .f32 := (transpose S10240x32x4x4 [0, 3, 1, 2] · transposes_S10240x4x4x32_S10240x32x4x4_0_3_1_2) v81
  let v83 : FVec F S10240x32x4x4 .f32 := addf v77 v82
  let v84 : FVec F S10240x32x4x4 .f32 := (Host.slice S10240x32x4x4 ![0, 0, 3, 2] ![1, 1, 2, 2] · slicesBy_S10240x32x10x10_S10240x32x4x4_0s1_0s1_3s2_2s2) v0
  let v85 : FVec F S32x32x1x1 .f32 := (extractStridedSlice S32x32x1x1 ![0, 0, 3, 2] · slices_S32x32x4x4_S32x32x1x1_0_0_3_2) arg1
  let v86 : FVec F S32x32 .f32 := shapeCast S32x32 v85 shapeCasts_S32x32x1x1_S32x32
  let v87 : FVec F S10240x4x4x32 .f32 := (fun l r => Host.dotGeneral dot_S10240x32x4x4_S32x32_S10240x4x4x32_1_1_023_0_n_n none l r) v84 v86
  let v88 : FVec F S10240x32x4x4 .f32 := (transpose S10240x32x4x4 [0, 3, 1, 2] · transposes_S10240x4x4x32_S10240x32x4x4_0_3_1_2) v87
  let v89 : FVec F S10240x32x4x4 .f32 := addf v83 v88
  let v90 : FVec F S10240x32x4x4 .f32 := (Host.slice S10240x32x4x4 ![0, 0, 3, 3] ![1, 1, 2, 2] · slicesBy_S10240x32x10x10_S10240x32x4x4_0s1_0s1_3s2_3s2) v0
  let v91 : FVec F S32x32x1x1 .f32 := (extractStridedSlice S32x32x1x1 ![0, 0, 3, 3] · slices_S32x32x4x4_S32x32x1x1_0_0_3_3) arg1
  let v92 : FVec F S32x32 .f32 := shapeCast S32x32 v91 shapeCasts_S32x32x1x1_S32x32
  let v93 : FVec F S10240x4x4x32 .f32 := (fun l r => Host.dotGeneral dot_S10240x32x4x4_S32x32_S10240x4x4x32_1_1_023_0_n_n none l r) v90 v92
  let v94 : FVec F S10240x32x4x4 .f32 := (transpose S10240x32x4x4 [0, 3, 1, 2] · transposes_S10240x4x4x32_S10240x32x4x4_0_3_1_2) v93
  fn_conv_relu_2_part4 (F := F) arg2 v89 v94

def fn_conv_relu_2_part2 {F : FTy → Type} [FloatOps F] (arg1 : FVec F S32x32x4x4 .f32) (arg2 : FVec F S32 .f32) (v0 : FVec F S10240x32x10x10 .f32) (v41 : FVec F S10240x32x4x4 .f32) (v46 : FVec F S10240x32x4x4 .f32) : FVec F S10240x32x4x4 .f32 :=
  let v47 : FVec F S10240x32x4x4 .f32 := addf v41 v46
  let v48 : FVec F S10240x32x4x4 .f32 := (Host.slice S10240x32x4x4 ![0, 0, 2, 0] ![1, 1, 2, 2] · slicesBy_S10240x32x10x10_S10240x32x4x4_0s1_0s1_2s2_0s2) v0
  let v49 : FVec F S32x32x1x1 .f32 := (extractStridedSlice S32x32x1x1 ![0, 0, 2, 0] · slices_S32x32x4x4_S32x32x1x1_0_0_2_0) arg1
  let v50 : FVec F S32x32 .f32 := shapeCast S32x32 v49 shapeCasts_S32x32x1x1_S32x32
  let v51 : FVec F S10240x4x4x32 .f32 := (fun l r => Host.dotGeneral dot_S10240x32x4x4_S32x32_S10240x4x4x32_1_1_023_0_n_n none l r) v48 v50
  let v52 : FVec F S10240x32x4x4 .f32 := (transpose S10240x32x4x4 [0, 3, 1, 2] · transposes_S10240x4x4x32_S10240x32x4x4_0_3_1_2) v51
  let v53 : FVec F S10240x32x4x4 .f32 := addf v47 v52
  let v54 : FVec F S10240x32x4x4 .f32 := (Host.slice S10240x32x4x4 ![0, 0, 2, 1] ![1, 1, 2, 2] · slicesBy_S10240x32x10x10_S10240x32x4x4_0s1_0s1_2s2_1s2) v0
  let v55 : FVec F S32x32x1x1 .f32 := (extractStridedSlice S32x32x1x1 ![0, 0, 2, 1] · slices_S32x32x4x4_S32x32x1x1_0_0_2_1) arg1
  let v56 : FVec F S32x32 .f32 := shapeCast S32x32 v55 shapeCasts_S32x32x1x1_S32x32
  let v57 : FVec F S10240x4x4x32 .f32 := (fun l r => Host.dotGeneral dot_S10240x32x4x4_S32x32_S10240x4x4x32_1_1_023_0_n_n none l r) v54 v56
  let v58 : FVec F S10240x32x4x4 .f32 := (transpose S10240x32x4x4 [0, 3, 1, 2] · transposes_S10240x4x4x32_S10240x32x4x4_0_3_1_2) v57
  let v59 : FVec F S10240x32x4x4 .f32 := addf v53 v58
  let v60 : FVec F S10240x32x4x4 .f32 := (Host.slice S10240x32x4x4 ![0, 0, 2, 2] ![1, 1, 2, 2] · slicesBy_S10240x32x10x10_S10240x32x4x4_0s1_0s1_2s2_2s2) v0
  let v61 : FVec F S32x32x1x1 .f32 := (extractStridedSlice S32x32x1x1 ![0, 0, 2, 2] · slices_S32x32x4x4_S32x32x1x1_0_0_2_2) arg1
  let v62 : FVec F S32x32 .f32 := shapeCast S32x32 v61 shapeCasts_S32x32x1x1_S32x32
  let v63 : FVec F S10240x4x4x32 .f32 := (fun l r => Host.dotGeneral dot_S10240x32x4x4_S32x32_S10240x4x4x32_1_1_023_0_n_n none l r) v60 v62
  let v64 : FVec F S10240x32x4x4 .f32 := (transpose S10240x32x4x4 [0, 3, 1, 2] · transposes_S10240x4x4x32_S10240x32x4x4_0_3_1_2) v63
  let v65 : FVec F S10240x32x4x4 .f32 := addf v59 v64
  let v66 : FVec F S10240x32x4x4 .f32 := (Host.slice S10240x32x4x4 ![0, 0, 2, 3] ![1, 1, 2, 2] · slicesBy_S10240x32x10x10_S10240x32x4x4_0s1_0s1_2s2_3s2) v0
  let v67 : FVec F S32x32x1x1 .f32 := (extractStridedSlice S32x32x1x1 ![0, 0, 2, 3] · slices_S32x32x4x4_S32x32x1x1_0_0_2_3) arg1
  let v68 : FVec F S32x32 .f32 := shapeCast S32x32 v67 shapeCasts_S32x32x1x1_S32x32
  let v69 : FVec F S10240x4x4x32 .f32 := (fun l r => Host.dotGeneral dot_S10240x32x4x4_S32x32_S10240x4x4x32_1_1_023_0_n_n none l r) v66 v68
  let v70 : FVec F S10240x32x4x4 .f32 := (transpose S10240x32x4x4 [0, 3, 1, 2] · transposes_S10240x4x4x32_S10240x32x4x4_0_3_1_2) v69
  fn_conv_relu_2_part3 (F := F) arg1 arg2 v0 v65 v70

def fn_conv_relu_2_part1 {F : FTy → Type} [FloatOps F] (arg1 : FVec F S32x32x4x4 .f32) (arg2 : FVec F S32 .f32) (v0 : FVec F S10240x32x10x10 .f32) (v17 : FVec F S10240x32x4x4 .f32) (v22 : FVec F S10240x32x4x4 .f32) : FVec F S10240x32x4x4 .f32 :=
  let v23 : FVec F S10240x32x4x4 .f32 := addf v17 v22
  let v24 : FVec F S10240x32x4x4 .f32 := (Host.slice S10240x32x4x4 ![0, 0, 1, 0] ![1, 1, 2, 2] · slicesBy_S10240x32x10x10_S10240x32x4x4_0s1_0s1_1s2_0s2) v0
  let v25 : FVec F S32x32x1x1 .f32 := (extractStridedSlice S32x32x1x1 ![0, 0, 1, 0] · slices_S32x32x4x4_S32x32x1x1_0_0_1_0) arg1
  let v26 : FVec F S32x32 .f32 := shapeCast S32x32 v25 shapeCasts_S32x32x1x1_S32x32
  let v27 : FVec F S10240x4x4x32 .f32 := (fun l r => Host.dotGeneral dot_S10240x32x4x4_S32x32_S10240x4x4x32_1_1_023_0_n_n none l r) v24 v26
  let v28 : FVec F S10240x32x4x4 .f32 := (transpose S10240x32x4x4 [0, 3, 1, 2] · transposes_S10240x4x4x32_S10240x32x4x4_0_3_1_2) v27
  let v29 : FVec F S10240x32x4x4 .f32 := addf v23 v28
  let v30 : FVec F S10240x32x4x4 .f32 := (Host.slice S10240x32x4x4 ![0, 0, 1, 1] ![1, 1, 2, 2] · slicesBy_S10240x32x10x10_S10240x32x4x4_0s1_0s1_1s2_1s2) v0
  let v31 : FVec F S32x32x1x1 .f32 := (extractStridedSlice S32x32x1x1 ![0, 0, 1, 1] · slices_S32x32x4x4_S32x32x1x1_0_0_1_1) arg1
  let v32 : FVec F S32x32 .f32 := shapeCast S32x32 v31 shapeCasts_S32x32x1x1_S32x32
  let v33 : FVec F S10240x4x4x32 .f32 := (fun l r => Host.dotGeneral dot_S10240x32x4x4_S32x32_S10240x4x4x32_1_1_023_0_n_n none l r) v30 v32
  let v34 : FVec F S10240x32x4x4 .f32 := (transpose S10240x32x4x4 [0, 3, 1, 2] · transposes_S10240x4x4x32_S10240x32x4x4_0_3_1_2) v33
  let v35 : FVec F S10240x32x4x4 .f32 := addf v29 v34
  let v36 : FVec F S10240x32x4x4 .f32 := (Host.slice S10240x32x4x4 ![0, 0, 1, 2] ![1, 1, 2, 2] · slicesBy_S10240x32x10x10_S10240x32x4x4_0s1_0s1_1s2_2s2) v0
  let v37 : FVec F S32x32x1x1 .f32 := (extractStridedSlice S32x32x1x1 ![0, 0, 1, 2] · slices_S32x32x4x4_S32x32x1x1_0_0_1_2) arg1
  let v38 : FVec F S32x32 .f32 := shapeCast S32x32 v37 shapeCasts_S32x32x1x1_S32x32
  let v39 : FVec F S10240x4x4x32 .f32 := (fun l r => Host.dotGeneral dot_S10240x32x4x4_S32x32_S10240x4x4x32_1_1_023_0_n_n none l r) v36 v38
  let v40 : FVec F S10240x32x4x4 .f32 := (transpose S10240x32x4x4 [0, 3, 1, 2] · transposes_S10240x4x4x32_S10240x32x4x4_0_3_1_2) v39
  let v41 : FVec F S10240x32x4x4 .f32 := addf v35 v40
  let v42 : FVec F S10240x32x4x4 .f32 := (Host.slice S10240x32x4x4 ![0, 0, 1, 3] ![1, 1, 2, 2] · slicesBy_S10240x32x10x10_S10240x32x4x4_0s1_0s1_1s2_3s2) v0
  let v43 : FVec F S32x32x1x1 .f32 := (extractStridedSlice S32x32x1x1 ![0, 0, 1, 3] · slices_S32x32x4x4_S32x32x1x1_0_0_1_3) arg1
  let v44 : FVec F S32x32 .f32 := shapeCast S32x32 v43 shapeCasts_S32x32x1x1_S32x32
  let v45 : FVec F S10240x4x4x32 .f32 := (fun l r => Host.dotGeneral dot_S10240x32x4x4_S32x32_S10240x4x4x32_1_1_023_0_n_n none l r) v42 v44
  let v46 : FVec F S10240x32x4x4 .f32 := (transpose S10240x32x4x4 [0, 3, 1, 2] · transposes_S10240x4x4x32_S10240x32x4x4_0_3_1_2) v45
  fn_conv_relu_2_part2 (F := F) arg1 arg2 v0 v41 v46

def fn_conv_relu_2 {F : FTy → Type} [FloatOps F] (arg0 : FVec F S10240x32x8x8 .f32) (arg1 : FVec F S32x32x4x4 .f32) (arg2 : FVec F S32 .f32) : FVec F S10240x32x4x4 .f32 :=
  let c : IVec S_ 32 := constantI S_ 32 0#32
  let v0 : FVec F S10240x32x10x10 .f32 := fn_pad_3 (F := F) arg0 c
  let v1 : FVec F S10240x32x4x4 .f32 := (Host.slice S10240x32x4x4 ![0, 0, 0, 0] ![1, 1, 2, 2] · slicesBy_S10240x32x10x10_S10240x32x4x4_0s1_0s1_0s2_0s2) v0
  let v2 : FVec F S32x32x1x1 .f32 := (extractStridedSlice S32x32x1x1 ![0, 0, 0, 0] · slices_S32x32x4x4_S32x32x1x1_0_0_0_0) arg1
  let v3 : FVec F S32x32 .f32 := shapeCast S32x32 v2 shapeCasts_S32x32x1x1_S32x32
  let v4 : FVec F S10240x4x4x32 .f32 := (fun l r => Host.dotGeneral dot_S10240x32x4x4_S32x32_S10240x4x4x32_1_1_023_0_n_n none l r) v1 v3
  let v5 : FVec F S10240x32x4x4 .f32 := (transpose S10240x32x4x4 [0, 3, 1, 2] · transposes_S10240x4x4x32_S10240x32x4x4_0_3_1_2) v4
  let v6 : FVec F S10240x32x4x4 .f32 := (Host.slice S10240x32x4x4 ![0, 0, 0, 1] ![1, 1, 2, 2] · slicesBy_S10240x32x10x10_S10240x32x4x4_0s1_0s1_0s2_1s2) v0
  let v7 : FVec F S32x32x1x1 .f32 := (extractStridedSlice S32x32x1x1 ![0, 0, 0, 1] · slices_S32x32x4x4_S32x32x1x1_0_0_0_1) arg1
  let v8 : FVec F S32x32 .f32 := shapeCast S32x32 v7 shapeCasts_S32x32x1x1_S32x32
  let v9 : FVec F S10240x4x4x32 .f32 := (fun l r => Host.dotGeneral dot_S10240x32x4x4_S32x32_S10240x4x4x32_1_1_023_0_n_n none l r) v6 v8
  let v10 : FVec F S10240x32x4x4 .f32 := (transpose S10240x32x4x4 [0, 3, 1, 2] · transposes_S10240x4x4x32_S10240x32x4x4_0_3_1_2) v9
  let v11 : FVec F S10240x32x4x4 .f32 := addf v5 v10
  let v12 : FVec F S10240x32x4x4 .f32 := (Host.slice S10240x32x4x4 ![0, 0, 0, 2] ![1, 1, 2, 2] · slicesBy_S10240x32x10x10_S10240x32x4x4_0s1_0s1_0s2_2s2) v0
  let v13 : FVec F S32x32x1x1 .f32 := (extractStridedSlice S32x32x1x1 ![0, 0, 0, 2] · slices_S32x32x4x4_S32x32x1x1_0_0_0_2) arg1
  let v14 : FVec F S32x32 .f32 := shapeCast S32x32 v13 shapeCasts_S32x32x1x1_S32x32
  let v15 : FVec F S10240x4x4x32 .f32 := (fun l r => Host.dotGeneral dot_S10240x32x4x4_S32x32_S10240x4x4x32_1_1_023_0_n_n none l r) v12 v14
  let v16 : FVec F S10240x32x4x4 .f32 := (transpose S10240x32x4x4 [0, 3, 1, 2] · transposes_S10240x4x4x32_S10240x32x4x4_0_3_1_2) v15
  let v17 : FVec F S10240x32x4x4 .f32 := addf v11 v16
  let v18 : FVec F S10240x32x4x4 .f32 := (Host.slice S10240x32x4x4 ![0, 0, 0, 3] ![1, 1, 2, 2] · slicesBy_S10240x32x10x10_S10240x32x4x4_0s1_0s1_0s2_3s2) v0
  let v19 : FVec F S32x32x1x1 .f32 := (extractStridedSlice S32x32x1x1 ![0, 0, 0, 3] · slices_S32x32x4x4_S32x32x1x1_0_0_0_3) arg1
  let v20 : FVec F S32x32 .f32 := shapeCast S32x32 v19 shapeCasts_S32x32x1x1_S32x32
  let v21 : FVec F S10240x4x4x32 .f32 := (fun l r => Host.dotGeneral dot_S10240x32x4x4_S32x32_S10240x4x4x32_1_1_023_0_n_n none l r) v18 v20
  let v22 : FVec F S10240x32x4x4 .f32 := (transpose S10240x32x4x4 [0, 3, 1, 2] · transposes_S10240x4x4x32_S10240x32x4x4_0_3_1_2) v21
  fn_conv_relu_2_part1 (F := F) arg1 arg2 v0 v17 v22

def fn_dense {F : FTy → Type} [FloatOps F] (arg0 : FVec F S10240x32x4x4 .f32) (arg1 : FVec F S256x512 .f32) (arg2 : FVec F S256 .f32) (arg3 : FVec F S128x256 .f32) (arg4 : FVec F S128 .f32) : FVec F S512x20x128 .f32 :=
  let v0 : FVec F S10240x512 .f32 := shapeCast S10240x512 arg0 shapeCasts_S10240x32x4x4_S10240x512
  let v1 : FVec F S512x256 .f32 := (transpose S512x256 [1, 0] · transposes_S256x512_S512x256_1_0) arg1
  let v2 : FVec F S10240x256 .f32 := (fun l r => Host.dotGeneral dot_S10240x512_S512x256_S10240x256_1_0_0_1_n_n none l r) v0 v1
  let v3 : FVec F S1x256 .f32 := broadcastInDim S1x256 ![1] bcast_S256_S1x256_1 arg2
  let v4 : FVec F S10240x256 .f32 := broadcastInDim S10240x256 ![0, 1] bcast_S1x256_S10240x256_0_1 v3
  let v5 : FVec F S10240x256 .f32 := addf v2 v4
  let cst : FVec F S_ .f32 := constant S_ .f32 0x00000000#32
  let v6 : FVec F S10240x256 .f32 := broadcastInDim S10240x256 ![] bcast_S_S10240x256 cst
  let v7 : FVec F S10240x256 .f32 := maximumf v5 v6
  let v8 : FVec F S256x128 .f32 := (transpose S256x128 [1, 0] · transposes_S128x256_S256x128_1_0) arg3
  let v9 : FVec F S10240x128 .f32 := (fun l r => Host.dotGeneral dot_S10240x256_S256x128_S10240x128_1_0_0_1_n_n none l r) v7 v8
  let v10 : FVec F S1x128 .f32 := broadcastInDim S1x128 ![1] bcast_S128_S1x128_1 arg4
  let v11 : FVec F S10240x128 .f32 := broadcastInDim S10240x128 ![0, 1] bcast_S1x128_S10240x128_0_1 v10
  let v12 : FVec F S10240x128 .f32 := addf v9 v11
  let cst_0 : FVec F S_ .f32 := constant S_ .f32 0x00000000#32
  let v13 : FVec F S10240x128 .f32 := broadcastInDim S10240x128 ![] bcast_S_S10240x128 cst_0
  let v14 : FVec F S10240x128 .f32 := maximumf v12 v13
  let v15 : FVec F S512x20x128 .f32 := shapeCast S512x20x128 v14 shapeCasts_S10240x128_S512x20x128
  v15

def fn_normalize_part1 {F : FTy → Type} [FloatOps F] (arg2 : FVec F S128 .f32) (v18 : FVec F S512x20x128 .f32) : FVec F S512x20x128 .f32 :=
  let v19 : FVec F S1x1x128 .f32 := broadcastInDim S1x1x128 ![2] bcast_S128_S1x1x128_2 arg2
  let v20 : FVec F S512x20x128 .f32 := broadcastInDim S512x20x128 ![0, 1, 2] bcast_S1x1x128_S512x20x128_0_1_2 v19
  let v21 : FVec F S512x20x128 .f32 := addf v18 v20
  v21

def fn_normalize {F : FTy → Type} [FloatOps F] (arg0 : FVec F S512x20x128 .f32) (arg1 : FVec F S128 .f32) (arg2 : FVec F S128 .f32) : FVec F S512x20x128 .f32 :=
  let cst : FVec F S_ .f32 := constant S_ .f32 0x00000000#32
  let v0 : FVec F S512x128 .f32 := (fun x v => Host.reduceAdd x v reducesTo_S512x20x128_S512x128_d1 h_S_) arg0 cst
  let cst_0 : FVec F S_ .f32 := constant S_ .f32 0x41A00000#32
  let v1 : FVec F S512x128 .f32 := broadcastInDim S512x128 ![] bcast_S_S512x128 cst_0
  let v2 : FVec F S512x128 .f32 := Host.divf v0 v1
  let v3 : FVec F S512x1x128 .f32 := broadcastInDim S512x1x128 ![0, 2] bcast_S512x128_S512x1x128_0_2 v2
  let v4 : FVec F S512x20x128 .f32 := broadcastInDim S512x20x128 ![0, 1, 2] bcast_S512x1x128_S512x20x128_0_1_2 v3
  let v5 : FVec F S512x20x128 .f32 := subf arg0 v4
  let v6 : FVec F S512x20x128 .f32 := mulf v5 v5
  let cst_1 : FVec F S_ .f32 := constant S_ .f32 0x00000000#32
  let v7 : FVec F S512x128 .f32 := (fun x v => Host.reduceAdd x v reducesTo_S512x20x128_S512x128_d1 h_S_) v6 cst_1
  let cst_2 : FVec F S_ .f32 := constant S_ .f32 0x41980000#32
  let v8 : FVec F S512x128 .f32 := broadcastInDim S512x128 ![] bcast_S_S512x128 cst_2
  let v9 : FVec F S512x128 .f32 := Host.divf v7 v8
  let cst_3 : FVec F S_ .f32 := constant S_ .f32 0x322BCC77#32
  let v10 : FVec F S512x128 .f32 := broadcastInDim S512x128 ![] bcast_S_S512x128 cst_3
  let v11 : FVec F S512x128 .f32 := addf v9 v10
  let v12 : FVec F S512x128 .f32 := Host.sqrt v11
  let v13 : FVec F S512x1x128 .f32 := broadcastInDim S512x1x128 ![0, 2] bcast_S512x128_S512x1x128_0_2 v12
  let v14 : FVec F S512x20x128 .f32 := broadcastInDim S512x20x128 ![0, 1, 2] bcast_S512x1x128_S512x20x128_0_1_2 v13
  let v15 : FVec F S512x20x128 .f32 := Host.divf v5 v14
  let v16 : FVec F S1x1x128 .f32 := broadcastInDim S1x1x128 ![2] bcast_S128_S1x1x128_2 arg1
  let v17 : FVec F S512x20x128 .f32 := broadcastInDim S512x20x128 ![0, 1, 2] bcast_S1x1x128_S512x20x128_0_1_2 v16
  let v18 : FVec F S512x20x128 .f32 := mulf v15 v17
  fn_normalize_part1 (F := F) arg2 v18

def fn_lstm_part1 {F : FTy → Type} [FloatOps F] (arg2 : FVec F S512x256 .f32) (v11 : FVec F S512x256 .f32) (v12 : FVec F S512x256 .f32) (v18 : FVec F S512x256 .f32) (v20 : FVec F S512x256 .f32) (cst_1 : FVec F S_ .f32) : FVec F S512x256 .f32 × FVec F S512x256 .f32 :=
  let v21 : FVec F S512x256 .f32 := broadcastInDim S512x256 ![] bcast_S_S512x256 cst_1
  let v22 : FVec F S512x256 .f32 := addf v21 v20
  let cst_2 : FVec F S_ .f32 := constant S_ .f32 0x3F800000#32
  let v23 : FVec F S512x256 .f32 := broadcastInDim S512x256 ![] bcast_S_S512x256 cst_2
  let v24 : FVec F S512x256 .f32 := Host.divf v23 v22
  let v25 : FVec F S512x256 .f32 := Host.tanh v11
  let v26 : FVec F S512x256 .f32 := Host.negf v12
  let v27 : FVec F S512x256 .f32 := Host.exp v26
  let cst_3 : FVec F S_ .f32 := constant S_ .f32 0x3F800000#32
  let v28 : FVec F S512x256 .f32 := broadcastInDim S512x256 ![] bcast_S_S512x256 cst_3
  let v29 : FVec F S512x256 .f32 := addf v28 v27
  let cst_4 : FVec F S_ .f32 := constant S_ .f32 0x3F800000#32
  let v30 : FVec F S512x256 .f32 := broadcastInDim S512x256 ![] bcast_S_S512x256 cst_4
  let v31 : FVec F S512x256 .f32 := Host.divf v30 v29
  let v32 : FVec F S512x256 .f32 := mulf v24 arg2
  let v33 : FVec F S512x256 .f32 := mulf v18 v25
  let v34 : FVec F S512x256 .f32 := addf v32 v33
  let v35 : FVec F S512x256 .f32 := Host.tanh v34
  let v36 : FVec F S512x256 .f32 := mulf v31 v35
  (v36, v34)

def fn_lstm {F : FTy → Type} [FloatOps F] (arg0 : FVec F S512x128 .f32) (arg1 : FVec F S512x256 .f32) (arg2 : FVec F S512x256 .f32) (arg3 : FVec F S512x256 .f32) (arg4 : FVec F S1024x384 .f32) (arg5 : FVec F S1024x256 .f32) (arg6 : FVec F S1024 .f32) : FVec F S512x256 .f32 × FVec F S512x256 .f32 :=
  let v0 : FVec F S512x384 .f32 := (fun a b => concatenate S512x384 1 [⟨S512x128, a⟩, ⟨S512x256, b⟩] concatenates_S512x128_S512x256_S512x384_d1) arg0 arg3
  let v1 : FVec F S384x1024 .f32 := (transpose S384x1024 [1, 0] · transposes_S1024x384_S384x1024_1_0) arg4
  let v2 : FVec F S512x1024 .f32 := (fun l r => Host.dotGeneral dot_S512x384_S384x1024_S512x1024_1_0_0_1_n_n none l r) v0 v1
  let v3 : FVec F S256x1024 .f32 := (transpose S256x1024 [1, 0] · transposes_S1024x256_S256x1024_1_0) arg5
  let v4 : FVec F S512x1024 .f32 := (fun l r => Host.dotGeneral dot_S512x256_S256x1024_S512x1024_1_0_0_1_n_n none l r) arg1 v3
  let v5 : FVec F S512x1024 .f32 := addf v2 v4
  let v6 : FVec F S1x1024 .f32 := broadcastInDim S1x1024 ![1] bcast_S1024_S1x1024_1 arg6
  let v7 : FVec F S512x1024 .f32 := broadcastInDim S512x1024 ![0, 1] bcast_S1x1024_S512x1024_0_1 v6
  let v8 : FVec F S512x1024 .f32 := addf v5 v7
  let v9 : FVec F S512x256 .f32 := (extractStridedSlice S512x256 ![0, 0] · slices_S512x1024_S512x256_0_0) v8
  let v10 : FVec F S512x256 .f32 := (extractStridedSlice S512x256 ![0, 256] · slices_S512x1024_S512x256_0_256) v8
  let v11 : FVec F S512x256 .f32 := (extractStridedSlice S512x256 ![0, 512] · slices_S512x1024_S512x256_0_512) v8
  let v12 : FVec F S512x256 .f32 := (extractStridedSlice S512x256 ![0, 768] · slices_S512x1024_S512x256_0_768) v8
  let v13 : FVec F S512x256 .f32 := Host.negf v9
  let v14 : FVec F S512x256 .f32 := Host.exp v13
  let cst : FVec F S_ .f32 := constant S_ .f32 0x3F800000#32
  let v15 : FVec F S512x256 .f32 := broadcastInDim S512x256 ![] bcast_S_S512x256 cst
  let v16 : FVec F S512x256 .f32 := addf v15 v14
  let cst_0 : FVec F S_ .f32 := constant S_ .f32 0x3F800000#32
  let v17 : FVec F S512x256 .f32 := broadcastInDim S512x256 ![] bcast_S_S512x256 cst_0
  let v18 : FVec F S512x256 .f32 := Host.divf v17 v16
  let v19 : FVec F S512x256 .f32 := Host.negf v10
  let v20 : FVec F S512x256 .f32 := Host.exp v19
  let cst_1 : FVec F S_ .f32 := constant S_ .f32 0x3F800000#32
  fn_lstm_part1 (F := F) arg2 v11 v12 v18 v20 cst_1

def fn_similarity {F : FTy → Type} [FloatOps F] (arg0 : FVec F S512x256 .f32) (arg1 : FVec F S512x20x256 .f32) (arg2 : FVec F S256x256 .f32) : FVec F S512x20 .f32 :=
  let v0 : FVec F S256x256 .f32 := (transpose S256x256 [1, 0] · transposes_S256x256_S256x256_1_0) arg2
  let v1 : FVec F S512x256 .f32 := (fun l r => Host.dotGeneral dot_S512x256_S256x256_S512x256_1_0_0_1_n_n none l r) arg0 v0
  let v2 : FVec F S512x256 .f32 := mulf v1 v1
  let cst : FVec F S_ .f32 := constant S_ .f32 0x00000000#32
  let v3 : FVec F S512 .f32 := (fun x v => Host.reduceAdd x v reducesTo_S512x256_S512_d1 h_S_) v2 cst
  let v4 : FVec F S512x1 .f32 := broadcastInDim S512x1 ![0] bcast_S512_S512x1_0 v3
  let v5 : FVec F S512x1 .f32 := Host.sqrt v4
  let cst_0 : FVec F S_ .f32 := constant S_ .f32 0x322BCC77#32
  let v6 : FVec F S512x1 .f32 := broadcastInDim S512x1 ![] bcast_S_S512x1 cst_0
  let v7 : FVec F S512x1 .f32 := addf v5 v6
  let v8 : FVec F S512x256 .f32 := broadcastInDim S512x256 ![0, 1] bcast_S512x1_S512x256_0_1 v7
  let v9 : FVec F S512x256 .f32 := Host.divf v1 v8
  let v10 : FVec F S512x20x256 .f32 := mulf arg1 arg1
  let cst_1 : FVec F S_ .f32 := constant S_ .f32 0x00000000#32
  let v11 : FVec F S512x20 .f32 := (fun x v => Host.reduceAdd x v reducesTo_S512x20x256_S512x20_d2 h_S_) v10 cst_1
  let v12 : FVec F S512x20x1 .f32 := broadcastInDim S512x20x1 ![0, 1] bcast_S512x20_S512x20x1_0_1 v11
  let v13 : FVec F S512x20x1 .f32 := Host.sqrt v12
  let cst_2 : FVec F S_ .f32 := constant S_ .f32 0x322BCC77#32
  let v14 : FVec F S512x20x1 .f32 := broadcastInDim S512x20x1 ![] bcast_S_S512x20x1 cst_2
  let v15 : FVec F S512x20x1 .f32 := addf v13 v14
  let v16 : FVec F S512x20x256 .f32 := broadcastInDim S512x20x256 ![0, 1, 2] bcast_S512x20x1_S512x20x256_0_1_2 v15
  let v17 : FVec F S512x20x256 .f32 := Host.divf arg1 v16
  let v18 : FVec F S512x20 .f32 := (fun l r => Host.dotGeneral dot_S512x256_S512x20x256_S512x20_1_2_n_1_0_0 none l r) v9 v17
  v18

def fn_apart {F : FTy → Type} [FloatOps F] (arg0 : FVec F S512x20 .f32) : IVec S512x4 1 :=
  let values : FVec F S512x5 .f32 := (fun x => (Host.topK S512x5 1 (FloatOps.cmpfTotal .gt) x sliceFits_S512x20_S512x5).1) arg0
  let indices : IVec S512x5 32 := (fun x => (Host.topK S512x5 1 (FloatOps.cmpfTotal .gt) x sliceFits_S512x20_S512x5).2) arg0
  let v0 : FVec F S512x4 .f32 := (extractStridedSlice S512x4 ![0, 0] · slices_S512x5_S512x4_0_0) values
  let v1 : FVec F S512x4 .f32 := (extractStridedSlice S512x4 ![0, 1] · slices_S512x5_S512x4_0_1) values
  let v2 : IVec S512x4 1 := cmpf .ogt v0 v1
  v2

def fn_take_along_axis {F : FTy → Type} [FloatOps F] (arg0 : FVec F S512x20x256 .f32) (arg1 : IVec S512x4x1 32) : FVec F S512x4x256 .f32 :=
  let c : IVec S_ 32 := constantI S_ 32 0#32
  let v0 : IVec S512x4x1 32 := broadcastInDim S512x4x1 ![] bcast_S_S512x4x1 c
  let v1 : IVec S512x4x1 1 := cmpi .slt arg1 v0
  let c_0 : IVec S_ 32 := constantI S_ 32 20#32
  let v2 : IVec S512x4x1 32 := broadcastInDim S512x4x1 ![] bcast_S_S512x4x1 c_0
  let v3 : IVec S512x4x1 32 := addi arg1 v2
  let v4 : IVec S512x4x1 32 := select v1 v3 arg1
  let v5 : FVec F S512x4x256 .f32 := (fun x i => Host.gather gather_S512x20x256_S512x4x1_S512x4x256_2_1_0_0_1_2_11256 x i) arg0 v4
  v5

def fn_read {F : FTy → Type} [FloatOps F] (arg0 : FVec F S512x20 .f32) (arg1 : FVec F S512x20x256 .f32) : FVec F S512x256 .f32 :=
  let values : FVec F S512x4 .f32 := (fun x => (Host.topK S512x4 1 (FloatOps.cmpfTotal .gt) x sliceFits_S512x20_S512x4).1) arg0
  let indices : IVec S512x4 32 := (fun x => (Host.topK S512x4 1 (FloatOps.cmpfTotal .gt) x sliceFits_S512x20_S512x4).2) arg0
  let cst : FVec F S_ .f32 := constant S_ .f32 0xFF800000#32
  let v0 : FVec F S512 .f32 := (fun x v => Host.reduce FloatOps.maximumf x v reducesTo_S512x4_S512_d1 h_S_) values cst
  let cst_0 : FVec F S_ .f32 := constant S_ .f32 0xFF800000#32
  let v1 : FVec F S512 .f32 := broadcastInDim S512 ![] bcast_S_S512 cst_0
  let v2 : FVec F S512 .f32 := maximumf v1 v0
  let v3 : FVec F S512x1 .f32 := broadcastInDim S512x1 ![0] bcast_S512_S512x1_0 v2
  let v4 : FVec F S512x4 .f32 := broadcastInDim S512x4 ![0, 1] bcast_S512x1_S512x4_0_1 v3
  let v5 : FVec F S512x4 .f32 := subf values v4
  let v6 : FVec F S512x4 .f32 := Host.exp v5
  let cst_1 : FVec F S_ .f32 := constant S_ .f32 0x00000000#32
  let v7 : FVec F S512 .f32 := (fun x v => Host.reduceAdd x v reducesTo_S512x4_S512_d1 h_S_) v6 cst_1
  let v8 : FVec F S512x1 .f32 := broadcastInDim S512x1 ![0] bcast_S512_S512x1_0 v7
  let v9 : FVec F S512x4 .f32 := broadcastInDim S512x4 ![0, 1] bcast_S512x1_S512x4_0_1 v8
  let v10 : FVec F S512x4 .f32 := Host.divf v6 v9
  let v11 : IVec S512x4x1 32 := broadcastInDim S512x4x1 ![0, 1] bcast_S512x4_S512x4x1_0_1 indices
  let v12 : FVec F S512x4x256 .f32 := fn_take_along_axis (F := F) arg1 v11
  let v13 : FVec F S512x4x1 .f32 := broadcastInDim S512x4x1 ![0, 1] bcast_S512x4_S512x4x1_0_1 v10
  let v14 : FVec F S512x4x256 .f32 := broadcastInDim S512x4x256 ![0, 1, 2] bcast_S512x4x1_S512x4x256_0_1_2 v13
  let v15 : FVec F S512x4x256 .f32 := mulf v14 v12
  let cst_2 : FVec F S_ .f32 := constant S_ .f32 0x00000000#32
  let v16 : FVec F S512x256 .f32 := (fun x v => Host.reduceAdd x v reducesTo_S512x4x256_S512x256_d1 h_S_) v15 cst_2
  v16

def fn_write_part1 {F : FTy → Type} [FloatOps F] (arg2 : FVec F S512x20x256 .f32) (v2 : FVec F S512x256 .f32) (v10 : FVec F S512x256 .f32) (v17 : FVec F S512x20 .f32) (v18 : FVec F S512 .f32) : FVec F S512x20x256 .f32 :=
  let v19 : FVec F S512x1 .f32 := broadcastInDim S512x1 ![0] bcast_S512_S512x1_0 v18
  let v20 : FVec F S512x20 .f32 := broadcastInDim S512x20 ![0, 1] bcast_S512x1_S512x20_0_1 v19
  let v21 : FVec F S512x20 .f32 := Host.divf v17 v20
  let v22 : FVec F S512x20x1 .f32 := broadcastInDim S512x20x1 ![0, 1] bcast_S512x20_S512x20x1_0_1 v21
  let v23 : FVec F S512x1x256 .f32 := broadcastInDim S512x1x256 ![0, 2] bcast_S512x256_S512x1x256_0_2 v10
  let v24 : FVec F S512x20x256 .f32 := broadcastInDim S512x20x256 ![0, 1, 2] bcast_S512x20x1_S512x20x256_0_1_2 v22
  let v25 : FVec F S512x20x256 .f32 := broadcastInDim S512x20x256 ![0, 1, 2] bcast_S512x1x256_S512x20x256_0_1_2 v23
  let v26 : FVec F S512x20x256 .f32 := mulf v24 v25
  let cst_4 : FVec F S_ .f32 := constant S_ .f32 0x3F800000#32
  let v27 : FVec F S512x20x256 .f32 := broadcastInDim S512x20x256 ![] bcast_S_S512x20x256 cst_4
  let v28 : FVec F S512x20x256 .f32 := subf v27 v26
  let v29 : FVec F S512x20x256 .f32 := mulf arg2 v28
  let v30 : FVec F S512x20x1 .f32 := broadcastInDim S512x20x1 ![0, 1] bcast_S512x20_S512x20x1_0_1 v21
  let v31 : FVec F S512x1x256 .f32 := broadcastInDim S512x1x256 ![0, 2] bcast_S512x256_S512x1x256_0_2 v2
  let v32 : FVec F S512x20x256 .f32 := broadcastInDim S512x20x256 ![0, 1, 2] bcast_S512x20x1_S512x20x256_0_1_2 v30
  let v33 : FVec F S512x20x256 .f32 := broadcastInDim S512x20x256 ![0, 1, 2] bcast_S512x1x256_S512x20x256_0_1_2 v31
  let v34 : FVec F S512x20x256 .f32 := mulf v32 v33
  let v35 : FVec F S512x20x256 .f32 := addf v29 v34
  v35

def fn_write {F : FTy → Type} [FloatOps F] (arg0 : FVec F S512x20 .f32) (arg1 : FVec F S512x256 .f32) (arg2 : FVec F S512x20x256 .f32) (arg3 : FVec F S256x256 .f32) (arg4 : FVec F S256x256 .f32) : FVec F S512x20x256 .f32 :=
  let v0 : FVec F S256x256 .f32 := (transpose S256x256 [1, 0] · transposes_S256x256_S256x256_1_0) arg3
  let v1 : FVec F S512x256 .f32 := (fun l r => Host.dotGeneral dot_S512x256_S256x256_S512x256_1_0_0_1_n_n none l r) arg1 v0
  let v2 : FVec F S512x256 .f32 := Host.tanh v1
  let v3 : FVec F S256x256 .f32 := (transpose S256x256 [1, 0] · transposes_S256x256_S256x256_1_0) arg4
  let v4 : FVec F S512x256 .f32 := (fun l r => Host.dotGeneral dot_S512x256_S256x256_S512x256_1_0_0_1_n_n none l r) arg1 v3
  let v5 : FVec F S512x256 .f32 := Host.negf v4
  let v6 : FVec F S512x256 .f32 := Host.exp v5
  let cst : FVec F S_ .f32 := constant S_ .f32 0x3F800000#32
  let v7 : FVec F S512x256 .f32 := broadcastInDim S512x256 ![] bcast_S_S512x256 cst
  let v8 : FVec F S512x256 .f32 := addf v7 v6
  let cst_0 : FVec F S_ .f32 := constant S_ .f32 0x3F800000#32
  let v9 : FVec F S512x256 .f32 := broadcastInDim S512x256 ![] bcast_S_S512x256 cst_0
  let v10 : FVec F S512x256 .f32 := Host.divf v9 v8
  let cst_1 : FVec F S_ .f32 := constant S_ .f32 0xFF800000#32
  let v11 : FVec F S512 .f32 := (fun x v => Host.reduce FloatOps.maximumf x v reducesTo_S512x20_S512_d1 h_S_) arg0 cst_1
  let cst_2 : FVec F S_ .f32 := constant S_ .f32 0xFF800000#32
  let v12 : FVec F S512 .f32 := broadcastInDim S512 ![] bcast_S_S512 cst_2
  let v13 : FVec F S512 .f32 := maximumf v12 v11
  let v14 : FVec F S512x1 .f32 := broadcastInDim S512x1 ![0] bcast_S512_S512x1_0 v13
  let v15 : FVec F S512x20 .f32 := broadcastInDim S512x20 ![0, 1] bcast_S512x1_S512x20_0_1 v14
  let v16 : FVec F S512x20 .f32 := subf arg0 v15
  let v17 : FVec F S512x20 .f32 := Host.exp v16
  let cst_3 : FVec F S_ .f32 := constant S_ .f32 0x00000000#32
  let v18 : FVec F S512 .f32 := (fun x v => Host.reduceAdd x v reducesTo_S512x20_S512_d1 h_S_) v17 cst_3
  fn_write_part1 (F := F) arg2 v2 v10 v17 v18

def fn_part8 {F : FTy → Type} [FloatOps F] (main_arg17 : FVec F S256x256 .f32) (main_arg18 : FVec F S256x256 .f32) (main_v163 : IVec S512x4 1) (main_v165 : FVec F S512x20x256 .f32) (main_v168_0 : FVec F S512x256 .f32) (main_v169 : FVec F S512x20 .f32) : IVec S512x4 1 :=
  let main_v170 : IVec S512x4 1 := fn_apart (F := F) main_v169
  let main_v171 : IVec S512x4 1 := andi main_v163 main_v170
  let main_v172 : FVec F S512x256 .f32 := fn_read (F := F) main_v169 main_v165
  let main_v173 : FVec F S512x20x256 .f32 := fn_write (F := F) main_v169 main_v168_0 main_v165 main_arg17 main_arg18
  main_v171

def fn_part7 {F : FTy → Type} [FloatOps F] (main_arg13 : FVec F S1024x384 .f32) (main_arg14 : FVec F S1024x256 .f32) (main_arg15 : FVec F S1024 .f32) (main_arg16 : FVec F S256x256 .f32) (main_arg17 : FVec F S256x256 .f32) (main_arg18 : FVec F S256x256 .f32) (main_v5 : FVec F S512x20x128 .f32) (main_v141 : FVec F S512x20x256 .f32) (main_v144_0 : FVec F S512x256 .f32) (main_v144_1 : FVec F S512x256 .f32) (main_v145 : FVec F S512x20 .f32) (main_v147 : IVec S512x4 1) (main_v148 : FVec F S512x256 .f32) : IVec S512x4 1 :=
  let main_v149 : FVec F S512x20x256 .f32 := fn_write (F := F) main_v145 main_v144_0 main_v141 main_arg17 main_arg18
  let main_v150 : FVec F S512x1x128 .f32 := (extractStridedSlice S512x1x128 ![0, 17, 0] · slices_S512x20x128_S512x1x128_0_17_0) main_v5
  let main_v151 : FVec F S512x128 .f32 := shapeCast S512x128 main_v150 shapeCasts_S512x1x128_S512x128
  let main_v152_0 : FVec F S512x256 .f32 := (fn_lstm (F := F) main_v151 main_v144_0 main_v144_1 main_v148 main_arg13 main_arg14 main_arg15).1
  let main_v152_1 : FVec F S512x256 .f32 := (fn_lstm (F := F) main_v151 main_v144_0 main_v144_1 main_v148 main_arg13 main_arg14 main_arg15).2
  let main_v153 : FVec F S512x20 .f32 := fn_similarity (F := F) main_v152_0 main_v149 main_arg16
  let main_v154 : IVec S512x4 1 := fn_apart (F := F) main_v153
  let main_v155 : IVec S512x4 1 := andi main_v147 main_v154
  let main_v156 : FVec F S512x256 .f32 := fn_read (F := F) main_v153 main_v149
  let main_v157 : FVec F S512x20x256 .f32 := fn_write (F := F) main_v153 main_v152_0 main_v149 main_arg17 main_arg18
  let main_v158 : FVec F S512x1x128 .f32 := (extractStridedSlice S512x1x128 ![0, 18, 0] · slices_S512x20x128_S512x1x128_0_18_0) main_v5
  let main_v159 : FVec F S512x128 .f32 := shapeCast S512x128 main_v158 shapeCasts_S512x1x128_S512x128
  let main_v160_0 : FVec F S512x256 .f32 := (fn_lstm (F := F) main_v159 main_v152_0 main_v152_1 main_v156 main_arg13 main_arg14 main_arg15).1
  let main_v160_1 : FVec F S512x256 .f32 := (fn_lstm (F := F) main_v159 main_v152_0 main_v152_1 main_v156 main_arg13 main_arg14 main_arg15).2
  let main_v161 : FVec F S512x20 .f32 := fn_similarity (F := F) main_v160_0 main_v157 main_arg16
  let main_v162 : IVec S512x4 1 := fn_apart (F := F) main_v161
  let main_v163 : IVec S512x4 1 := andi main_v155 main_v162
  let main_v164 : FVec F S512x256 .f32 := fn_read (F := F) main_v161 main_v157
  let main_v165 : FVec F S512x20x256 .f32 := fn_write (F := F) main_v161 main_v160_0 main_v157 main_arg17 main_arg18
  let main_v166 : FVec F S512x1x128 .f32 := (extractStridedSlice S512x1x128 ![0, 19, 0] · slices_S512x20x128_S512x1x128_0_19_0) main_v5
  let main_v167 : FVec F S512x128 .f32 := shapeCast S512x128 main_v166 shapeCasts_S512x1x128_S512x128
  let main_v168_0 : FVec F S512x256 .f32 := (fn_lstm (F := F) main_v167 main_v160_0 main_v160_1 main_v164 main_arg13 main_arg14 main_arg15).1
  let main_v168_1 : FVec F S512x256 .f32 := (fn_lstm (F := F) main_v167 main_v160_0 main_v160_1 main_v164 main_arg13 main_arg14 main_arg15).2
  let main_v169 : FVec F S512x20 .f32 := fn_similarity (F := F) main_v168_0 main_v165 main_arg16
  fn_part8 (F := F) main_arg17 main_arg18 main_v163 main_v165 main_v168_0 main_v169

def fn_part6 {F : FTy → Type} [FloatOps F] (main_arg13 : FVec F S1024x384 .f32) (main_arg14 : FVec F S1024x256 .f32) (main_arg15 : FVec F S1024 .f32) (main_arg16 : FVec F S256x256 .f32) (main_arg17 : FVec F S256x256 .f32) (main_arg18 : FVec F S256x256 .f32) (main_v5 : FVec F S512x20x128 .f32) (main_v120_0 : FVec F S512x256 .f32) (main_v120_1 : FVec F S512x256 .f32) (main_v123 : IVec S512x4 1) (main_v124 : FVec F S512x256 .f32) (main_v125 : FVec F S512x20x256 .f32) (main_v127 : FVec F S512x128 .f32) : IVec S512x4 1 :=
  let main_v128_0 : FVec F S512x256 .f32 := (fn_lstm (F := F) main_v127 main_v120_0 main_v120_1 main_v124 main_arg13 main_arg14 main_arg15).1
  let main_v128_1 : FVec F S512x256 .f32 := (fn_lstm (F := F) main_v127 main_v120_0 main_v120_1 main_v124 main_arg13 main_arg14 main_arg15).2
  let main_v129 : FVec F S512x20 .f32 := fn_similarity (F := F) main_v128_0 main_v125 main_arg16
  let main_v130 : IVec S512x4 1 := fn_apart (F := F) main_v129
  let main_v131 : IVec S512x4 1 := andi main_v123 main_v130
  let main_v132 : FVec F S512x256 .f32 := fn_read (F := F) main_v129 main_v125
  let main_v133 : FVec F S512x20x256 .f32 := fn_write (F := F) main_v129 main_v128_0 main_v125 main_arg17 main_arg18
  let main_v134 : FVec F S512x1x128 .f32 := (extractStridedSlice S512x1x128 ![0, 15, 0] · slices_S512x20x128_S512x1x128_0_15_0) main_v5
  let main_v135 : FVec F S512x128 .f32 := shapeCast S512x128 main_v134 shapeCasts_S512x1x128_S512x128
  let main_v136_0 : FVec F S512x256 .f32 := (fn_lstm (F := F) main_v135 main_v128_0 main_v128_1 main_v132 main_arg13 main_arg14 main_arg15).1
  let main_v136_1 : FVec F S512x256 .f32 := (fn_lstm (F := F) main_v135 main_v128_0 main_v128_1 main_v132 main_arg13 main_arg14 main_arg15).2
  let main_v137 : FVec F S512x20 .f32 := fn_similarity (F := F) main_v136_0 main_v133 main_arg16
  let main_v138 : IVec S512x4 1 := fn_apart (F := F) main_v137
  let main_v139 : IVec S512x4 1 := andi main_v131 main_v138
  let main_v140 : FVec F S512x256 .f32 := fn_read (F := F) main_v137 main_v133
  let main_v141 : FVec F S512x20x256 .f32 := fn_write (F := F) main_v137 main_v136_0 main_v133 main_arg17 main_arg18
  let main_v142 : FVec F S512x1x128 .f32 := (extractStridedSlice S512x1x128 ![0, 16, 0] · slices_S512x20x128_S512x1x128_0_16_0) main_v5
  let main_v143 : FVec F S512x128 .f32 := shapeCast S512x128 main_v142 shapeCasts_S512x1x128_S512x128
  let main_v144_0 : FVec F S512x256 .f32 := (fn_lstm (F := F) main_v143 main_v136_0 main_v136_1 main_v140 main_arg13 main_arg14 main_arg15).1
  let main_v144_1 : FVec F S512x256 .f32 := (fn_lstm (F := F) main_v143 main_v136_0 main_v136_1 main_v140 main_arg13 main_arg14 main_arg15).2
  let main_v145 : FVec F S512x20 .f32 := fn_similarity (F := F) main_v144_0 main_v141 main_arg16
  let main_v146 : IVec S512x4 1 := fn_apart (F := F) main_v145
  let main_v147 : IVec S512x4 1 := andi main_v139 main_v146
  let main_v148 : FVec F S512x256 .f32 := fn_read (F := F) main_v145 main_v141
  fn_part7 (F := F) main_arg13 main_arg14 main_arg15 main_arg16 main_arg17 main_arg18 main_v5 main_v141 main_v144_0 main_v144_1 main_v145 main_v147 main_v148

def fn_part5 {F : FTy → Type} [FloatOps F] (main_arg13 : FVec F S1024x384 .f32) (main_arg14 : FVec F S1024x256 .f32) (main_arg15 : FVec F S1024 .f32) (main_arg16 : FVec F S256x256 .f32) (main_arg17 : FVec F S256x256 .f32) (main_arg18 : FVec F S256x256 .f32) (main_v5 : FVec F S512x20x128 .f32) (main_v99 : IVec S512x4 1) (main_v101 : FVec F S512x20x256 .f32) (main_v104_0 : FVec F S512x256 .f32) (main_v104_1 : FVec F S512x256 .f32) (main_v105 : FVec F S512x20 .f32) : IVec S512x4 1 :=
  let main_v106 : IVec S512x4 1 := fn_apart (F := F) main_v105
  let main_v107 : IVec S512x4 1 := andi main_v99 main_v106
  let main_v108 : FVec F S512x256 .f32 := fn_read (F := F) main_v105 main_v101
  let main_v109 : FVec F S512x20x256 .f32 := fn_write (F := F) main_v105 main_v104_0 main_v101 main_arg17 main_arg18
  let main_v110 : FVec F S512x1x128 .f32 := (extractStridedSlice S512x1x128 ![0, 12, 0] · slices_S512x20x128_S512x1x128_0_12_0) main_v5
  let main_v111 : FVec F S512x128 .f32 := shapeCast S512x128 main_v110 shapeCasts_S512x1x128_S512x128
  let main_v112_0 : FVec F S512x256 .f32 := (fn_lstm (F := F) main_v111 main_v104_0 main_v104_1 main_v108 main_arg13 main_arg14 main_arg15).1
  let main_v112_1 : FVec F S512x256 .f32 := (fn_lstm (F := F) main_v111 main_v104_0 main_v104_1 main_v108 main_arg13 main_arg14 main_arg15).2
  let main_v113 : FVec F S512x20 .f32 := fn_similarity (F := F) main_v112_0 main_v109 main_arg16
  let main_v114 : IVec S512x4 1 := fn_apart (F := F) main_v113
  let main_v115 : IVec S512x4 1 := andi main_v107 main_v114
  let main_v116 : FVec F S512x256 .f32 := fn_read (F := F) main_v113 main_v109
  let main_v117 : FVec F S512x20x256 .f32 := fn_write (F := F) main_v113 main_v112_0 main_v109 main_arg17 main_arg18
  let main_v118 : FVec F S512x1x128 .f32 := (extractStridedSlice S512x1x128 ![0, 13, 0] · slices_S512x20x128_S512x1x128_0_13_0) main_v5
  let main_v119 : FVec F S512x128 .f32 := shapeCast S512x128 main_v118 shapeCasts_S512x1x128_S512x128
  let main_v120_0 : FVec F S512x256 .f32 := (fn_lstm (F := F) main_v119 main_v112_0 main_v112_1 main_v116 main_arg13 main_arg14 main_arg15).1
  let main_v120_1 : FVec F S512x256 .f32 := (fn_lstm (F := F) main_v119 main_v112_0 main_v112_1 main_v116 main_arg13 main_arg14 main_arg15).2
  let main_v121 : FVec F S512x20 .f32 := fn_similarity (F := F) main_v120_0 main_v117 main_arg16
  let main_v122 : IVec S512x4 1 := fn_apart (F := F) main_v121
  let main_v123 : IVec S512x4 1 := andi main_v115 main_v122
  let main_v124 : FVec F S512x256 .f32 := fn_read (F := F) main_v121 main_v117
  let main_v125 : FVec F S512x20x256 .f32 := fn_write (F := F) main_v121 main_v120_0 main_v117 main_arg17 main_arg18
  let main_v126 : FVec F S512x1x128 .f32 := (extractStridedSlice S512x1x128 ![0, 14, 0] · slices_S512x20x128_S512x1x128_0_14_0) main_v5
  let main_v127 : FVec F S512x128 .f32 := shapeCast S512x128 main_v126 shapeCasts_S512x1x128_S512x128
  fn_part6 (F := F) main_arg13 main_arg14 main_arg15 main_arg16 main_arg17 main_arg18 main_v5 main_v120_0 main_v120_1 main_v123 main_v124 main_v125 main_v127

def fn_part4 {F : FTy → Type} [FloatOps F] (main_arg13 : FVec F S1024x384 .f32) (main_arg14 : FVec F S1024x256 .f32) (main_arg15 : FVec F S1024 .f32) (main_arg16 : FVec F S256x256 .f32) (main_arg17 : FVec F S256x256 .f32) (main_arg18 : FVec F S256x256 .f32) (main_v5 : FVec F S512x20x128 .f32) (main_v77 : FVec F S512x20x256 .f32) (main_v80_0 : FVec F S512x256 .f32) (main_v80_1 : FVec F S512x256 .f32) (main_v81 : FVec F S512x20 .f32) (main_v83 : IVec S512x4 1) (main_v84 : FVec F S512x256 .f32) : IVec S512x4 1 :=
  let main_v85 : FVec F S512x20x256 .f32 := fn_write (F := F) main_v81 main_v80_0 main_v77 main_arg17 main_arg18
  let main_v86 : FVec F S512x1x128 .f32 := (extractStridedSlice S512x1x128 ![0, 9, 0] · slices_S512x20x128_S512x1x128_0_9_0) main_v5
  let main_v87 : FVec F S512x128 .f32 := shapeCast S512x128 main_v86 shapeCasts_S512x1x128_S512x128
  let main_v88_0 : FVec F S512x256 .f32 := (fn_lstm (F := F) main_v87 main_v80_0 main_v80_1 main_v84 main_arg13 main_arg14 main_arg15).1
  let main_v88_1 : FVec F S512x256 .f32 := (fn_lstm (F := F) main_v87 main_v80_0 main_v80_1 main_v84 main_arg13 main_arg14 main_arg15).2
  let main_v89 : FVec F S512x20 .f32 := fn_similarity (F := F) main_v88_0 main_v85 main_arg16
  let main_v90 : IVec S512x4 1 := fn_apart (F := F) main_v89
  let main_v91 : IVec S512x4 1 := andi main_v83 main_v90
  let main_v92 : FVec F S512x256 .f32 := fn_read (F := F) main_v89 main_v85
  let main_v93 : FVec F S512x20x256 .f32 := fn_write (F := F) main_v89 main_v88_0 main_v85 main_arg17 main_arg18
  let main_v94 : FVec F S512x1x128 .f32 := (extractStridedSlice S512x1x128 ![0, 10, 0] · slices_S512x20x128_S512x1x128_0_10_0) main_v5
  let main_v95 : FVec F S512x128 .f32 := shapeCast S512x128 main_v94 shapeCasts_S512x1x128_S512x128
  let main_v96_0 : FVec F S512x256 .f32 := (fn_lstm (F := F) main_v95 main_v88_0 main_v88_1 main_v92 main_arg13 main_arg14 main_arg15).1
  let main_v96_1 : FVec F S512x256 .f32 := (fn_lstm (F := F) main_v95 main_v88_0 main_v88_1 main_v92 main_arg13 main_arg14 main_arg15).2
  let main_v97 : FVec F S512x20 .f32 := fn_similarity (F := F) main_v96_0 main_v93 main_arg16
  let main_v98 : IVec S512x4 1 := fn_apart (F := F) main_v97
  let main_v99 : IVec S512x4 1 := andi main_v91 main_v98
  let main_v100 : FVec F S512x256 .f32 := fn_read (F := F) main_v97 main_v93
  let main_v101 : FVec F S512x20x256 .f32 := fn_write (F := F) main_v97 main_v96_0 main_v93 main_arg17 main_arg18
  let main_v102 : FVec F S512x1x128 .f32 := (extractStridedSlice S512x1x128 ![0, 11, 0] · slices_S512x20x128_S512x1x128_0_11_0) main_v5
  let main_v103 : FVec F S512x128 .f32 := shapeCast S512x128 main_v102 shapeCasts_S512x1x128_S512x128
  let main_v104_0 : FVec F S512x256 .f32 := (fn_lstm (F := F) main_v103 main_v96_0 main_v96_1 main_v100 main_arg13 main_arg14 main_arg15).1
  let main_v104_1 : FVec F S512x256 .f32 := (fn_lstm (F := F) main_v103 main_v96_0 main_v96_1 main_v100 main_arg13 main_arg14 main_arg15).2
  let main_v105 : FVec F S512x20 .f32 := fn_similarity (F := F) main_v104_0 main_v101 main_arg16
  fn_part5 (F := F) main_arg13 main_arg14 main_arg15 main_arg16 main_arg17 main_arg18 main_v5 main_v99 main_v101 main_v104_0 main_v104_1 main_v105

def fn_part3 {F : FTy → Type} [FloatOps F] (main_arg13 : FVec F S1024x384 .f32) (main_arg14 : FVec F S1024x256 .f32) (main_arg15 : FVec F S1024 .f32) (main_arg16 : FVec F S256x256 .f32) (main_arg17 : FVec F S256x256 .f32) (main_arg18 : FVec F S256x256 .f32) (main_v5 : FVec F S512x20x128 .f32) (main_v56_0 : FVec F S512x256 .f32) (main_v56_1 : FVec F S512x256 .f32) (main_v59 : IVec S512x4 1) (main_v60 : FVec F S512x256 .f32) (main_v61 : FVec F S512x20x256 .f32) (main_v63 : FVec F S512x128 .f32) : IVec S512x4 1 :=
  let main_v64_0 : FVec F S512x256 .f32 := (fn_lstm (F := F) main_v63 main_v56_0 main_v56_1 main_v60 main_arg13 main_arg14 main_arg15).1
  let main_v64_1 : FVec F S512x256 .f32 := (fn_lstm (F := F) main_v63 main_v56_0 main_v56_1 main_v60 main_arg13 main_arg14 main_arg15).2
  let main_v65 : FVec F S512x20 .f32 := fn_similarity (F := F) main_v64_0 main_v61 main_arg16
  let main_v66 : IVec S512x4 1 := fn_apart (F := F) main_v65
  let main_v67 : IVec S512x4 1 := andi main_v59 main_v66
  let main_v68 : FVec F S512x256 .f32 := fn_read (F := F) main_v65 main_v61
  let main_v69 : FVec F S512x20x256 .f32 := fn_write (F := F) main_v65 main_v64_0 main_v61 main_arg17 main_arg18
  let main_v70 : FVec F S512x1x128 .f32 := (extractStridedSlice S512x1x128 ![0, 7, 0] · slices_S512x20x128_S512x1x128_0_7_0) main_v5
  let main_v71 : FVec F S512x128 .f32 := shapeCast S512x128 main_v70 shapeCasts_S512x1x128_S512x128
  let main_v72_0 : FVec F S512x256 .f32 := (fn_lstm (F := F) main_v71 main_v64_0 main_v64_1 main_v68 main_arg13 main_arg14 main_arg15).1
  let main_v72_1 : FVec F S512x256 .f32 := (fn_lstm (F := F) main_v71 main_v64_0 main_v64_1 main_v68 main_arg13 main_arg14 main_arg15).2
  let main_v73 : FVec F S512x20 .f32 := fn_similarity (F := F) main_v72_0 main_v69 main_arg16
  let main_v74 : IVec S512x4 1 := fn_apart (F := F) main_v73
  let main_v75 : IVec S512x4 1 := andi main_v67 main_v74
  let main_v76 : FVec F S512x256 .f32 := fn_read (F := F) main_v73 main_v69
  let main_v77 : FVec F S512x20x256 .f32 := fn_write (F := F) main_v73 main_v72_0 main_v69 main_arg17 main_arg18
  let main_v78 : FVec F S512x1x128 .f32 := (extractStridedSlice S512x1x128 ![0, 8, 0] · slices_S512x20x128_S512x1x128_0_8_0) main_v5
  let main_v79 : FVec F S512x128 .f32 := shapeCast S512x128 main_v78 shapeCasts_S512x1x128_S512x128
  let main_v80_0 : FVec F S512x256 .f32 := (fn_lstm (F := F) main_v79 main_v72_0 main_v72_1 main_v76 main_arg13 main_arg14 main_arg15).1
  let main_v80_1 : FVec F S512x256 .f32 := (fn_lstm (F := F) main_v79 main_v72_0 main_v72_1 main_v76 main_arg13 main_arg14 main_arg15).2
  let main_v81 : FVec F S512x20 .f32 := fn_similarity (F := F) main_v80_0 main_v77 main_arg16
  let main_v82 : IVec S512x4 1 := fn_apart (F := F) main_v81
  let main_v83 : IVec S512x4 1 := andi main_v75 main_v82
  let main_v84 : FVec F S512x256 .f32 := fn_read (F := F) main_v81 main_v77
  fn_part4 (F := F) main_arg13 main_arg14 main_arg15 main_arg16 main_arg17 main_arg18 main_v5 main_v77 main_v80_0 main_v80_1 main_v81 main_v83 main_v84

def fn_part2 {F : FTy → Type} [FloatOps F] (main_arg13 : FVec F S1024x384 .f32) (main_arg14 : FVec F S1024x256 .f32) (main_arg15 : FVec F S1024 .f32) (main_arg16 : FVec F S256x256 .f32) (main_arg17 : FVec F S256x256 .f32) (main_arg18 : FVec F S256x256 .f32) (main_v5 : FVec F S512x20x128 .f32) (main_v35 : IVec S512x4 1) (main_v37 : FVec F S512x20x256 .f32) (main_v40_0 : FVec F S512x256 .f32) (main_v40_1 : FVec F S512x256 .f32) (main_v41 : FVec F S512x20 .f32) : IVec S512x4 1 :=
  let main_v42 : IVec S512x4 1 := fn_apart (F := F) main_v41
  let main_v43 : IVec S512x4 1 := andi main_v35 main_v42
  let main_v44 : FVec F S512x256 .f32 := fn_read (F := F) main_v41 main_v37
  let main_v45 : FVec F S512x20x256 .f32 := fn_write (F := F) main_v41 main_v40_0 main_v37 main_arg17 main_arg18
  let main_v46 : FVec F S512x1x128 .f32 := (extractStridedSlice S512x1x128 ![0, 4, 0] · slices_S512x20x128_S512x1x128_0_4_0) main_v5
  let main_v47 : FVec F S512x128 .f32 := shapeCast S512x128 main_v46 shapeCasts_S512x1x128_S512x128
  let main_v48_0 : FVec F S512x256 .f32 := (fn_lstm (F := F) main_v47 main_v40_0 main_v40_1 main_v44 main_arg13 main_arg14 main_arg15).1
  let main_v48_1 : FVec F S512x256 .f32 := (fn_lstm (F := F) main_v47 main_v40_0 main_v40_1 main_v44 main_arg13 main_arg14 main_arg15).2
  let main_v49 : FVec F S512x20 .f32 := fn_similarity (F := F) main_v48_0 main_v45 main_arg16
  let main_v50 : IVec S512x4 1 := fn_apart (F := F) main_v49
  let main_v51 : IVec S512x4 1 := andi main_v43 main_v50
  let main_v52 : FVec F S512x256 .f32 := fn_read (F := F) main_v49 main_v45
  let main_v53 : FVec F S512x20x256 .f32 := fn_write (F := F) main_v49 main_v48_0 main_v45 main_arg17 main_arg18
  let main_v54 : FVec F S512x1x128 .f32 := (extractStridedSlice S512x1x128 ![0, 5, 0] · slices_S512x20x128_S512x1x128_0_5_0) main_v5
  let main_v55 : FVec F S512x128 .f32 := shapeCast S512x128 main_v54 shapeCasts_S512x1x128_S512x128
  let main_v56_0 : FVec F S512x256 .f32 := (fn_lstm (F := F) main_v55 main_v48_0 main_v48_1 main_v52 main_arg13 main_arg14 main_arg15).1
  let main_v56_1 : FVec F S512x256 .f32 := (fn_lstm (F := F) main_v55 main_v48_0 main_v48_1 main_v52 main_arg13 main_arg14 main_arg15).2
  let main_v57 : FVec F S512x20 .f32 := fn_similarity (F := F) main_v56_0 main_v53 main_arg16
  let main_v58 : IVec S512x4 1 := fn_apart (F := F) main_v57
  let main_v59 : IVec S512x4 1 := andi main_v51 main_v58
  let main_v60 : FVec F S512x256 .f32 := fn_read (F := F) main_v57 main_v53
  let main_v61 : FVec F S512x20x256 .f32 := fn_write (F := F) main_v57 main_v56_0 main_v53 main_arg17 main_arg18
  let main_v62 : FVec F S512x1x128 .f32 := (extractStridedSlice S512x1x128 ![0, 6, 0] · slices_S512x20x128_S512x1x128_0_6_0) main_v5
  let main_v63 : FVec F S512x128 .f32 := shapeCast S512x128 main_v62 shapeCasts_S512x1x128_S512x128
  fn_part3 (F := F) main_arg13 main_arg14 main_arg15 main_arg16 main_arg17 main_arg18 main_v5 main_v56_0 main_v56_1 main_v59 main_v60 main_v61 main_v63

def fn_part1 {F : FTy → Type} [FloatOps F] (main_arg13 : FVec F S1024x384 .f32) (main_arg14 : FVec F S1024x256 .f32) (main_arg15 : FVec F S1024 .f32) (main_arg16 : FVec F S256x256 .f32) (main_arg17 : FVec F S256x256 .f32) (main_arg18 : FVec F S256x256 .f32) (main_v5 : FVec F S512x20x128 .f32) (main_v12 : FVec F S512x20x256 .f32) (main_v16_0 : FVec F S512x256 .f32) (main_v16_1 : FVec F S512x256 .f32) (main_v17 : FVec F S512x20 .f32) (main_v19 : IVec S512x4 1) (main_v20 : FVec F S512x256 .f32) : IVec S512x4 1 :=
  let main_v21 : FVec F S512x20x256 .f32 := fn_write (F := F) main_v17 main_v16_0 main_v12 main_arg17 main_arg18
  let main_v22 : FVec F S512x1x128 .f32 := (extractStridedSlice S512x1x128 ![0, 1, 0] · slices_S512x20x128_S512x1x128_0_1_0) main_v5
  let main_v23 : FVec F S512x128 .f32 := shapeCast S512x128 main_v22 shapeCasts_S512x1x128_S512x128
  let main_v24_0 : FVec F S512x256 .f32 := (fn_lstm (F := F) main_v23 main_v16_0 main_v16_1 main_v20 main_arg13 main_arg14 main_arg15).1
  let main_v24_1 : FVec F S512x256 .f32 := (fn_lstm (F := F) main_v23 main_v16_0 main_v16_1 main_v20 main_arg13 main_arg14 main_arg15).2
  let main_v25 : FVec F S512x20 .f32 := fn_similarity (F := F) main_v24_0 main_v21 main_arg16
  let main_v26 : IVec S512x4 1 := fn_apart (F := F) main_v25
  let main_v27 : IVec S512x4 1 := andi main_v19 main_v26
  let main_v28 : FVec F S512x256 .f32 := fn_read (F := F) main_v25 main_v21
  let main_v29 : FVec F S512x20x256 .f32 := fn_write (F := F) main_v25 main_v24_0 main_v21 main_arg17 main_arg18
  let main_v30 : FVec F S512x1x128 .f32 := (extractStridedSlice S512x1x128 ![0, 2, 0] · slices_S512x20x128_S512x1x128_0_2_0) main_v5
  let main_v31 : FVec F S512x128 .f32 := shapeCast S512x128 main_v30 shapeCasts_S512x1x128_S512x128
  let main_v32_0 : FVec F S512x256 .f32 := (fn_lstm (F := F) main_v31 main_v24_0 main_v24_1 main_v28 main_arg13 main_arg14 main_arg15).1
  let main_v32_1 : FVec F S512x256 .f32 := (fn_lstm (F := F) main_v31 main_v24_0 main_v24_1 main_v28 main_arg13 main_arg14 main_arg15).2
  let main_v33 : FVec F S512x20 .f32 := fn_similarity (F := F) main_v32_0 main_v29 main_arg16
  let main_v34 : IVec S512x4 1 := fn_apart (F := F) main_v33
  let main_v35 : IVec S512x4 1 := andi main_v27 main_v34
  let main_v36 : FVec F S512x256 .f32 := fn_read (F := F) main_v33 main_v29
  let main_v37 : FVec F S512x20x256 .f32 := fn_write (F := F) main_v33 main_v32_0 main_v29 main_arg17 main_arg18
  let main_v38 : FVec F S512x1x128 .f32 := (extractStridedSlice S512x1x128 ![0, 3, 0] · slices_S512x20x128_S512x1x128_0_3_0) main_v5
  let main_v39 : FVec F S512x128 .f32 := shapeCast S512x128 main_v38 shapeCasts_S512x1x128_S512x128
  let main_v40_0 : FVec F S512x256 .f32 := (fn_lstm (F := F) main_v39 main_v32_0 main_v32_1 main_v36 main_arg13 main_arg14 main_arg15).1
  let main_v40_1 : FVec F S512x256 .f32 := (fn_lstm (F := F) main_v39 main_v32_0 main_v32_1 main_v36 main_arg13 main_arg14 main_arg15).2
  let main_v41 : FVec F S512x20 .f32 := fn_similarity (F := F) main_v40_0 main_v37 main_arg16
  fn_part2 (F := F) main_arg13 main_arg14 main_arg15 main_arg16 main_arg17 main_arg18 main_v5 main_v35 main_v37 main_v40_0 main_v40_1 main_v41

def fn {F : FTy → Type} [FloatOps F] (main_arg0 : FVec F S512x20x32x32 .f32) (main_arg1 : FVec F S32x1x4x4 .f32) (main_arg2 : FVec F S32 .f32) (main_arg3 : FVec F S32x32x4x4 .f32) (main_arg4 : FVec F S32 .f32) (main_arg5 : FVec F S32x32x4x4 .f32) (main_arg6 : FVec F S32 .f32) (main_arg7 : FVec F S256x512 .f32) (main_arg8 : FVec F S256 .f32) (main_arg9 : FVec F S128x256 .f32) (main_arg10 : FVec F S128 .f32) (main_arg11 : FVec F S128 .f32) (main_arg12 : FVec F S128 .f32) (main_arg13 : FVec F S1024x384 .f32) (main_arg14 : FVec F S1024x256 .f32) (main_arg15 : FVec F S1024 .f32) (main_arg16 : FVec F S256x256 .f32) (main_arg17 : FVec F S256x256 .f32) (main_arg18 : FVec F S256x256 .f32) (main_arg19 : FVec F S8x512 .f32) (main_arg20 : FVec F S8 .f32) (main_arg21 : FVec F S20x256 .f32) : IVec S512x4 1 :=
  let main_v0 : FVec F S10240x1x32x32 .f32 := shapeCast S10240x1x32x32 main_arg0 shapeCasts_S512x20x32x32_S10240x1x32x32
  let main_v1 : FVec F S10240x32x16x16 .f32 := fn_conv_relu (F := F) main_v0 main_arg1 main_arg2
  let main_v2 : FVec F S10240x32x8x8 .f32 := fn_conv_relu_0 (F := F) main_v1 main_arg3 main_arg4
  let main_v3 : FVec F S10240x32x4x4 .f32 := fn_conv_relu_2 (F := F) main_v2 main_arg5 main_arg6
  let main_v4 : FVec F S512x20x128 .f32 := fn_dense (F := F) main_v3 main_arg7 main_arg8 main_arg9 main_arg10
  let main_v5 : FVec F S512x20x128 .f32 := fn_normalize (F := F) main_v4 main_arg11 main_arg12
  let main_v6 : FVec F S512x1x1x1 .f32 := (extractStridedSlice S512x1x1x1 ![0, 0, 0, 0] · slices_S512x20x32x32_S512x1x1x1_0_0_0_0) main_arg0
  let main_v7 : FVec F S512x1 .f32 := shapeCast S512x1 main_v6 shapeCasts_S512x1x1x1_S512x1
  let main_cst : FVec F S_ .f32 := constant S_ .f32 0x00000000#32
  let main_v8 : FVec F S512x1 .f32 := broadcastInDim S512x1 ![] bcast_S_S512x1 main_cst
  let main_v9 : FVec F S512x1 .f32 := mulf main_v8 main_v7
  let main_v10 : FVec F S512x256 .f32 := broadcastInDim S512x256 ![0, 1] bcast_S512x1_S512x256_0_1 main_v9
  let main_v11 : FVec F S1x20x256 .f32 := broadcastInDim S1x20x256 ![1, 2] bcast_S20x256_S1x20x256_1_2 main_arg21
  let main_v12 : FVec F S512x20x256 .f32 := broadcastInDim S512x20x256 ![0, 1, 2] bcast_S1x20x256_S512x20x256_0_1_2 main_v11
  let main_c : IVec S_ 1 := constantI S_ 1 1#1
  let main_v13 : IVec S512x4 1 := broadcastInDim S512x4 ![] bcast_S_S512x4 main_c
  let main_v14 : FVec F S512x1x128 .f32 := (extractStridedSlice S512x1x128 ![0, 0, 0] · slices_S512x20x128_S512x1x128_0_0_0) main_v5
  let main_v15 : FVec F S512x128 .f32 := shapeCast S512x128 main_v14 shapeCasts_S512x1x128_S512x128
  let main_v16_0 : FVec F S512x256 .f32 := (fn_lstm (F := F) main_v15 main_v10 main_v10 main_v10 main_arg13 main_arg14 main_arg15).1
  let main_v16_1 : FVec F S512x256 .f32 := (fn_lstm (F := F) main_v15 main_v10 main_v10 main_v10 main_arg13 main_arg14 main_arg15).2
  let main_v17 : FVec F S512x20 .f32 := fn_similarity (F := F) main_v16_0 main_v12 main_arg16
  let main_v18 : IVec S512x4 1 := fn_apart (F := F) main_v17
  let main_v19 : IVec S512x4 1 := andi main_v13 main_v18
  let main_v20 : FVec F S512x256 .f32 := fn_read (F := F) main_v17 main_v12
  fn_part1 (F := F) main_arg13 main_arg14 main_arg15 main_arg16 main_arg17 main_arg18 main_v5 main_v12 main_v16_0 main_v16_1 main_v17 main_v19 main_v20
-- ==== Kernel.lean ====
abbrev S512x20x32x32 : Shape := ⟨4, ![512, 20, 32, 32]⟩
abbrev S32x1x4x4 : Shape := ⟨4, ![32, 1, 4, 4]⟩
abbrev S32 : Shape := ⟨1, ![32]⟩
abbrev S32x32x4x4 : Shape := ⟨4, ![32, 32, 4, 4]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1024x384 : Shape := ⟨2, ![1024, 384]⟩
abbrev S1024x256 : Shape := ⟨2, ![1024, 256]⟩
abbrev S1024 : Shape := ⟨1, ![1024]⟩
abbrev S256x256 : Shape := ⟨2, ![256, 256]⟩
abbrev S8x512 : Shape := ⟨2, ![8, 512]⟩
abbrev S8 : Shape := ⟨1, ![8]⟩
abbrev S20x256 : Shape := ⟨2, ![20, 256]⟩
abbrev S32x4x16 : Shape := ⟨3, ![32, 4, 16]⟩
abbrev S16x4x8 : Shape := ⟨3, ![16, 4, 8]⟩
abbrev S8x4x4 : Shape := ⟨3, ![8, 4, 4]⟩
abbrev S10240x32x32 : Shape := ⟨3, ![10240, 32, 32]⟩
abbrev S_ : Shape := ⟨0, ![]⟩
abbrev S10240x34x32 : Shape := ⟨3, ![10240, 34, 32]⟩
abbrev S10240x17x64 : Shape := ⟨3, ![10240, 17, 64]⟩
abbrev S4x4x1x32 : Shape := ⟨4, ![4, 4, 1, 32]⟩
abbrev S4x4x32 : Shape := ⟨3, ![4, 4, 32]⟩
abbrev S1x4x32 : Shape := ⟨3, ![1, 4, 32]⟩
abbrev S4x32 : Shape := ⟨2, ![4, 32]⟩
abbrev S32x16x32 : Shape := ⟨3, ![32, 16, 32]⟩
abbrev S32x512 : Shape := ⟨2, ![32, 512]⟩
abbrev S128x512 : Shape := ⟨2, ![128, 512]⟩
abbrev S4x4x32x32 : Shape := ⟨4, ![4, 4, 32, 32]⟩
abbrev S1x4x32x32 : Shape := ⟨4, ![1, 4, 32, 32]⟩
abbrev S4x32x32 : Shape := ⟨3, ![4, 32, 32]⟩
abbrev S32x32x16x8 : Shape := ⟨4, ![32, 32, 16, 8]⟩
abbrev S16x32x8x32 : Shape := ⟨4, ![16, 32, 8, 32]⟩
abbrev S512x256 : Shape := ⟨2, ![512, 256]⟩
abbrev S2048x256 : Shape := ⟨2, ![2048, 256]⟩
abbrev S32x32x8x4 : Shape := ⟨4, ![32, 32, 8, 4]⟩
abbrev S8x32x4x32 : Shape := ⟨4, ![8, 32, 4, 32]⟩
abbrev S256x128 : Shape := ⟨2, ![256, 128]⟩
abbrev S1024x128 : Shape := ⟨2, ![1024, 128]⟩
abbrev S1x32 : Shape := ⟨2, ![1, 32]⟩
abbrev S16x32 : Shape := ⟨2, ![16, 32]⟩
abbrev S512 : Shape := ⟨1, ![512]⟩
abbrev S1x512 : Shape := ⟨2, ![1, 512]⟩
abbrev S8x32 : Shape := ⟨2, ![8, 32]⟩
abbrev S1x256 : Shape := ⟨2, ![1, 256]⟩
abbrev S1x128 : Shape := ⟨2, ![1, 128]⟩
abbrev S256x32x4x4 : Shape := ⟨4, ![256, 32, 4, 4]⟩
abbrev S4x4x32x256 : Shape := ⟨4, ![4, 4, 32, 256]⟩
abbrev S10240x128 : Shape := ⟨2, ![10240, 128]⟩
abbrev S64x17x64 : Shape := ⟨3, ![64, 17, 64]⟩
abbrev S64x128 : Shape := ⟨2, ![64, 128]⟩
abbrev S64x16x64 : Shape := ⟨3, ![64, 16, 64]⟩
abbrev S64x16x128 : Shape := ⟨3, ![64, 16, 128]⟩
abbrev S1024x512 : Shape := ⟨2, ![1024, 512]⟩
abbrev S64x16x512 : Shape := ⟨3, ![64, 16, 512]⟩
abbrev S64x1x512 : Shape := ⟨3, ![64, 1, 512]⟩
abbrev S64x17x512 : Shape := ⟨3, ![64, 17, 512]⟩
abbrev S64x18x512 : Shape := ⟨3, ![64, 18, 512]⟩
abbrev S64x9x2x512 : Shape := ⟨4, ![64, 9, 2, 512]⟩
abbrev S64x9x1x512 : Shape := ⟨4, ![64, 9, 1, 512]⟩
abbrev S64x9x512 : Shape := ⟨3, ![64, 9, 512]⟩
abbrev S64x9x1024 : Shape := ⟨3, ![64, 9, 1024]⟩
abbrev S64x8x1024 : Shape := ⟨3, ![64, 8, 1024]⟩
abbrev S64x8x2048 : Shape := ⟨3, ![64, 8, 2048]⟩
abbrev S512x2048 : Shape := ⟨2, ![512, 2048]⟩
abbrev S64x8x256 : Shape := ⟨3, ![64, 8, 256]⟩
abbrev S64x1x256 : Shape := ⟨3, ![64, 1, 256]⟩
abbrev S64x9x256 : Shape := ⟨3, ![64, 9, 256]⟩
abbrev S64x10x256 : Shape := ⟨3, ![64, 10, 256]⟩
abbrev S64x5x2x256 : Shape := ⟨4, ![64, 5, 2, 256]⟩
abbrev S64x5x1x256 : Shape := ⟨4, ![64, 5, 1, 256]⟩
abbrev S64x5x256 : Shape := ⟨3, ![64, 5, 256]⟩
abbrev S64x5x512 : Shape := ⟨3, ![64, 5, 512]⟩
abbrev S64x4x512 : Shape := ⟨3, ![64, 4, 512]⟩
abbrev S64x4x1024 : Shape := ⟨3, ![64, 4, 1024]⟩
abbrev S256x1024 : Shape := ⟨2, ![256, 1024]⟩
abbrev S64x4x128 : Shape := ⟨3, ![64, 4, 128]⟩
abbrev S64x1x128 : Shape := ⟨3, ![64, 1, 128]⟩
abbrev S64x512 : Shape := ⟨2, ![64, 512]⟩
abbrev S64x256 : Shape := ⟨2, ![64, 256]⟩
abbrev S512x20x128 : Shape := ⟨3, ![512, 20, 128]⟩
abbrev S384x1024 : Shape := ⟨2, ![384, 1024]⟩
abbrev S512x8 : Shape := ⟨2, ![512, 8]⟩
abbrev S1x1x128 : Shape := ⟨3, ![1, 1, 128]⟩
abbrev S1x1024 : Shape := ⟨2, ![1, 1024]⟩
abbrev S1x8 : Shape := ⟨2, ![1, 8]⟩
abbrev S128x20x128 : Shape := ⟨3, ![128, 20, 128]⟩
abbrev S128x8 : Shape := ⟨2, ![128, 8]⟩
abbrev S128x128 : Shape := ⟨2, ![128, 128]⟩
abbrev S128x1x128 : Shape := ⟨3, ![128, 1, 128]⟩
abbrev S1x20x256 : Shape := ⟨3, ![1, 20, 256]⟩
abbrev S128x20x256 : Shape := ⟨3, ![128, 20, 256]⟩
abbrev S128x384 : Shape := ⟨2, ![128, 384]⟩
abbrev S128x1024 : Shape := ⟨2, ![128, 1024]⟩
abbrev S128x1 : Shape := ⟨2, ![128, 1]⟩
abbrev S128x20 : Shape := ⟨2, ![128, 20]⟩
abbrev S128x20x1 : Shape := ⟨3, ![128, 20, 1]⟩
abbrev S128x1x256 : Shape := ⟨3, ![128, 1, 256]⟩

abbrev nBuf : Space → Nat
  | .hbm => 138
  | .vmem => 30
  | .smem => 0
  | _ => 0

abbrev hbmTy0_0 (i : Nat) : BufTy := match i % 128 with
  | 0 => ⟨S512x20x32x32, .f32⟩
  | 1 => ⟨S32x1x4x4, .f32⟩
  | 2 => ⟨S32, .f32⟩
  | 3 => ⟨S32x32x4x4, .f32⟩
  | 4 => ⟨S32, .f32⟩
  | 5 => ⟨S32x32x4x4, .f32⟩
  | 6 => ⟨S32, .f32⟩
  | 7 => ⟨S256x512, .f32⟩
  | 8 => ⟨S256, .f32⟩
  | 9 => ⟨S128x256, .f32⟩
  | 10 => ⟨S128, .f32⟩
  | 11 => ⟨S128, .f32⟩
  | 12 => ⟨S128, .f32⟩
  | 13 => ⟨S1024x384, .f32⟩
  | 14 => ⟨S1024x256, .f32⟩
  | 15 => ⟨S1024, .f32⟩
  | 16 => ⟨S256x256, .f32⟩
  | 17 => ⟨S256x256, .f32⟩
  | 18 => ⟨S256x256, .f32⟩
  | 19 => ⟨S8x512, .f32⟩
  | 20 => ⟨S8, .f32⟩
  | 21 => ⟨S20x256, .f32⟩
  | 22 => ⟨S32x4x16, .f32⟩
  | 23 => ⟨S32x4x16, .f32⟩
  | 24 => ⟨S32x4x16, .f32⟩
  | 25 => ⟨S32x4x16, .f32⟩
  | 26 => ⟨S16x4x8, .f32⟩
  | 27 => ⟨S16x4x8, .f32⟩
  | 28 => ⟨S16x4x8, .f32⟩
  | 29 => ⟨S16x4x8, .f32⟩
  | 30 => ⟨S8x4x4, .f32⟩
  | 31 => ⟨S8x4x4, .f32⟩
  | 32 => ⟨S8x4x4, .f32⟩
  | 33 => ⟨S8x4x4, .f32⟩
  | 34 => ⟨S10240x32x32, .f32⟩
  | 35 => ⟨S_, .i32⟩
  | 36 => ⟨S_, .f32⟩
  | 37 => ⟨S10240x34x32, .f32⟩
  | 38 => ⟨S10240x17x64, .f32⟩
  | 39 => ⟨S4x4x1x32, .f32⟩
  | 40 => ⟨S4x4x32, .f32⟩
  | 41 => ⟨S1x4x32, .f32⟩
  | 42 => ⟨S4x32, .f32⟩
  | 43 => ⟨S32x16x32, .f32⟩
  | 44 => ⟨S32x512, .f32⟩
  | 45 => ⟨S1x4x32, .f32⟩
  | 46 => ⟨S4x32, .f32⟩
  | 47 => ⟨S32x16x32, .f32⟩
  | 48 => ⟨S32x512, .f32⟩
  | 49 => ⟨S1x4x32, .f32⟩
  | 50 => ⟨S4x32, .f32⟩
  | 51 => ⟨S32x16x32, .f32⟩
  | 52 => ⟨S32x512, .f32⟩
  | 53 => ⟨S1x4x32, .f32⟩
  | 54 => ⟨S4x32, .f32⟩
  | 55 => ⟨S32x16x32, .f32⟩
  | 56 => ⟨S32x512, .f32⟩
  | 57 => ⟨S128x512, .f32⟩
  | 58 => ⟨S4x4x32x32, .f32⟩
  | 59 => ⟨S1x4x32x32, .f32⟩
  | 60 => ⟨S4x32x32, .f32⟩
  | 61 => ⟨S32x32x16x8, .f32⟩
  | 62 => ⟨S16x32x8x32, .f32⟩
  | 63 => ⟨S512x256, .f32⟩
  | 64 => ⟨S1x4x32x32, .f32⟩
  | 65 => ⟨S4x32x32, .f32⟩
  | 66 => ⟨S32x32x16x8, .f32⟩
  | 67 => ⟨S16x32x8x32, .f32⟩
  | 68 => ⟨S512x256, .f32⟩
  | 69 => ⟨S1x4x32x32, .f32⟩
  | 70 => ⟨S4x32x32, .f32⟩
  | 71 => ⟨S32x32x16x8, .f32⟩
  | 72 => ⟨S16x32x8x32, .f32⟩
  | 73 => ⟨S512x256, .f32⟩
  | 74 => ⟨S1x4x32x32, .f32⟩
  | 75 => ⟨S4x32x32, .f32⟩
  | 76 => ⟨S32x32x16x8, .f32⟩
  | 77 => ⟨S16x32x8x32, .f32⟩
  | 78 => ⟨S512x256, .f32⟩
  | 79 => ⟨S2048x256, .f32⟩
  | 80 => ⟨S4x4x32x32, .f32⟩
  | 81 => ⟨S1x4x32x32, .f32⟩
  | 82 => ⟨S4x32x32, .f32⟩
  | 83 => ⟨S32x32x8x4, .f32⟩
  | 84 => ⟨S8x32x4x32, .f32⟩
  | 85 => ⟨S256x128, .f32⟩
  | 86 => ⟨S1x4x32x32, .f32⟩
  | 87 => ⟨S4x32x32, .f32⟩
  | 88 => ⟨S32x32x8x4, .f32⟩
  | 89 => ⟨S8x32x4x32, .f32⟩
  | 90 => ⟨S256x128, .f32⟩
  | 91 => ⟨S1x4x32x32, .f32⟩
  | 92 => ⟨S4x32x32, .f32⟩
  | 93 => ⟨S32x32x8x4, .f32⟩
  | 94 => ⟨S8x32x4x32, .f32⟩
  | 95 => ⟨S256x128, .f32⟩
  | 96 => ⟨S1x4x32x32, .f32⟩
  | 97 => ⟨S4x32x32, .f32⟩
  | 98 => ⟨S32x32x8x4, .f32⟩
  | 99 => ⟨S8x32x4x32, .f32⟩
  | 100 => ⟨S256x128, .f32⟩
  | 101 => ⟨S1024x128, .f32⟩
  | 102 => ⟨S1x32, .f32⟩
  | 103 => ⟨S16x32, .f32⟩
  | 104 => ⟨S512, .f32⟩
  | 105 => ⟨S1x512, .f32⟩
  | 106 => ⟨S1x32, .f32⟩
  | 107 => ⟨S8x32, .f32⟩
  | 108 => ⟨S256, .f32⟩
  | 109 => ⟨S1x256, .f32⟩
  | 110 => ⟨S1x32, .f32⟩
  | 111 => ⟨S4x32, .f32⟩
  | 112 => ⟨S128, .f32⟩
  | 113 => ⟨S1x128, .f32⟩
  | 114 => ⟨S256x32x4x4, .f32⟩
  | 115 => ⟨S4x4x32x256, .f32⟩
  | 116 => ⟨S512x256, .f32⟩
  | 117 => ⟨S1x256, .f32⟩
  | 118 => ⟨S256x128, .f32⟩
  | 119 => ⟨S1x128, .f32⟩
  | 120 => ⟨S10240x128, .f32⟩
  | 121 => ⟨S512x20x128, .f32⟩
  | 122 => ⟨S384x1024, .f32⟩
  | 123 => ⟨S256x1024, .f32⟩
  | 124 => ⟨S256x256, .f32⟩
  | 125 => ⟨S256x256, .f32⟩
  | 126 => ⟨S256x256, .f32⟩
  | 127 => ⟨S512x8, .f32⟩
  | _ => ⟨S512x20x32x32, .f32⟩

abbrev hbmTy0_1 (i : Nat) : BufTy := match i % 128 with
  | 0 => ⟨S1x1x128, .f32⟩
  | 1 => ⟨S1x1x128, .f32⟩
  | 2 => ⟨S1x1024, .f32⟩
  | 3 => ⟨S1x8, .f32⟩
  | 4 => ⟨S512x8, .f32⟩
  | 5 => ⟨S512x8, .i32⟩
  | 6 => ⟨S_, .f32⟩
  | 7 => ⟨S_, .i32⟩
  | 8 => ⟨S512, .f32⟩
  | 9 => ⟨S512, .i32⟩
  | _ => ⟨S512x20x32x32, .f32⟩

abbrev hbmTy (i : Nat) : BufTy := match i / 128 with
  | 0 => hbmTy0_0 i
  | 1 => hbmTy0_1 i
  | _ => ⟨S512x20x32x32, .f32⟩

abbrev bufTy : (tb : Table) → Fin (tcTables nBuf tb) → BufTy
  | .hbm, ⟨i, _⟩ => hbmTy i
  | .local _ .vmem, ⟨0, _⟩ => ⟨S64x17x64, .f32⟩
  | .local _ .vmem, ⟨1, _⟩ => ⟨S64x17x64, .f32⟩
  | .local _ .vmem, ⟨2, _⟩ => ⟨S128x512, .f32⟩
  | .local _ .vmem, ⟨3, _⟩ => ⟨S1x512, .f32⟩
  | .local _ .vmem, ⟨4, _⟩ => ⟨S2048x256, .f32⟩
  | .local _ .vmem, ⟨5, _⟩ => ⟨S1x256, .f32⟩
  | .local _ .vmem, ⟨6, _⟩ => ⟨S1024x128, .f32⟩
  | .local _ .vmem, ⟨7, _⟩ => ⟨S1x128, .f32⟩
  | .local _ .vmem, ⟨8, _⟩ => ⟨S512x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S64x128, .f32⟩
  | .local _ .vmem, ⟨13, _⟩ => ⟨S64x128, .f32⟩
  | .local _ .vmem, ⟨14, _⟩ => ⟨S128x20x128, .f32⟩
  | .local _ .vmem, ⟨15, _⟩ => ⟨S128x20x128, .f32⟩
  | .local _ .vmem, ⟨16, _⟩ => ⟨S1x1x128, .f32⟩
  | .local _ .vmem, ⟨17, _⟩ => ⟨S1x1x128, .f32⟩
  | .local _ .vmem, ⟨18, _⟩ => ⟨S384x1024, .f32⟩
  | .local _ .vmem, ⟨19, _⟩ => ⟨S256x1024, .f32⟩
  | .local _ .vmem, ⟨20, _⟩ => ⟨S1x1024, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S512x8, .f32⟩
  | .local _ .vmem, ⟨25, _⟩ => ⟨S1x8, .f32⟩
  | .local _ .vmem, ⟨26, _⟩ => ⟨S20x256, .f32⟩
  | .local _ .vmem, ⟨27, _⟩ => ⟨S128x8, .f32⟩
  | .local _ .vmem, ⟨28, _⟩ => ⟨S128x8, .f32⟩
  | .local _ .vmem, ⟨29, _⟩ => ⟨S128x20x128, .f32⟩
  | _, _ => ⟨S512x20x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_cst_0 : Ref sig .tc := ⟨.hbm, 23, rfl⟩
abbrev main_cst_1 : Ref sig .tc := ⟨.hbm, 24, rfl⟩
abbrev main_cst_2 : Ref sig .tc := ⟨.hbm, 25, rfl⟩
abbrev main_cst_3 : Ref sig .tc := ⟨.hbm, 26, rfl⟩
abbrev main_cst_4 : Ref sig .tc := ⟨.hbm, 27, rfl⟩
abbrev main_cst_5 : Ref sig .tc := ⟨.hbm, 28, rfl⟩
abbrev main_cst_6 : Ref sig .tc := ⟨.hbm, 29, rfl⟩
abbrev main_cst_7 : Ref sig .tc := ⟨.hbm, 30, rfl⟩
abbrev main_cst_8 : Ref sig .tc := ⟨.hbm, 31, rfl⟩
abbrev main_cst_9 : Ref sig .tc := ⟨.hbm, 32, rfl⟩
abbrev main_cst_10 : Ref sig .tc := ⟨.hbm, 33, rfl⟩
abbrev main_v0 : Ref sig .tc := ⟨.hbm, 34, rfl⟩
abbrev main_c : Ref sig .tc := ⟨.hbm, 35, rfl⟩
abbrev main_call0_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call1_v0 : Ref sig .tc := ⟨.hbm, 133, rfl⟩
abbrev main_call1_cst : Ref sig .tc := ⟨.hbm, 134, rfl⟩
abbrev main_call1_c : Ref sig .tc := ⟨.hbm, 135, rfl⟩
abbrev main_call1_v1_0 : Ref sig .tc := ⟨.hbm, 136, rfl⟩
abbrev main_v97 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg12_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem12_1 : DmaSem sig := 28

abbrev nD : Nat := 1
abbrev τ : Topo := Topo.v7x

variable {F : FTy → Type} [FloatOps F]

abbrev grid0 : Pipeline.Grid := ⟨1, ![160], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x17x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![4], ![false]⟩

@[reducible] def k1_t1_loop : Scf.Loop 32 :=
  let c0_i32 : BitVec 32 := 0#32
  let c20_i32 : BitVec 32 := 20#32
  let v46 : BitVec 32 := Scalar.addi c0_i32 c20_i32
  let c1_i32 : BitVec 32 := 1#32
  ⟨c0_i32, v46, c1_i32⟩
def k1_off1 (k1_t1 : Fin k1_t1_loop.trips) : Fin 3 → Nat :=
  let c0_38 : Index := 0#32
  let c0_i32 : BitVec 32 := 0#32
  let c1_i32 : BitVec 32 := 1#32
  let arg15 : BitVec 32 := Scf.iv c0_i32 c1_i32 k1_t1
  let v57 : Index := Scalar.indexCast arg15
  let c0_39 : Index := 0#32
  ![0, v57.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x20x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S20x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S128x8 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S512x20x32x32 : Shape := ⟨4, ![512, 20, 32, 32]⟩
abbrev S32x1x4x4 : Shape := ⟨4, ![32, 1, 4, 4]⟩
abbrev S32 : Shape := ⟨1, ![32]⟩
abbrev S32x32x4x4 : Shape := ⟨4, ![32, 32, 4, 4]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1024x384 : Shape := ⟨2, ![1024, 384]⟩
abbrev S1024x256 : Shape := ⟨2, ![1024, 256]⟩
abbrev S1024 : Shape := ⟨1, ![1024]⟩
abbrev S256x256 : Shape := ⟨2, ![256, 256]⟩
abbrev S8x512 : Shape := ⟨2, ![8, 512]⟩
abbrev S8 : Shape := ⟨1, ![8]⟩
abbrev S20x256 : Shape := ⟨2, ![20, 256]⟩
abbrev S10240x1x32x32 : Shape := ⟨4, ![10240, 1, 32, 32]⟩
abbrev S_ : Shape := ⟨0, ![]⟩
abbrev S10240x1x34x34 : Shape := ⟨4, ![10240, 1, 34, 34]⟩
abbrev S10240x1x16x16 : Shape := ⟨4, ![10240, 1, 16, 16]⟩
abbrev S32x1x1x1 : Shape := ⟨4, ![32, 1, 1, 1]⟩
abbrev S32x1 : Shape := ⟨2, ![32, 1]⟩
abbrev S10240x16x16x32 : Shape := ⟨4, ![10240, 16, 16, 32]⟩
abbrev S10240x32x16x16 : Shape := ⟨4, ![10240, 32, 16, 16]⟩
abbrev S1x32x1x1 : Shape := ⟨4, ![1, 32, 1, 1]⟩
abbrev S10240x32x18x18 : Shape := ⟨4, ![10240, 32, 18, 18]⟩
abbrev S10240x32x8x8 : Shape := ⟨4, ![10240, 32, 8, 8]⟩
abbrev S32x32x1x1 : Shape := ⟨4, ![32, 32, 1, 1]⟩
abbrev S32x32 : Shape := ⟨2, ![32, 32]⟩
abbrev S10240x8x8x32 : Shape := ⟨4, ![10240, 8, 8, 32]⟩
abbrev S10240x32x10x10 : Shape := ⟨4, ![10240, 32, 10, 10]⟩
abbrev S10240x32x4x4 : Shape := ⟨4, ![10240, 32, 4, 4]⟩
abbrev S10240x4x4x32 : Shape := ⟨4, ![10240, 4, 4, 32]⟩
abbrev S10240x512 : Shape := ⟨2, ![10240, 512]⟩
abbrev S512x256 : Shape := ⟨2, ![512, 256]⟩
abbrev S10240x256 : Shape := ⟨2, ![10240, 256]⟩
abbrev S1x256 : Shape := ⟨2, ![1, 256]⟩
abbrev S256x128 : Shape := ⟨2, ![256, 128]⟩
abbrev S10240x128 : Shape := ⟨2, ![10240, 128]⟩
abbrev S1x128 : Shape := ⟨2, ![1, 128]⟩
abbrev S512x20x128 : Shape := ⟨3, ![512, 20, 128]⟩
abbrev S512x128 : Shape := ⟨2, ![512, 128]⟩
abbrev S512x1x128 : Shape := ⟨3, ![512, 1, 128]⟩
abbrev S1x1x128 : Shape := ⟨3, ![1, 1, 128]⟩
abbrev S1x20x256 : Shape := ⟨3, ![1, 20, 256]⟩
abbrev S512x20x256 : Shape := ⟨3, ![512, 20, 256]⟩
abbrev S512x384 : Shape := ⟨2, ![512, 384]⟩
abbrev S384x1024 : Shape := ⟨2, ![384, 1024]⟩
abbrev S512x1024 : Shape := ⟨2, ![512, 1024]⟩
abbrev S256x1024 : Shape := ⟨2, ![256, 1024]⟩
abbrev S1x1024 : Shape := ⟨2, ![1, 1024]⟩
abbrev S512 : Shape := ⟨1, ![512]⟩
abbrev S512x1 : Shape := ⟨2, ![512, 1]⟩
abbrev S512x20 : Shape := ⟨2, ![512, 20]⟩
abbrev S512x20x1 : Shape := ⟨3, ![512, 20, 1]⟩
abbrev S512x4 : Shape := ⟨2, ![512, 4]⟩
abbrev S512x4x1 : Shape := ⟨3, ![512, 4, 1]⟩
abbrev S512x4x256 : Shape := ⟨3, ![512, 4, 256]⟩
abbrev S512x1x256 : Shape := ⟨3, ![512, 1, 256]⟩
abbrev S512x512 : Shape := ⟨2, ![512, 512]⟩
abbrev S512x8 : Shape := ⟨2, ![512, 8]⟩
abbrev S1x8 : Shape := ⟨2, ![1, 8]⟩

abbrev nBuf : Space → Nat
  | .hbm => 564
  | .vmem => 0
  | .smem => 0
  | _ => 0

abbrev hbmTy0_0 (i : Nat) : BufTy := match i % 128 with
  | 0 => ⟨S512x20x32x32, .f32⟩
  | 1 => ⟨S32x1x4x4, .f32⟩
  | 2 => ⟨S32, .f32⟩
  | 3 => ⟨S32x32x4x4, .f32⟩
  | 4 => ⟨S32, .f32⟩
  | 5 => ⟨S32x32x4x4, .f32⟩
  | 6 => ⟨S32, .f32⟩
  | 7 => ⟨S256x512, .f32⟩
  | 8 => ⟨S256, .f32⟩
  | 9 => ⟨S128x256, .f32⟩
  | 10 => ⟨S128, .f32⟩
  | 11 => ⟨S128, .f32⟩
  | 12 => ⟨S128, .f32⟩
  | 13 => ⟨S1024x384, .f32⟩
  | 14 => ⟨S1024x256, .f32⟩
  | 15 => ⟨S1024, .f32⟩
  | 16 => ⟨S256x256, .f32⟩
  | 17 => ⟨S256x256, .f32⟩
  | 18 => ⟨S256x256, .f32⟩
  | 19 => ⟨S8x512, .f32⟩
  | 20 => ⟨S8, .f32⟩
  | 21 => ⟨S20x256, .f32⟩
  | 22 => ⟨S10240x1x32x32, .f32⟩
  | 23 => ⟨S_, .i32⟩
  | 24 => ⟨S_, .f32⟩
  | 25 => ⟨S10240x1x34x34, .f32⟩
  | 26 => ⟨S10240x1x16x16, .f32⟩
  | 27 => ⟨S32x1x1x1, .f32⟩
  | 28 => ⟨S32x1, .f32⟩
  | 29 => ⟨S10240x16x16x32, .f32⟩
  | 30 => ⟨S10240x32x16x16, .f32⟩
  | 31 => ⟨S10240x1x16x16, .f32⟩
  | 32 => ⟨S32x1x1x1, .f32⟩
  | 33 => ⟨S32x1, .f32⟩
  | 34 => ⟨S10240x16x16x32, .f32⟩
  | 35 => ⟨S10240x32x16x16, .f32⟩
  | 36 => ⟨S10240x32x16x16, .f32⟩
  | 37 => ⟨S10240x1x16x16, .f32⟩
  | 38 => ⟨S32x1x1x1, .f32⟩
  | 39 => ⟨S32x1, .f32⟩
  | 40 => ⟨S10240x16x16x32, .f32⟩
  | 41 => ⟨S10240x32x16x16, .f32⟩
  | 42 => ⟨S10240x32x16x16, .f32⟩
  | 43 => ⟨S10240x1x16x16, .f32⟩
  | 44 => ⟨S32x1x1x1, .f32⟩
  | 45 => ⟨S32x1, .f32⟩
  | 46 => ⟨S10240x16x16x32, .f32⟩
  | 47 => ⟨S10240x32x16x16, .f32⟩
  | 48 => ⟨S10240x32x16x16, .f32⟩
  | 49 => ⟨S10240x1x16x16, .f32⟩
  | 50 => ⟨S32x1x1x1, .f32⟩
  | 51 => ⟨S32x1, .f32⟩
  | 52 => ⟨S10240x16x16x32, .f32⟩
  | 53 => ⟨S10240x32x16x16, .f32⟩
  | 54 => ⟨S10240x32x16x16, .f32⟩
  | 55 => ⟨S10240x1x16x16, .f32⟩
  | 56 => ⟨S32x1x1x1, .f32⟩
  | 57 => ⟨S32x1, .f32⟩
  | 58 => ⟨S10240x16x16x32, .f32⟩
  | 59 => ⟨S10240x32x16x16, .f32⟩
  | 60 => ⟨S10240x32x16x16, .f32⟩
  | 61 => ⟨S10240x1x16x16, .f32⟩
  | 62 => ⟨S32x1x1x1, .f32⟩
  | 63 => ⟨S32x1, .f32⟩
  | 64 => ⟨S10240x16x16x32, .f32⟩
  | 65 => ⟨S10240x32x16x16, .f32⟩
  | 66 => ⟨S10240x32x16x16, .f32⟩
  | 67 => ⟨S10240x1x16x16, .f32⟩
  | 68 => ⟨S32x1x1x1, .f32⟩
  | 69 => ⟨S32x1, .f32⟩
  | 70 => ⟨S10240x16x16x32, .f32⟩
  | 71 => ⟨S10240x32x16x16, .f32⟩
  | 72 => ⟨S10240x32x16x16, .f32⟩
  | 73 => ⟨S10240x1x16x16, .f32⟩
  | 74 => ⟨S32x1x1x1, .f32⟩
  | 75 => ⟨S32x1, .f32⟩
  | 76 => ⟨S10240x16x16x32, .f32⟩
  | 77 => ⟨S10240x32x16x16, .f32⟩
  | 78 => ⟨S10240x32x16x16, .f32⟩
  | 79 => ⟨S10240x1x16x16, .f32⟩
  | 80 => ⟨S32x1x1x1, .f32⟩
  | 81 => ⟨S32x1, .f32⟩
  | 82 => ⟨S10240x16x16x32, .f32⟩
  | 83 => ⟨S10240x32x16x16, .f32⟩
  | 84 => ⟨S10240x32x16x16, .f32⟩
  | 85 => ⟨S10240x1x16x16, .f32⟩
  | 86 => ⟨S32x1x1x1, .f32⟩
  | 87 => ⟨S32x1, .f32⟩
  | 88 => ⟨S10240x16x16x32, .f32⟩
  | 89 => ⟨S10240x32x16x16, .f32⟩
  | 90 => ⟨S10240x32x16x16, .f32⟩
  | 91 => ⟨S10240x1x16x16, .f32⟩
  | 92 => ⟨S32x1x1x1, .f32⟩
  | 93 => ⟨S32x1, .f32⟩
  | 94 => ⟨S10240x16x16x32, .f32⟩
  | 95 => ⟨S10240x32x16x16, .f32⟩
  | 96 => ⟨S10240x32x16x16, .f32⟩
  | 97 => ⟨S10240x1x16x16, .f32⟩
  | 98 => ⟨S32x1x1x1, .f32⟩
  | 99 => ⟨S32x1, .f32⟩
  | 100 => ⟨S10240x16x16x32, .f32⟩
  | 101 => ⟨S10240x32x16x16, .f32⟩
  | 102 => ⟨S10240x32x16x16, .f32⟩
  | 103 => ⟨S10240x1x16x16, .f32⟩
  | 104 => ⟨S32x1x1x1, .f32⟩
  | 105 => ⟨S32x1, .f32⟩
  | 106 => ⟨S10240x16x16x32, .f32⟩
  | 107 => ⟨S10240x32x16x16, .f32⟩
  | 108 => ⟨S10240x32x16x16, .f32⟩
  | 109 => ⟨S10240x1x16x16, .f32⟩
  | 110 => ⟨S32x1x1x1, .f32⟩
  | 111 => ⟨S32x1, .f32⟩
  | 112 => ⟨S10240x16x16x32, .f32⟩
  | 113 => ⟨S10240x32x16x16, .f32⟩
  | 114 => ⟨S10240x32x16x16, .f32⟩
  | 115 => ⟨S10240x1x16x16, .f32⟩
  | 116 => ⟨S32x1x1x1, .f32⟩
  | 117 => ⟨S32x1, .f32⟩
  | 118 => ⟨S10240x16x16x32, .f32⟩
  | 119 => ⟨S10240x32x16x16, .f32⟩
  | 120 => ⟨S10240x32x16x16, .f32⟩
  | 121 => ⟨S1x32x1x1, .f32⟩
  | 122 => ⟨S10240x32x16x16, .f32⟩
  | 123 => ⟨S10240x32x16x16, .f32⟩
  | 124 => ⟨S_, .f32⟩
  | 125 => ⟨S10240x32x16x16, .f32⟩
  | 126 => ⟨S10240x32x16x16, .f32⟩
  | 127 => ⟨S_, .i32⟩
  | _ => ⟨S512x20x32x32, .f32⟩

abbrev hbmTy0_1 (i : Nat) : BufTy := match i % 128 with
  | 0 => ⟨S_, .f32⟩
  | 1 => ⟨S10240x32x18x18, .f32⟩
  | 2 => ⟨S10240x32x8x8, .f32⟩
  | 3 => ⟨S32x32x1x1, .f32⟩
  | 4 => ⟨S32x32, .f32⟩
  | 5 => ⟨S10240x8x8x32, .f32⟩
  | 6 => ⟨S10240x32x8x8, .f32⟩
  | 7 => ⟨S10240x32x8x8, .f32⟩
  | 8 => ⟨S32x32x1x1, .f32⟩
  | 9 => ⟨S32x32, .f32⟩
  | 10 => ⟨S10240x8x8x32, .f32⟩
  | 11 => ⟨S10240x32x8x8, .f32⟩
  | 12 => ⟨S10240x32x8x8, .f32⟩
  | 13 => ⟨S10240x32x8x8, .f32⟩
  | 14 => ⟨S32x32x1x1, .f32⟩
  | 15 => ⟨S32x32, .f32⟩
  | 16 => ⟨S10240x8x8x32, .f32⟩
  | 17 => ⟨S10240x32x8x8, .f32⟩
  | 18 => ⟨S10240x32x8x8, .f32⟩
  | 19 => ⟨S10240x32x8x8, .f32⟩
  | 20 => ⟨S32x32x1x1, .f32⟩
  | 21 => ⟨S32x32, .f32⟩
  | 22 => ⟨S10240x8x8x32, .f32⟩
  | 23 => ⟨S10240x32x8x8, .f32⟩
  | 24 => ⟨S10240x32x8x8, .f32⟩
  | 25 => ⟨S10240x32x8x8, .f32⟩
  | 26 => ⟨S32x32x1x1, .f32⟩
  | 27 => ⟨S32x32, .f32⟩
  | 28 => ⟨S10240x8x8x32, .f32⟩
  | 29 => ⟨S10240x32x8x8, .f32⟩
  | 30 => ⟨S10240x32x8x8, .f32⟩
  | 31 => ⟨S10240x32x8x8, .f32⟩
  | 32 => ⟨S32x32x1x1, .f32⟩
  | 33 => ⟨S32x32, .f32⟩
  | 34 => ⟨S10240x8x8x32, .f32⟩
  | 35 => ⟨S10240x32x8x8, .f32⟩
  | 36 => ⟨S10240x32x8x8, .f32⟩
  | 37 => ⟨S10240x32x8x8, .f32⟩
  | 38 => ⟨S32x32x1x1, .f32⟩
  | 39 => ⟨S32x32, .f32⟩
  | 40 => ⟨S10240x8x8x32, .f32⟩
  | 41 => ⟨S10240x32x8x8, .f32⟩
  | 42 => ⟨S10240x32x8x8, .f32⟩
  | 43 => ⟨S10240x32x8x8, .f32⟩
  | 44 => ⟨S32x32x1x1, .f32⟩
  | 45 => ⟨S32x32, .f32⟩
  | 46 => ⟨S10240x8x8x32, .f32⟩
  | 47 => ⟨S10240x32x8x8, .f32⟩
  | 48 => ⟨S10240x32x8x8, .f32⟩
  | 49 => ⟨S10240x32x8x8, .f32⟩
  | 50 => ⟨S32x32x1x1, .f32⟩
  | 51 => ⟨S32x32, .f32⟩
  | 52 => ⟨S10240x8x8x32, .f32⟩
  | 53 => ⟨S10240x32x8x8, .f32⟩
  | 54 => ⟨S10240x32x8x8, .f32⟩
  | 55 => ⟨S10240x32x8x8, .f32⟩
  | 56 => ⟨S32x32x1x1, .f32⟩
  | 57 => ⟨S32x32, .f32⟩
  | 58 => ⟨S10240x8x8x32, .f32⟩
  | 59 => ⟨S10240x32x8x8, .f32⟩
  | 60 => ⟨S10240x32x8x8, .f32⟩
  | 61 => ⟨S10240x32x8x8, .f32⟩
  | 62 => ⟨S32x32x1x1, .f32⟩
  | 63 => ⟨S32x32, .f32⟩
  | 64 => ⟨S10240x8x8x32, .f32⟩
  | 65 => ⟨S10240x32x8x8, .f32⟩
  | 66 => ⟨S10240x32x8x8, .f32⟩
  | 67 => ⟨S10240x32x8x8, .f32⟩
  | 68 => ⟨S32x32x1x1, .f32⟩
  | 69 => ⟨S32x32, .f32⟩
  | 70 => ⟨S10240x8x8x32, .f32⟩
  | 71 => ⟨S10240x32x8x8, .f32⟩
  | 72 => ⟨S10240x32x8x8, .f32⟩
  | 73 => ⟨S10240x32x8x8, .f32⟩
  | 74 => ⟨S32x32x1x1, .f32⟩
  | 75 => ⟨S32x32, .f32⟩
  | 76 => ⟨S10240x8x8x32, .f32⟩
  | 77 => ⟨S10240x32x8x8, .f32⟩
  | 78 => ⟨S10240x32x8x8, .f32⟩
  | 79 => ⟨S10240x32x8x8, .f32⟩
  | 80 => ⟨S32x32x1x1, .f32⟩
  | 81 => ⟨S32x32, .f32⟩
  | 82 => ⟨S10240x8x8x32, .f32⟩
  | 83 => ⟨S10240x32x8x8, .f32⟩
  | 84 => ⟨S10240x32x8x8, .f32⟩
  | 85 => ⟨S10240x32x8x8, .f32⟩
  | 86 => ⟨S32x32x1x1, .f32⟩
  | 87 => ⟨S32x32, .f32⟩
  | 88 => ⟨S10240x8x8x32, .f32⟩
  | 89 => ⟨S10240x32x8x8, .f32⟩
  | 90 => ⟨S10240x32x8x8, .f32⟩
  | 91 => ⟨S10240x32x8x8, .f32⟩
  | 92 => ⟨S32x32x1x1, .f32⟩
  | 93 => ⟨S32x32, .f32⟩
  | 94 => ⟨S10240x8x8x32, .f32⟩
  | 95 => ⟨S10240x32x8x8, .f32⟩
  | 96 => ⟨S10240x32x8x8, .f32⟩
  | 97 => ⟨S1x32x1x1, .f32⟩
  | 98 => ⟨S10240x32x8x8, .f32⟩
  | 99 => ⟨S10240x32x8x8, .f32⟩
  | 100 => ⟨S_, .f32⟩
  | 101 => ⟨S10240x32x8x8, .f32⟩
  | 102 => ⟨S10240x32x8x8, .f32⟩
  | 103 => ⟨S_, .i32⟩
  | 104 => ⟨S_, .f32⟩
  | 105 => ⟨S10240x32x10x10, .f32⟩
  | 106 => ⟨S10240x32x4x4, .f32⟩
  | 107 => ⟨S32x32x1x1, .f32⟩
  | 108 => ⟨S32x32, .f32⟩
  | 109 => ⟨S10240x4x4x32, .f32⟩
  | 110 => ⟨S10240x32x4x4, .f32⟩
  | 111 => ⟨S10240x32x4x4, .f32⟩
  | 112 => ⟨S32x32x1x1, .f32⟩
  | 113 => ⟨S32x32, .f32⟩
  | 114 => ⟨S10240x4x4x32, .f32⟩
  | 115 => ⟨S10240x32x4x4, .f32⟩
  | 116 => ⟨S10240x32x4x4, .f32⟩
  | 117 => ⟨S10240x32x4x4, .f32⟩
  | 118 => ⟨S32x32x1x1, .f32⟩
  | 119 => ⟨S32x32, .f32⟩
  | 120 => ⟨S10240x4x4x32, .f32⟩
  | 121 => ⟨S10240x32x4x4, .f32⟩
  | 122 => ⟨S10240x32x4x4, .f32⟩
  | 123 => ⟨S10240x32x4x4, .f32⟩
  | 124 => ⟨S32x32x1x1, .f32⟩
  | 125 => ⟨S32x32, .f32⟩
  | 126 => ⟨S10240x4x4x32, .f32⟩
  | 127 => ⟨S10240x32x4x4, .f32⟩
  | _ => ⟨S512x20x32x32, .f32⟩

abbrev hbmTy0_2 (i : Nat) : BufTy := match i % 128 with
  | 0 => ⟨S10240x32x4x4, .f32⟩
  | 1 => ⟨S10240x32x4x4, .f32⟩
  | 2 => ⟨S32x32x1x1, .f32⟩
  | 3 => ⟨S32x32, .f32⟩
  | 4 => ⟨S10240x4x4x32, .f32⟩
  | 5 => ⟨S10240x32x4x4, .f32⟩
  | 6 => ⟨S10240x32x4x4, .f32⟩
  | 7 => ⟨S10240x32x4x4, .f32⟩
  | 8 => ⟨S32x32x1x1, .f32⟩
  | 9 => ⟨S32x32, .f32⟩
  | 10 => ⟨S10240x4x4x32, .f32⟩
  | 11 => ⟨S10240x32x4x4, .f32⟩
  | 12 => ⟨S10240x32x4x4, .f32⟩
  | 13 => ⟨S10240x32x4x4, .f32⟩
  | 14 => ⟨S32x32x1x1, .f32⟩
  | 15 => ⟨S32x32, .f32⟩
  | 16 => ⟨S10240x4x4x32, .f32⟩
  | 17 => ⟨S10240x32x4x4, .f32⟩
  | 18 => ⟨S10240x32x4x4, .f32⟩
  | 19 => ⟨S10240x32x4x4, .f32⟩
  | 20 => ⟨S32x32x1x1, .f32⟩
  | 21 => ⟨S32x32, .f32⟩
  | 22 => ⟨S10240x4x4x32, .f32⟩
  | 23 => ⟨S10240x32x4x4, .f32⟩
  | 24 => ⟨S10240x32x4x4, .f32⟩
  | 25 => ⟨S10240x32x4x4, .f32⟩
  | 26 => ⟨S32x32x1x1, .f32⟩
  | 27 => ⟨S32x32, .f32⟩
  | 28 => ⟨S10240x4x4x32, .f32⟩
  | 29 => ⟨S10240x32x4x4, .f32⟩
  | 30 => ⟨S10240x32x4x4, .f32⟩
  | 31 => ⟨S10240x32x4x4, .f32⟩
  | 32 => ⟨S32x32x1x1, .f32⟩
  | 33 => ⟨S32x32, .f32⟩
  | 34 => ⟨S10240x4x4x32, .f32⟩
  | 35 => ⟨S10240x32x4x4, .f32⟩
  | 36 => ⟨S10240x32x4x4, .f32⟩
  | 37 => ⟨S10240x32x4x4, .f32⟩
  | 38 => ⟨S32x32x1x1, .f32⟩
  | 39 => ⟨S32x32, .f32⟩
  | 40 => ⟨S10240x4x4x32, .f32⟩
  | 41 => ⟨S10240x32x4x4, .f32⟩
  | 42 => ⟨S10240x32x4x4, .f32⟩
  | 43 => ⟨S10240x32x4x4, .f32⟩
  | 44 => ⟨S32x32x1x1, .f32⟩
  | 45 => ⟨S32x32, .f32⟩
  | 46 => ⟨S10240x4x4x32, .f32⟩
  | 47 => ⟨S10240x32x4x4, .f32⟩
  | 48 => ⟨S10240x32x4x4, .f32⟩
  | 49 => ⟨S10240x32x4x4, .f32⟩
  | 50 => ⟨S32x32x1x1, .f32⟩
  | 51 => ⟨S32x32, .f32⟩
  | 52 => ⟨S10240x4x4x32, .f32⟩
  | 53 => ⟨S10240x32x4x4, .f32⟩
  | 54 => ⟨S10240x32x4x4, .f32⟩
  | 55 => ⟨S10240x32x4x4, .f32⟩
  | 56 => ⟨S32x32x1x1, .f32⟩
  | 57 => ⟨S32x32, .f32⟩
  | 58 => ⟨S10240x4x4x32, .f32⟩
  | 59 => ⟨S10240x32x4x4, .f32⟩
  | 60 => ⟨S10240x32x4x4, .f32⟩
  | 61 => ⟨S10240x32x4x4, .f32⟩
  | 62 => ⟨S32x32x1x1, .f32⟩
  | 63 => ⟨S32x32, .f32⟩
  | 64 => ⟨S10240x4x4x32, .f32⟩
  | 65 => ⟨S10240x32x4x4, .f32⟩
  | 66 => ⟨S10240x32x4x4, .f32⟩
  | 67 => ⟨S10240x32x4x4, .f32⟩
  | 68 => ⟨S32x32x1x1, .f32⟩
  | 69 => ⟨S32x32, .f32⟩
  | 70 => ⟨S10240x4x4x32, .f32⟩
  | 71 => ⟨S10240x32x4x4, .f32⟩
  | 72 => ⟨S10240x32x4x4, .f32⟩
  | 73 => ⟨S1x32x1x1, .f32⟩
  | 74 => ⟨S10240x32x4x4, .f32⟩
  | 75 => ⟨S10240x32x4x4, .f32⟩
  | 76 => ⟨S_, .f32⟩
  | 77 => ⟨S10240x32x4x4, .f32⟩
  | 78 => ⟨S10240x32x4x4, .f32⟩
  | 79 => ⟨S10240x512, .f32⟩
  | 80 => ⟨S512x256, .f32⟩
  | 81 => ⟨S10240x256, .f32⟩
  | 82 => ⟨S1x256, .f32⟩
  | 83 => ⟨S10240x256, .f32⟩
  | 84 => ⟨S10240x256, .f32⟩
  | 85 => ⟨S_, .f32⟩
  | 86 => ⟨S10240x256, .f32⟩
  | 87 => ⟨S10240x256, .f32⟩
  | 88 => ⟨S256x128, .f32⟩
  | 89 => ⟨S10240x128, .f32⟩
  | 90 => ⟨S1x128, .f32⟩
  | 91 => ⟨S10240x128, .f32⟩
  | 92 => ⟨S10240x128, .f32⟩
  | 93 => ⟨S_, .f32⟩
  | 94 => ⟨S10240x128, .f32⟩
  | 95 => ⟨S10240x128, .f32⟩
  | 96 => ⟨S512x20x128, .f32⟩
  | 97 => ⟨S_, .f32⟩
  | 98 => ⟨S512x128, .f32⟩
  | 99 => ⟨S_, .f32⟩
  | 100 => ⟨S512x128, .f32⟩
  | 101 => ⟨S512x128, .f32⟩
  | 102 => ⟨S512x1x128, .f32⟩
  | 103 => ⟨S512x20x128, .f32⟩
  | 104 => ⟨S512x20x128, .f32⟩
  | 105 => ⟨S512x20x128, .f32⟩
  | 106 => ⟨S_, .f32⟩
  | 107 => ⟨S512x128, .f32⟩
  | 108 => ⟨S_, .f32⟩
  | 109 => ⟨S512x128, .f32⟩
  | 110 => ⟨S512x128, .f32⟩
  | 111 => ⟨S_, .f32⟩
  | 112 => ⟨S512x128, .f32⟩
  | 113 => ⟨S512x128, .f32⟩
  | 114 => ⟨S512x128, .f32⟩
  | 115 => ⟨S512x1x128, .f32⟩
  | 116 => ⟨S512x20x128, .f32⟩
  | 117 => ⟨S512x20x128, .f32⟩
  | 118 => ⟨S1x1x128, .f32⟩
  | 119 => ⟨S512x20x128, .f32⟩
  | 120 => ⟨S512x20x128, .f32⟩
  | 121 => ⟨S1x1x128, .f32⟩
  | 122 => ⟨S512x20x128, .f32⟩
  | 123 => ⟨S512x20x128, .f32⟩
  | 124 => ⟨S1x20x256, .f32⟩
  | 125 => ⟨S512x20x256, .f32⟩
  | 126 => ⟨S_, .f32⟩
  | 127 => ⟨S512x256, .f32⟩
  | _ => ⟨S512x20x32x32, .f32⟩

abbrev hbmTy0_3 (i : Nat) : BufTy := match i % 128 with
  | 0 => ⟨S_, .i32⟩
  | 1 => ⟨S_, .i32⟩
  | 2 => ⟨S512x20x128, .f32⟩
  | 3 => ⟨S1024x384, .f32⟩
  | 4 => ⟨S1024x256, .f32⟩
  | 5 => ⟨S1024, .f32⟩
  | 6 => ⟨S256x256, .f32⟩
  | 7 => ⟨S256x256, .f32⟩
  | 8 => ⟨S256x256, .f32⟩
  | 9 => ⟨S_, .i32⟩
  | 10 => ⟨S_, .i32⟩
  | 11 => ⟨S512x256, .f32⟩
  | 12 => ⟨S512x256, .f32⟩
  | 13 => ⟨S512x256, .f32⟩
  | 14 => ⟨S512x20x256, .f32⟩
  | 15 => ⟨S_, .i32⟩
  | 16 => ⟨S_, .i1⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S512x1x128, .f32⟩
  | 28 => ⟨S512x128, .f32⟩
  | 29 => ⟨S512x384, .f32⟩
  | 30 => ⟨S384x1024, .f32⟩
  | 31 => ⟨S512x1024, .f32⟩
  | 32 => ⟨S256x1024, .f32⟩
  | 33 => ⟨S512x1024, .f32⟩
  | 34 => ⟨S512x1024, .f32⟩
  | 35 => ⟨S1x1024, .f32⟩
  | 36 => ⟨S512x1024, .f32⟩
  | 37 => ⟨S512x1024, .f32⟩
  | 38 => ⟨S512x256, .f32⟩
  | 39 => ⟨S512x256, .f32⟩
  | 40 => ⟨S512x256, .f32⟩
  | 41 => ⟨S512x256, .f32⟩
  | 42 => ⟨S512x256, .f32⟩
  | 43 => ⟨S512x256, .f32⟩
  | 44 => ⟨S_, .f32⟩
  | 45 => ⟨S512x256, .f32⟩
  | 46 => ⟨S512x256, .f32⟩
  | 47 => ⟨S_, .f32⟩
  | 48 => ⟨S512x256, .f32⟩
  | 49 => ⟨S512x256, .f32⟩
  | 50 => ⟨S512x256, .f32⟩
  | 51 => ⟨S512x256, .f32⟩
  | 52 => ⟨S_, .f32⟩
  | 53 => ⟨S512x256, .f32⟩
  | 54 => ⟨S512x256, .f32⟩
  | 55 => ⟨S_, .f32⟩
  | 56 => ⟨S512x256, .f32⟩
  | 57 => ⟨S512x256, .f32⟩
  | 58 => ⟨S512x256, .f32⟩
  | 59 => ⟨S512x256, .f32⟩
  | 60 => ⟨S512x256, .f32⟩
  | 61 => ⟨S_, .f32⟩
  | 62 => ⟨S512x256, .f32⟩
  | 63 => ⟨S512x256, .f32⟩
  | 64 => ⟨S_, .f32⟩
  | 65 => ⟨S512x256, .f32⟩
  | 66 => ⟨S512x256, .f32⟩
  | 67 => ⟨S512x256, .f32⟩
  | 68 => ⟨S512x256, .f32⟩
  | 69 => ⟨S512x256, .f32⟩
  | 70 => ⟨S512x256, .f32⟩
  | 71 => ⟨S512x256, .f32⟩
  | 72 => ⟨S256x256, .f32⟩
  | 73 => ⟨S512x256, .f32⟩
  | 74 => ⟨S512x256, .f32⟩
  | 75 => ⟨S_, .f32⟩
  | 76 => ⟨S512, .f32⟩
  | 77 => ⟨S512x1, .f32⟩
  | 78 => ⟨S512x1, .f32⟩
  | 79 => ⟨S_, .f32⟩
  | 80 => ⟨S512x1, .f32⟩
  | 81 => ⟨S512x1, .f32⟩
  | 82 => ⟨S512x256, .f32⟩
  | 83 => ⟨S512x256, .f32⟩
  | 84 => ⟨S512x20x256, .f32⟩
  | 85 => ⟨S_, .f32⟩
  | 86 => ⟨S512x20, .f32⟩
  | 87 => ⟨S512x20x1, .f32⟩
  | 88 => ⟨S512x20x1, .f32⟩
  | 89 => ⟨S_, .f32⟩
  | 90 => ⟨S512x20x1, .f32⟩
  | 91 => ⟨S512x20x1, .f32⟩
  | 92 => ⟨S512x20x256, .f32⟩
  | 93 => ⟨S512x20x256, .f32⟩
  | 94 => ⟨S512x20, .f32⟩
  | 95 => ⟨S512x4, .f32⟩
  | 96 => ⟨S512x4, .i32⟩
  | 97 => ⟨S_, .f32⟩
  | 98 => ⟨S512, .f32⟩
  | 99 => ⟨S_, .f32⟩
  | 100 => ⟨S512, .f32⟩
  | 101 => ⟨S512, .f32⟩
  | 102 => ⟨S512x1, .f32⟩
  | 103 => ⟨S512x4, .f32⟩
  | 104 => ⟨S512x4, .f32⟩
  | 105 => ⟨S512x4, .f32⟩
  | 106 => ⟨S_, .f32⟩
  | 107 => ⟨S512, .f32⟩
  | 108 => ⟨S512x1, .f32⟩
  | 109 => ⟨S512x4, .f32⟩
  | 110 => ⟨S512x4, .f32⟩
  | 111 => ⟨S512x4x1, .i32⟩
  | 112 => ⟨S_, .i32⟩
  | 113 => ⟨S512x4x1, .i32⟩
  | 114 => ⟨S512x4x1, .i1⟩
  | 115 => ⟨S_, .i32⟩
  | 116 => ⟨S512x4x1, .i32⟩
  | 117 => ⟨S512x4x1, .i32⟩
  | 118 => ⟨S512x4x1, .i32⟩
  | 119 => ⟨S512x4x256, .f32⟩
  | 120 => ⟨S512x4x1, .f32⟩
  | 121 => ⟨S512x4x256, .f32⟩
  | 122 => ⟨S512x4x256, .f32⟩
  | 123 => ⟨S_, .f32⟩
  | 124 => ⟨S512x256, .f32⟩
  | 125 => ⟨S256x256, .f32⟩
  | 126 => ⟨S512x256, .f32⟩
  | 127 => ⟨S512x256, .f32⟩
  | _ => ⟨S512x20x32x32, .f32⟩

abbrev hbmTy0_4 (i : Nat) : BufTy := match i % 128 with
  | 0 => ⟨S256x256, .f32⟩
  | 1 => ⟨S512x256, .f32⟩
  | 2 => ⟨S512x256, .f32⟩
  | 3 => ⟨S512x256, .f32⟩
  | 4 => ⟨S_, .f32⟩
  | 5 => ⟨S512x256, .f32⟩
  | 6 => ⟨S512x256, .f32⟩
  | 7 => ⟨S_, .f32⟩
  | 8 => ⟨S512x256, .f32⟩
  | 9 => ⟨S512x256, .f32⟩
  | 10 => ⟨S_, .f32⟩
  | 11 => ⟨S512, .f32⟩
  | 12 => ⟨S_, .f32⟩
  | 13 => ⟨S512, .f32⟩
  | 14 => ⟨S512, .f32⟩
  | 15 => ⟨S512x1, .f32⟩
  | 16 => ⟨S512x20, .f32⟩
  | 17 => ⟨S512x20, .f32⟩
  | 18 => ⟨S512x20, .f32⟩
  | 19 => ⟨S_, .f32⟩
  | 20 => ⟨S512, .f32⟩
  | 21 => ⟨S512x1, .f32⟩
  | 22 => ⟨S512x20, .f32⟩
  | 23 => ⟨S512x20, .f32⟩
  | 24 => ⟨S512x20x1, .f32⟩
  | 25 => ⟨S512x1x256, .f32⟩
  | 26 => ⟨S512x20x256, .f32⟩
  | 27 => ⟨S512x20x256, .f32⟩
  | 28 => ⟨S512x20x256, .f32⟩
  | 29 => ⟨S_, .f32⟩
  | 30 => ⟨S512x20x256, .f32⟩
  | 31 => ⟨S512x20x256, .f32⟩
  | 32 => ⟨S512x20x256, .f32⟩
  | 33 => ⟨S512x20x1, .f32⟩
  | 34 => ⟨S512x1x256, .f32⟩
  | 35 => ⟨S512x20x256, .f32⟩
  | 36 => ⟨S512x20x256, .f32⟩
  | 37 => ⟨S512x20x256, .f32⟩
  | 38 => ⟨S512x20x256, .f32⟩
  | 39 => ⟨S_, .i32⟩
  | 40 => ⟨S_, .i32⟩
  | 41 => ⟨S512x512, .f32⟩
  | 42 => ⟨S512x8, .f32⟩
  | 43 => ⟨S512x8, .f32⟩
  | 44 => ⟨S1x8, .f32⟩
  | 45 => ⟨S512x8, .f32⟩
  | 46 => ⟨S512x8, .f32⟩
  | 47 => ⟨S512x8, .i32⟩
  | 48 => ⟨S_, .f32⟩
  | 49 => ⟨S_, .i32⟩
  | 50 => ⟨S512, .f32⟩
  | 51 => ⟨S512, .i32⟩
  | _ => ⟨S512x20x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S512x20x32x32, .f32⟩

abbrev bufTy : (tb : Table) → Fin (tcTables nBuf tb) → BufTy
  | .hbm, ⟨i, _⟩ => hbmTy i
  | _, _ => ⟨S512x20x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_call0_c : Ref sig .tc := ⟨.hbm, 23, rfl⟩
abbrev main_call0_call0_v0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_v40 : Ref sig .tc := ⟨.hbm, 65, rfl⟩
abbrev main_call0_v41 : Ref sig .tc := ⟨.hbm, 66, rfl⟩
abbrev main_call0_v42 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_call0_v48 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_v58 : Ref sig .tc := ⟨.hbm, 83, rfl⟩
abbrev main_call0_v59 : Ref sig .tc := ⟨.hbm, 84, rfl⟩
abbrev main_call0_v60 : Ref sig .tc := ⟨.hbm, 85, rfl⟩
abbrev main_call0_v61 : Ref sig .tc := ⟨.hbm, 86, rfl⟩
abbrev main_call0_v62 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_v66 : Ref sig .tc := ⟨.hbm, 91, rfl⟩
abbrev main_call0_v67 : Ref sig .tc := ⟨.hbm, 92, rfl⟩
abbrev main_call0_v68 : Ref sig .tc := ⟨.hbm, 93, rfl⟩
abbrev main_call0_v69 : Ref sig .tc := ⟨.hbm, 94, rfl⟩
abbrev main_call0_v70 : Ref sig .tc := ⟨.hbm, 95, rfl⟩
abbrev main_call0_v71 : Ref sig .tc := ⟨.hbm, 96, rfl⟩
abbrev main_call0_v72 : Ref sig .tc := ⟨.hbm, 97, rfl⟩
abbrev main_call0_v73 : Ref sig .tc := ⟨.hbm, 98, rfl⟩
abbrev main_call0_v74 : Ref sig .tc := ⟨.hbm, 99, rfl⟩
abbrev main_call0_v75 : Ref sig .tc := ⟨.hbm, 100, rfl⟩
abbrev main_call0_v76 : Ref sig .tc := ⟨.hbm, 101, rfl⟩
abbrev main_call0_v77 : Ref sig .tc := ⟨.hbm, 102, rfl⟩
abbrev main_call0_v78 : Ref sig .tc := ⟨.hbm, 103, rfl⟩
abbrev main_call0_v79 : Ref sig .tc := ⟨.hbm, 104, rfl⟩
abbrev main_call0_v80 : Ref sig .tc := ⟨.hbm, 105, rfl⟩
abbrev main_call0_v81 : Ref sig .tc := ⟨.hbm, 106, rfl⟩
abbrev main_call0_v82 : Ref sig .tc := ⟨.hbm, 107, rfl⟩
abbrev main_call0_v83 : Ref sig .tc := ⟨.hbm, 108, rfl⟩
abbrev main_call0_v84 : Ref sig .tc := ⟨.hbm, 109, rfl⟩
abbrev main_call0_v85 : Ref sig .tc := ⟨.hbm, 110, rfl⟩
abbrev main_call0_v86 : Ref sig .tc := ⟨.hbm, 111, rfl⟩
abbrev main_call0_v87 : Ref sig .tc := ⟨.hbm, 112, rfl⟩
abbrev main_call0_v88 : Ref sig .tc := ⟨.hbm, 113, rfl⟩
abbrev main_call0_v89 : Ref sig .tc := ⟨.hbm, 114, rfl⟩
abbrev main_call0_v90 : Ref sig .tc := ⟨.hbm, 115, rfl⟩
abbrev main_call0_v91 : Ref sig .tc := ⟨.hbm, 116, rfl⟩
abbrev main_call0_v92 : Ref sig .tc := ⟨.hbm, 117, rfl⟩
abbrev main_call0_v93 : Ref sig .tc := ⟨.hbm, 118, rfl⟩
abbrev main_call0_v94 : Ref sig .tc := ⟨.hbm, 119, rfl⟩
abbrev main_call0_v95 : Ref sig .tc := ⟨.hbm, 120, rfl⟩
abbrev main_call0_v96 : Ref sig .tc := ⟨.hbm, 121, rfl⟩
abbrev main_call0_v97 : Ref sig .tc := ⟨.hbm, 122, rfl⟩
abbrev main_call0_v98 : Ref sig .tc := ⟨.hbm, 123, rfl⟩
abbrev main_call0_cst : Ref sig .tc := ⟨.hbm, 124, rfl⟩
abbrev main_call0_v99 : Ref sig .tc := ⟨.hbm, 125, rfl⟩
abbrev main_v1 : Ref sig .tc := ⟨.hbm, 126, rfl⟩
abbrev main_call1_c : Ref sig .tc := ⟨.hbm, 127, rfl⟩
abbrev main_call1_call0_v0 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_v8 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_v12 : Ref sig .tc := ⟨.hbm, 141, rfl⟩
abbrev main_call1_v13 : Ref sig .tc := ⟨.hbm, 142, rfl⟩
abbrev main_call1_v14 : Ref sig .tc := ⟨.hbm, 143, rfl⟩
abbrev main_call1_v15 : Ref sig .tc := ⟨.hbm, 144, rfl⟩
abbrev main_call1_v16 : Ref sig .tc := ⟨.hbm, 145, rfl⟩
abbrev main_call1_v17 : Ref sig .tc := ⟨.hbm, 146, rfl⟩
abbrev main_call1_v18 : Ref sig .tc := ⟨.hbm, 147, rfl⟩
abbrev main_call1_v19 : Ref sig .tc := ⟨.hbm, 148, rfl⟩
abbrev main_call1_v20 : Ref sig .tc := ⟨.hbm, 149, rfl⟩
abbrev main_call1_v21 : Ref sig .tc := ⟨.hbm, 150, rfl⟩
abbrev main_call1_v22 : Ref sig .tc := ⟨.hbm, 151, rfl⟩
abbrev main_call1_v23 : Ref sig .tc := ⟨.hbm, 152, rfl⟩
abbrev main_call1_v24 : Ref sig .tc := ⟨.hbm, 153, rfl⟩
abbrev main_call1_v25 : Ref sig .tc := ⟨.hbm, 154, rfl⟩
abbrev main_call1_v26 : Ref sig .tc := ⟨.hbm, 155, rfl⟩
abbrev main_call1_v27 : Ref sig .tc := ⟨.hbm, 156, rfl⟩
abbrev main_call1_v28 : Ref sig .tc := ⟨.hbm, 157, rfl⟩
abbrev main_call1_v29 : Ref sig .tc := ⟨.hbm, 158, rfl⟩
abbrev main_call1_v30 : Ref sig .tc := ⟨.hbm, 159, rfl⟩
abbrev main_call1_v31 : Ref sig .tc := ⟨.hbm, 160, rfl⟩
abbrev main_call1_v32 : Ref sig .tc := ⟨.hbm, 161, rfl⟩
abbrev main_call1_v33 : Ref sig .tc := ⟨.hbm, 162, rfl⟩
abbrev main_call1_v34 : Ref sig .tc := ⟨.hbm, 163, rfl⟩
abbrev main_call1_v35 : Ref sig .tc := ⟨.hbm, 164, rfl⟩
abbrev main_call1_v36 : Ref sig .tc := ⟨.hbm, 165, rfl⟩
abbrev main_call1_v37 : Ref sig .tc := ⟨.hbm, 166, rfl⟩
abbrev main_call1_v38 : Ref sig .tc := ⟨.hbm, 167, rfl⟩
abbrev main_call1_v39 : Ref sig .tc := ⟨.hbm, 168, rfl⟩
abbrev main_call1_v40 : Ref sig .tc := ⟨.hbm, 169, rfl⟩
abbrev main_call1_v41 : Ref sig .tc := ⟨.hbm, 170, rfl⟩
abbrev main_call1_v42 : Ref sig .tc := ⟨.hbm, 171, rfl⟩
abbrev main_call1_v43 : Ref sig .tc := ⟨.hbm, 172, rfl⟩
abbrev main_call1_v44 : Ref sig .tc := ⟨.hbm, 173, rfl⟩
abbrev main_call1_v45 : Ref sig .tc := ⟨.hbm, 174, rfl⟩
abbrev main_call1_v46 : Ref sig .tc := ⟨.hbm, 175, rfl⟩
abbrev main_call1_v47 : Ref sig .tc := ⟨.hbm, 176, rfl⟩
abbrev main_call1_v48 : Ref sig .tc := ⟨.hbm, 177, rfl⟩
abbrev main_call1_v49 : Ref sig .tc := ⟨.hbm, 178, rfl⟩
abbrev main_call1_v50 : Ref sig .tc := ⟨.hbm, 179, rfl⟩
abbrev main_call1_v51 : Ref sig .tc := ⟨.hbm, 180, rfl⟩
abbrev main_call1_v52 : Ref sig .tc := ⟨.hbm, 181, rfl⟩
abbrev main_call1_v53 : Ref sig .tc := ⟨.hbm, 182, rfl⟩
abbrev main_call1_v54 : Ref sig .tc := ⟨.hbm, 183, rfl⟩
abbrev main_call1_v55 : Ref sig .tc := ⟨.hbm, 184, rfl⟩
abbrev main_call1_v56 : Ref sig .tc := ⟨.hbm, 185, rfl⟩
abbrev main_call1_v57 : Ref sig .tc := ⟨.hbm, 186, rfl⟩
abbrev main_call1_v58 : Ref sig .tc := ⟨.hbm, 187, rfl⟩
abbrev main_call1_v59 : Ref sig .tc := ⟨.hbm, 188, rfl⟩
abbrev main_call1_v60 : Ref sig .tc := ⟨.hbm, 189, rfl⟩
abbrev main_call1_v61 : Ref sig .tc := ⟨.hbm, 190, rfl⟩
abbrev main_call1_v62 : Ref sig .tc := ⟨.hbm, 191, rfl⟩
abbrev main_call1_v63 : Ref sig .tc := ⟨.hbm, 192, rfl⟩
abbrev main_call1_v64 : Ref sig .tc := ⟨.hbm, 193, rfl⟩
abbrev main_call1_v65 : Ref sig .tc := ⟨.hbm, 194, rfl⟩
abbrev main_call1_v66 : Ref sig .tc := ⟨.hbm, 195, rfl⟩
abbrev main_call1_v67 : Ref sig .tc := ⟨.hbm, 196, rfl⟩
abbrev main_call1_v68 : Ref sig .tc := ⟨.hbm, 197, rfl⟩
abbrev main_call1_v69 : Ref sig .tc := ⟨.hbm, 198, rfl⟩
abbrev main_call1_v70 : Ref sig .tc := ⟨.hbm, 199, rfl⟩
abbrev main_call1_v71 : Ref sig .tc := ⟨.hbm, 200, rfl⟩
abbrev main_call1_v72 : Ref sig .tc := ⟨.hbm, 201, rfl⟩
abbrev main_call1_v73 : Ref sig .tc := ⟨.hbm, 202, rfl⟩
abbrev main_call1_v74 : Ref sig .tc := ⟨.hbm, 203, rfl⟩
abbrev main_call1_v75 : Ref sig .tc := ⟨.hbm, 204, rfl⟩
abbrev main_call1_v76 : Ref sig .tc := ⟨.hbm, 205, rfl⟩
abbrev main_call1_v77 : Ref sig .tc := ⟨.hbm, 206, rfl⟩
abbrev main_call1_v78 : Ref sig .tc := ⟨.hbm, 207, rfl⟩
abbrev main_call1_v79 : Ref sig .tc := ⟨.hbm, 208, rfl⟩
abbrev main_call1_v80 : Ref sig .tc := ⟨.hbm, 209, rfl⟩
abbrev main_call1_v81 : Ref sig .tc := ⟨.hbm, 210, rfl⟩
abbrev main_call1_v82 : Ref sig .tc := ⟨.hbm, 211, rfl⟩
abbrev main_call1_v83 : Ref sig .tc := ⟨.hbm, 212, rfl⟩
abbrev main_call1_v84 : Ref sig .tc := ⟨.hbm, 213, rfl⟩
abbrev main_call1_v85 : Ref sig .tc := ⟨.hbm, 214, rfl⟩
abbrev main_call1_v86 : Ref sig .tc := ⟨.hbm, 215, rfl⟩
abbrev main_call1_v87 : Ref sig .tc := ⟨.hbm, 216, rfl⟩
abbrev main_call1_v88 : Ref sig .tc := ⟨.hbm, 217, rfl⟩
abbrev main_call1_v89 : Ref sig .tc := ⟨.hbm, 218, rfl⟩
abbrev main_call1_v90 : Ref sig .tc := ⟨.hbm, 219, rfl⟩
abbrev main_call1_v91 : Ref sig .tc := ⟨.hbm, 220, rfl⟩
abbrev main_call1_v92 : Ref sig .tc := ⟨.hbm, 221, rfl⟩
abbrev main_call1_v93 : Ref sig .tc := ⟨.hbm, 222, rfl⟩
abbrev main_call1_v94 : Ref sig .tc := ⟨.hbm, 223, rfl⟩
abbrev main_call1_v95 : Ref sig .tc := ⟨.hbm, 224, rfl⟩
abbrev main_call1_v96 : Ref sig .tc := ⟨.hbm, 225, rfl⟩
abbrev main_call1_v97 : Ref sig .tc := ⟨.hbm, 226, rfl⟩
abbrev main_call1_v98 : Ref sig .tc := ⟨.hbm, 227, rfl⟩
abbrev main_call1_cst : Ref sig .tc := ⟨.hbm, 228, rfl⟩
abbrev main_call1_v99 : Ref sig .tc := ⟨.hbm, 229, rfl⟩
abbrev main_v2 : Ref sig .tc := ⟨.hbm, 230, rfl⟩
abbrev main_call2_c : Ref sig .tc := ⟨.hbm, 231, rfl⟩
abbrev main_call2_call0_v0 : Ref sig .tc := ⟨.hbm, 232, rfl⟩
abbrev main_call2_v0 : Ref sig .tc := ⟨.hbm, 233, rfl⟩
abbrev main_call2_v1 : Ref sig .tc := ⟨.hbm, 234, rfl⟩
abbrev main_call2_v2 : Ref sig .tc := ⟨.hbm, 235, rfl⟩
abbrev main_call2_v3 : Ref sig .tc := ⟨.hbm, 236, rfl⟩
abbrev main_call2_v4 : Ref sig .tc := ⟨.hbm, 237, rfl⟩
abbrev main_call2_v5 : Ref sig .tc := ⟨.hbm, 238, rfl⟩
abbrev main_call2_v6 : Ref sig .tc := ⟨.hbm, 239, rfl⟩
abbrev main_call2_v7 : Ref sig .tc := ⟨.hbm, 240, rfl⟩
abbrev main_call2_v8 : Ref sig .tc := ⟨.hbm, 241, rfl⟩
abbrev main_call2_v9 : Ref sig .tc := ⟨.hbm, 242, rfl⟩
abbrev main_call2_v10 : Ref sig .tc := ⟨.hbm, 243, rfl⟩
abbrev main_call2_v11 : Ref sig .tc := ⟨.hbm, 244, rfl⟩
abbrev main_call2_v12 : Ref sig .tc := ⟨.hbm, 245, rfl⟩
abbrev main_call2_v13 : Ref sig .tc := ⟨.hbm, 246, rfl⟩
abbrev main_call2_v14 : Ref sig .tc := ⟨.hbm, 247, rfl⟩
abbrev main_call2_v15 : Ref sig .tc := ⟨.hbm, 248, rfl⟩
abbrev main_call2_v16 : Ref sig .tc := ⟨.hbm, 249, rfl⟩
abbrev main_call2_v17 : Ref sig .tc := ⟨.hbm, 250, rfl⟩
abbrev main_call2_v18 : Ref sig .tc := ⟨.hbm, 251, rfl⟩
abbrev main_call2_v19 : Ref sig .tc := ⟨.hbm, 252, rfl⟩
abbrev main_call2_v20 : Ref sig .tc := ⟨.hbm, 253, rfl⟩
abbrev main_call2_v21 : Ref sig .tc := ⟨.hbm, 254, rfl⟩
abbrev main_call2_v22 : Ref sig .tc := ⟨.hbm, 255, rfl⟩
abbrev main_call2_v23 : Ref sig .tc := ⟨.hbm, 256, rfl⟩
abbrev main_call2_v24 : Ref sig .tc := ⟨.hbm, 257, rfl⟩
abbrev main_call2_v25 : Ref sig .tc := ⟨.hbm, 258, rfl⟩
abbrev main_call2_v26 : Ref sig .tc := ⟨.hbm, 259, rfl⟩
abbrev main_call2_v27 : Ref sig .tc := ⟨.hbm, 260, rfl⟩
abbrev main_call2_v28 : Ref sig .tc := ⟨.hbm, 261, rfl⟩
abbrev main_call2_v29 : Ref sig .tc := ⟨.hbm, 262, rfl⟩
abbrev main_call2_v30 : Ref sig .tc := ⟨.hbm, 263, rfl⟩
abbrev main_call2_v31 : Ref sig .tc := ⟨.hbm, 264, rfl⟩
abbrev main_call2_v32 : Ref sig .tc := ⟨.hbm, 265, rfl⟩
abbrev main_call2_v33 : Ref sig .tc := ⟨.hbm, 266, rfl⟩
abbrev main_call2_v34 : Ref sig .tc := ⟨.hbm, 267, rfl⟩
abbrev main_call2_v35 : Ref sig .tc := ⟨.hbm, 268, rfl⟩
abbrev main_call2_v36 : Ref sig .tc := ⟨.hbm, 269, rfl⟩
abbrev main_call2_v37 : Ref sig .tc := ⟨.hbm, 270, rfl⟩
abbrev main_call2_v38 : Ref sig .tc := ⟨.hbm, 271, rfl⟩
abbrev main_call2_v39 : Ref sig .tc := ⟨.hbm, 272, rfl⟩
abbrev main_call2_v40 : Ref sig .tc := ⟨.hbm, 273, rfl⟩
abbrev main_call2_v41 : Ref sig .tc := ⟨.hbm, 274, rfl⟩
abbrev main_call2_v42 : Ref sig .tc := ⟨.hbm, 275, rfl⟩
abbrev main_call2_v43 : Ref sig .tc := ⟨.hbm, 276, rfl⟩
abbrev main_call2_v44 : Ref sig .tc := ⟨.hbm, 277, rfl⟩
abbrev main_call2_v45 : Ref sig .tc := ⟨.hbm, 278, rfl⟩
abbrev main_call2_v46 : Ref sig .tc := ⟨.hbm, 279, rfl⟩
abbrev main_call2_v47 : Ref sig .tc := ⟨.hbm, 280, rfl⟩
abbrev main_call2_v48 : Ref sig .tc := ⟨.hbm, 281, rfl⟩
abbrev main_call2_v49 : Ref sig .tc := ⟨.hbm, 282, rfl⟩
abbrev main_call2_v50 : Ref sig .tc := ⟨.hbm, 283, rfl⟩
abbrev main_call2_v51 : Ref sig .tc := ⟨.hbm, 284, rfl⟩
abbrev main_call2_v52 : Ref sig .tc := ⟨.hbm, 285, rfl⟩
abbrev main_call2_v53 : Ref sig .tc := ⟨.hbm, 286, rfl⟩
abbrev main_call2_v54 : Ref sig .tc := ⟨.hbm, 287, rfl⟩
abbrev main_call2_v55 : Ref sig .tc := ⟨.hbm, 288, rfl⟩
abbrev main_call2_v56 : Ref sig .tc := ⟨.hbm, 289, rfl⟩
abbrev main_call2_v57 : Ref sig .tc := ⟨.hbm, 290, rfl⟩
abbrev main_call2_v58 : Ref sig .tc := ⟨.hbm, 291, rfl⟩
abbrev main_call2_v59 : Ref sig .tc := ⟨.hbm, 292, rfl⟩
abbrev main_call2_v60 : Ref sig .tc := ⟨.hbm, 293, rfl⟩
abbrev main_call2_v61 : Ref sig .tc := ⟨.hbm, 294, rfl⟩
abbrev main_call2_v62 : Ref sig .tc := ⟨.hbm, 295, rfl⟩
abbrev main_call2_v63 : Ref sig .tc := ⟨.hbm, 296, rfl⟩
abbrev main_call2_v64 : Ref sig .tc := ⟨.hbm, 297, rfl⟩
abbrev main_call2_v65 : Ref sig .tc := ⟨.hbm, 298, rfl⟩
abbrev main_call2_v66 : Ref sig .tc := ⟨.hbm, 299, rfl⟩
abbrev main_call2_v67 : Ref sig .tc := ⟨.hbm, 300, rfl⟩
abbrev main_call2_v68 : Ref sig .tc := ⟨.hbm, 301, rfl⟩
abbrev main_call2_v69 : Ref sig .tc := ⟨.hbm, 302, rfl⟩
abbrev main_call2_v70 : Ref sig .tc := ⟨.hbm, 303, rfl⟩
abbrev main_call2_v71 : Ref sig .tc := ⟨.hbm, 304, rfl⟩
abbrev main_call2_v72 : Ref sig .tc := ⟨.hbm, 305, rfl⟩
abbrev main_call2_v73 : Ref sig .tc := ⟨.hbm, 306, rfl⟩
abbrev main_call2_v74 : Ref sig .tc := ⟨.hbm, 307, rfl⟩
abbrev main_call2_v75 : Ref sig .tc := ⟨.hbm, 308, rfl⟩
abbrev main_call2_v76 : Ref sig .tc := ⟨.hbm, 309, rfl⟩
abbrev main_call2_v77 : Ref sig .tc := ⟨.hbm, 310, rfl⟩
abbrev main_call2_v78 : Ref sig .tc := ⟨.hbm, 311, rfl⟩
abbrev main_call2_v79 : Ref sig .tc := ⟨.hbm, 312, rfl⟩
abbrev main_call2_v80 : Ref sig .tc := ⟨.hbm, 313, rfl⟩
abbrev main_call2_v81 : Ref sig .tc := ⟨.hbm, 314, rfl⟩
abbrev main_call2_v82 : Ref sig .tc := ⟨.hbm, 315, rfl⟩
abbrev main_call2_v83 : Ref sig .tc := ⟨.hbm, 316, rfl⟩
abbrev main_call2_v84 : Ref sig .tc := ⟨.hbm, 317, rfl⟩
abbrev main_call2_v85 : Ref sig .tc := ⟨.hbm, 318, rfl⟩
abbrev main_call2_v86 : Ref sig .tc := ⟨.hbm, 319, rfl⟩
abbrev main_call2_v87 : Ref sig .tc := ⟨.hbm, 320, rfl⟩
abbrev main_call2_v88 : Ref sig .tc := ⟨.hbm, 321, rfl⟩
abbrev main_call2_v89 : Ref sig .tc := ⟨.hbm, 322, rfl⟩
abbrev main_call2_v90 : Ref sig .tc := ⟨.hbm, 323, rfl⟩
abbrev main_call2_v91 : Ref sig .tc := ⟨.hbm, 324, rfl⟩
abbrev main_call2_v92 : Ref sig .tc := ⟨.hbm, 325, rfl⟩
abbrev main_call2_v93 : Ref sig .tc := ⟨.hbm, 326, rfl⟩
abbrev main_call2_v94 : Ref sig .tc := ⟨.hbm, 327, rfl⟩
abbrev main_call2_v95 : Ref sig .tc := ⟨.hbm, 328, rfl⟩
abbrev main_call2_v96 : Ref sig .tc := ⟨.hbm, 329, rfl⟩
abbrev main_call2_v97 : Ref sig .tc := ⟨.hbm, 330, rfl⟩
abbrev main_call2_v98 : Ref sig .tc := ⟨.hbm, 331, rfl⟩
abbrev main_call2_cst : Ref sig .tc := ⟨.hbm, 332, rfl⟩
abbrev main_call2_v99 : Ref sig .tc := ⟨.hbm, 333, rfl⟩
abbrev main_v3 : Ref sig .tc := ⟨.hbm, 334, rfl⟩
abbrev main_call3_v0 : Ref sig .tc := ⟨.hbm, 335, rfl⟩
abbrev main_call3_v1 : Ref sig .tc := ⟨.hbm, 336, rfl⟩
abbrev main_call3_v2 : Ref sig .tc := ⟨.hbm, 337, rfl⟩
abbrev main_call3_v3 : Ref sig .tc := ⟨.hbm, 338, rfl⟩
abbrev main_call3_v4 : Ref sig .tc := ⟨.hbm, 339, rfl⟩
abbrev main_call3_v5 : Ref sig .tc := ⟨.hbm, 340, rfl⟩
abbrev main_call3_cst : Ref sig .tc := ⟨.hbm, 341, rfl⟩
abbrev main_call3_v6 : Ref sig .tc := ⟨.hbm, 342, rfl⟩
abbrev main_call3_v7 : Ref sig .tc := ⟨.hbm, 343, rfl⟩
abbrev main_call3_v8 : Ref sig .tc := ⟨.hbm, 344, rfl⟩
abbrev main_call3_v9 : Ref sig .tc := ⟨.hbm, 345, rfl⟩
abbrev main_call3_v10 : Ref sig .tc := ⟨.hbm, 346, rfl⟩
abbrev main_call3_v11 : Ref sig .tc := ⟨.hbm, 347, rfl⟩
abbrev main_call3_v12 : Ref sig .tc := ⟨.hbm, 348, rfl⟩
abbrev main_call3_cst_0 : Ref sig .tc := ⟨.hbm, 349, rfl⟩
abbrev main_call3_v13 : Ref sig .tc := ⟨.hbm, 350, rfl⟩
abbrev main_call3_v14 : Ref sig .tc := ⟨.hbm, 351, rfl⟩
abbrev main_v4 : Ref sig .tc := ⟨.hbm, 352, rfl⟩
abbrev main_call4_cst : Ref sig .tc := ⟨.hbm, 353, rfl⟩
abbrev main_call4_v0 : Ref sig .tc := ⟨.hbm, 354, rfl⟩
abbrev main_call4_cst_0 : Ref sig .tc := ⟨.hbm, 355, rfl⟩
abbrev main_call4_v1 : Ref sig .tc := ⟨.hbm, 356, rfl⟩
abbrev main_call4_v2 : Ref sig .tc := ⟨.hbm, 357, rfl⟩
abbrev main_call4_v3 : Ref sig .tc := ⟨.hbm, 358, rfl⟩
abbrev main_call4_v4 : Ref sig .tc := ⟨.hbm, 359, rfl⟩
abbrev main_call4_v5 : Ref sig .tc := ⟨.hbm, 360, rfl⟩
abbrev main_call4_v6 : Ref sig .tc := ⟨.hbm, 361, rfl⟩
abbrev main_call4_cst_1 : Ref sig .tc := ⟨.hbm, 362, rfl⟩
abbrev main_call4_v7 : Ref sig .tc := ⟨.hbm, 363, rfl⟩
abbrev main_call4_cst_2 : Ref sig .tc := ⟨.hbm, 364, rfl⟩
abbrev main_call4_v8 : Ref sig .tc := ⟨.hbm, 365, rfl⟩
abbrev main_call4_v9 : Ref sig .tc := ⟨.hbm, 366, rfl⟩
abbrev main_call4_cst_3 : Ref sig .tc := ⟨.hbm, 367, rfl⟩
abbrev main_call4_v10 : Ref sig .tc := ⟨.hbm, 368, rfl⟩
abbrev main_call4_v11 : Ref sig .tc := ⟨.hbm, 369, rfl⟩
abbrev main_call4_v12 : Ref sig .tc := ⟨.hbm, 370, rfl⟩
abbrev main_call4_v13 : Ref sig .tc := ⟨.hbm, 371, rfl⟩
abbrev main_call4_v14 : Ref sig .tc := ⟨.hbm, 372, rfl⟩
abbrev main_call4_v15 : Ref sig .tc := ⟨.hbm, 373, rfl⟩
abbrev main_call4_v16 : Ref sig .tc := ⟨.hbm, 374, rfl⟩
abbrev main_call4_v17 : Ref sig .tc := ⟨.hbm, 375, rfl⟩
abbrev main_call4_v18 : Ref sig .tc := ⟨.hbm, 376, rfl⟩
abbrev main_call4_v19 : Ref sig .tc := ⟨.hbm, 377, rfl⟩
abbrev main_call4_v20 : Ref sig .tc := ⟨.hbm, 378, rfl⟩
abbrev main_v5 : Ref sig .tc := ⟨.hbm, 379, rfl⟩
abbrev main_v6 : Ref sig .tc := ⟨.hbm, 380, rfl⟩
abbrev main_v7 : Ref sig .tc := ⟨.hbm, 381, rfl⟩
abbrev main_cst : Ref sig .tc := ⟨.hbm, 382, rfl⟩
abbrev main_v8 : Ref sig .tc := ⟨.hbm, 383, rfl⟩
abbrev main_c : Ref sig .tc := ⟨.hbm, 384, rfl⟩
abbrev main_c_0 : Ref sig .tc := ⟨.hbm, 385, rfl⟩
abbrev main_v9_0 : Ref sig .tc := ⟨.hbm, 386, rfl⟩
abbrev main_v9_1 : Ref sig .tc := ⟨.hbm, 387, rfl⟩
abbrev main_v9_2 : Ref sig .tc := ⟨.hbm, 388, rfl⟩
abbrev main_v9_3 : Ref sig .tc := ⟨.hbm, 389, rfl⟩
abbrev main_v9_4 : Ref sig .tc := ⟨.hbm, 390, rfl⟩
abbrev main_v9_5 : Ref sig .tc := ⟨.hbm, 391, rfl⟩
abbrev main_v9_6 : Ref sig .tc := ⟨.hbm, 392, rfl⟩
abbrev main_v9_7 : Ref sig .tc := ⟨.hbm, 393, rfl⟩
abbrev main_v9_8 : Ref sig .tc := ⟨.hbm, 394, rfl⟩
abbrev main_v9_9 : Ref sig .tc := ⟨.hbm, 395, rfl⟩
abbrev main_v9_10 : Ref sig .tc := ⟨.hbm, 396, rfl⟩
abbrev main_v9_11 : Ref sig .tc := ⟨.hbm, 397, rfl⟩
abbrev main_v9_12 : Ref sig .tc := ⟨.hbm, 398, rfl⟩
abbrev main_while0c_c_13 : Ref sig .tc := ⟨.hbm, 399, rfl⟩
abbrev main_while0c_v17 : Ref sig .tc := ⟨.hbm, 400, rfl⟩
abbrev main_while0b_c_13 : Ref sig .tc := ⟨.hbm, 401, rfl⟩
abbrev main_while0b_v17 : Ref sig .tc := ⟨.hbm, 402, rfl⟩
abbrev main_while0b_c_14 : Ref sig .tc := ⟨.hbm, 403, rfl⟩
abbrev main_while0b_v18 : Ref sig .tc := ⟨.hbm, 404, rfl⟩
abbrev main_while0b_v19 : Ref sig .tc := ⟨.hbm, 405, rfl⟩
abbrev main_while0b_c_15 : Ref sig .tc := ⟨.hbm, 406, rfl⟩
abbrev main_while0b_v20 : Ref sig .tc := ⟨.hbm, 407, rfl⟩
abbrev main_while0b_v21 : Ref sig .tc := ⟨.hbm, 408, rfl⟩
abbrev main_while0b_c_16 : Ref sig .tc := ⟨.hbm, 409, rfl⟩
abbrev main_while0b_c_17 : Ref sig .tc := ⟨.hbm, 410, rfl⟩
abbrev main_while0b_v22 : Ref sig .tc := ⟨.hbm, 411, rfl⟩
abbrev main_while0b_v23 : Ref sig .tc := ⟨.hbm, 412, rfl⟩
abbrev main_while0b_call5_v0 : Ref sig .tc := ⟨.hbm, 413, rfl⟩
abbrev main_while0b_call5_v1 : Ref sig .tc := ⟨.hbm, 414, rfl⟩
abbrev main_while0b_call5_v2 : Ref sig .tc := ⟨.hbm, 415, rfl⟩
abbrev main_while0b_call5_v3 : Ref sig .tc := ⟨.hbm, 416, rfl⟩
abbrev main_while0b_call5_v4 : Ref sig .tc := ⟨.hbm, 417, rfl⟩
abbrev main_while0b_call5_v5 : Ref sig .tc := ⟨.hbm, 418, rfl⟩
abbrev main_while0b_call5_v6 : Ref sig .tc := ⟨.hbm, 419, rfl⟩
abbrev main_while0b_call5_v7 : Ref sig .tc := ⟨.hbm, 420, rfl⟩
abbrev main_while0b_call5_v8 : Ref sig .tc := ⟨.hbm, 421, rfl⟩
abbrev main_while0b_call5_v9 : Ref sig .tc := ⟨.hbm, 422, rfl⟩
abbrev main_while0b_call5_v10 : Ref sig .tc := ⟨.hbm, 423, rfl⟩
abbrev main_while0b_call5_v11 : Ref sig .tc := ⟨.hbm, 424, rfl⟩
abbrev main_while0b_call5_v12 : Ref sig .tc := ⟨.hbm, 425, rfl⟩
abbrev main_while0b_call5_v13 : Ref sig .tc := ⟨.hbm, 426, rfl⟩
abbrev main_while0b_call5_v14 : Ref sig .tc := ⟨.hbm, 427, rfl⟩
abbrev main_while0b_call5_cst : Ref sig .tc := ⟨.hbm, 428, rfl⟩
abbrev main_while0b_call5_v15 : Ref sig .tc := ⟨.hbm, 429, rfl⟩
abbrev main_while0b_call5_v16 : Ref sig .tc := ⟨.hbm, 430, rfl⟩
abbrev main_while0b_call5_cst_0 : Ref sig .tc := ⟨.hbm, 431, rfl⟩
abbrev main_while0b_call5_v17 : Ref sig .tc := ⟨.hbm, 432, rfl⟩
abbrev main_while0b_call5_v18 : Ref sig .tc := ⟨.hbm, 433, rfl⟩
abbrev main_while0b_call5_v19 : Ref sig .tc := ⟨.hbm, 434, rfl⟩
abbrev main_while0b_call5_v20 : Ref sig .tc := ⟨.hbm, 435, rfl⟩
abbrev main_while0b_call5_cst_1 : Ref sig .tc := ⟨.hbm, 436, rfl⟩
abbrev main_while0b_call5_v21 : Ref sig .tc := ⟨.hbm, 437, rfl⟩
abbrev main_while0b_call5_v22 : Ref sig .tc := ⟨.hbm, 438, rfl⟩
abbrev main_while0b_call5_cst_2 : Ref sig .tc := ⟨.hbm, 439, rfl⟩
abbrev main_while0b_call5_v23 : Ref sig .tc := ⟨.hbm, 440, rfl⟩
abbrev main_while0b_call5_v24 : Ref sig .tc := ⟨.hbm, 441, rfl⟩
abbrev main_while0b_call5_v25 : Ref sig .tc := ⟨.hbm, 442, rfl⟩
abbrev main_while0b_call5_v26 : Ref sig .tc := ⟨.hbm, 443, rfl⟩
abbrev main_while0b_call5_v27 : Ref sig .tc := ⟨.hbm, 444, rfl⟩
abbrev main_while0b_call5_cst_3 : Ref sig .tc := ⟨.hbm, 445, rfl⟩
abbrev main_while0b_call5_v28 : Ref sig .tc := ⟨.hbm, 446, rfl⟩
abbrev main_while0b_call5_v29 : Ref sig .tc := ⟨.hbm, 447, rfl⟩
abbrev main_while0b_call5_cst_4 : Ref sig .tc := ⟨.hbm, 448, rfl⟩
abbrev main_while0b_call5_v30 : Ref sig .tc := ⟨.hbm, 449, rfl⟩
abbrev main_while0b_call5_v31 : Ref sig .tc := ⟨.hbm, 450, rfl⟩
abbrev main_while0b_call5_v32 : Ref sig .tc := ⟨.hbm, 451, rfl⟩
abbrev main_while0b_call5_v33 : Ref sig .tc := ⟨.hbm, 452, rfl⟩
abbrev main_while0b_v24_1 : Ref sig .tc := ⟨.hbm, 453, rfl⟩
abbrev main_while0b_call5_v35 : Ref sig .tc := ⟨.hbm, 454, rfl⟩
abbrev main_while0b_v24_0 : Ref sig .tc := ⟨.hbm, 455, rfl⟩
abbrev main_while0b_call6_v0 : Ref sig .tc := ⟨.hbm, 456, rfl⟩
abbrev main_while0b_call6_v1 : Ref sig .tc := ⟨.hbm, 457, rfl⟩
abbrev main_while0b_call6_v2 : Ref sig .tc := ⟨.hbm, 458, rfl⟩
abbrev main_while0b_call6_cst : Ref sig .tc := ⟨.hbm, 459, rfl⟩
abbrev main_while0b_call6_v3 : Ref sig .tc := ⟨.hbm, 460, rfl⟩
abbrev main_while0b_call6_v4 : Ref sig .tc := ⟨.hbm, 461, rfl⟩
abbrev main_while0b_call6_v5 : Ref sig .tc := ⟨.hbm, 462, rfl⟩
abbrev main_while0b_call6_cst_0 : Ref sig .tc := ⟨.hbm, 463, rfl⟩
abbrev main_while0b_call6_v6 : Ref sig .tc := ⟨.hbm, 464, rfl⟩
abbrev main_while0b_call6_v7 : Ref sig .tc := ⟨.hbm, 465, rfl⟩
abbrev main_while0b_call6_v8 : Ref sig .tc := ⟨.hbm, 466, rfl⟩
abbrev main_while0b_call6_v9 : Ref sig .tc := ⟨.hbm, 467, rfl⟩
abbrev main_while0b_call6_v10 : Ref sig .tc := ⟨.hbm, 468, rfl⟩
abbrev main_while0b_call6_cst_1 : Ref sig .tc := ⟨.hbm, 469, rfl⟩
abbrev main_while0b_call6_v11 : Ref sig .tc := ⟨.hbm, 470, rfl⟩
abbrev main_while0b_call6_v12 : Ref sig .tc := ⟨.hbm, 471, rfl⟩
abbrev main_while0b_call6_v13 : Ref sig .tc := ⟨.hbm, 472, rfl⟩
abbrev main_while0b_call6_cst_2 : Ref sig .tc := ⟨.hbm, 473, rfl⟩
abbrev main_while0b_call6_v14 : Ref sig .tc := ⟨.hbm, 474, rfl⟩
abbrev main_while0b_call6_v15 : Ref sig .tc := ⟨.hbm, 475, rfl⟩
abbrev main_while0b_call6_v16 : Ref sig .tc := ⟨.hbm, 476, rfl⟩
abbrev main_while0b_call6_v17 : Ref sig .tc := ⟨.hbm, 477, rfl⟩
abbrev main_while0b_v25 : Ref sig .tc := ⟨.hbm, 478, rfl⟩
abbrev main_while0b_call7_values : Ref sig .tc := ⟨.hbm, 479, rfl⟩
abbrev main_while0b_call7_indices : Ref sig .tc := ⟨.hbm, 480, rfl⟩
abbrev main_while0b_call7_cst : Ref sig .tc := ⟨.hbm, 481, rfl⟩
abbrev main_while0b_call7_v0 : Ref sig .tc := ⟨.hbm, 482, rfl⟩
abbrev main_while0b_call7_cst_0 : Ref sig .tc := ⟨.hbm, 483, rfl⟩
abbrev main_while0b_call7_v1 : Ref sig .tc := ⟨.hbm, 484, rfl⟩
abbrev main_while0b_call7_v2 : Ref sig .tc := ⟨.hbm, 485, rfl⟩
abbrev main_while0b_call7_v3 : Ref sig .tc := ⟨.hbm, 486, rfl⟩
abbrev main_while0b_call7_v4 : Ref sig .tc := ⟨.hbm, 487, rfl⟩
abbrev main_while0b_call7_v5 : Ref sig .tc := ⟨.hbm, 488, rfl⟩
abbrev main_while0b_call7_v6 : Ref sig .tc := ⟨.hbm, 489, rfl⟩
abbrev main_while0b_call7_cst_1 : Ref sig .tc := ⟨.hbm, 490, rfl⟩
abbrev main_while0b_call7_v7 : Ref sig .tc := ⟨.hbm, 491, rfl⟩
abbrev main_while0b_call7_v8 : Ref sig .tc := ⟨.hbm, 492, rfl⟩
abbrev main_while0b_call7_v9 : Ref sig .tc := ⟨.hbm, 493, rfl⟩
abbrev main_while0b_call7_v10 : Ref sig .tc := ⟨.hbm, 494, rfl⟩
abbrev main_while0b_call7_v11 : Ref sig .tc := ⟨.hbm, 495, rfl⟩
abbrev main_while0b_call7_call0_c : Ref sig .tc := ⟨.hbm, 496, rfl⟩
abbrev main_while0b_call7_call0_v0 : Ref sig .tc := ⟨.hbm, 497, rfl⟩
abbrev main_while0b_call7_call0_v1 : Ref sig .tc := ⟨.hbm, 498, rfl⟩
abbrev main_while0b_call7_call0_c_0 : Ref sig .tc := ⟨.hbm, 499, rfl⟩
abbrev main_while0b_call7_call0_v2 : Ref sig .tc := ⟨.hbm, 500, rfl⟩
abbrev main_while0b_call7_call0_v3 : Ref sig .tc := ⟨.hbm, 501, rfl⟩
abbrev main_while0b_call7_call0_v4 : Ref sig .tc := ⟨.hbm, 502, rfl⟩
abbrev main_while0b_call7_v12 : Ref sig .tc := ⟨.hbm, 503, rfl⟩
abbrev main_while0b_call7_v13 : Ref sig .tc := ⟨.hbm, 504, rfl⟩
abbrev main_while0b_call7_v14 : Ref sig .tc := ⟨.hbm, 505, rfl⟩
abbrev main_while0b_call7_v15 : Ref sig .tc := ⟨.hbm, 506, rfl⟩
abbrev main_while0b_call7_cst_2 : Ref sig .tc := ⟨.hbm, 507, rfl⟩
abbrev main_while0b_v26 : Ref sig .tc := ⟨.hbm, 508, rfl⟩
abbrev main_while0b_call8_v0 : Ref sig .tc := ⟨.hbm, 509, rfl⟩
abbrev main_while0b_call8_v1 : Ref sig .tc := ⟨.hbm, 510, rfl⟩
abbrev main_while0b_call8_v2 : Ref sig .tc := ⟨.hbm, 511, rfl⟩
abbrev main_while0b_call8_v3 : Ref sig .tc := ⟨.hbm, 512, rfl⟩
abbrev main_while0b_call8_v4 : Ref sig .tc := ⟨.hbm, 513, rfl⟩
abbrev main_while0b_call8_v5 : Ref sig .tc := ⟨.hbm, 514, rfl⟩
abbrev main_while0b_call8_v6 : Ref sig .tc := ⟨.hbm, 515, rfl⟩
abbrev main_while0b_call8_cst : Ref sig .tc := ⟨.hbm, 516, rfl⟩
abbrev main_while0b_call8_v7 : Ref sig .tc := ⟨.hbm, 517, rfl⟩
abbrev main_while0b_call8_v8 : Ref sig .tc := ⟨.hbm, 518, rfl⟩
abbrev main_while0b_call8_cst_0 : Ref sig .tc := ⟨.hbm, 519, rfl⟩
abbrev main_while0b_call8_v9 : Ref sig .tc := ⟨.hbm, 520, rfl⟩
abbrev main_while0b_call8_v10 : Ref sig .tc := ⟨.hbm, 521, rfl⟩
abbrev main_while0b_call8_cst_1 : Ref sig .tc := ⟨.hbm, 522, rfl⟩
abbrev main_while0b_call8_v11 : Ref sig .tc := ⟨.hbm, 523, rfl⟩
abbrev main_while0b_call8_cst_2 : Ref sig .tc := ⟨.hbm, 524, rfl⟩
abbrev main_while0b_call8_v12 : Ref sig .tc := ⟨.hbm, 525, rfl⟩
abbrev main_while0b_call8_v13 : Ref sig .tc := ⟨.hbm, 526, rfl⟩
abbrev main_while0b_call8_v14 : Ref sig .tc := ⟨.hbm, 527, rfl⟩
abbrev main_while0b_call8_v15 : Ref sig .tc := ⟨.hbm, 528, rfl⟩
abbrev main_while0b_call8_v16 : Ref sig .tc := ⟨.hbm, 529, rfl⟩
abbrev main_while0b_call8_v17 : Ref sig .tc := ⟨.hbm, 530, rfl⟩
abbrev main_while0b_call8_cst_3 : Ref sig .tc := ⟨.hbm, 531, rfl⟩
abbrev main_while0b_call8_v18 : Ref sig .tc := ⟨.hbm, 532, rfl⟩
abbrev main_while0b_call8_v19 : Ref sig .tc := ⟨.hbm, 533, rfl⟩
abbrev main_while0b_call8_v20 : Ref sig .tc := ⟨.hbm, 534, rfl⟩
abbrev main_while0b_call8_v21 : Ref sig .tc := ⟨.hbm, 535, rfl⟩
abbrev main_while0b_call8_v22 : Ref sig .tc := ⟨.hbm, 536, rfl⟩
abbrev main_while0b_call8_v23 : Ref sig .tc := ⟨.hbm, 537, rfl⟩
abbrev main_while0b_call8_v24 : Ref sig .tc := ⟨.hbm, 538, rfl⟩
abbrev main_while0b_call8_v25 : Ref sig .tc := ⟨.hbm, 539, rfl⟩
abbrev main_while0b_call8_v26 : Ref sig .tc := ⟨.hbm, 540, rfl⟩
abbrev main_while0b_call8_cst_4 : Ref sig .tc := ⟨.hbm, 541, rfl⟩
abbrev main_while0b_call8_v27 : Ref sig .tc := ⟨.hbm, 542, rfl⟩
abbrev main_while0b_call8_v28 : Ref sig .tc := ⟨.hbm, 543, rfl⟩
abbrev main_while0b_call8_v29 : Ref sig .tc := ⟨.hbm, 544, rfl⟩
abbrev main_while0b_call8_v30 : Ref sig .tc := ⟨.hbm, 545, rfl⟩
abbrev main_while0b_call8_v31 : Ref sig .tc := ⟨.hbm, 546, rfl⟩
abbrev main_while0b_call8_v32 : Ref sig .tc := ⟨.hbm, 547, rfl⟩
abbrev main_while0b_call8_v33 : Ref sig .tc := ⟨.hbm, 548, rfl⟩
abbrev main_while0b_call8_v34 : Ref sig .tc := ⟨.hbm, 549, rfl⟩
abbrev main_while0b_v27 : Ref sig .tc := ⟨.hbm, 550, rfl⟩
abbrev main_while0b_c_18 : Ref sig .tc := ⟨.hbm, 551, rfl⟩
abbrev main_while0b_v28 : Ref sig .tc := ⟨.hbm, 552, rfl⟩
abbrev main_v10 : Ref sig .tc := ⟨.hbm, 553, rfl⟩
abbrev main_v11 : Ref sig .tc := ⟨.hbm, 554, rfl⟩
abbrev main_v12 : Ref sig .tc := ⟨.hbm, 555, rfl⟩
abbrev main_v13 : Ref sig .tc := ⟨.hbm, 556, rfl⟩
abbrev main_v14 : Ref sig .tc := ⟨.hbm, 557, rfl⟩
abbrev main_v15 : Ref sig .tc := ⟨.hbm, 558, rfl⟩
abbrev main_call9_v0 : Ref sig .tc := ⟨.hbm, 559, rfl⟩
abbrev main_call9_cst : Ref sig .tc := ⟨.hbm, 560, rfl⟩
abbrev main_call9_c : Ref sig .tc := ⟨.hbm, 561, rfl⟩
abbrev main_call9_v1_0 : Ref sig .tc := ⟨.hbm, 562, rfl⟩
abbrev main_v16 : Ref sig .tc := ⟨.hbm, 563, rfl⟩

abbrev nD : Nat := 1
abbrev τ : Topo := Topo.v7x

variable {F : FTy → Type} [FloatOps F]

abbrev main_while0_count : Scf.Loop 32 := ⟨0#32, 20#32, 1#32⟩
-- ==== Proof.RefFrame.lean ====
/- The reference's run, read back at its arguments: the twenty trips of the host loop and the stretches around it leave every
   argument array as it was at launch. -/
module

public import proofs.«01_k».proof.Defs
public import proofs.«01_k».proof.Proof.Gen.ReferenceIdeal.Run

@[expose] public section

set_option maxRecDepth 16384

noncomputable section

namespace Cert.RefFrame

open Idealize.ShloMosaic Idealize.ShloMosaic.TcCoe Idealize.ShloMosaic.StableHlo Idealize.SL.Sem
open Cert.ReferenceIdeal Cert.ReferenceIdeal.Gen Cert.ReferenceIdeal.Value

/-- Every reference the loop's condition or body writes. -/
abbrev loopWritten : List (Ref sig .tc) :=
  condOps_W ++ while0Ops0_W ++ while0Ops0_1_W ++ while0Ops0_2_W ++ while0Ops0_3_W ++ while0Ops0_4_W ++ while0Ops0_5_W

/-- Every reference some host operation of the reference writes. -/
abbrev written : List (Ref sig .tc) :=
  hostOps0_W ++ hostOps0_1_W ++ hostOps0_2_W ++ hostOps0_3_W ++ hostOps0_4_W ++ hostOps0_5_W ++ hostOps0_6_W ++ condOps_W ++ while0Ops0_W ++ while0Ops0_1_W ++ while0Ops0_2_W ++ while0Ops0_3_W ++ while0Ops0_4_W ++ while0Ops0_5_W ++ hostOps0_7_W ++ hostOps0_8_W

variable (m : (ℓ : Loc nD τ sig) → Buf (Elt Ideal) ℓ)

/-- A reference no operation writes holds its launch contents when the loop is entered. -/
theorem entry_unwritten (c : Dev nD) (r : Ref sig .tc) (h : r ∉ written) :
    entryContents preI m c (Proc.devRef .tc r) = m ((c.tc : Thread nD τ).loc r) := by
  simp only [written, List.mem_append, not_or] at h
  obtain ⟨⟨⟨⟨⟨⟨⟨⟨⟨⟨⟨⟨⟨⟨⟨h0, h1⟩, h2⟩, h3⟩, h4⟩, h5⟩, h6⟩, _⟩, _⟩, _⟩, _⟩, _⟩, _⟩, _⟩, _⟩, _⟩ := h
  simp only [entryContents, afterL_cons, afterL_nil]
  rw [after_of_writes_sub hostOps0_6 _ hostOps0_6_writes h6,
    after_of_writes_sub hostOps0_5 _ hostOps0_5_writes h5,
    after_of_writes_sub hostOps0_4 _ hostOps0_4_writes h4,
    after_of_writes_sub hostOps0_3 _ hostOps0_3_writes h3,
    after_of_writes_sub hostOps0_2 _ hostOps0_2_writes h2,
    after_of_writes_sub hostOps0_1 _ hostOps0_1_writes h1,
    after_of_writes_sub hostOps0 _ hostOps0_writes h0]

/-- A reference no operation of the loop writes holds through the loop what it held at its entry. -/
theorem trip_unwritten (c : Dev nD) (r : Ref sig .tc) (h : r ∉ loopWritten) (k : ℕ) :
    atK m k c (Proc.devRef .tc r) = entryContents preI m c (Proc.devRef .tc r) := by
  simp only [loopWritten, List.mem_append, not_or] at h
  obtain ⟨⟨⟨⟨⟨⟨h7, h8⟩, h9⟩, h10⟩, h11⟩, h12⟩, h13⟩ := h
  induction k with
  | zero => rfl
  | succ k ih =>
    refine Eq.trans ?_ ih
    rw [show atK m (k + 1) c = afterL bodyI (after condOps (atK m k c)) from rfl]
    simp only [afterL_cons, afterL_nil]
    rw [after_of_writes_sub while0Ops0_5 _ while0Ops0_5_writes h13,
    after_of_writes_sub while0Ops0_4 _ while0Ops0_4_writes h12,
    after_of_writes_sub while0Ops0_3 _ while0Ops0_3_writes h11,
    after_of_writes_sub while0Ops0_2 _ while0Ops0_2_writes h10,
    after_of_writes_sub while0Ops0_1 _ while0Ops0_1_writes h9,
    after_of_writes_sub while0Ops0 _ while0Ops0_writes h8,
    after_of_writes_sub condOps _ condOps_writes h7]

/-- A reference no operation writes ends the run with its launch contents. -/
theorem final_unwritten (c : Dev nD) (r : Ref sig .tc) (h : r ∉ written) :
    finalContents condOps preI bodyI postI 20 m c (Proc.devRef .tc r) = m ((c.tc : Thread nD τ).loc r) := by
  have h' := h
  simp only [written, List.mem_append, not_or] at h'
  obtain ⟨⟨⟨⟨⟨⟨⟨⟨⟨⟨⟨⟨⟨⟨⟨_, _⟩, _⟩, _⟩, _⟩, _⟩, _⟩, h7⟩, h8⟩, h9⟩, h10⟩, h11⟩, h12⟩, h13⟩, h14⟩, h15⟩ := h'
  simp only [finalContents, afterL_cons, afterL_nil]
  rw [after_of_writes_sub hostOps0_8 _ hostOps0_8_writes h15,
    after_of_writes_sub hostOps0_7 _ hostOps0_7_writes h14,
    after_of_writes_sub condOps _ condOps_writes h7]
  exact (trip_unwritten m c r (by simp only [loopWritten, List.mem_append, not_or]; exact ⟨⟨⟨⟨⟨⟨h7, h8⟩, h9⟩, h10⟩, h11⟩, h12⟩, h13⟩) 20).trans
    (entry_unwritten m c r h)

/-- The reference's argument arrays. -/
abbrev args : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20, main_arg21]

theorem args_unwritten : ∀ r ∈ args, r ∉ written ∧ (Proc.devRef .tc r : DevRef τ sig).isScoped = false := by decide +kernel

/-- What the run says of one argument: its final contents are its launch contents. -/
theorem arg_kept {s : MemSt nD τ sig (Elt Ideal)}
    (h : ∀ (c : Dev nD) (b : Ref sig .tc), (Proc.devRef .tc b : DevRef τ sig).isScoped = false →
      s.mem ((c.tc : Thread nD τ).loc b) = finalContents condOps preI bodyI postI 20 m c (Proc.devRef .tc b))
    (c : Dev nD) (b : Ref sig .tc) (hb : b ∈ args) : s.mem ((c.tc : Thread nD τ).loc b) = m ((c.tc : Thread nD τ).loc b) :=
  (h c b (args_unwritten b hb).2).trans (final_unwritten m c b (args_unwritten b hb).1)

/-- The reference's run leaves every argument as it was and every counter at zero. -/
theorem frame : Cert.quiescent_ReferenceIdeal := by
  intro m ρ _
  refine (θ_run Cert.ReferenceIdeal.defs _ _).mono (fun r h => ⟨fun c => ?_, sem_eq_zero_of_no_sems (by decide) r.2⟩)
    (run_fold (F := Ideal) m ρ)
  refine ⟨arg_kept m (s := r.2) h c main_arg0 (by decide +kernel), arg_kept m (s := r.2) h c main_arg1 (by decide +kernel), arg_kept m (s := r.2) h c main_arg2 (by decide +kernel), arg_kept m (s := r.2) h c main_arg3 (by decide +kernel), arg_kept m (s := r.2) h c main_arg4 (by decide +kernel), arg_kept m (s := r.2) h c main_arg5 (by decide +kernel), arg_kept m (s := r.2) h c main_arg6 (by decide +kernel), arg_kept m (s := r.2) h c main_arg7 (by decide +kernel), arg_kept m (s := r.2) h c main_arg8 (by decide +kernel), arg_kept m (s := r.2) h c main_arg9 (by decide +kernel), arg_kept m (s := r.2) h c main_arg10 (by decide +kernel), arg_kept m (s := r.2) h c main_arg11 (by decide +kernel), arg_kept m (s := r.2) h c main_arg12 (by decide +kernel), arg_kept m (s := r.2) h c main_arg13 (by decide +kernel), arg_kept m (s := r.2) h c main_arg14 (by decide +kernel), arg_kept m (s := r.2) h c main_arg15 (by decide +kernel), arg_kept m (s := r.2) h c main_arg16 (by decide +kernel), arg_kept m (s := r.2) h c main_arg17 (by decide +kernel), arg_kept m (s := r.2) h c main_arg18 (by decide +kernel), arg_kept m (s := r.2) h c main_arg19 (by decide +kernel), arg_kept m (s := r.2) h c main_arg20 (by decide +kernel), arg_kept m (s := r.2) h c main_arg21 (by decide +kernel)⟩

end Cert.RefFrame

end
-- ==== Proof.Spec.lean ====
/- What both programs compute, written once: the twenty steps of the recurrence over the encoded sequence, from the functions the
   precondition is printed with. -/
module

public import proofs.«01_k».proof.Proof.Gen.Pre_distinct
public import proofs.«01_k».proof.Proof.Gen.ReferenceIdeal
public import Idealize.ShloMosaic.PureOps.Ideal
public import Idealize.ShloMosaic.Lib.Pointwise

@[expose] public section

set_option maxRecDepth 16384

noncomputable section

namespace Cert.Spec

open Idealize.ShloMosaic Cert.Pre_distinct

/-- The recurrence's weights, and the memory every sequence starts with. -/
structure Weights where
  /-- the gates' weights on the step's input and the previous read -/
  wih : FVec Ideal S1024x384 .f32
  /-- the gates' weights on the previous hidden state -/
  whh : FVec Ideal S1024x256 .f32
  /-- the gates' bias -/
  b : FVec Ideal S1024 .f32
  /-- the key's weights -/
  key : FVec Ideal S256x256 .f32
  /-- the write vector's weights -/
  write : FVec Ideal S256x256 .f32
  /-- the erase vector's weights -/
  erase : FVec Ideal S256x256 .f32
  /-- the memory at the start -/
  mem : FVec Ideal S20x256 .f32

/-- What the recurrence carries: hidden state, cell state, last read, memory. -/
structure State where
  /-- hidden state -/
  h : FVec Ideal S512x256 .f32
  /-- cell state -/
  c : FVec Ideal S512x256 .f32
  /-- what the step before read from memory -/
  r : FVec Ideal S512x256 .f32
  /-- memory -/
  M : FVec Ideal S512x20x256 .f32

/-- The features of step `t`, one row per sequence. -/
def featAt (A : FVec Ideal S512x20x128 .f32) (t : Fin 20) : FVec Ideal S512x128 .f32 :=
  fun j => A (ix3 (j 0) t (j 1))

/-- The state before the first step: zeros, and the given memory for every sequence. -/
def start (w : Weights) : State where
  h := fun _ => (0 : EReal)
  c := fun _ => (0 : EReal)
  r := fun _ => (0 : EReal)
  M := fun j => w.mem (ix2 (j 1) (j 2))

/-- The hidden and cell states after one step on input `f`. -/
def cell (w : Weights) (f : FVec Ideal S512x128 .f32) (s : State) : FVec Ideal S512x256 .f32 × FVec Ideal S512x256 .f32 :=
  fn_lstm (F := Ideal) f s.h s.c s.r w.wih w.whh w.b

/-- The similarities of the step's key to the memory's rows. -/
def sims (w : Weights) (f : FVec Ideal S512x128 .f32) (s : State) : FVec Ideal S512x20 .f32 :=
  fn_similarity (F := Ideal) (cell w f s).1 s.M w.key

/-- One step. -/
def step (w : Weights) (f : FVec Ideal S512x128 .f32) (s : State) : State where
  h := (cell w f s).1
  c := (cell w f s).2
  r := fn_read (F := Ideal) (sims w f s) s.M
  M := fn_write (F := Ideal) (sims w f s) (cell w f s).1 s.M w.write w.erase

/-- The state after `k` steps, the sequence read cyclically. -/
def state (w : Weights) (A : FVec Ideal S512x20x128 .f32) : ℕ → State
  | 0 => start w
  | k + 1 => step w (featAt A ⟨k % 20, Nat.mod_lt _ (by decide)⟩) (state w A k)

/-- The encoded sequence, before normalisation. -/
def encoded (x : FVec Ideal S512x20x32x32 .f32) (w1 : FVec Ideal S32x1x4x4 .f32) (b1 : FVec Ideal S32 .f32)
    (w2 : FVec Ideal S32x32x4x4 .f32) (b2 : FVec Ideal S32 .f32) (w3 : FVec Ideal S32x32x4x4 .f32) (b3 : FVec Ideal S32 .f32)
    (f1 : FVec Ideal S256x512 .f32) (g1 : FVec Ideal S256 .f32) (f2 : FVec Ideal S128x256 .f32) (g2 : FVec Ideal S128 .f32) :
    FVec Ideal S512x20x128 .f32 :=
  fn_dense (F := Ideal)
    (fn_conv_relu_2 (F := Ideal)
      (fn_conv_relu_0 (F := Ideal)
        (fn_conv_relu (F := Ideal) (shapeCast S10240x1x32x32 x Facts.shapeCasts_S512x20x32x32_S10240x1x32x32) w1 b1) w2 b2) w3 b3)
    f1 g1 f2 g2

end Cert.Spec

namespace Cert.Spec

open Idealize.ShloMosaic Cert.ReferenceIdeal Cert.ReferenceIdeal.Gen Cert.ReferenceIdeal.Facts₀ Cert.ReferenceIdeal.Facts

/-- The prediction from the last hidden state and the last read. -/
def predict (h r : FVec Ideal S512x256 .f32) (ow : FVec Ideal S8x512 .f32) (ob : FVec Ideal S8 .f32) : FVec Ideal S512x8 .f32 :=
  addf (F := Ideal)
    (Host.dotGeneral (F := Ideal) dot_S512x512_S512x8_S512x8_1_0_0_1_n_n none
      (concatenate S512x512 1 [⟨S512x256, h⟩, ⟨S512x256, r⟩] Facts₀.concatenates_S512x256_S512x256_S512x512_d1)
      (transpose S512x8 [1, 0] ow Facts₀.transposes_S8x512_S512x8_1_0))
    (broadcastInDim S512x8 ![0, 1] Facts₀.bcast_S1x8_S512x8_0_1
      (broadcastInDim S1x8 ![1] Facts₀.bcast_S8_S1x8_1 ob))

/-- The index of a row's largest prediction. -/
def best (y : FVec Ideal S512x8 .f32) : IVec S512 32 :=
  fun j => (Host.argReduce (reducer_argmax_f32_i32 (F := Ideal)) y (iotaInDim S512x8 32 1)
    (constant S_ .f32 0xFF800000#32) (constantI S_ 32 0#32) Facts₀.reducesTo_S512x8_S512_d1
    Facts₀.h_S_ j).2

end Cert.Spec

end
-- ==== Proof.RefRead.lean ====
/- Each stretch of the reference's host operations, read as the function of the arrays it starts from. -/
module

public import proofs.«01_k».proof.Proof.Gen.ReferenceIdeal.Run
public import proofs.«01_k».proof.Proof.Spec

@[expose] public section

set_option maxRecDepth 16384

noncomputable section

namespace Cert.RefRead

open Idealize.ShloMosaic Idealize.ShloMosaic.TcCoe Idealize.ShloMosaic.StableHlo Idealize.SL.Sem
open Cert.ReferenceIdeal Cert.ReferenceIdeal.Gen Cert.ReferenceIdeal.Value
open Cert.Pre_distinct (fn_conv_relu fn_conv_relu_0 fn_conv_relu_2 fn_dense fn_normalize fn_lstm fn_similarity fn_read fn_write)

variable (V : Valuation τ sig (Elt Ideal))

/-- The frames, one image per row. -/
theorem frames : after hostOps0 V (Proc.devRef .tc main_v0) =
    shapeCast S10240x1x32x32 (V (Proc.devRef .tc main_arg0)) Cert.Pre_distinct.Facts.shapeCasts_S512x20x32x32_S10240x1x32x32 := by
  after_results
  rfl

/-- The first convolution. -/
theorem conv1 : after hostOps0_1 V (Proc.devRef .tc main_v1) =
    fn_conv_relu (F := Ideal) (V (Proc.devRef .tc main_v0)) (V (Proc.devRef .tc main_arg1)) (V (Proc.devRef .tc main_arg2)) := by
  after_results
  rfl

/-- The second convolution. -/
theorem conv2 : after hostOps0_2 V (Proc.devRef .tc main_v2) =
    fn_conv_relu_0 (F := Ideal) (V (Proc.devRef .tc main_v1)) (V (Proc.devRef .tc main_arg3)) (V (Proc.devRef .tc main_arg4)) := by
  after_results
  rfl

/-- The third convolution. -/
theorem conv3 : after hostOps0_3 V (Proc.devRef .tc main_v3) =
    fn_conv_relu_2 (F := Ideal) (V (Proc.devRef .tc main_v2)) (V (Proc.devRef .tc main_arg5)) (V (Proc.devRef .tc main_arg6)) := by
  after_results
  rfl

/-- The two dense layers. -/
theorem dense : after hostOps0_4 V (Proc.devRef .tc main_v4) =
    fn_dense (F := Ideal) (V (Proc.devRef .tc main_v3)) (V (Proc.devRef .tc main_arg7)) (V (Proc.devRef .tc main_arg8))
      (V (Proc.devRef .tc main_arg9)) (V (Proc.devRef .tc main_arg10)) := by
  after_results
  rfl

/-- The normalisation over the sequence. -/
theorem normalized : after hostOps0_5 V (Proc.devRef .tc main_v5) =
    fn_normalize (F := Ideal) (V (Proc.devRef .tc main_v4)) (V (Proc.devRef .tc main_arg11)) (V (Proc.devRef .tc main_arg12)) := by
  after_results
  rfl

/-- The gates, hidden state. -/
theorem lstm_h : after while0Ops0_1 V (Proc.devRef .tc main_while0b_v24_0) =
    (fn_lstm (F := Ideal) (V (Proc.devRef .tc main_while0b_v23)) (V (Proc.devRef .tc main_v9_9)) (V (Proc.devRef .tc main_v9_10))
      (V (Proc.devRef .tc main_v9_11)) (V (Proc.devRef .tc main_v9_1)) (V (Proc.devRef .tc main_v9_2))
      (V (Proc.devRef .tc main_v9_3))).1 := by
  after_results
  rfl

/-- The gates, cell state. -/
theorem lstm_c : after while0Ops0_1 V (Proc.devRef .tc main_while0b_v24_1) =
    (fn_lstm (F := Ideal) (V (Proc.devRef .tc main_while0b_v23)) (V (Proc.devRef .tc main_v9_9)) (V (Proc.devRef .tc main_v9_10))
      (V (Proc.devRef .tc main_v9_11)) (V (Proc.devRef .tc main_v9_1)) (V (Proc.devRef .tc main_v9_2))
      (V (Proc.devRef .tc main_v9_3))).2 := by
  after_results
  rfl

/-- The similarities. -/
theorem similarity : after while0Ops0_2 V (Proc.devRef .tc main_while0b_v25) =
    fn_similarity (F := Ideal) (V (Proc.devRef .tc main_while0b_v24_0)) (V (Proc.devRef .tc main_v9_12))
      (V (Proc.devRef .tc main_v9_4)) := by
  after_results
  rfl

attribute [local irreducible] Host.topK Host.gather in
/-- What is read from memory. -/
theorem read : after while0Ops0_3 V (Proc.devRef .tc main_while0b_v26) =
    fn_read (F := Ideal) (V (Proc.devRef .tc main_while0b_v25)) (V (Proc.devRef .tc main_v9_12)) := by
  after_results
  rfl

/-- The memory written. -/
theorem write : after while0Ops0_4 V (Proc.devRef .tc main_while0b_v27) =
    fn_write (F := Ideal) (V (Proc.devRef .tc main_while0b_v25)) (V (Proc.devRef .tc main_while0b_v24_0))
      (V (Proc.devRef .tc main_v9_12)) (V (Proc.devRef .tc main_v9_5)) (V (Proc.devRef .tc main_v9_6)) := by
  after_results
  rfl

/-- The prediction. -/
theorem predicted : after hostOps0_7 V (Proc.devRef .tc main_v15) =
    Cert.Spec.predict (V (Proc.devRef .tc main_v9_9)) (V (Proc.devRef .tc main_v9_11)) (V (Proc.devRef .tc main_arg19))
      (V (Proc.devRef .tc main_arg20)) := by
  after_results
  rfl

/-- The predicted class. -/
theorem class_ : after hostOps0_8 V (Proc.devRef .tc main_v16) = Cert.Spec.best (V (Proc.devRef .tc main_v15)) := by
  after_results
  rfl

end Cert.RefRead

end
-- ==== Proof.RefState.lean ====
/- The reference's loop, run: what its carried arrays hold before each trip is the recurrence's state, and its two results are the
   prediction and the class from the state after twenty steps. -/
module

public import proofs.«01_k».proof.Proof.RefRead
public import Idealize.ShloMosaic.Lib.DynamicIndex
public import Idealize.ShloMosaic.Lib.Pointwise

@[expose] public section

set_option maxRecDepth 16384

noncomputable section

namespace Cert.RefState

open Idealize.ShloMosaic Idealize.ShloMosaic.TcCoe Idealize.ShloMosaic.StableHlo Idealize.SL.Sem
open Cert.ReferenceIdeal Cert.ReferenceIdeal.Gen Cert.ReferenceIdeal.Value
open Cert.Spec (Weights State)

/-- The carried arrays at contents `V` before step `k`: the sequence `A`, the weights `w`, the step's number and the state `s`. -/
structure At (V : Valuation τ sig (Elt Ideal)) (A : FVec Ideal Cert.Pre_distinct.S512x20x128 .f32) (w : Weights) (k : ℕ) (s : State) :
    Prop where
  seq : V (Proc.devRef .tc main_v9_0) = A
  wih : V (Proc.devRef .tc main_v9_1) = w.wih
  whh : V (Proc.devRef .tc main_v9_2) = w.whh
  b : V (Proc.devRef .tc main_v9_3) = w.b
  key : V (Proc.devRef .tc main_v9_4) = w.key
  write : V (Proc.devRef .tc main_v9_5) = w.write
  erase : V (Proc.devRef .tc main_v9_6) = w.erase
  num : V (Proc.devRef .tc main_v9_8) = fun _ => BitVec.ofNat 32 k
  h : V (Proc.devRef .tc main_v9_9) = s.h
  c : V (Proc.devRef .tc main_v9_10) = s.c
  r : V (Proc.devRef .tc main_v9_11) = s.r
  M : V (Proc.devRef .tc main_v9_12) = s.M

/-- The step's input, sliced out of the sequence. -/
theorem input (V : Valuation τ sig (Elt Ideal)) (k : Fin 20) (A : FVec Ideal Cert.Pre_distinct.S512x20x128 .f32)
    (hA : V (Proc.devRef .tc main_v9_0) = A) (hk : V (Proc.devRef .tc main_v9_8) = fun _ => BitVec.ofNat 32 k.val) :
    after while0Ops0 V (Proc.devRef .tc main_while0b_v23) = Cert.Spec.featAt A k := by
  after_results_simp
  have e0 : after (while0Ops0.take 10) V (Proc.devRef .tc main_while0b_c_16) = fun _ => 0#32 := by
    simp only [List.take]
    after_results
    rfl
  have e2 : after (while0Ops0.take 10) V (Proc.devRef .tc main_while0b_c_17) = fun _ => 0#32 := by
    simp only [List.take]
    after_results
    rfl
  have e1 : after (while0Ops0.take 10) V (Proc.devRef .tc main_while0b_v21) = fun _ => BitVec.ofNat 32 k.val := by
    simp only [List.take]
    after_results
    rw [hk]
    funext j
    show (Scalar.select (IntOp.cmpi .slt (BitVec.ofNat 32 k.val) 0#32) (BitVec.ofNat 32 k.val + 20#32) (BitVec.ofNat 32 k.val)) = _
    clear hk e0 e2
    revert k; decide
  have hty : ∀ q : Fin 3, (Proc.tc.devRef (![main_while0b_c_16, main_while0b_v21, main_while0b_c_17] q) : DevRef τ sig).ty.Contents (Elt Ideal)
      = (S_.Idx → BitVec 32) := fun q => match q with
    | 0 => rfl | 1 => rfl | 2 => rfl
  have e : ∀ (q : Fin 3),
      (cast (hty q) ((after (while0Ops0.take 10) V) (Proc.devRef .tc (![main_while0b_c_16, main_while0b_v21, main_while0b_c_17] q))) :
        S_.Idx → BitVec 32) (Shape.Idx.first h_S_) = ![0#32, BitVec.ofNat 32 k.val, 0#32] q := fun q => match q with
    | 0 => congrFun e0 (Shape.Idx.first h_S_)
    | 1 => congrFun e1 (Shape.Idx.first h_S_)
    | 2 => congrFun e2 (Shape.Idx.first h_S_)
  funext j
  rw [hA]
  refine Eq.trans (congrArg (fun (st : Fin 3 → BitVec 32) => shapeCast S512x128 (Host.dynamicSlice S512x1x128 A (fun q => (st q).toInt) sliceFits_S512x20x128_S512x1x128) shapeCasts_S512x1x128_S512x128 j) (funext e)) ?_
  dsimp only
  have hfit : Shape.Slices Cert.ReferenceIdeal.S512x20x128 ![0, k.val, 0] Cert.ReferenceIdeal.S512x1x128 := by
    clear hk e0 e1 e2 e
    revert k; decide
  have hst : ∀ a : Fin 3, (![0#32, BitVec.ofNat 32 k.val, 0#32] a).toInt = ((![0, k.val, 0] a : ℕ) : Int) := by
    clear hk e0 e1 e2 e hfit
    revert k; decide
  rw [Host.dynamicSlice_eq_extractStridedSlice Cert.ReferenceIdeal.S512x1x128 A _ ![0, k.val, 0] sliceFits_S512x20x128_S512x1x128 hfit hst]
  suffices hs : shapeCast Cert.ReferenceIdeal.S512x128 (extractStridedSlice Cert.ReferenceIdeal.S512x1x128 ![0, k.val, 0] A hfit)
      shapeCasts_S512x1x128_S512x128 = Cert.Spec.featAt A k from congrFun hs j
  clear hA hk e0 e1 e2 e
  funext j
  idx_vars j
  pointwise [Cert.Spec.featAt]

/-- The next step's number. -/
theorem number (V : Valuation τ sig (Elt Ideal)) (k : ℕ) (hk : V (Proc.devRef .tc main_v9_8) = fun _ => BitVec.ofNat 32 k) :
    after while0Ops0 V (Proc.devRef .tc main_while0b_v17) = fun _ => BitVec.ofNat 32 (k + 1) := by
  after_results
  rw [hk]
  funext j
  show BitVec.ofNat 32 k + 1#32 = _
  exact (BitVec.ofNat_add ..).symm

/-- The last stretch copies `main_while0b_v17` back. -/
theorem back_main_v9_8 (V : Valuation τ sig (Elt Ideal)) :
    after while0Ops0_5 V (Proc.devRef .tc main_v9_8) = V (Proc.devRef .tc main_while0b_v17) := by
  after_results
  rfl

/-- The last stretch copies `main_while0b_v24_0` back. -/
theorem back_main_v9_9 (V : Valuation τ sig (Elt Ideal)) :
    after while0Ops0_5 V (Proc.devRef .tc main_v9_9) = V (Proc.devRef .tc main_while0b_v24_0) := by
  after_results
  rfl

/-- The last stretch copies `main_while0b_v24_1` back. -/
theorem back_main_v9_10 (V : Valuation τ sig (Elt Ideal)) :
    after while0Ops0_5 V (Proc.devRef .tc main_v9_10) = V (Proc.devRef .tc main_while0b_v24_1) := by
  after_results
  rfl

/-- The last stretch copies `main_while0b_v26` back. -/
theorem back_main_v9_11 (V : Valuation τ sig (Elt Ideal)) :
    after while0Ops0_5 V (Proc.devRef .tc main_v9_11) = V (Proc.devRef .tc main_while0b_v26) := by
  after_results
  rfl

/-- The last stretch copies `main_while0b_v27` back. -/
theorem back_main_v9_12 (V : Valuation τ sig (Elt Ideal)) :
    after while0Ops0_5 V (Proc.devRef .tc main_v9_12) = V (Proc.devRef .tc main_while0b_v27) := by
  after_results
  rfl

/-- One trip's body takes the carried arrays from one state to the next. -/
theorem At.step {V : Valuation τ sig (Elt Ideal)} {A : FVec Ideal Cert.Pre_distinct.S512x20x128 .f32} {w : Weights} {s : State} (k : Fin 20)
    (H : At V A w k.val s) : At (afterL bodyI V) A w (k.val + 1) (Cert.Spec.step w (Cert.Spec.featAt A k) s) := by
  simp only [afterL_cons, afterL_nil]
  have f1 : (after while0Ops0 V) (Proc.devRef .tc main_while0b_v23) = Cert.Spec.featAt A k := by
    exact input V k A H.seq H.num
  have g_h : (after while0Ops0 V) (Proc.devRef .tc main_v9_9) = s.h := by
    rw [after_of_writes_sub while0Ops0 _ while0Ops0_writes (show main_v9_9 ∉ while0Ops0_W by decide +kernel)]; exact H.h
  have g_c : (after while0Ops0 V) (Proc.devRef .tc main_v9_10) = s.c := by
    rw [after_of_writes_sub while0Ops0 _ while0Ops0_writes (show main_v9_10 ∉ while0Ops0_W by decide +kernel)]; exact H.c
  have g_r : (after while0Ops0 V) (Proc.devRef .tc main_v9_11) = s.r := by
    rw [after_of_writes_sub while0Ops0 _ while0Ops0_writes (show main_v9_11 ∉ while0Ops0_W by decide +kernel)]; exact H.r
  have g_wih : (after while0Ops0 V) (Proc.devRef .tc main_v9_1) = w.wih := by
    rw [after_of_writes_sub while0Ops0 _ while0Ops0_writes (show main_v9_1 ∉ while0Ops0_W by decide +kernel)]; exact H.wih
  have g_whh : (after while0Ops0 V) (Proc.devRef .tc main_v9_2) = w.whh := by
    rw [after_of_writes_sub while0Ops0 _ while0Ops0_writes (show main_v9_2 ∉ while0Ops0_W by decide +kernel)]; exact H.whh
  have g_b : (after while0Ops0 V) (Proc.devRef .tc main_v9_3) = w.b := by
    rw [after_of_writes_sub while0Ops0 _ while0Ops0_writes (show main_v9_3 ∉ while0Ops0_W by decide +kernel)]; exact H.b
  have hh : (after while0Ops0_1 (after while0Ops0 V)) (Proc.devRef .tc main_while0b_v24_0) = (Cert.Spec.cell w (Cert.Spec.featAt A k) s).1 := by
    rw [RefRead.lstm_h, f1, g_h, g_c, g_r, g_wih, g_whh, g_b]; rfl
  have hc : (after while0Ops0_1 (after while0Ops0 V)) (Proc.devRef .tc main_while0b_v24_1) = (Cert.Spec.cell w (Cert.Spec.featAt A k) s).2 := by
    rw [RefRead.lstm_c, f1, g_h, g_c, g_r, g_wih, g_whh, g_b]; rfl
  have m2 : (after while0Ops0_1 (after while0Ops0 V)) (Proc.devRef .tc main_v9_12) = s.M := by
    rw [after_of_writes_sub while0Ops0_1 _ while0Ops0_1_writes (show main_v9_12 ∉ while0Ops0_1_W by decide +kernel), after_of_writes_sub while0Ops0 _ while0Ops0_writes (show main_v9_12 ∉ while0Ops0_W by decide +kernel)]; exact H.M
  have k2 : (after while0Ops0_1 (after while0Ops0 V)) (Proc.devRef .tc main_v9_4) = w.key := by
    rw [after_of_writes_sub while0Ops0_1 _ while0Ops0_1_writes (show main_v9_4 ∉ while0Ops0_1_W by decide +kernel), after_of_writes_sub while0Ops0 _ while0Ops0_writes (show main_v9_4 ∉ while0Ops0_W by decide +kernel)]; exact H.key
  have sm : (after while0Ops0_2 (after while0Ops0_1 (after while0Ops0 V))) (Proc.devRef .tc main_while0b_v25) = (Cert.Spec.sims w (Cert.Spec.featAt A k) s) := by
    rw [RefRead.similarity, hh, m2, k2]; rfl
  have m3 : (after while0Ops0_2 (after while0Ops0_1 (after while0Ops0 V))) (Proc.devRef .tc main_v9_12) = s.M := by
    rw [after_of_writes_sub while0Ops0_2 _ while0Ops0_2_writes (show main_v9_12 ∉ while0Ops0_2_W by decide +kernel), after_of_writes_sub while0Ops0_1 _ while0Ops0_1_writes (show main_v9_12 ∉ while0Ops0_1_W by decide +kernel), after_of_writes_sub while0Ops0 _ while0Ops0_writes (show main_v9_12 ∉ while0Ops0_W by decide +kernel)]; exact H.M
  have rd : (after while0Ops0_3 (after while0Ops0_2 (after while0Ops0_1 (after while0Ops0 V)))) (Proc.devRef .tc main_while0b_v26) = Cert.Pre_distinct.fn_read (F := Ideal) (Cert.Spec.sims w (Cert.Spec.featAt A k) s) s.M := by
    rw [RefRead.read, sm, m3]
  have sm4 : (after while0Ops0_3 (after while0Ops0_2 (after while0Ops0_1 (after while0Ops0 V)))) (Proc.devRef .tc main_while0b_v25) = (Cert.Spec.sims w (Cert.Spec.featAt A k) s) := by
    rw [after_of_writes_sub while0Ops0_3 _ while0Ops0_3_writes (show main_while0b_v25 ∉ while0Ops0_3_W by decide +kernel)]; exact sm
  have hh4 : (after while0Ops0_3 (after while0Ops0_2 (after while0Ops0_1 (after while0Ops0 V)))) (Proc.devRef .tc main_while0b_v24_0) = (Cert.Spec.cell w (Cert.Spec.featAt A k) s).1 := by
    rw [after_of_writes_sub while0Ops0_3 _ while0Ops0_3_writes (show main_while0b_v24_0 ∉ while0Ops0_3_W by decide +kernel), after_of_writes_sub while0Ops0_2 _ while0Ops0_2_writes (show main_while0b_v24_0 ∉ while0Ops0_2_W by decide +kernel)]; exact hh
  have m4 : (after while0Ops0_3 (after while0Ops0_2 (after while0Ops0_1 (after while0Ops0 V)))) (Proc.devRef .tc main_v9_12) = s.M := by
    rw [after_of_writes_sub while0Ops0_3 _ while0Ops0_3_writes (show main_v9_12 ∉ while0Ops0_3_W by decide +kernel), after_of_writes_sub while0Ops0_2 _ while0Ops0_2_writes (show main_v9_12 ∉ while0Ops0_2_W by decide +kernel), after_of_writes_sub while0Ops0_1 _ while0Ops0_1_writes (show main_v9_12 ∉ while0Ops0_1_W by decide +kernel), after_of_writes_sub while0Ops0 _ while0Ops0_writes (show main_v9_12 ∉ while0Ops0_W by decide +kernel)]; exact H.M
  have w4 : (after while0Ops0_3 (after while0Ops0_2 (after while0Ops0_1 (after while0Ops0 V)))) (Proc.devRef .tc main_v9_5) = w.write := by
    rw [after_of_writes_sub while0Ops0_3 _ while0Ops0_3_writes (show main_v9_5 ∉ while0Ops0_3_W by decide +kernel), after_of_writes_sub while0Ops0_2 _ while0Ops0_2_writes (show main_v9_5 ∉ while0Ops0_2_W by decide +kernel), after_of_writes_sub while0Ops0_1 _ while0Ops0_1_writes (show main_v9_5 ∉ while0Ops0_1_W by decide +kernel), after_of_writes_sub while0Ops0 _ while0Ops0_writes (show main_v9_5 ∉ while0Ops0_W by decide +kernel)]; exact H.write
  have e4 : (after while0Ops0_3 (after while0Ops0_2 (after while0Ops0_1 (after while0Ops0 V)))) (Proc.devRef .tc main_v9_6) = w.erase := by
    rw [after_of_writes_sub while0Ops0_3 _ while0Ops0_3_writes (show main_v9_6 ∉ while0Ops0_3_W by decide +kernel), after_of_writes_sub while0Ops0_2 _ while0Ops0_2_writes (show main_v9_6 ∉ while0Ops0_2_W by decide +kernel), after_of_writes_sub while0Ops0_1 _ while0Ops0_1_writes (show main_v9_6 ∉ while0Ops0_1_W by decide +kernel), after_of_writes_sub while0Ops0 _ while0Ops0_writes (show main_v9_6 ∉ while0Ops0_W by decide +kernel)]; exact H.erase
  have wr : (after while0Ops0_4 (after while0Ops0_3 (after while0Ops0_2 (after while0Ops0_1 (after while0Ops0 V))))) (Proc.devRef .tc main_while0b_v27) = Cert.Pre_distinct.fn_write (F := Ideal) (Cert.Spec.sims w (Cert.Spec.featAt A k) s) (Cert.Spec.cell w (Cert.Spec.featAt A k) s).1 s.M w.write w.erase := by
    rw [RefRead.write, sm4, hh4, m4, w4, e4]
  refine ⟨?_, ?_, ?_, ?_, ?_, ?_, ?_, ?_, ?_, ?_, ?_, ?_⟩
  · rw [after_of_writes_sub while0Ops0_5 _ while0Ops0_5_writes (show main_v9_0 ∉ while0Ops0_5_W by decide +kernel), after_of_writes_sub while0Ops0_4 _ while0Ops0_4_writes (show main_v9_0 ∉ while0Ops0_4_W by decide +kernel), after_of_writes_sub while0Ops0_3 _ while0Ops0_3_writes (show main_v9_0 ∉ while0Ops0_3_W by decide +kernel), after_of_writes_sub while0Ops0_2 _ while0Ops0_2_writes (show main_v9_0 ∉ while0Ops0_2_W by decide +kernel), after_of_writes_sub while0Ops0_1 _ while0Ops0_1_writes (show main_v9_0 ∉ while0Ops0_1_W by decide +kernel), after_of_writes_sub while0Ops0 _ while0Ops0_writes (show main_v9_0 ∉ while0Ops0_W by decide +kernel)]; exact H.seq
  · rw [after_of_writes_sub while0Ops0_5 _ while0Ops0_5_writes (show main_v9_1 ∉ while0Ops0_5_W by decide +kernel), after_of_writes_sub while0Ops0_4 _ while0Ops0_4_writes (show main_v9_1 ∉ while0Ops0_4_W by decide +kernel), after_of_writes_sub while0Ops0_3 _ while0Ops0_3_writes (show main_v9_1 ∉ while0Ops0_3_W by decide +kernel), after_of_writes_sub while0Ops0_2 _ while0Ops0_2_writes (show main_v9_1 ∉ while0Ops0_2_W by decide +kernel), after_of_writes_sub while0Ops0_1 _ while0Ops0_1_writes (show main_v9_1 ∉ while0Ops0_1_W by decide +kernel), after_of_writes_sub while0Ops0 _ while0Ops0_writes (show main_v9_1 ∉ while0Ops0_W by decide +kernel)]; exact H.wih
  · rw [after_of_writes_sub while0Ops0_5 _ while0Ops0_5_writes (show main_v9_2 ∉ while0Ops0_5_W by decide +kernel), after_of_writes_sub while0Ops0_4 _ while0Ops0_4_writes (show main_v9_2 ∉ while0Ops0_4_W by decide +kernel), after_of_writes_sub while0Ops0_3 _ while0Ops0_3_writes (show main_v9_2 ∉ while0Ops0_3_W by decide +kernel), after_of_writes_sub while0Ops0_2 _ while0Ops0_2_writes (show main_v9_2 ∉ while0Ops0_2_W by decide +kernel), after_of_writes_sub while0Ops0_1 _ while0Ops0_1_writes (show main_v9_2 ∉ while0Ops0_1_W by decide +kernel), after_of_writes_sub while0Ops0 _ while0Ops0_writes (show main_v9_2 ∉ while0Ops0_W by decide +kernel)]; exact H.whh
  · rw [after_of_writes_sub while0Ops0_5 _ while0Ops0_5_writes (show main_v9_3 ∉ while0Ops0_5_W by decide +kernel), after_of_writes_sub while0Ops0_4 _ while0Ops0_4_writes (show main_v9_3 ∉ while0Ops0_4_W by decide +kernel), after_of_writes_sub while0Ops0_3 _ while0Ops0_3_writes (show main_v9_3 ∉ while0Ops0_3_W by decide +kernel), after_of_writes_sub while0Ops0_2 _ while0Ops0_2_writes (show main_v9_3 ∉ while0Ops0_2_W by decide +kernel), after_of_writes_sub while0Ops0_1 _ while0Ops0_1_writes (show main_v9_3 ∉ while0Ops0_1_W by decide +kernel), after_of_writes_sub while0Ops0 _ while0Ops0_writes (show main_v9_3 ∉ while0Ops0_W by decide +kernel)]; exact H.b
  · rw [after_of_writes_sub while0Ops0_5 _ while0Ops0_5_writes (show main_v9_4 ∉ while0Ops0_5_W by decide +kernel), after_of_writes_sub while0Ops0_4 _ while0Ops0_4_writes (show main_v9_4 ∉ while0Ops0_4_W by decide +kernel), after_of_writes_sub while0Ops0_3 _ while0Ops0_3_writes (show main_v9_4 ∉ while0Ops0_3_W by decide +kernel), after_of_writes_sub while0Ops0_2 _ while0Ops0_2_writes (show main_v9_4 ∉ while0Ops0_2_W by decide +kernel), after_of_writes_sub while0Ops0_1 _ while0Ops0_1_writes (show main_v9_4 ∉ while0Ops0_1_W by decide +kernel), after_of_writes_sub while0Ops0 _ while0Ops0_writes (show main_v9_4 ∉ while0Ops0_W by decide +kernel)]; exact H.key
  · rw [after_of_writes_sub while0Ops0_5 _ while0Ops0_5_writes (show main_v9_5 ∉ while0Ops0_5_W by decide +kernel), after_of_writes_sub while0Ops0_4 _ while0Ops0_4_writes (show main_v9_5 ∉ while0Ops0_4_W by decide +kernel), after_of_writes_sub while0Ops0_3 _ while0Ops0_3_writes (show main_v9_5 ∉ while0Ops0_3_W by decide +kernel), after_of_writes_sub while0Ops0_2 _ while0Ops0_2_writes (show main_v9_5 ∉ while0Ops0_2_W by decide +kernel), after_of_writes_sub while0Ops0_1 _ while0Ops0_1_writes (show main_v9_5 ∉ while0Ops0_1_W by decide +kernel), after_of_writes_sub while0Ops0 _ while0Ops0_writes (show main_v9_5 ∉ while0Ops0_W by decide +kernel)]; exact H.write
  · rw [after_of_writes_sub while0Ops0_5 _ while0Ops0_5_writes (show main_v9_6 ∉ while0Ops0_5_W by decide +kernel), after_of_writes_sub while0Ops0_4 _ while0Ops0_4_writes (show main_v9_6 ∉ while0Ops0_4_W by decide +kernel), after_of_writes_sub while0Ops0_3 _ while0Ops0_3_writes (show main_v9_6 ∉ while0Ops0_3_W by decide +kernel), after_of_writes_sub while0Ops0_2 _ while0Ops0_2_writes (show main_v9_6 ∉ while0Ops0_2_W by decide +kernel), after_of_writes_sub while0Ops0_1 _ while0Ops0_1_writes (show main_v9_6 ∉ while0Ops0_1_W by decide +kernel), after_of_writes_sub while0Ops0 _ while0Ops0_writes (show main_v9_6 ∉ while0Ops0_W by decide +kernel)]; exact H.erase
  · rw [back_main_v9_8, after_of_writes_sub while0Ops0_4 _ while0Ops0_4_writes (show main_while0b_v17 ∉ while0Ops0_4_W by decide +kernel), after_of_writes_sub while0Ops0_3 _ while0Ops0_3_writes (show main_while0b_v17 ∉ while0Ops0_3_W by decide +kernel), after_of_writes_sub while0Ops0_2 _ while0Ops0_2_writes (show main_while0b_v17 ∉ while0Ops0_2_W by decide +kernel), after_of_writes_sub while0Ops0_1 _ while0Ops0_1_writes (show main_while0b_v17 ∉ while0Ops0_1_W by decide +kernel)]; exact number V k.val H.num
  · rw [back_main_v9_9, after_of_writes_sub while0Ops0_4 _ while0Ops0_4_writes (show main_while0b_v24_0 ∉ while0Ops0_4_W by decide +kernel), after_of_writes_sub while0Ops0_3 _ while0Ops0_3_writes (show main_while0b_v24_0 ∉ while0Ops0_3_W by decide +kernel), after_of_writes_sub while0Ops0_2 _ while0Ops0_2_writes (show main_while0b_v24_0 ∉ while0Ops0_2_W by decide +kernel)]; exact hh
  · rw [back_main_v9_10, after_of_writes_sub while0Ops0_4 _ while0Ops0_4_writes (show main_while0b_v24_1 ∉ while0Ops0_4_W by decide +kernel), after_of_writes_sub while0Ops0_3 _ while0Ops0_3_writes (show main_while0b_v24_1 ∉ while0Ops0_3_W by decide +kernel), after_of_writes_sub while0Ops0_2 _ while0Ops0_2_writes (show main_while0b_v24_1 ∉ while0Ops0_2_W by decide +kernel)]; exact hc
  · rw [back_main_v9_11, after_of_writes_sub while0Ops0_4 _ while0Ops0_4_writes (show main_while0b_v26 ∉ while0Ops0_4_W by decide +kernel)]; exact rd
  · rw [back_main_v9_12]; exact wr

end Cert.RefState

end
-- ==== Proof.RefFinal.lean ====
/- The reference's run: its two results are the prediction and its class, from the recurrence's state after twenty steps on the
   normalised encoded sequence. -/
module

public import proofs.«01_k».proof.Proof.RefState

@[expose] public section

set_option maxRecDepth 16384

noncomputable section

namespace Cert.RefFinal

open Idealize.ShloMosaic Idealize.ShloMosaic.TcCoe Idealize.ShloMosaic.StableHlo Idealize.SL.Sem
open Cert.ReferenceIdeal Cert.ReferenceIdeal.Gen Cert.ReferenceIdeal.Value
open Cert.Spec (Weights State)
open Cert.RefState (At)

/-- The recurrence's weights at contents `V`. -/
def weights (V : Valuation τ sig (Elt Ideal)) : Weights where
  wih := V (Proc.devRef .tc main_arg13)
  whh := V (Proc.devRef .tc main_arg14)
  b := V (Proc.devRef .tc main_arg15)
  key := V (Proc.devRef .tc main_arg16)
  write := V (Proc.devRef .tc main_arg17)
  erase := V (Proc.devRef .tc main_arg18)
  mem := V (Proc.devRef .tc main_arg21)

/-- The normalised encoded sequence at contents `V`. -/
def features (V : Valuation τ sig (Elt Ideal)) : FVec Ideal Cert.Pre_distinct.S512x20x128 .f32 :=
  Cert.Pre_distinct.fn_normalize (F := Ideal)
    (Cert.Spec.encoded (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
      (V (Proc.devRef .tc main_arg7)) (V (Proc.devRef .tc main_arg8)) (V (Proc.devRef .tc main_arg9)) (V (Proc.devRef .tc main_arg10)))
    (V (Proc.devRef .tc main_arg11)) (V (Proc.devRef .tc main_arg12))

/-- The six stretches before the loop's set-up leave the normalised encoded sequence. -/
theorem encoded_sequence (V : Valuation τ sig (Elt Ideal)) :
    after hostOps0_5 (after hostOps0_4 (after hostOps0_3 (after hostOps0_2 (after hostOps0_1 (after hostOps0 V)))))
      (Proc.devRef .tc main_v5) = features V := by
  rw [RefRead.normalized, RefRead.dense, RefRead.conv3, RefRead.conv2, RefRead.conv1, RefRead.frames]
  have e1 : (after hostOps0 V) (Proc.devRef .tc main_arg1) = V (Proc.devRef .tc main_arg1) := by
    rw [after_of_writes_sub hostOps0 _ hostOps0_writes (show main_arg1 ∉ hostOps0_W by decide +kernel)]
  have e2 : (after hostOps0 V) (Proc.devRef .tc main_arg2) = V (Proc.devRef .tc main_arg2) := by
    rw [after_of_writes_sub hostOps0 _ hostOps0_writes (show main_arg2 ∉ hostOps0_W by decide +kernel)]
  have e3 : (after hostOps0_1 (after hostOps0 V)) (Proc.devRef .tc main_arg3) = V (Proc.devRef .tc main_arg3) := by
    rw [after_of_writes_sub hostOps0_1 _ hostOps0_1_writes (show main_arg3 ∉ hostOps0_1_W by decide +kernel), after_of_writes_sub hostOps0 _ hostOps0_writes (show main_arg3 ∉ hostOps0_W by decide +kernel)]
  have e4 : (after hostOps0_1 (after hostOps0 V)) (Proc.devRef .tc main_arg4) = V (Proc.devRef .tc main_arg4) := by
    rw [after_of_writes_sub hostOps0_1 _ hostOps0_1_writes (show main_arg4 ∉ hostOps0_1_W by decide +kernel), after_of_writes_sub hostOps0 _ hostOps0_writes (show main_arg4 ∉ hostOps0_W by decide +kernel)]
  have e5 : (after hostOps0_2 (after hostOps0_1 (after hostOps0 V))) (Proc.devRef .tc main_arg5) = V (Proc.devRef .tc main_arg5) := by
    rw [after_of_writes_sub hostOps0_2 _ hostOps0_2_writes (show main_arg5 ∉ hostOps0_2_W by decide +kernel), after_of_writes_sub hostOps0_1 _ hostOps0_1_writes (show main_arg5 ∉ hostOps0_1_W by decide +kernel), after_of_writes_sub hostOps0 _ hostOps0_writes (show main_arg5 ∉ hostOps0_W by decide +kernel)]
  have e6 : (after hostOps0_2 (after hostOps0_1 (after hostOps0 V))) (Proc.devRef .tc main_arg6) = V (Proc.devRef .tc main_arg6) := by
    rw [after_of_writes_sub hostOps0_2 _ hostOps0_2_writes (show main_arg6 ∉ hostOps0_2_W by decide +kernel), after_of_writes_sub hostOps0_1 _ hostOps0_1_writes (show main_arg6 ∉ hostOps0_1_W by decide +kernel), after_of_writes_sub hostOps0 _ hostOps0_writes (show main_arg6 ∉ hostOps0_W by decide +kernel)]
  have e7 : (after hostOps0_3 (after hostOps0_2 (after hostOps0_1 (after hostOps0 V)))) (Proc.devRef .tc main_arg7) = V (Proc.devRef .tc main_arg7) := by
    rw [after_of_writes_sub hostOps0_3 _ hostOps0_3_writes (show main_arg7 ∉ hostOps0_3_W by decide +kernel), after_of_writes_sub hostOps0_2 _ hostOps0_2_writes (show main_arg7 ∉ hostOps0_2_W by decide +kernel), after_of_writes_sub hostOps0_1 _ hostOps0_1_writes (show main_arg7 ∉ hostOps0_1_W by decide +kernel), after_of_writes_sub hostOps0 _ hostOps0_writes (show main_arg7 ∉ hostOps0_W by decide +kernel)]
  have e8 : (after hostOps0_3 (after hostOps0_2 (after hostOps0_1 (after hostOps0 V)))) (Proc.devRef .tc main_arg8) = V (Proc.devRef .tc main_arg8) := by
    rw [after_of_writes_sub hostOps0_3 _ hostOps0_3_writes (show main_arg8 ∉ hostOps0_3_W by decide +kernel), after_of_writes_sub hostOps0_2 _ hostOps0_2_writes (show main_arg8 ∉ hostOps0_2_W by decide +kernel), after_of_writes_sub hostOps0_1 _ hostOps0_1_writes (show main_arg8 ∉ hostOps0_1_W by decide +kernel), after_of_writes_sub hostOps0 _ hostOps0_writes (show main_arg8 ∉ hostOps0_W by decide +kernel)]
  have e9 : (after hostOps0_3 (after hostOps0_2 (after hostOps0_1 (after hostOps0 V)))) (Proc.devRef .tc main_arg9) = V (Proc.devRef .tc main_arg9) := by
    rw [after_of_writes_sub hostOps0_3 _ hostOps0_3_writes (show main_arg9 ∉ hostOps0_3_W by decide +kernel), after_of_writes_sub hostOps0_2 _ hostOps0_2_writes (show main_arg9 ∉ hostOps0_2_W by decide +kernel), after_of_writes_sub hostOps0_1 _ hostOps0_1_writes (show main_arg9 ∉ hostOps0_1_W by decide +kernel), after_of_writes_sub hostOps0 _ hostOps0_writes (show main_arg9 ∉ hostOps0_W by decide +kernel)]
  have e10 : (after hostOps0_3 (after hostOps0_2 (after hostOps0_1 (after hostOps0 V)))) (Proc.devRef .tc main_arg10) = V (Proc.devRef .tc main_arg10) := by
    rw [after_of_writes_sub hostOps0_3 _ hostOps0_3_writes (show main_arg10 ∉ hostOps0_3_W by decide +kernel), after_of_writes_sub hostOps0_2 _ hostOps0_2_writes (show main_arg10 ∉ hostOps0_2_W by decide +kernel), after_of_writes_sub hostOps0_1 _ hostOps0_1_writes (show main_arg10 ∉ hostOps0_1_W by decide +kernel), after_of_writes_sub hostOps0 _ hostOps0_writes (show main_arg10 ∉ hostOps0_W by decide +kernel)]
  have e11 : (after hostOps0_4 (after hostOps0_3 (after hostOps0_2 (after hostOps0_1 (after hostOps0 V))))) (Proc.devRef .tc main_arg11) = V (Proc.devRef .tc main_arg11) := by
    rw [after_of_writes_sub hostOps0_4 _ hostOps0_4_writes (show main_arg11 ∉ hostOps0_4_W by decide +kernel), after_of_writes_sub hostOps0_3 _ hostOps0_3_writes (show main_arg11 ∉ hostOps0_3_W by decide +kernel), after_of_writes_sub hostOps0_2 _ hostOps0_2_writes (show main_arg11 ∉ hostOps0_2_W by decide +kernel), after_of_writes_sub hostOps0_1 _ hostOps0_1_writes (show main_arg11 ∉ hostOps0_1_W by decide +kernel), after_of_writes_sub hostOps0 _ hostOps0_writes (show main_arg11 ∉ hostOps0_W by decide +kernel)]
  have e12 : (after hostOps0_4 (after hostOps0_3 (after hostOps0_2 (after hostOps0_1 (after hostOps0 V))))) (Proc.devRef .tc main_arg12) = V (Proc.devRef .tc main_arg12) := by
    rw [after_of_writes_sub hostOps0_4 _ hostOps0_4_writes (show main_arg12 ∉ hostOps0_4_W by decide +kernel), after_of_writes_sub hostOps0_3 _ hostOps0_3_writes (show main_arg12 ∉ hostOps0_3_W by decide +kernel), after_of_writes_sub hostOps0_2 _ hostOps0_2_writes (show main_arg12 ∉ hostOps0_2_W by decide +kernel), after_of_writes_sub hostOps0_1 _ hostOps0_1_writes (show main_arg12 ∉ hostOps0_1_W by decide +kernel), after_of_writes_sub hostOps0 _ hostOps0_writes (show main_arg12 ∉ hostOps0_W by decide +kernel)]
  rw [e1, e2, e3, e4, e5, e6, e7, e8, e9, e10, e11, e12]
  rfl

theorem entry_v9_0 (V : Valuation τ sig (Elt Ideal)) : after hostOps0_6 V (Proc.devRef .tc main_v9_0) = V (Proc.devRef .tc main_v5) := by
  after_results
  rfl

theorem entry_v9_1 (V : Valuation τ sig (Elt Ideal)) : after hostOps0_6 V (Proc.devRef .tc main_v9_1) = V (Proc.devRef .tc main_arg13) := by
  after_results
  rfl

theorem entry_v9_2 (V : Valuation τ sig (Elt Ideal)) : after hostOps0_6 V (Proc.devRef .tc main_v9_2) = V (Proc.devRef .tc main_arg14) := by
  after_results
  rfl

theorem entry_v9_3 (V : Valuation τ sig (Elt Ideal)) : after hostOps0_6 V (Proc.devRef .tc main_v9_3) = V (Proc.devRef .tc main_arg15) := by
  after_results
  rfl

theorem entry_v9_4 (V : Valuation τ sig (Elt Ideal)) : after hostOps0_6 V (Proc.devRef .tc main_v9_4) = V (Proc.devRef .tc main_arg16) := by
  after_results
  rfl

theorem entry_v9_5 (V : Valuation τ sig (Elt Ideal)) : after hostOps0_6 V (Proc.devRef .tc main_v9_5) = V (Proc.devRef .tc main_arg17) := by
  after_results
  rfl

theorem entry_v9_6 (V : Valuation τ sig (Elt Ideal)) : after hostOps0_6 V (Proc.devRef .tc main_v9_6) = V (Proc.devRef .tc main_arg18) := by
  after_results
  rfl

theorem entry_v9_8 (V : Valuation τ sig (Elt Ideal)) : after hostOps0_6 V (Proc.devRef .tc main_v9_8) = fun _ => BitVec.ofNat 32 0 := by
  after_results
  rfl

theorem entry_v9_9 (V : Valuation τ sig (Elt Ideal)) : after hostOps0_6 V (Proc.devRef .tc main_v9_9) = fun _ => (0 : EReal) := by
  after_results
  funext j
  exact Ideal.ofBits_zero_f32

theorem entry_v9_10 (V : Valuation τ sig (Elt Ideal)) : after hostOps0_6 V (Proc.devRef .tc main_v9_10) = fun _ => (0 : EReal) := by
  after_results
  funext j
  exact Ideal.ofBits_zero_f32

theorem entry_v9_11 (V : Valuation τ sig (Elt Ideal)) : after hostOps0_6 V (Proc.devRef .tc main_v9_11) = fun _ => (0 : EReal) := by
  after_results
  funext j
  exact Ideal.ofBits_zero_f32

theorem entry_v9_12 (V : Valuation τ sig (Elt Ideal)) : after hostOps0_6 V (Proc.devRef .tc main_v9_12) =
    fun j => (V (Proc.devRef .tc main_arg21) : FVec Ideal Cert.Pre_distinct.S20x256 .f32) (ix2 (j 1) (j 2)) := by
  after_results
  suffices h : broadcastInDim S512x20x256 ![0, 1, 2] Facts₀.bcast_S1x20x256_S512x20x256_0_1_2
      (broadcastInDim S1x20x256 ![1, 2] Facts₀.bcast_S20x256_S1x20x256_1_2 (V (Proc.devRef .tc main_arg21) : FVec Ideal Cert.Pre_distinct.S20x256 .f32)) =
      fun j => (V (Proc.devRef .tc main_arg21) : FVec Ideal Cert.Pre_distinct.S20x256 .f32) (ix2 (j 1) (j 2)) from h
  generalize (V (Proc.devRef .tc main_arg21) : FVec Ideal Cert.Pre_distinct.S20x256 .f32) = X
  funext j
  idx_vars j
  pointwise

/-- At the loop's entry the carried arrays hold the state before the first step. -/
theorem entry (V : Valuation τ sig (Elt Ideal)) : At (afterL preI V) (features V) (weights V) 0 (Cert.Spec.start (weights V)) := by
  simp only [afterL_cons, afterL_nil]
  refine ⟨?_, ?_, ?_, ?_, ?_, ?_, ?_, ?_, ?_, ?_, ?_, ?_⟩
  · rw [entry_v9_0]; exact encoded_sequence V
  · rw [entry_v9_1, after_of_writes_sub hostOps0_5 _ hostOps0_5_writes (show main_arg13 ∉ hostOps0_5_W by decide +kernel), after_of_writes_sub hostOps0_4 _ hostOps0_4_writes (show main_arg13 ∉ hostOps0_4_W by decide +kernel), after_of_writes_sub hostOps0_3 _ hostOps0_3_writes (show main_arg13 ∉ hostOps0_3_W by decide +kernel), after_of_writes_sub hostOps0_2 _ hostOps0_2_writes (show main_arg13 ∉ hostOps0_2_W by decide +kernel), after_of_writes_sub hostOps0_1 _ hostOps0_1_writes (show main_arg13 ∉ hostOps0_1_W by decide +kernel), after_of_writes_sub hostOps0 _ hostOps0_writes (show main_arg13 ∉ hostOps0_W by decide +kernel)]; rfl
  · rw [entry_v9_2, after_of_writes_sub hostOps0_5 _ hostOps0_5_writes (show main_arg14 ∉ hostOps0_5_W by decide +kernel), after_of_writes_sub hostOps0_4 _ hostOps0_4_writes (show main_arg14 ∉ hostOps0_4_W by decide +kernel), after_of_writes_sub hostOps0_3 _ hostOps0_3_writes (show main_arg14 ∉ hostOps0_3_W by decide +kernel), after_of_writes_sub hostOps0_2 _ hostOps0_2_writes (show main_arg14 ∉ hostOps0_2_W by decide +kernel), after_of_writes_sub hostOps0_1 _ hostOps0_1_writes (show main_arg14 ∉ hostOps0_1_W by decide +kernel), after_of_writes_sub hostOps0 _ hostOps0_writes (show main_arg14 ∉ hostOps0_W by decide +kernel)]; rfl
  · rw [entry_v9_3, after_of_writes_sub hostOps0_5 _ hostOps0_5_writes (show main_arg15 ∉ hostOps0_5_W by decide +kernel), after_of_writes_sub hostOps0_4 _ hostOps0_4_writes (show main_arg15 ∉ hostOps0_4_W by decide +kernel), after_of_writes_sub hostOps0_3 _ hostOps0_3_writes (show main_arg15 ∉ hostOps0_3_W by decide +kernel), after_of_writes_sub hostOps0_2 _ hostOps0_2_writes (show main_arg15 ∉ hostOps0_2_W by decide +kernel), after_of_writes_sub hostOps0_1 _ hostOps0_1_writes (show main_arg15 ∉ hostOps0_1_W by decide +kernel), after_of_writes_sub hostOps0 _ hostOps0_writes (show main_arg15 ∉ hostOps0_W by decide +kernel)]; rfl
  · rw [entry_v9_4, after_of_writes_sub hostOps0_5 _ hostOps0_5_writes (show main_arg16 ∉ hostOps0_5_W by decide +kernel), after_of_writes_sub hostOps0_4 _ hostOps0_4_writes (show main_arg16 ∉ hostOps0_4_W by decide +kernel), after_of_writes_sub hostOps0_3 _ hostOps0_3_writes (show main_arg16 ∉ hostOps0_3_W by decide +kernel), after_of_writes_sub hostOps0_2 _ hostOps0_2_writes (show main_arg16 ∉ hostOps0_2_W by decide +kernel), after_of_writes_sub hostOps0_1 _ hostOps0_1_writes (show main_arg16 ∉ hostOps0_1_W by decide +kernel), after_of_writes_sub hostOps0 _ hostOps0_writes (show main_arg16 ∉ hostOps0_W by decide +kernel)]; rfl
  · rw [entry_v9_5, after_of_writes_sub hostOps0_5 _ hostOps0_5_writes (show main_arg17 ∉ hostOps0_5_W by decide +kernel), after_of_writes_sub hostOps0_4 _ hostOps0_4_writes (show main_arg17 ∉ hostOps0_4_W by decide +kernel), after_of_writes_sub hostOps0_3 _ hostOps0_3_writes (show main_arg17 ∉ hostOps0_3_W by decide +kernel), after_of_writes_sub hostOps0_2 _ hostOps0_2_writes (show main_arg17 ∉ hostOps0_2_W by decide +kernel), after_of_writes_sub hostOps0_1 _ hostOps0_1_writes (show main_arg17 ∉ hostOps0_1_W by decide +kernel), after_of_writes_sub hostOps0 _ hostOps0_writes (show main_arg17 ∉ hostOps0_W by decide +kernel)]; rfl
  · rw [entry_v9_6, after_of_writes_sub hostOps0_5 _ hostOps0_5_writes (show main_arg18 ∉ hostOps0_5_W by decide +kernel), after_of_writes_sub hostOps0_4 _ hostOps0_4_writes (show main_arg18 ∉ hostOps0_4_W by decide +kernel), after_of_writes_sub hostOps0_3 _ hostOps0_3_writes (show main_arg18 ∉ hostOps0_3_W by decide +kernel), after_of_writes_sub hostOps0_2 _ hostOps0_2_writes (show main_arg18 ∉ hostOps0_2_W by decide +kernel), after_of_writes_sub hostOps0_1 _ hostOps0_1_writes (show main_arg18 ∉ hostOps0_1_W by decide +kernel), after_of_writes_sub hostOps0 _ hostOps0_writes (show main_arg18 ∉ hostOps0_W by decide +kernel)]; rfl
  · rw [entry_v9_8]
  · rw [entry_v9_9]; rfl
  · rw [entry_v9_10]; rfl
  · rw [entry_v9_11]; rfl
  · rw [entry_v9_12, after_of_writes_sub hostOps0_5 _ hostOps0_5_writes (show main_arg21 ∉ hostOps0_5_W by decide +kernel), after_of_writes_sub hostOps0_4 _ hostOps0_4_writes (show main_arg21 ∉ hostOps0_4_W by decide +kernel), after_of_writes_sub hostOps0_3 _ hostOps0_3_writes (show main_arg21 ∉ hostOps0_3_W by decide +kernel), after_of_writes_sub hostOps0_2 _ hostOps0_2_writes (show main_arg21 ∉ hostOps0_2_W by decide +kernel), after_of_writes_sub hostOps0_1 _ hostOps0_1_writes (show main_arg21 ∉ hostOps0_1_W by decide +kernel), after_of_writes_sub hostOps0 _ hostOps0_writes (show main_arg21 ∉ hostOps0_W by decide +kernel)]; rfl

/-- The loop's condition changes none of the carried arrays. -/
theorem cond_keeps {V : Valuation τ sig (Elt Ideal)} {A : FVec Ideal Cert.Pre_distinct.S512x20x128 .f32} {w : Weights} {k : ℕ} {s : State}
    (H : At V A w k s) : At (after condOps V) A w k s := by
  refine ⟨?_, ?_, ?_, ?_, ?_, ?_, ?_, ?_, ?_, ?_, ?_, ?_⟩
  · rw [after_of_writes_sub condOps _ condOps_writes (show main_v9_0 ∉ condOps_W by decide +kernel)]; exact H.seq
  · rw [after_of_writes_sub condOps _ condOps_writes (show main_v9_1 ∉ condOps_W by decide +kernel)]; exact H.wih
  · rw [after_of_writes_sub condOps _ condOps_writes (show main_v9_2 ∉ condOps_W by decide +kernel)]; exact H.whh
  · rw [after_of_writes_sub condOps _ condOps_writes (show main_v9_3 ∉ condOps_W by decide +kernel)]; exact H.b
  · rw [after_of_writes_sub condOps _ condOps_writes (show main_v9_4 ∉ condOps_W by decide +kernel)]; exact H.key
  · rw [after_of_writes_sub condOps _ condOps_writes (show main_v9_5 ∉ condOps_W by decide +kernel)]; exact H.write
  · rw [after_of_writes_sub condOps _ condOps_writes (show main_v9_6 ∉ condOps_W by decide +kernel)]; exact H.erase
  · rw [after_of_writes_sub condOps _ condOps_writes (show main_v9_8 ∉ condOps_W by decide +kernel)]; exact H.num
  · rw [after_of_writes_sub condOps _ condOps_writes (show main_v9_9 ∉ condOps_W by decide +kernel)]; exact H.h
  · rw [after_of_writes_sub condOps _ condOps_writes (show main_v9_10 ∉ condOps_W by decide +kernel)]; exact H.c
  · rw [after_of_writes_sub condOps _ condOps_writes (show main_v9_11 ∉ condOps_W by decide +kernel)]; exact H.r
  · rw [after_of_writes_sub condOps _ condOps_writes (show main_v9_12 ∉ condOps_W by decide +kernel)]; exact H.M

variable (m : (ℓ : Loc nD τ sig) → Buf (Elt Ideal) ℓ)

/-- What device `c` holds at launch. -/
abbrev launch (c : Dev nD) : Valuation τ sig (Elt Ideal) := fun r => m (c, r)

/-- Before trip `k` the carried arrays hold the state after `k` steps. -/
theorem at_trip (c : Dev nD) (k : ℕ) (hk : k ≤ 20) :
    At (atK m k c) (features (launch m c)) (weights (launch m c)) k
      (Cert.Spec.state (weights (launch m c)) (features (launch m c)) k) := by
  induction k with
  | zero => exact entry (launch m c)
  | succ k ih =>
    have h := At.step ⟨k, by omega⟩ (cond_keeps (ih (by omega)))
    rw [show atK m (k + 1) c = afterL bodyI (after condOps (atK m k c)) from rfl]
    have e : (⟨k % 20, Nat.mod_lt _ (by decide)⟩ : Fin 20) = ⟨k, by omega⟩ := Fin.ext (Nat.mod_eq_of_lt (by omega))
    unfold Cert.Spec.state
    rw [e]
    exact h

/-- The state after the twenty steps. -/
def last (V : Valuation τ sig (Elt Ideal)) : State := Cert.Spec.state (weights V) (features V) 20

/-- The prediction at the end of the reference's run, at contents `V`. -/
def prediction (V : Valuation τ sig (Elt Ideal)) : FVec Ideal Cert.ReferenceIdeal.S512x8 .f32 :=
  Cert.Spec.predict (last V).h (last V).r (V (Proc.devRef .tc main_arg19)) (V (Proc.devRef .tc main_arg20))

/-- An array no operation writes holds its launch contents when the last trip is over. -/
theorem arg_late (c : Dev nD) (r : Ref sig .tc)
    (h : r ∉ hostOps0_W ++ hostOps0_1_W ++ hostOps0_2_W ++ hostOps0_3_W ++ hostOps0_4_W ++ hostOps0_5_W ++ hostOps0_6_W ++ condOps_W
      ++ while0Ops0_W ++ while0Ops0_1_W ++ while0Ops0_2_W ++ while0Ops0_3_W ++ while0Ops0_4_W ++ while0Ops0_5_W) (k : ℕ) :
    atK m k c (Proc.devRef .tc r) = launch m c (Proc.devRef .tc r) := by
  simp only [List.mem_append, not_or] at h
  obtain ⟨⟨⟨⟨⟨⟨⟨⟨⟨⟨⟨⟨⟨h0, h1⟩, h2⟩, h3⟩, h4⟩, h5⟩, h6⟩, hc⟩, b0⟩, b1⟩, b2⟩, b3⟩, b4⟩, b5⟩ := h
  induction k with
  | zero =>
    rw [show atK m 0 c = afterL preI (launch m c) from rfl]
    simp only [afterL_cons, afterL_nil]
    rw [after_of_writes_sub hostOps0_6 _ hostOps0_6_writes h6, after_of_writes_sub hostOps0_5 _ hostOps0_5_writes h5,
      after_of_writes_sub hostOps0_4 _ hostOps0_4_writes h4, after_of_writes_sub hostOps0_3 _ hostOps0_3_writes h3,
      after_of_writes_sub hostOps0_2 _ hostOps0_2_writes h2, after_of_writes_sub hostOps0_1 _ hostOps0_1_writes h1,
      after_of_writes_sub hostOps0 _ hostOps0_writes h0]
  | succ k ih =>
    refine Eq.trans ?_ ih
    rw [show atK m (k + 1) c = afterL bodyI (after condOps (atK m k c)) from rfl]
    simp only [afterL_cons, afterL_nil]
    rw [after_of_writes_sub while0Ops0_5 _ while0Ops0_5_writes b5, after_of_writes_sub while0Ops0_4 _ while0Ops0_4_writes b4,
      after_of_writes_sub while0Ops0_3 _ while0Ops0_3_writes b3, after_of_writes_sub while0Ops0_2 _ while0Ops0_2_writes b2,
      after_of_writes_sub while0Ops0_1 _ while0Ops0_1_writes b1, after_of_writes_sub while0Ops0 _ while0Ops0_writes b0,
      after_of_writes_sub condOps _ condOps_writes hc]

/-- The first result of the reference's run. -/
theorem result_prediction (c : Dev nD) :
    finalContents condOps preI bodyI postI 20 m c (Proc.devRef .tc main_v15) = prediction (launch m c) := by
  simp only [finalContents, afterL_cons, afterL_nil]
  rw [after_of_writes_sub hostOps0_8 _ hostOps0_8_writes (show main_v15 ∉ hostOps0_8_W by decide +kernel), RefRead.predicted]
  have H := cond_keeps (at_trip m c 20 le_rfl)
  have a19 : after condOps (atK m 20 c) (Proc.devRef .tc main_arg19) = launch m c (Proc.devRef .tc main_arg19) := by
    rw [after_of_writes_sub condOps _ condOps_writes (show main_arg19 ∉ condOps_W by decide +kernel)]; exact arg_late m c _ (by decide +kernel) 20
  have a20 : after condOps (atK m 20 c) (Proc.devRef .tc main_arg20) = launch m c (Proc.devRef .tc main_arg20) := by
    rw [after_of_writes_sub condOps _ condOps_writes (show main_arg20 ∉ condOps_W by decide +kernel)]; exact arg_late m c _ (by decide +kernel) 20
  exact (congr (congr (congr (congrArg Cert.Spec.predict H.h) H.r) a19) a20)

/-- The second result of the reference's run. -/
theorem result_class (c : Dev nD) :
    finalContents condOps preI bodyI postI 20 m c (Proc.devRef .tc main_v16) = Cert.Spec.best (prediction (launch m c)) := by
  rw [← result_prediction m c]
  simp only [finalContents, afterL_cons, afterL_nil]
  rw [RefRead.class_, after_of_writes_sub hostOps0_8 _ hostOps0_8_writes (show main_v15 ∉ hostOps0_8_W by decide +kernel)]

end Cert.RefFinal

end
-- ==== Proof.RefRun.lean ====
/- The reference's run: its two results and its arguments. -/
module

public import proofs.«01_k».proof.Proof.RefFrame
public import proofs.«01_k».proof.Proof.RefFinal

@[expose] public section

set_option maxRecDepth 16384
set_option maxHeartbeats 2000000

noncomputable section

namespace Cert.RefRun

open Idealize.ShloMosaic Idealize.ShloMosaic.TcCoe Idealize.ShloMosaic.StableHlo Idealize.SL.Sem
open Cert.ReferenceIdeal Cert.ReferenceIdeal.Gen Cert.ReferenceIdeal.Value

variable (m : (b : Loc nD τ sig) → Buf (Elt Ideal) b) (ρ : Dev nD → PrngReg)

/-- What the reference's run leaves: the prediction, its class, and every argument as it was. -/
theorem results : θ_run (defs (F := Ideal)) (onTc (τ := τ) (main (F := Ideal))) ⟨m, fun _ => 0, ρ⟩
    (fun r => ∀ c : Dev nD,
      r.2.mem ((c.tc : Thread nD τ).loc main_v15) = RefFinal.prediction (RefFinal.launch m c)
      ∧ r.2.mem ((c.tc : Thread nD τ).loc main_v16) = Spec.best (RefFinal.prediction (RefFinal.launch m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := Ideal)) _ _).mono (fun r H c =>
    ⟨(H c main_v15 (by decide +kernel)).trans (RefFinal.result_prediction m c),
     (H c main_v16 (by decide +kernel)).trans (RefFinal.result_class m c),
     RefFrame.arg_kept m (s := r.2) H c main_arg0 (by decide +kernel),
     RefFrame.arg_kept m (s := r.2) H c main_arg1 (by decide +kernel),
     RefFrame.arg_kept m (s := r.2) H c main_arg2 (by decide +kernel),
     RefFrame.arg_kept m (s := r.2) H c main_arg3 (by decide +kernel),
     RefFrame.arg_kept m (s := r.2) H c main_arg4 (by decide +kernel),
     RefFrame.arg_kept m (s := r.2) H c main_arg5 (by decide +kernel),
     RefFrame.arg_kept m (s := r.2) H c main_arg6 (by decide +kernel),
     RefFrame.arg_kept m (s := r.2) H c main_arg7 (by decide +kernel),
     RefFrame.arg_kept m (s := r.2) H c main_arg8 (by decide +kernel),
     RefFrame.arg_kept m (s := r.2) H c main_arg9 (by decide +kernel),
     RefFrame.arg_kept m (s := r.2) H c main_arg10 (by decide +kernel),
     RefFrame.arg_kept m (s := r.2) H c main_arg11 (by decide +kernel),
     RefFrame.arg_kept m (s := r.2) H c main_arg12 (by decide +kernel),
     RefFrame.arg_kept m (s := r.2) H c main_arg13 (by decide +kernel),
     RefFrame.arg_kept m (s := r.2) H c main_arg14 (by decide +kernel),
     RefFrame.arg_kept m (s := r.2) H c main_arg15 (by decide +kernel),
     RefFrame.arg_kept m (s := r.2) H c main_arg16 (by decide +kernel),
     RefFrame.arg_kept m (s := r.2) H c main_arg17 (by decide +kernel),
     RefFrame.arg_kept m (s := r.2) H c main_arg18 (by decide +kernel),
     RefFrame.arg_kept m (s := r.2) H c main_arg19 (by decide +kernel),
     RefFrame.arg_kept m (s := r.2) H c main_arg20 (by decide +kernel),
     RefFrame.arg_kept m (s := r.2) H c main_arg21 (by decide +kernel)⟩)
    (run_fold (F := Ideal) m ρ)

end Cert.RefRun

end
-- ==== Proof.Conv.lean ====
/- The encoder kernel's layers on a block of images, apart from the weights they are given: what each reads, what each leaves. -/
module

public import proofs.«01_k».proof.Proof.Spec
public import proofs.«01_k».proof.Proof.Gen.KernelIdeal.Skeleton
public import Idealize.ShloMosaic.Lib.Pointwise

@[expose] public section

set_option maxRecDepth 16384
set_option maxHeartbeats 2000000

noncomputable section

namespace Cert.Conv

open Idealize.ShloMosaic Cert.KernelIdeal Cert.KernelIdeal.Gen

/-- The padded rows of a block's first layer, four to a row, as the second product reads them. -/
def rowsB (v15 : FVec Ideal S64x16x512 .f32) : FVec Ideal S512x2048 .f32 :=
  have v16 : Ideal .f32 := Scalar.sitofp .f32 0#32
  have v17 : FVec Ideal S64x1x512 .f32 := broadcast S64x1x512 v16
  have v18 : FVec Ideal S64x17x512 .f32 := concatenate S64x17x512 1 [⟨S64x1x512, v17⟩, ⟨S64x16x512, v15⟩] concatenates_S64x1x512_S64x16x512_S64x17x512_d1
  have v19 : FVec Ideal S64x1x512 .f32 := broadcast S64x1x512 v16
  have v20 : FVec Ideal S64x18x512 .f32 := concatenate S64x18x512 1 [⟨S64x17x512, v18⟩, ⟨S64x1x512, v19⟩] concatenates_S64x17x512_S64x1x512_S64x18x512_d1
  have v21 : FVec Ideal S64x9x2x512 .f32 := shapeCast S64x9x2x512 v20 shapeCasts_S64x18x512_S64x9x2x512
  have v22 : FVec Ideal S64x9x1x512 .f32 := extractStridedSlice S64x9x1x512 ![0, 0, 0, 0] v21 slices_S64x9x2x512_o0_0_0_0_S64x9x1x512
  have v23 : FVec Ideal S64x9x512 .f32 := shapeCast S64x9x512 v22 shapeCasts_S64x9x1x512_S64x9x512
  have v24 : FVec Ideal S64x9x1x512 .f32 := extractStridedSlice S64x9x1x512 ![0, 0, 1, 0] v21 slices_S64x9x2x512_o0_0_1_0_S64x9x1x512
  have v25 : FVec Ideal S64x9x512 .f32 := shapeCast S64x9x512 v24 shapeCasts_S64x9x1x512_S64x9x512
  have v26 : FVec Ideal S64x9x1024 .f32 := concatenate S64x9x1024 2 [⟨S64x9x512, v23⟩, ⟨S64x9x512, v25⟩] concatenates_S64x9x512_S64x9x512_S64x9x1024_d2
  have v27 : FVec Ideal S64x8x1024 .f32 := extractStridedSlice S64x8x1024 ![0, 0, 0] v26 slices_S64x9x1024_o0_0_0_S64x8x1024
  have v28 : FVec Ideal S64x8x1024 .f32 := extractStridedSlice S64x8x1024 ![0, 1, 0] v26 slices_S64x9x1024_o0_1_0_S64x8x1024
  have v29 : FVec Ideal S64x8x2048 .f32 := concatenate S64x8x2048 2 [⟨S64x8x1024, v27⟩, ⟨S64x8x1024, v28⟩] concatenates_S64x8x1024_S64x8x1024_S64x8x2048_d2
  have v30 : FVec Ideal S512x2048 .f32 := shapeCast S512x2048 v29 shapeCasts_S64x8x2048_S512x2048
  v30

/-- The padded rows of a block's second layer, four to a row, as the third product reads them. -/
def rowsC (v40 : FVec Ideal S64x8x256 .f32) : FVec Ideal S256x1024 .f32 :=
  have v42 : FVec Ideal S64x1x256 .f32 := broadcast S64x1x256 (Scalar.sitofp .f32 0#32 : Ideal .f32)
  have v43 : FVec Ideal S64x9x256 .f32 := concatenate S64x9x256 1 [⟨S64x1x256, v42⟩, ⟨S64x8x256, v40⟩] concatenates_S64x1x256_S64x8x256_S64x9x256_d1
  have v44 : FVec Ideal S64x1x256 .f32 := broadcast S64x1x256 (Scalar.sitofp .f32 0#32 : Ideal .f32)
  have v45 : FVec Ideal S64x10x256 .f32 := concatenate S64x10x256 1 [⟨S64x9x256, v43⟩, ⟨S64x1x256, v44⟩] concatenates_S64x9x256_S64x1x256_S64x10x256_d1
  have v46 : FVec Ideal S64x5x2x256 .f32 := shapeCast S64x5x2x256 v45 shapeCasts_S64x10x256_S64x5x2x256
  have v47 : FVec Ideal S64x5x1x256 .f32 := extractStridedSlice S64x5x1x256 ![0, 0, 0, 0] v46 slices_S64x5x2x256_o0_0_0_0_S64x5x1x256
  have v48 : FVec Ideal S64x5x256 .f32 := shapeCast S64x5x256 v47 shapeCasts_S64x5x1x256_S64x5x256
  have v49 : FVec Ideal S64x5x1x256 .f32 := extractStridedSlice S64x5x1x256 ![0, 0, 1, 0] v46 slices_S64x5x2x256_o0_0_1_0_S64x5x1x256
  have v50 : FVec Ideal S64x5x256 .f32 := shapeCast S64x5x256 v49 shapeCasts_S64x5x1x256_S64x5x256
  have v51 : FVec Ideal S64x5x512 .f32 := concatenate S64x5x512 2 [⟨S64x5x256, v48⟩, ⟨S64x5x256, v50⟩] concatenates_S64x5x256_S64x5x256_S64x5x512_d2
  have v52 : FVec Ideal S64x4x512 .f32 := extractStridedSlice S64x4x512 ![0, 0, 0] v51 slices_S64x5x512_o0_0_0_S64x4x512
  have v53 : FVec Ideal S64x4x512 .f32 := extractStridedSlice S64x4x512 ![0, 1, 0] v51 slices_S64x5x512_o0_1_0_S64x4x512
  have v54 : FVec Ideal S64x4x1024 .f32 := concatenate S64x4x1024 2 [⟨S64x4x512, v52⟩, ⟨S64x4x512, v53⟩] concatenates_S64x4x512_S64x4x512_S64x4x1024_d2
  have v55 : FVec Ideal S256x1024 .f32 := shapeCast S256x1024 v54 shapeCasts_S64x4x1024_S256x1024
  v55

/-- The rows of a block's images, four to a row, as the first product reads them. -/
def rowsA (v0 : FVec Ideal S64x17x64 .f32) : FVec Ideal S1024x128 .f32 :=
  have v1 : FVec Ideal S64x17x64 .f32 := shapeCast S64x17x64 v0 shapeCasts_S64x17x64_S64x17x64
  have v2 : FVec Ideal S64x16x64 .f32 := extractStridedSlice S64x16x64 ![0, 0, 0] v1 slices_S64x17x64_o0_0_0_S64x16x64
  have v3 : FVec Ideal S64x16x64 .f32 := extractStridedSlice S64x16x64 ![0, 1, 0] v1 slices_S64x17x64_o0_1_0_S64x16x64
  have v4 : FVec Ideal S64x16x128 .f32 := concatenate S64x16x128 2 [⟨S64x16x64, v2⟩, ⟨S64x16x64, v3⟩] concatenates_S64x16x64_S64x16x64_S64x16x128_d2
  have v5 : FVec Ideal S1024x128 .f32 := shapeCast S1024x128 v4 shapeCasts_S64x16x128_S1024x128
  v5

/-- The first layer of a block. -/
def layerA (v0 : FVec Ideal S64x17x64 .f32) (v6 : FVec Ideal S128x512 .f32) (v9 : FVec Ideal S1x512 .f32) : FVec Ideal S64x16x512 .f32 :=
  have v5 := rowsA v0
  have v7 : FVec Ideal S128x512 .f32 := shapeCast S128x512 v6 shapeCasts_S128x512_S128x512
  have cst : FVec Ideal S1024x512 .f32 := constant S1024x512 .f32 0x00000000#32
  have v8 : FVec Ideal S1024x512 .f32 := matmul dot_S1024x128_S128x512_S1024x512_1_0_0_1_n_n none v5 v7 cst
  have v10 : FVec Ideal S1x512 .f32 := shapeCast S1x512 v9 shapeCasts_S1x512_S1x512
  have v11 : FVec Ideal S1024x512 .f32 := broadcastTo S1024x512 v10 broadcasts_S1x512_S1024x512
  have v12 : FVec Ideal S1024x512 .f32 := addf v8 v11
  have cst_6 : Ideal .f32 := Scalar.ofBits .f32 0x00000000#32
  have v13 : FVec Ideal S1024x512 .f32 := broadcast S1024x512 cst_6
  have v14 : FVec Ideal S1024x512 .f32 := maximumf v12 v13
  have v15 : FVec Ideal S64x16x512 .f32 := shapeCast S64x16x512 v14 shapeCasts_S1024x512_S64x16x512
  v15

/-- The second layer of a block. -/
def layerB (v15 : FVec Ideal S64x16x512 .f32) (v31 : FVec Ideal S2048x256 .f32) (v34 : FVec Ideal S1x256 .f32) : FVec Ideal S64x8x256 .f32 :=
  have v30 := rowsB v15
  have v32 : FVec Ideal S2048x256 .f32 := shapeCast S2048x256 v31 shapeCasts_S2048x256_S2048x256
  have cst_9 : FVec Ideal S512x256 .f32 := constant S512x256 .f32 0x00000000#32
  have v33 : FVec Ideal S512x256 .f32 := matmul dot_S512x2048_S2048x256_S512x256_1_0_0_1_n_n none v30 v32 cst_9
  have v35 : FVec Ideal S1x256 .f32 := shapeCast S1x256 v34 shapeCasts_S1x256_S1x256
  have v36 : FVec Ideal S512x256 .f32 := broadcastTo S512x256 v35 broadcasts_S1x256_S512x256
  have v37 : FVec Ideal S512x256 .f32 := addf v33 v36
  have cst_12 : Ideal .f32 := Scalar.ofBits .f32 0x00000000#32
  have v38 : FVec Ideal S512x256 .f32 := broadcast S512x256 cst_12
  have v39 : FVec Ideal S512x256 .f32 := maximumf v37 v38
  have v40 : FVec Ideal S64x8x256 .f32 := shapeCast S64x8x256 v39 shapeCasts_S512x256_S64x8x256
  v40

/-- The third layer of a block. -/
def layerC (v40 : FVec Ideal S64x8x256 .f32) (v56 : FVec Ideal S1024x128 .f32) (v59 : FVec Ideal S1x128 .f32) : FVec Ideal S64x4x128 .f32 :=
  have v55 := rowsC v40
  have v57 : FVec Ideal S1024x128 .f32 := shapeCast S1024x128 v56 shapeCasts_S1024x128_S1024x128
  have cst_16 : FVec Ideal S256x128 .f32 := constant S256x128 .f32 0x00000000#32
  have v58 : FVec Ideal S256x128 .f32 := matmul dot_S256x1024_S1024x128_S256x128_1_0_0_1_n_n none v55 v57 cst_16
  have v60 : FVec Ideal S1x128 .f32 := shapeCast S1x128 v59 shapeCasts_S1x128_S1x128
  have v61 : FVec Ideal S256x128 .f32 := broadcastTo S256x128 v60 broadcasts_S1x128_S256x128
  have v62 : FVec Ideal S256x128 .f32 := addf v58 v61
  have cst_19 : Ideal .f32 := Scalar.ofBits .f32 0x00000000#32
  have v63 : FVec Ideal S256x128 .f32 := broadcast S256x128 cst_19
  have v64 : FVec Ideal S256x128 .f32 := maximumf v62 v63
  have v65 : FVec Ideal S64x4x128 .f32 := shapeCast S64x4x128 v64 shapeCasts_S256x128_S64x4x128
  v65

/-- The two dense layers of a block, up to the last bias. -/
def denseD (v65 : FVec Ideal S64x4x128 .f32) (v75 : FVec Ideal S512x256 .f32) (v78 : FVec Ideal S1x256 .f32) (v84 : FVec Ideal S256x128 .f32) : FVec Ideal S64x128 .f32 :=
  have v66 : FVec Ideal S64x1x128 .f32 := extractStridedSlice S64x1x128 ![0, 0, 0] v65 slices_S64x4x128_o0_0_0_S64x1x128
  have v67 : FVec Ideal S64x128 .f32 := shapeCast S64x128 v66 shapeCasts_S64x1x128_S64x128
  have v68 : FVec Ideal S64x1x128 .f32 := extractStridedSlice S64x1x128 ![0, 1, 0] v65 slices_S64x4x128_o0_1_0_S64x1x128
  have v69 : FVec Ideal S64x128 .f32 := shapeCast S64x128 v68 shapeCasts_S64x1x128_S64x128
  have v70 : FVec Ideal S64x1x128 .f32 := extractStridedSlice S64x1x128 ![0, 2, 0] v65 slices_S64x4x128_o0_2_0_S64x1x128
  have v71 : FVec Ideal S64x128 .f32 := shapeCast S64x128 v70 shapeCasts_S64x1x128_S64x128
  have v72 : FVec Ideal S64x1x128 .f32 := extractStridedSlice S64x1x128 ![0, 3, 0] v65 slices_S64x4x128_o0_3_0_S64x1x128
  have v73 : FVec Ideal S64x128 .f32 := shapeCast S64x128 v72 shapeCasts_S64x1x128_S64x128
  have v74 : FVec Ideal S64x512 .f32 := concatenate S64x512 1 [⟨S64x128, v67⟩, ⟨S64x128, v69⟩, ⟨S64x128, v71⟩, ⟨S64x128, v73⟩] concatenates_S64x128_S64x128_S64x128_S64x128_S64x512_d1
  have v76 : FVec Ideal S512x256 .f32 := shapeCast S512x256 v75 shapeCasts_S512x256_S512x256
  have cst_22 : FVec Ideal S64x256 .f32 := constant S64x256 .f32 0x00000000#32
  have v77 : FVec Ideal S64x256 .f32 := matmul dot_S64x512_S512x256_S64x256_1_0_0_1_n_n none v74 v76 cst_22
  have v79 : FVec Ideal S1x256 .f32 := shapeCast S1x256 v78 shapeCasts_S1x256_S1x256
  have v80 : FVec Ideal S64x256 .f32 := broadcastTo S64x256 v79 broadcasts_S1x256_S64x256
  have v81 : FVec Ideal S64x256 .f32 := addf v77 v80
  have cst_25 : Ideal .f32 := Scalar.ofBits .f32 0x00000000#32
  have v82 : FVec Ideal S64x256 .f32 := broadcast S64x256 cst_25
  have v83 : FVec Ideal S64x256 .f32 := maximumf v81 v82
  have v85 : FVec Ideal S256x128 .f32 := shapeCast S256x128 v84 shapeCasts_S256x128_S256x128
  have cst_28 : FVec Ideal S64x128 .f32 := constant S64x128 .f32 0x00000000#32
  have v86 : FVec Ideal S64x128 .f32 := matmul dot_S64x256_S256x128_S64x128_1_0_0_1_n_n none v83 v85 cst_28
  v86

/-- The body's first two layers. -/
theorem pay2_eq (x : FVec Ideal S64x17x64 .f32) (w1 : FVec Ideal S128x512 .f32) (b1 : FVec Ideal S1x512 .f32) (w2 : FVec Ideal S2048x256 .f32)
    (b2 : FVec Ideal S1x256 .f32) : k0_pay2 (F := Ideal) x w1 b1 w2 b2 = layerB (layerA x w1 b1) w2 b2 := rfl

/-- The body's third layer and its dense layers. -/
theorem pay4_eq (h : FVec Ideal S64x8x256 .f32) (w3 : FVec Ideal S1024x128 .f32) (b3 : FVec Ideal S1x128 .f32) (f1 : FVec Ideal S512x256 .f32)
    (g1 : FVec Ideal S1x256 .f32) (f2 : FVec Ideal S256x128 .f32) :
    k0_pay4 (F := Ideal) h (k0_pay3 (F := Ideal)) w3 b3 f1 g1 f2 = denseD (layerC h w3 b3) f1 g1 f2 := rfl

/-- Lane `ky * 512 + l` of row `Y` is lane `l` of padded row `2 Y + ky`. -/
theorem rowsB_apply (h : FVec Ideal S64x16x512 .f32) (n : Fin 64) (Y : Fin 8) (ky : Fin 4) (l : Fin 512) :
    rowsB h (ix2 ⟨n.val * 8 + Y.val, by omega⟩ ⟨ky.val * 512 + l.val, by omega⟩) =
      if hr : 1 ≤ ky.val + 2 * Y.val ∧ ky.val + 2 * Y.val < 17 then (h (ix3 n ⟨ky.val + 2 * Y.val - 1, by omega⟩ l) : EReal) else 0 := by
  have z : (((0#32 : BitVec 32).toInt : ℝ) : EReal) = 0 := by simp
  pointwise [rowsB]
  simp only [z]
  split_ifs <;> first
    | rfl
    | (exfalso; omega)
    | (refine congrArg₂ (fun p q => (h (ix3 n p q) : EReal)) (Fin.ext ?_) (Fin.ext ?_) <;> (try dsimp only) <;> omega)
    | (rw [dif_pos (by omega)]
       refine congrArg₂ (fun p q => (h (ix3 n p q) : EReal)) (Fin.ext ?_) (Fin.ext ?_) <;> (try dsimp only) <;> omega)
    | rw [dif_neg (by omega)]

/-- Lane `ky * 256 + l` of row `Y` is lane `l` of padded row `2 Y + ky`. -/
theorem rowsC_apply (h : FVec Ideal S64x8x256 .f32) (n : Fin 64) (Y : Fin 4) (ky : Fin 4) (l : Fin 256) :
    rowsC h (ix2 ⟨n.val * 4 + Y.val, by omega⟩ ⟨ky.val * 256 + l.val, by omega⟩) =
      if hr : 1 ≤ ky.val + 2 * Y.val ∧ ky.val + 2 * Y.val < 9 then (h (ix3 n ⟨ky.val + 2 * Y.val - 1, by omega⟩ l) : EReal) else 0 := by
  have z : (((0#32 : BitVec 32).toInt : ℝ) : EReal) = 0 := by simp
  pointwise [rowsC]
  simp only [z]
  split_ifs <;> first
    | rfl
    | (exfalso; omega)
    | (refine congrArg₂ (fun p q => (h (ix3 n p q) : EReal)) (Fin.ext ?_) (Fin.ext ?_) <;> (try dsimp only) <;> omega)
    | (rw [dif_pos (by omega)]
       refine congrArg₂ (fun p q => (h (ix3 n p q) : EReal)) (Fin.ext ?_) (Fin.ext ?_) <;> (try dsimp only) <;> omega)
    | rw [dif_neg (by omega)]

/-- Lane `ky * 32 + l` of row `Y` of an image is lane `l` of its padded row `2 Y + ky`. -/
theorem rowsA_apply (x : FVec Ideal S64x17x64 .f32) (n : Fin 64) (Y : Fin 16) (ky : Fin 4) (l : Fin 32) :
    rowsA x (ix2 ⟨n.val * 16 + Y.val, by omega⟩ ⟨ky.val * 32 + l.val, by omega⟩) =
      (x (ix3 n ⟨(ky.val + 2 * Y.val) / 2, by omega⟩ ⟨(ky.val + 2 * Y.val) % 2 * 32 + l.val, by omega⟩) : EReal) := by
  pointwise [rowsA]
  split_ifs <;> first
    | rfl
    | (refine congrArg₂ (fun p q => (x (ix3 n p q) : EReal)) (Fin.ext ?_) (Fin.ext ?_) <;> (try dsimp only) <;> omega)
    | (rw [dif_pos (by omega)]
       refine congrArg₂ (fun p q => (x (ix3 n p q) : EReal)) (Fin.ext ?_) (Fin.ext ?_) <;> (try dsimp only) <;> omega)
    | rw [dif_neg (by omega)]

/-- A layer's output from its rows. -/
theorem layerA_apply (h : FVec Ideal S64x17x64 .f32) (W : FVec Ideal S128x512 .f32) (b : FVec Ideal S1x512 .f32) (n : Fin 64) (Y : Fin 16) (j : Fin 512) :
    layerA h W b (ix3 n Y j) = max ((∑ q : Fin 128, (rowsA h (ix2 ⟨n.val * 16 + Y.val, by omega⟩ q) : EReal) * W (ix2 q j)) + b (ix2 0 j)) 0 := by
  unfold layerA
  generalize rowsA h = R
  pointwise []

/-- A layer's output from its rows. -/
theorem layerB_apply (h : FVec Ideal S64x16x512 .f32) (W : FVec Ideal S2048x256 .f32) (b : FVec Ideal S1x256 .f32) (n : Fin 64) (Y : Fin 8) (j : Fin 256) :
    layerB h W b (ix3 n Y j) = max ((∑ q : Fin 2048, (rowsB h (ix2 ⟨n.val * 8 + Y.val, by omega⟩ q) : EReal) * W (ix2 q j)) + b (ix2 0 j)) 0 := by
  unfold layerB
  generalize rowsB h = R
  pointwise []

/-- A layer's output from its rows. -/
theorem layerC_apply (h : FVec Ideal S64x8x256 .f32) (W : FVec Ideal S1024x128 .f32) (b : FVec Ideal S1x128 .f32) (n : Fin 64) (Y : Fin 4) (j : Fin 128) :
    layerC h W b (ix3 n Y j) = max ((∑ q : Fin 1024, (rowsC h (ix2 ⟨n.val * 4 + Y.val, by omega⟩ q) : EReal) * W (ix2 q j)) + b (ix2 0 j)) 0 := by
  unfold layerC
  generalize rowsC h = R
  pointwise []

/-- A sum over `a * b` indices, split. -/
theorem sum_split {a b : ℕ} (f : Fin (a * b) → EReal) :
    ∑ q, f q = ∑ i : Fin a, ∑ j : Fin b, f ⟨i.val * b + j.val, by
      have := i.isLt; have := j.isLt
      calc i.val * b + j.val < i.val * b + b := by omega
        _ = (i.val + 1) * b := by ring
        _ ≤ a * b := Nat.mul_le_mul_right b (by omega)⟩ := by
  rw [← finProdFinEquiv.sum_comp, Fintype.sum_prod_type]
  refine Finset.sum_congr rfl fun i _ => Finset.sum_congr rfl fun j _ => congrArg f (Fin.ext ?_)
  show j.val + b * i.val = i.val * b + j.val
  ring

/-- The input at padded row `r`, padded column `q`, channel `c`: zero on the border. -/
def tap {n C : ℕ} (h : Fin n → Fin n → Fin C → EReal) (r q : ℕ) (c : Fin C) : EReal :=
  if hh : (1 ≤ r ∧ r < n + 1) ∧ (1 ≤ q ∧ q < n + 1) then h ⟨r - 1, by omega⟩ ⟨q - 1, by omega⟩ c else 0

/-- One output of a 4 × 4 convolution of stride 2, with its bias, clipped below at zero. -/
def conv {n C : ℕ} (h : Fin n → Fin n → Fin C → EReal) (w : Fin 4 → Fin 4 → Fin C → EReal) (b : EReal) (Y X : ℕ) : EReal :=
  max ((∑ ky : Fin 4, ∑ kx : Fin 4, ∑ c : Fin C, tap h (ky.val + 2 * Y) (kx.val + 2 * X) c * w ky kx c) + b) 0

/-- One column of a banded matrix picks one tap of each of the four columns of weights. -/
theorem band {n : ℕ} (a : Fin n → EReal) (w : Fin 4 → EReal) (X : ℕ) :
    ∑ x : Fin n, a x * ∑ kx : Fin 4, (if x.val + 1 = kx.val + 2 * X then w kx else 0) =
      ∑ kx : Fin 4, (if hq : 1 ≤ kx.val + 2 * X ∧ kx.val + 2 * X < n + 1 then a ⟨kx.val + 2 * X - 1, by omega⟩ else 0) * w kx := by
  have e : ∀ x : Fin n, a x * ∑ kx : Fin 4, (if x.val + 1 = kx.val + 2 * X then w kx else 0) =
      ∑ kx : Fin 4, (if x.val + 1 = kx.val + 2 * X then a x * w kx else 0) := by
    intro x
    by_cases hx : ∃ k : Fin 4, x.val + 1 = k.val + 2 * X
    · obtain ⟨k, hk⟩ := hx
      have eq : ∀ k' : Fin 4, (x.val + 1 = k'.val + 2 * X) ↔ k' = k := fun k' => ⟨fun h => Fin.ext (by omega), fun h => h ▸ hk⟩
      simp only [eq, Finset.sum_ite_eq', Finset.mem_univ, if_true]
    · have ne : ∀ k' : Fin 4, ¬ (x.val + 1 = k'.val + 2 * X) := fun k' h => hx ⟨k', h⟩
      simp only [ne, if_false, Finset.sum_const_zero, mul_zero]
  rw [Finset.sum_congr rfl fun x _ => e x, Finset.sum_comm]
  refine Finset.sum_congr rfl fun kx _ => ?_
  by_cases hq : 1 ≤ kx.val + 2 * X ∧ kx.val + 2 * X < n + 1
  · rw [dif_pos (show 1 ≤ kx.val + 2 * X ∧ kx.val + 2 * X < n + 1 from hq)]
    have eq : ∀ x : Fin n, (x.val + 1 = kx.val + 2 * X) ↔ x = ⟨kx.val + 2 * X - 1, by omega⟩ := fun x =>
      ⟨fun h => Fin.ext (by dsimp only; omega), fun h => by rw [h]; dsimp only; omega⟩
    simp only [eq, Finset.sum_ite_eq', Finset.mem_univ, if_true]
  · rw [dif_neg (show ¬ (1 ≤ kx.val + 2 * X ∧ kx.val + 2 * X < n + 1) from hq), zero_mul]
    refine Finset.sum_eq_zero fun x _ => if_neg fun h => hq ?_
    have := x.isLt
    omega

/-- The banded product over the padded rows is the convolution. -/
theorem banded {n C : ℕ} (h : Fin n → Fin n → Fin C → EReal) (w : Fin 4 → Fin 4 → Fin C → EReal) (Y X : ℕ) :
    ∑ ky : Fin 4, ∑ x : Fin n, ∑ c : Fin C,
        (if hr : 1 ≤ ky.val + 2 * Y ∧ ky.val + 2 * Y < n + 1 then h ⟨ky.val + 2 * Y - 1, by omega⟩ x c else 0) *
          (∑ kx : Fin 4, if x.val + 1 = kx.val + 2 * X then w ky kx c else 0) =
      ∑ ky : Fin 4, ∑ kx : Fin 4, ∑ c : Fin C, tap h (ky.val + 2 * Y) (kx.val + 2 * X) c * w ky kx c := by
  refine Finset.sum_congr rfl fun ky _ => ?_
  rw [Finset.sum_comm]
  conv_rhs => rw [Finset.sum_comm]
  refine Finset.sum_congr rfl fun c _ => ?_
  rw [band]
  refine Finset.sum_congr rfl fun kx _ => congrArg (· * w ky kx c) ?_
  unfold tap
  split_ifs <;> first
    | rfl
    | (exfalso; omega)

end Cert.Conv

end
-- ==== Proof.RefConv.lean ====
/- The reference's encoder read at an index: three convolutions, two dense layers. -/
module

public import proofs.«01_k».proof.Proof.Conv

@[expose] public section

set_option maxRecDepth 16384
set_option maxHeartbeats 2000000

noncomputable section

namespace Cert.RefConv

open Idealize.ShloMosaic Cert.Pre_distinct Cert.Conv

/-- The first convolution's padded input. -/
theorem fn_pad_apply (x : FVec Ideal S10240x1x32x32 .f32) (n : Fin 10240) (c : Fin 1) (r q : Fin 34) :
    fn_pad (F := Ideal) x (constantI S_ 32 0#32) (ix4 n c r q) = tap (fun r q c => (x (ix4 n c r q) : EReal)) r.val q.val c := by
  have z : (((0#32 : BitVec 32).toInt : ℝ) : EReal) = 0 := by simp
  unfold tap
  pointwise [fn_pad]
  try simp only [z]
  split_ifs <;> first
    | rfl
    | (exfalso; omega)
    | exact z
    | rw [Subsingleton.elim c 0]

/-- The first convolution. -/
theorem fn_conv_relu_apply (x : FVec Ideal S10240x1x32x32 .f32) (w : FVec Ideal S32x1x4x4 .f32) (b : FVec Ideal S32 .f32) (n : Fin 10240) (o : Fin 32) (Y X : Fin 16) :
    fn_conv_relu (F := Ideal) x w b (ix4 n o Y X) =
      conv (fun r q c => (x (ix4 n c r q) : EReal)) (fun ky kx c => (w (ix4 o c ky kx) : EReal)) (b (ix1 o)) Y.val X.val := by
  have e : fn_conv_relu (F := Ideal) x w b (ix4 n o Y X) = max ((∑ ky : Fin 4, ∑ kx : Fin 4, ∑ c : Fin 1,
      (fn_pad (F := Ideal) x (constantI S_ 32 0#32) (ix4 n c ⟨ky.val + 2 * Y.val, by omega⟩ ⟨kx.val + 2 * X.val, by omega⟩) : EReal) *
        w (ix4 o c ky kx)) + b (ix1 o)) 0 := by
    unfold fn_conv_relu
    dsimp only
    generalize fn_pad (F := Ideal) x (constantI S_ 32 0#32) = P
    have g : ∀ Q : Fin 4 → Fin 4 → EReal, ∑ ky, ∑ kx, Q ky kx = Q 0 0 + Q 0 1 + Q 0 2 + Q 0 3 + Q 1 0 + Q 1 1 + Q 1 2 + Q 1 3 +
        Q 2 0 + Q 2 1 + Q 2 2 + Q 2 3 + Q 3 0 + Q 3 1 + Q 3 2 + Q 3 3 := by
      intro Q; simp only [Fin.sum_univ_four, add_assoc]
    rw [g]
    have y0 : (⟨(0 : Fin 4).val + 2 * Y.val, by omega⟩ : Fin 34) = ⟨2 * Y.val, by omega⟩ := Fin.ext (Nat.zero_add _)
    have x0 : (⟨(0 : Fin 4).val + 2 * X.val, by omega⟩ : Fin 34) = ⟨2 * X.val, by omega⟩ := Fin.ext (Nat.zero_add _)
    rw [y0, x0]
    pointwise [fn_conv_relu_part1, fn_conv_relu_part2, fn_conv_relu_part3, fn_conv_relu_part4]
    try rfl
  rw [e]
  simp only [fn_pad_apply]
  rfl

/-- The second convolution's padded input. -/
theorem fn_pad_1_apply (x : FVec Ideal S10240x32x16x16 .f32) (n : Fin 10240) (c : Fin 32) (r q : Fin 18) :
    fn_pad_1 (F := Ideal) x (constantI S_ 32 0#32) (ix4 n c r q) = tap (fun r q c => (x (ix4 n c r q) : EReal)) r.val q.val c := by
  have z : (((0#32 : BitVec 32).toInt : ℝ) : EReal) = 0 := by simp
  unfold tap
  pointwise [fn_pad_1]
  try simp only [z]
  split_ifs <;> first
    | rfl
    | (exfalso; omega)
    | exact z
    | rw [Subsingleton.elim c 0]

/-- The second convolution. -/
theorem fn_conv_relu_0_apply (x : FVec Ideal S10240x32x16x16 .f32) (w : FVec Ideal S32x32x4x4 .f32) (b : FVec Ideal S32 .f32) (n : Fin 10240) (o : Fin 32) (Y X : Fin 8) :
    fn_conv_relu_0 (F := Ideal) x w b (ix4 n o Y X) =
      conv (fun r q c => (x (ix4 n c r q) : EReal)) (fun ky kx c => (w (ix4 o c ky kx) : EReal)) (b (ix1 o)) Y.val X.val := by
  have e : fn_conv_relu_0 (F := Ideal) x w b (ix4 n o Y X) = max ((∑ ky : Fin 4, ∑ kx : Fin 4, ∑ c : Fin 32,
      (fn_pad_1 (F := Ideal) x (constantI S_ 32 0#32) (ix4 n c ⟨ky.val + 2 * Y.val, by omega⟩ ⟨kx.val + 2 * X.val, by omega⟩) : EReal) *
        w (ix4 o c ky kx)) + b (ix1 o)) 0 := by
    unfold fn_conv_relu_0
    dsimp only
    generalize fn_pad_1 (F := Ideal) x (constantI S_ 32 0#32) = P
    have g : ∀ Q : Fin 4 → Fin 4 → EReal, ∑ ky, ∑ kx, Q ky kx = Q 0 0 + Q 0 1 + Q 0 2 + Q 0 3 + Q 1 0 + Q 1 1 + Q 1 2 + Q 1 3 +
        Q 2 0 + Q 2 1 + Q 2 2 + Q 2 3 + Q 3 0 + Q 3 1 + Q 3 2 + Q 3 3 := by
      intro Q; simp only [Fin.sum_univ_four, add_assoc]
    rw [g]
    have y0 : (⟨(0 : Fin 4).val + 2 * Y.val, by omega⟩ : Fin 18) = ⟨2 * Y.val, by omega⟩ := Fin.ext (Nat.zero_add _)
    have x0 : (⟨(0 : Fin 4).val + 2 * X.val, by omega⟩ : Fin 18) = ⟨2 * X.val, by omega⟩ := Fin.ext (Nat.zero_add _)
    rw [y0, x0]
    pointwise [fn_conv_relu_0_part1, fn_conv_relu_0_part2, fn_conv_relu_0_part3, fn_conv_relu_0_part4]
    try rfl
  rw [e]
  simp only [fn_pad_1_apply]
  rfl

/-- The third convolution's padded input. -/
theorem fn_pad_3_apply (x : FVec Ideal S10240x32x8x8 .f32) (n : Fin 10240) (c : Fin 32) (r q : Fin 10) :
    fn_pad_3 (F := Ideal) x (constantI S_ 32 0#32) (ix4 n c r q) = tap (fun r q c => (x (ix4 n c r q) : EReal)) r.val q.val c := by
  have z : (((0#32 : BitVec 32).toInt : ℝ) : EReal) = 0 := by simp
  unfold tap
  pointwise [fn_pad_3]
  try simp only [z]
  split_ifs <;> first
    | rfl
    | (exfalso; omega)
    | exact z
    | rw [Subsingleton.elim c 0]

/-- The third convolution. -/
theorem fn_conv_relu_2_apply (x : FVec Ideal S10240x32x8x8 .f32) (w : FVec Ideal S32x32x4x4 .f32) (b : FVec Ideal S32 .f32) (n : Fin 10240) (o : Fin 32) (Y X : Fin 4) :
    fn_conv_relu_2 (F := Ideal) x w b (ix4 n o Y X) =
      conv (fun r q c => (x (ix4 n c r q) : EReal)) (fun ky kx c => (w (ix4 o c ky kx) : EReal)) (b (ix1 o)) Y.val X.val := by
  have e : fn_conv_relu_2 (F := Ideal) x w b (ix4 n o Y X) = max ((∑ ky : Fin 4, ∑ kx : Fin 4, ∑ c : Fin 32,
      (fn_pad_3 (F := Ideal) x (constantI S_ 32 0#32) (ix4 n c ⟨ky.val + 2 * Y.val, by omega⟩ ⟨kx.val + 2 * X.val, by omega⟩) : EReal) *
        w (ix4 o c ky kx)) + b (ix1 o)) 0 := by
    unfold fn_conv_relu_2
    dsimp only
    generalize fn_pad_3 (F := Ideal) x (constantI S_ 32 0#32) = P
    have g : ∀ Q : Fin 4 → Fin 4 → EReal, ∑ ky, ∑ kx, Q ky kx = Q 0 0 + Q 0 1 + Q 0 2 + Q 0 3 + Q 1 0 + Q 1 1 + Q 1 2 + Q 1 3 +
        Q 2 0 + Q 2 1 + Q 2 2 + Q 2 3 + Q 3 0 + Q 3 1 + Q 3 2 + Q 3 3 := by
      intro Q; simp only [Fin.sum_univ_four, add_assoc]
    rw [g]
    have y0 : (⟨(0 : Fin 4).val + 2 * Y.val, by omega⟩ : Fin 10) = ⟨2 * Y.val, by omega⟩ := Fin.ext (Nat.zero_add _)
    have x0 : (⟨(0 : Fin 4).val + 2 * X.val, by omega⟩ : Fin 10) = ⟨2 * X.val, by omega⟩ := Fin.ext (Nat.zero_add _)
    rw [y0, x0]
    pointwise [fn_conv_relu_2_part1, fn_conv_relu_2_part2, fn_conv_relu_2_part3, fn_conv_relu_2_part4]
    try rfl
  rw [e]
  simp only [fn_pad_3_apply]
  rfl

/-- The dense layers: an image's last feature map, flattened channel by channel, through two clipped affine maps. -/
def dense (h : Fin 4 → Fin 4 → Fin 32 → EReal) (f1 : Fin 256 → Fin 4 → Fin 4 → Fin 32 → EReal) (g1 : Fin 256 → EReal)
    (f2 : Fin 256 → EReal) (g2 : EReal) : EReal :=
  max ((∑ k : Fin 256, max ((∑ y : Fin 4, ∑ x : Fin 4, ∑ c : Fin 32, h y x c * f1 k y x c) + g1 k) 0 * f2 k) + g2) 0

/-- The reference's dense layers. -/
theorem fn_dense_apply (h : FVec Ideal S10240x32x4x4 .f32) (f1 : FVec Ideal S256x512 .f32) (g1 : FVec Ideal S256 .f32)
    (f2 : FVec Ideal S128x256 .f32) (g2 : FVec Ideal S128 .f32) (s : Fin 512) (t : Fin 20) (j : Fin 128) :
    fn_dense (F := Ideal) h f1 g1 f2 g2 (ix3 s t j) =
      dense (fun y x c => (h (ix4 ⟨s.val * 20 + t.val, by omega⟩ c y x) : EReal))
        (fun k y x c => (f1 (ix2 k ⟨c.val * 16 + (y.val * 4 + x.val), by omega⟩) : EReal)) (fun k => g1 (ix1 k)) (fun k => f2 (ix2 j k)) (g2 (ix1 j)) := by
  pointwise [fn_dense]
  unfold dense
  refine congrArg (fun u => max (u + (g2 (ix1 j) : EReal)) 0) (Finset.sum_congr rfl fun k _ => ?_)
  refine congrArg (fun u => max (u + (g1 (ix1 k) : EReal)) 0 * (f2 (ix2 j k) : EReal)) ?_
  refine (sum_split (a := 32) (b := 16) _).trans ?_
  refine (Finset.sum_congr rfl fun c _ => sum_split (a := 4) (b := 4) _).trans ?_
  rw [Finset.sum_comm]
  refine Finset.sum_congr rfl fun y _ => ?_
  rw [Finset.sum_comm]
  refine Finset.sum_congr rfl fun x _ => Finset.sum_congr rfl fun c _ => ?_
  have e1 : (c.val * 16 + (y.val * 4 + x.val)) / 16 = c.val := by omega
  have e2 : (c.val * 16 + (y.val * 4 + x.val)) / 4 % 4 = y.val := by omega
  have e3 : (c.val * 16 + (y.val * 4 + x.val)) % 4 = x.val := by omega
  simp only [e1, e2, e3]

end Cert.RefConv

end
-- ==== Proof.Stage.lean ====
/- The encoder's block through its layers: with banded weights, each layer is the convolution, and the block is the reference's encoding of its images. -/
module

public import proofs.«01_k».proof.Proof.RefConv

@[expose] public section

set_option maxRecDepth 16384
set_option maxHeartbeats 2000000

noncomputable section

namespace Cert.Stage

open Idealize.ShloMosaic Cert.KernelIdeal Cert.KernelIdeal.Gen Cert.Conv

/-- With banded weights the first layer is a convolution of the image. -/
theorem layerA_conv (x : FVec Ideal S64x17x64 .f32) (W : FVec Ideal S128x512 .f32) (b : FVec Ideal S1x512 .f32) (n : Fin 64) (Y X : Fin 16) (o : Fin 32)
    (img : Fin 32 → Fin 32 → Fin 1 → EReal) (w : Fin 4 → Fin 4 → Fin 1 → EReal)
    (hx : ∀ (r : Fin 34) (q : Fin 32), (x (ix3 n ⟨r.val / 2, by omega⟩ ⟨r.val % 2 * 32 + q.val, by omega⟩) : EReal) =
      if hr : 1 ≤ r.val ∧ r.val < 33 then img ⟨r.val - 1, by omega⟩ q 0 else 0)
    (hW : ∀ (ky : Fin 4) (x : Fin 32), (W (ix2 ⟨ky.val * 32 + x.val, by omega⟩ ⟨X.val * 32 + o.val, by omega⟩) : EReal) =
      ∑ kx : Fin 4, if x.val + 1 = kx.val + 2 * X.val then w ky kx 0 else 0) :
    layerA x W b (ix3 n Y ⟨X.val * 32 + o.val, by omega⟩) = conv img w (b (ix2 0 ⟨X.val * 32 + o.val, by omega⟩)) Y.val X.val := by
  rw [layerA_apply]
  unfold conv
  refine congrArg (fun s => max (s + (b (ix2 0 ⟨X.val * 32 + o.val, by omega⟩) : EReal)) 0) ?_
  rw [← banded]
  refine (sum_split (a := 4) (b := 32) _).trans (Finset.sum_congr rfl fun ky _ => Finset.sum_congr rfl fun q _ => ?_)
  rw [Fin.sum_univ_one]
  exact congrArg₂ (· * ·) ((rowsA_apply x n Y ky q).trans (hx ⟨ky.val + 2 * Y.val, by omega⟩ q)) (hW ky q)

/-- With banded weights the second layer is a convolution. -/
theorem layerB_conv (h : FVec Ideal S64x16x512 .f32) (W : FVec Ideal S2048x256 .f32) (b : FVec Ideal S1x256 .f32) (n : Fin 64) (Y X : Fin 8) (o : Fin 32)
    (w : Fin 4 → Fin 4 → Fin 32 → EReal)
    (hW : ∀ (ky : Fin 4) (x : Fin 16) (c : Fin 32), (W (ix2 ⟨ky.val * 512 + (x.val * 32 + c.val), by omega⟩ ⟨X.val * 32 + o.val, by omega⟩) : EReal) =
      ∑ kx : Fin 4, if x.val + 1 = kx.val + 2 * X.val then w ky kx c else 0) :
    layerB h W b (ix3 n Y ⟨X.val * 32 + o.val, by omega⟩) =
      conv (fun r q c => (h (ix3 n r ⟨q.val * 32 + c.val, by omega⟩) : EReal)) w (b (ix2 0 ⟨X.val * 32 + o.val, by omega⟩)) Y.val X.val := by
  rw [layerB_apply]
  unfold conv
  refine congrArg (fun s => max (s + (b (ix2 0 ⟨X.val * 32 + o.val, by omega⟩) : EReal)) 0) ?_
  rw [← banded]
  refine (sum_split (a := 4) (b := 512) _).trans (Finset.sum_congr rfl fun ky _ => ?_)
  refine (sum_split (a := 16) (b := 32) _).trans (Finset.sum_congr rfl fun q _ => Finset.sum_congr rfl fun c _ => ?_)
  exact congrArg₂ (· * ·) (rowsB_apply h n Y ky ⟨q.val * 32 + c.val, by omega⟩) (hW ky q c)

/-- With banded weights the third layer is a convolution. -/
theorem layerC_conv (h : FVec Ideal S64x8x256 .f32) (W : FVec Ideal S1024x128 .f32) (b : FVec Ideal S1x128 .f32) (n : Fin 64) (Y X : Fin 4) (o : Fin 32)
    (w : Fin 4 → Fin 4 → Fin 32 → EReal)
    (hW : ∀ (ky : Fin 4) (x : Fin 8) (c : Fin 32), (W (ix2 ⟨ky.val * 256 + (x.val * 32 + c.val), by omega⟩ ⟨X.val * 32 + o.val, by omega⟩) : EReal) =
      ∑ kx : Fin 4, if x.val + 1 = kx.val + 2 * X.val then w ky kx c else 0) :
    layerC h W b (ix3 n Y ⟨X.val * 32 + o.val, by omega⟩) =
      conv (fun r q c => (h (ix3 n r ⟨q.val * 32 + c.val, by omega⟩) : EReal)) w (b (ix2 0 ⟨X.val * 32 + o.val, by omega⟩)) Y.val X.val := by
  rw [layerC_apply]
  unfold conv
  refine congrArg (fun s => max (s + (b (ix2 0 ⟨X.val * 32 + o.val, by omega⟩) : EReal)) 0) ?_
  rw [← banded]
  refine (sum_split (a := 4) (b := 256) _).trans (Finset.sum_congr rfl fun ky _ => ?_)
  refine (sum_split (a := 8) (b := 32) _).trans (Finset.sum_congr rfl fun q _ => Finset.sum_congr rfl fun c _ => ?_)
  exact congrArg₂ (· * ·) (rowsC_apply h n Y ky ⟨q.val * 32 + c.val, by omega⟩) (hW ky q c)

/-- The kernel's dense layers, its features ordered row, column, channel. -/
theorem dense_apply (h : FVec Ideal S64x4x128 .f32) (f1 : FVec Ideal S512x256 .f32) (g1 : FVec Ideal S1x256 .f32) (f2 : FVec Ideal S256x128 .f32)
    (g2 : FVec Ideal S1x128 .f32) (n : Fin 64) (j : Fin 128) :
    k0_pay1 (F := Ideal) (denseD h f1 g1 f2) g2 (ix2 n j) =
      RefConv.dense (fun y x c => (h (ix3 n y ⟨x.val * 32 + c.val, by omega⟩) : EReal))
        (fun k y x c => (f1 (ix2 ⟨y.val * 128 + (x.val * 32 + c.val), by omega⟩ k) : EReal)) (fun k => g1 (ix2 0 k)) (fun k => f2 (ix2 k j))
        (g2 (ix2 0 j)) := by
  pointwise [k0_pay1, denseD]
  unfold RefConv.dense
  refine congrArg (fun u => max (u + (g2 (ix2 0 j) : EReal)) 0) (Finset.sum_congr rfl fun k _ => ?_)
  refine congrArg (fun u => max (u + (g1 (ix2 0 k) : EReal)) 0 * (f2 (ix2 k j) : EReal)) ?_
  refine (sum_split (a := 4) (b := 128) _).trans (Finset.sum_congr rfl fun y _ => ?_)
  refine (sum_split (a := 4) (b := 32) _).trans (Finset.sum_congr rfl fun x _ => Finset.sum_congr rfl fun c _ => ?_)
  refine congrArg (· * (f1 (ix2 ⟨y.val * 128 + (x.val * 32 + c.val), by omega⟩ k) : EReal)) ?_
  dsimp only
  split_ifs <;> (refine congrArg₂ (fun p q => (h (ix3 n p q) : EReal)) (Fin.ext ?_) (Fin.ext ?_) <;> first
    | omega
    | (dsimp only; omega)
    | (show (0 : ℕ) = y.val; omega)
    | (show (1 : ℕ) = y.val; omega)
    | (show (2 : ℕ) = y.val; omega)
    | (show (3 : ℕ) = y.val; omega))

/-- What the host lays out for the encoder: the banded weights, the biases once per column, the dense weights in the kernel's order. -/
structure Laid (W1 : FVec Ideal S128x512 .f32) (B1 : FVec Ideal S1x512 .f32) (W2 : FVec Ideal S2048x256 .f32) (B2 : FVec Ideal S1x256 .f32)
    (W3 : FVec Ideal S1024x128 .f32) (B3 : FVec Ideal S1x128 .f32) (F1 : FVec Ideal S512x256 .f32) (G1 : FVec Ideal S1x256 .f32)
    (F2 : FVec Ideal S256x128 .f32) (G2 : FVec Ideal S1x128 .f32)
    (w1 : FVec Ideal S32x1x4x4 .f32) (b1 : FVec Ideal S32 .f32) (w2 : FVec Ideal S32x32x4x4 .f32) (b2 : FVec Ideal S32 .f32)
    (w3 : FVec Ideal S32x32x4x4 .f32) (b3 : FVec Ideal S32 .f32) (f1 : FVec Ideal S256x512 .f32) (g1 : FVec Ideal S256 .f32)
    (f2 : FVec Ideal S128x256 .f32) (g2 : FVec Ideal S128 .f32) : Prop where
  w1 : ∀ (ky : Fin 4) (x : Fin 32) (X : Fin 16) (o : Fin 32),
    (W1 (ix2 ⟨ky.val * 32 + x.val, by omega⟩ ⟨X.val * 32 + o.val, by omega⟩) : EReal) =
      ∑ kx : Fin 4, if x.val + 1 = kx.val + 2 * X.val then (w1 (ix4 o 0 ky kx) : EReal) else 0
  b1 : ∀ (X : Fin 16) (o : Fin 32), (B1 (ix2 0 ⟨X.val * 32 + o.val, by omega⟩) : EReal) = b1 (ix1 o)
  w2 : ∀ (ky : Fin 4) (x : Fin 16) (c : Fin 32) (X : Fin 8) (o : Fin 32),
    (W2 (ix2 ⟨ky.val * 512 + (x.val * 32 + c.val), by omega⟩ ⟨X.val * 32 + o.val, by omega⟩) : EReal) =
      ∑ kx : Fin 4, if x.val + 1 = kx.val + 2 * X.val then (w2 (ix4 o c ky kx) : EReal) else 0
  b2 : ∀ (X : Fin 8) (o : Fin 32), (B2 (ix2 0 ⟨X.val * 32 + o.val, by omega⟩) : EReal) = b2 (ix1 o)
  w3 : ∀ (ky : Fin 4) (x : Fin 8) (c : Fin 32) (X : Fin 4) (o : Fin 32),
    (W3 (ix2 ⟨ky.val * 256 + (x.val * 32 + c.val), by omega⟩ ⟨X.val * 32 + o.val, by omega⟩) : EReal) =
      ∑ kx : Fin 4, if x.val + 1 = kx.val + 2 * X.val then (w3 (ix4 o c ky kx) : EReal) else 0
  b3 : ∀ (X : Fin 4) (o : Fin 32), (B3 (ix2 0 ⟨X.val * 32 + o.val, by omega⟩) : EReal) = b3 (ix1 o)
  f1 : ∀ (k : Fin 256) (y x : Fin 4) (c : Fin 32), (F1 (ix2 ⟨y.val * 128 + (x.val * 32 + c.val), by omega⟩ k) : EReal) =
    f1 (ix2 k ⟨c.val * 16 + (y.val * 4 + x.val), by omega⟩)
  g1 : ∀ k : Fin 256, (G1 (ix2 0 k) : EReal) = g1 (ix1 k)
  f2 : ∀ (k : Fin 256) (j : Fin 128), (F2 (ix2 k j) : EReal) = f2 (ix2 j k)
  g2 : ∀ j : Fin 128, (G2 (ix2 0 j) : EReal) = g2 (ix1 j)

/-- A block's image is the reference's encoding of that image. -/
theorem block {W1 : FVec Ideal S128x512 .f32} {B1 : FVec Ideal S1x512 .f32} {W2 : FVec Ideal S2048x256 .f32} {B2 : FVec Ideal S1x256 .f32}
    {W3 : FVec Ideal S1024x128 .f32} {B3 : FVec Ideal S1x128 .f32} {F1 : FVec Ideal S512x256 .f32} {G1 : FVec Ideal S1x256 .f32}
    {F2 : FVec Ideal S256x128 .f32} {G2 : FVec Ideal S1x128 .f32}
    {w1 : FVec Ideal S32x1x4x4 .f32} {b1 : FVec Ideal S32 .f32} {w2 : FVec Ideal S32x32x4x4 .f32} {b2 : FVec Ideal S32 .f32}
    {w3 : FVec Ideal S32x32x4x4 .f32} {b3 : FVec Ideal S32 .f32} {f1 : FVec Ideal S256x512 .f32} {g1 : FVec Ideal S256 .f32}
    {f2 : FVec Ideal S128x256 .f32} {g2 : FVec Ideal S128 .f32}
    (L : Laid W1 B1 W2 B2 W3 B3 F1 G1 F2 G2 w1 b1 w2 b2 w3 b3 f1 g1 f2 g2)
    (x : FVec Ideal S512x20x32x32 .f32) (v : FVec Ideal S64x17x64 .f32) (n : Fin 64) (s : Fin 512) (t : Fin 20) (j : Fin 128)
    (hx : ∀ (r : Fin 34) (q : Fin 32), (v (ix3 n ⟨r.val / 2, by omega⟩ ⟨r.val % 2 * 32 + q.val, by omega⟩) : EReal) =
      if hr : 1 ≤ r.val ∧ r.val < 33 then x (ix4 s t ⟨r.val - 1, by omega⟩ q) else 0) :
    k0_pay1 (F := Ideal) (k0_pay4 (F := Ideal) (k0_pay2 (F := Ideal) v W1 B1 W2 B2) (k0_pay3 (F := Ideal)) W3 B3 F1 G1 F2) G2 (ix2 n j) =
      Spec.encoded x w1 b1 w2 b2 w3 b3 f1 g1 f2 g2 (ix3 s t j) := by
  unfold Spec.encoded
  rw [pay2_eq, pay4_eq, dense_apply, RefConv.fn_dense_apply]
  have e1 : ∀ (Y X : Fin 16) (o : Fin 32), layerA v W1 B1 (ix3 n Y ⟨X.val * 32 + o.val, by omega⟩) =
      Cert.Pre_distinct.fn_conv_relu (F := Ideal) (shapeCast _ x Cert.Pre_distinct.Facts.shapeCasts_S512x20x32x32_S10240x1x32x32) w1 b1
        (ix4 ⟨s.val * 20 + t.val, by omega⟩ o Y X) := by
    intro Y X o
    rw [RefConv.fn_conv_relu_apply, layerA_conv v W1 B1 n Y X o (fun r q _ => x (ix4 s t r q)) (fun ky kx _ => w1 (ix4 o 0 ky kx)) hx
      (fun ky q => L.w1 ky q X o), L.b1]
    have ei : (fun (r q : Fin 32) (_ : Fin 1) => (x (ix4 s t r q) : EReal)) = fun r q c =>
        (shapeCast Cert.Pre_distinct.S10240x1x32x32 x Cert.Pre_distinct.Facts.shapeCasts_S512x20x32x32_S10240x1x32x32 (ix4 ⟨s.val * 20 + t.val, by omega⟩ c r q) : EReal) := by
      funext r q c
      pointwise []
    have ew : (fun (ky kx : Fin 4) (_ : Fin 1) => (w1 (ix4 o 0 ky kx) : EReal)) = fun ky kx c => (w1 (ix4 o c ky kx) : EReal) := by
      funext ky kx c
      rw [Subsingleton.elim c 0]
    rw [ei, ew]
  have e2 : ∀ (Y X : Fin 8) (o : Fin 32), layerB (layerA v W1 B1) W2 B2 (ix3 n Y ⟨X.val * 32 + o.val, by omega⟩) =
      Cert.Pre_distinct.fn_conv_relu_0 (F := Ideal) (Cert.Pre_distinct.fn_conv_relu (F := Ideal)
        (shapeCast _ x Cert.Pre_distinct.Facts.shapeCasts_S512x20x32x32_S10240x1x32x32) w1 b1) w2 b2
        (ix4 ⟨s.val * 20 + t.val, by omega⟩ o Y X) := by
    intro Y X o
    rw [RefConv.fn_conv_relu_0_apply, layerB_conv _ W2 B2 n Y X o (fun ky kx c => w2 (ix4 o c ky kx)) (fun ky q c => L.w2 ky q c X o), L.b2]
    simp only [e1]
  have e3 : ∀ (Y X : Fin 4) (o : Fin 32), layerC (layerB (layerA v W1 B1) W2 B2) W3 B3 (ix3 n Y ⟨X.val * 32 + o.val, by omega⟩) =
      Cert.Pre_distinct.fn_conv_relu_2 (F := Ideal) (Cert.Pre_distinct.fn_conv_relu_0 (F := Ideal) (Cert.Pre_distinct.fn_conv_relu (F := Ideal)
        (shapeCast _ x Cert.Pre_distinct.Facts.shapeCasts_S512x20x32x32_S10240x1x32x32) w1 b1) w2 b2) w3 b3
        (ix4 ⟨s.val * 20 + t.val, by omega⟩ o Y X) := by
    intro Y X o
    rw [RefConv.fn_conv_relu_2_apply, layerC_conv _ W3 B3 n Y X o (fun ky kx c => w3 (ix4 o c ky kx)) (fun ky q c => L.w3 ky q c X o), L.b3]
    simp only [e2]
  simp only [e3, L.f1, L.g1, L.f2, L.g2]

end Cert.Stage

end
-- ==== Proof.Lay.lean ====
/- What the host lays out for the encoder, read at an index: the selections, the banded weights, the repeated biases, the dense weights. -/
module

public import proofs.«01_k».proof.Proof.Stage

@[expose] public section

set_option maxRecDepth 16384
set_option maxHeartbeats 2000000

noncomputable section

namespace Cert.Lay

open Idealize.ShloMosaic Cert.KernelIdeal Cert.KernelIdeal.Gen

/-- Entry `x`, `kx`, `X` of selection 0 is one exactly when padded column `kx + 2 X` is column `x`. -/
theorem lit0_eq : ∀ i : Fin 2048, lit0 i = if i.val / 64 + 1 = i.val / 16 % 4 + 2 * (i.val % 16) then 0x3F800000#32 else 0#32 := by decide +kernel

/-- Entry `x`, `kx`, `X` of selection 1 is one exactly when padded column `kx + 2 X` is column `x`. -/
theorem lit1_eq : ∀ i : Fin 2048, lit1 i = if i.val / 64 + 1 = i.val / 16 % 4 + 2 * (i.val % 16) then 0x3F800000#32 else 0#32 := by decide +kernel

/-- Entry `x`, `kx`, `X` of selection 2 is one exactly when padded column `kx + 2 X` is column `x`. -/
theorem lit2_eq : ∀ i : Fin 2048, lit2 i = if i.val / 64 + 1 = i.val / 16 % 4 + 2 * (i.val % 16) then 0x3F800000#32 else 0#32 := by decide +kernel

/-- Entry `x`, `kx`, `X` of selection 3 is one exactly when padded column `kx + 2 X` is column `x`. -/
theorem lit3_eq : ∀ i : Fin 2048, lit3 i = if i.val / 64 + 1 = i.val / 16 % 4 + 2 * (i.val % 16) then 0x3F800000#32 else 0#32 := by decide +kernel

/-- Entry `x`, `kx`, `X` of selection 4 is one exactly when padded column `kx + 2 X` is column `x`. -/
theorem lit4_eq : ∀ i : Fin 512, lit4 i = if i.val / 32 + 1 = i.val / 8 % 4 + 2 * (i.val % 8) then 0x3F800000#32 else 0#32 := by decide +kernel

/-- Entry `x`, `kx`, `X` of selection 5 is one exactly when padded column `kx + 2 X` is column `x`. -/
theorem lit5_eq : ∀ i : Fin 512, lit5 i = if i.val / 32 + 1 = i.val / 8 % 4 + 2 * (i.val % 8) then 0x3F800000#32 else 0#32 := by decide +kernel

/-- Entry `x`, `kx`, `X` of selection 6 is one exactly when padded column `kx + 2 X` is column `x`. -/
theorem lit6_eq : ∀ i : Fin 512, lit6 i = if i.val / 32 + 1 = i.val / 8 % 4 + 2 * (i.val % 8) then 0x3F800000#32 else 0#32 := by decide +kernel

/-- Entry `x`, `kx`, `X` of selection 7 is one exactly when padded column `kx + 2 X` is column `x`. -/
theorem lit7_eq : ∀ i : Fin 512, lit7 i = if i.val / 32 + 1 = i.val / 8 % 4 + 2 * (i.val % 8) then 0x3F800000#32 else 0#32 := by decide +kernel

/-- Entry `x`, `kx`, `X` of selection 8 is one exactly when padded column `kx + 2 X` is column `x`. -/
theorem lit8_eq : ∀ i : Fin 128, lit8 i = if i.val / 16 + 1 = i.val / 4 % 4 + 2 * (i.val % 4) then 0x3F800000#32 else 0#32 := by decide +kernel

/-- Entry `x`, `kx`, `X` of selection 9 is one exactly when padded column `kx + 2 X` is column `x`. -/
theorem lit9_eq : ∀ i : Fin 128, lit9 i = if i.val / 16 + 1 = i.val / 4 % 4 + 2 * (i.val % 4) then 0x3F800000#32 else 0#32 := by decide +kernel

/-- Entry `x`, `kx`, `X` of selection 10 is one exactly when padded column `kx + 2 X` is column `x`. -/
theorem lit10_eq : ∀ i : Fin 128, lit10 i = if i.val / 16 + 1 = i.val / 4 % 4 + 2 * (i.val % 4) then 0x3F800000#32 else 0#32 := by decide +kernel

/-- Entry `x`, `kx`, `X` of selection 11 is one exactly when padded column `kx + 2 X` is column `x`. -/
theorem lit11_eq : ∀ i : Fin 128, lit11 i = if i.val / 16 + 1 = i.val / 4 % 4 + 2 * (i.val % 4) then 0x3F800000#32 else 0#32 := by decide +kernel

/-- A selection read as numbers. -/
def selA (l : Fin 2048 → BitVec 32) : FVec Ideal S32x4x16 .f32 := fun i => FloatOps.ofBits .f32 (l (S32x4x16.rowMajor i))

/-- A selection's entries are zeros and ones. -/
theorem selA_apply (l : Fin 2048 → BitVec 32) (hl : ∀ i : Fin 2048, l i = if i.val / 64 + 1 = i.val / 16 % 4 + 2 * (i.val % 16) then 0x3F800000#32 else 0#32)
    (x : Fin 32) (kx : Fin 4) (X : Fin 16) : selA l (ix3 x kx X) = if x.val + 1 = kx.val + 2 * X.val then (1 : EReal) else 0 := by
  have r : ((S32x4x16.rowMajor (ix3 x kx X) : Fin 2048) : ℕ) = x.val * 64 + kx.val * 16 + X.val := by
    refine (Shape.rowMajor_val_three (d := ![32, 4, 16]) (ix3 x kx X)).trans ?_
    show _ = _
    simp
    try omega
  have key : ∀ n : ℕ, n = x.val * 64 + kx.val * 16 + X.val →
      (n / 64 + 1 = n / 16 % 4 + 2 * (n % 16) ↔ x.val + 1 = kx.val + 2 * X.val) := by
    intro n hn
    have c1 : n / 64 = x.val := by omega
    have c2 : n / 16 % 4 = kx.val := by omega
    have c3 : n % 16 = X.val := by omega
    rw [c1, c2, c3]
  refine (congrArg (fun b : BitVec 32 => (FloatOps.ofBits (F := Ideal) .f32 b : EReal)) (hl (S32x4x16.rowMajor (ix3 x kx X)))).trans ?_
  by_cases p : x.val + 1 = kx.val + 2 * X.val
  · rw [if_pos p]
    exact (congrArg (fun b : BitVec 32 => (FloatOps.ofBits (F := Ideal) .f32 b : EReal)) (if_pos ((key _ r).2 p))).trans Ideal.ofBits_one_f32
  · rw [if_neg p]
    exact (congrArg (fun b : BitVec 32 => (FloatOps.ofBits (F := Ideal) .f32 b : EReal)) (if_neg fun h => p ((key _ r).1 h))).trans Ideal.ofBits_zero_f32

/-- A selection read as numbers. -/
def selB (l : Fin 512 → BitVec 32) : FVec Ideal S16x4x8 .f32 := fun i => FloatOps.ofBits .f32 (l (S16x4x8.rowMajor i))

/-- A selection's entries are zeros and ones. -/
theorem selB_apply (l : Fin 512 → BitVec 32) (hl : ∀ i : Fin 512, l i = if i.val / 32 + 1 = i.val / 8 % 4 + 2 * (i.val % 8) then 0x3F800000#32 else 0#32)
    (x : Fin 16) (kx : Fin 4) (X : Fin 8) : selB l (ix3 x kx X) = if x.val + 1 = kx.val + 2 * X.val then (1 : EReal) else 0 := by
  have r : ((S16x4x8.rowMajor (ix3 x kx X) : Fin 512) : ℕ) = x.val * 32 + kx.val * 8 + X.val := by
    refine (Shape.rowMajor_val_three (d := ![16, 4, 8]) (ix3 x kx X)).trans ?_
    show _ = _
    simp
    try omega
  have key : ∀ n : ℕ, n = x.val * 32 + kx.val * 8 + X.val →
      (n / 32 + 1 = n / 8 % 4 + 2 * (n % 8) ↔ x.val + 1 = kx.val + 2 * X.val) := by
    intro n hn
    have c1 : n / 32 = x.val := by omega
    have c2 : n / 8 % 4 = kx.val := by omega
    have c3 : n % 8 = X.val := by omega
    rw [c1, c2, c3]
  refine (congrArg (fun b : BitVec 32 => (FloatOps.ofBits (F := Ideal) .f32 b : EReal)) (hl (S16x4x8.rowMajor (ix3 x kx X)))).trans ?_
  by_cases p : x.val + 1 = kx.val + 2 * X.val
  · rw [if_pos p]
    exact (congrArg (fun b : BitVec 32 => (FloatOps.ofBits (F := Ideal) .f32 b : EReal)) (if_pos ((key _ r).2 p))).trans Ideal.ofBits_one_f32
  · rw [if_neg p]
    exact (congrArg (fun b : BitVec 32 => (FloatOps.ofBits (F := Ideal) .f32 b : EReal)) (if_neg fun h => p ((key _ r).1 h))).trans Ideal.ofBits_zero_f32

/-- A selection read as numbers. -/
def selC (l : Fin 128 → BitVec 32) : FVec Ideal S8x4x4 .f32 := fun i => FloatOps.ofBits .f32 (l (S8x4x4.rowMajor i))

/-- A selection's entries are zeros and ones. -/
theorem selC_apply (l : Fin 128 → BitVec 32) (hl : ∀ i : Fin 128, l i = if i.val / 16 + 1 = i.val / 4 % 4 + 2 * (i.val % 4) then 0x3F800000#32 else 0#32)
    (x : Fin 8) (kx : Fin 4) (X : Fin 4) : selC l (ix3 x kx X) = if x.val + 1 = kx.val + 2 * X.val then (1 : EReal) else 0 := by
  have r : ((S8x4x4.rowMajor (ix3 x kx X) : Fin 128) : ℕ) = x.val * 16 + kx.val * 4 + X.val := by
    refine (Shape.rowMajor_val_three (d := ![8, 4, 4]) (ix3 x kx X)).trans ?_
    show _ = _
    simp
    try omega
  have key : ∀ n : ℕ, n = x.val * 16 + kx.val * 4 + X.val →
      (n / 16 + 1 = n / 4 % 4 + 2 * (n % 4) ↔ x.val + 1 = kx.val + 2 * X.val) := by
    intro n hn
    have c1 : n / 16 = x.val := by omega
    have c2 : n / 4 % 4 = kx.val := by omega
    have c3 : n % 4 = X.val := by omega
    rw [c1, c2, c3]
  refine (congrArg (fun b : BitVec 32 => (FloatOps.ofBits (F := Ideal) .f32 b : EReal)) (hl (S8x4x4.rowMajor (ix3 x kx X)))).trans ?_
  by_cases p : x.val + 1 = kx.val + 2 * X.val
  · rw [if_pos p]
    exact (congrArg (fun b : BitVec 32 => (FloatOps.ofBits (F := Ideal) .f32 b : EReal)) (if_pos ((key _ r).2 p))).trans Ideal.ofBits_one_f32
  · rw [if_neg p]
    exact (congrArg (fun b : BitVec 32 => (FloatOps.ofBits (F := Ideal) .f32 b : EReal)) (if_neg fun h => p ((key _ r).1 h))).trans Ideal.ofBits_zero_f32

/-- The first layer's weights, rows and columns of the window first. -/
def tapsA (w : FVec Ideal S32x1x4x4 .f32) : FVec Ideal S4x4x32 .f32 :=
  shapeCast S4x4x32 (transpose S4x4x1x32 [2, 3, 1, 0] w transposes_S32x1x4x4_S4x4x1x32_2_3_1_0) shapeCasts_S4x4x1x32_S4x4x32

/-- One window row of the first layer, banded. -/
def bandA (s : FVec Ideal S32x4x16 .f32) (k : FVec Ideal S1x4x32 .f32) : FVec Ideal S32x512 .f32 :=
  shapeCast S32x512 (Host.dotGeneral (F := Ideal) dot_S32x4x16_S4x32_S32x16x32_1_0_02_1_n_n none s (shapeCast S4x32 k shapeCasts_S1x4x32_S4x32))
    shapeCasts_S32x16x32_S32x512

/-- The first layer's banded weights. -/
def layA (w : FVec Ideal S32x1x4x4 .f32) : FVec Ideal S128x512 .f32 :=
  concatenate S128x512 0 [⟨S32x512, bandA (selA lit0) (extractStridedSlice S1x4x32 ![0, 0, 0] (tapsA w) slices_S4x4x32_S1x4x32_0_0_0)⟩,
    ⟨S32x512, bandA (selA lit1) (extractStridedSlice S1x4x32 ![1, 0, 0] (tapsA w) slices_S4x4x32_S1x4x32_1_0_0)⟩,
    ⟨S32x512, bandA (selA lit2) (extractStridedSlice S1x4x32 ![2, 0, 0] (tapsA w) slices_S4x4x32_S1x4x32_2_0_0)⟩,
    ⟨S32x512, bandA (selA lit3) (extractStridedSlice S1x4x32 ![3, 0, 0] (tapsA w) slices_S4x4x32_S1x4x32_3_0_0)⟩]
    concatenates_S32x512_S32x512_S32x512_S32x512_S128x512_d0

/-- One band of the first layer at an index. -/
theorem bandA_apply (s : FVec Ideal S32x4x16 .f32) (k : FVec Ideal S1x4x32 .f32) (x : Fin 32) (X : Fin 16) (o : Fin 32) :
    bandA s k (ix2 x ⟨X.val * 32 + o.val, by omega⟩) = ∑ kx : Fin 4, (s (ix3 x kx X) : EReal) * k (ix3 0 kx o) := by
  pointwise [bandA]
  try rfl

/-- A sum of selected terms. -/
theorem selected (p : Fin 4 → Prop) [∀ k, Decidable (p k)] (w : Fin 4 → EReal) :
    ∑ k : Fin 4, w k * (if p k then (1 : EReal) else 0) = ∑ k : Fin 4, if p k then w k else 0 := by
  refine Finset.sum_congr rfl fun k _ => ?_
  split_ifs
  · exact mul_one _
  · exact mul_zero _

/-- The first layer's banded weights at an index. -/
theorem layA_apply (w : FVec Ideal S32x1x4x4 .f32) (ky : Fin 4) (x : Fin 32) (X : Fin 16) (o : Fin 32) :
    layA w (ix2 ⟨ky.val * 32 + x.val, by omega⟩ ⟨X.val * 32 + o.val, by omega⟩) =
      ∑ kx : Fin 4, if x.val + 1 = kx.val + 2 * X.val then (w (ix4 o 0 ky kx) : EReal) else 0 := by
  rw [← selected]
  pointwise [layA, bandA, tapsA]
  rcases (by omega : ky.val = 0 ∨ ky.val = 1 ∨ ky.val = 2 ∨ ky.val = 3) with hk | hk | hk | hk
  · have h0 : (ky.val * 32 + x.val < 32) := by omega
    rw [dif_pos h0]
    refine Finset.sum_congr rfl fun kx _ => ?_
    refine (mul_comm _ _).trans (congrArg₂ (fun u v : EReal => u * v) (congrArg (fun b => (w (ix4 o 0 b kx) : EReal)) (Fin.ext hk.symm))
      ((congrArg (fun q => (selA lit0 (ix3 q kx X) : EReal)) (Fin.ext ?_)).trans (selA_apply _ lit0_eq x kx X)))
    first
      | omega
      | (dsimp only; omega)
      | rfl
  · have h0 : ¬ (ky.val * 32 + x.val < 32) := by omega
    have h1 : (ky.val * 32 + x.val - 32 < 32) := by omega
    rw [dif_neg h0, dif_pos h1]
    refine Finset.sum_congr rfl fun kx _ => ?_
    refine (mul_comm _ _).trans (congrArg₂ (fun u v : EReal => u * v) (congrArg (fun b => (w (ix4 o 0 b kx) : EReal)) (Fin.ext hk.symm))
      ((congrArg (fun q => (selA lit1 (ix3 q kx X) : EReal)) (Fin.ext ?_)).trans (selA_apply _ lit1_eq x kx X)))
    first
      | omega
      | (dsimp only; omega)
      | rfl
  · have h0 : ¬ (ky.val * 32 + x.val < 32) := by omega
    have h1 : ¬ (ky.val * 32 + x.val - 32 < 32) := by omega
    have h2 : (ky.val * 32 + x.val - 32 - 32 < 32) := by omega
    rw [dif_neg h0, dif_neg h1, dif_pos h2]
    refine Finset.sum_congr rfl fun kx _ => ?_
    refine (mul_comm _ _).trans (congrArg₂ (fun u v : EReal => u * v) (congrArg (fun b => (w (ix4 o 0 b kx) : EReal)) (Fin.ext hk.symm))
      ((congrArg (fun q => (selA lit2 (ix3 q kx X) : EReal)) (Fin.ext ?_)).trans (selA_apply _ lit2_eq x kx X)))
    first
      | omega
      | (dsimp only; omega)
      | rfl
  · have h0 : ¬ (ky.val * 32 + x.val < 32) := by omega
    have h1 : ¬ (ky.val * 32 + x.val - 32 < 32) := by omega
    have h2 : ¬ (ky.val * 32 + x.val - 32 - 32 < 32) := by omega
    rw [dif_neg h0, dif_neg h1, dif_neg h2]
    refine Finset.sum_congr rfl fun kx _ => ?_
    refine (mul_comm _ _).trans (congrArg₂ (fun u v : EReal => u * v) (congrArg (fun b => (w (ix4 o 0 b kx) : EReal)) (Fin.ext hk.symm))
      ((congrArg (fun q => (selA lit3 (ix3 q kx X) : EReal)) (Fin.ext ?_)).trans (selA_apply _ lit3_eq x kx X)))
    first
      | omega
      | (dsimp only; omega)
      | rfl

/-- One window row of the second layer, banded. -/
def bandB (k : FVec Ideal S1x4x32x32 .f32) (s : FVec Ideal S16x4x8 .f32) : FVec Ideal S512x256 .f32 :=
  shapeCast S512x256 (transpose S16x32x8x32 [2, 0, 3, 1] (Host.dotGeneral (F := Ideal) dot_S4x32x32_S16x4x8_S32x32x16x8_0_1_12_02_n_n none
    (shapeCast S4x32x32 k shapeCasts_S1x4x32x32_S4x32x32) s) transposes_S32x32x16x8_S16x32x8x32_2_0_3_1)
    shapeCasts_S16x32x8x32_S512x256

/-- The second layer's banded weights. -/
def layB (w : FVec Ideal S32x32x4x4 .f32) : FVec Ideal S2048x256 .f32 :=
  concatenate S2048x256 0 [⟨S512x256, bandB (extractStridedSlice S1x4x32x32 ![0, 0, 0, 0] (transpose S4x4x32x32 [2, 3, 1, 0] w transposes_S32x32x4x4_S4x4x32x32_2_3_1_0) slices_S4x4x32x32_S1x4x32x32_0_0_0_0) (selB lit4)⟩,
    ⟨S512x256, bandB (extractStridedSlice S1x4x32x32 ![1, 0, 0, 0] (transpose S4x4x32x32 [2, 3, 1, 0] w transposes_S32x32x4x4_S4x4x32x32_2_3_1_0) slices_S4x4x32x32_S1x4x32x32_1_0_0_0) (selB lit5)⟩,
    ⟨S512x256, bandB (extractStridedSlice S1x4x32x32 ![2, 0, 0, 0] (transpose S4x4x32x32 [2, 3, 1, 0] w transposes_S32x32x4x4_S4x4x32x32_2_3_1_0) slices_S4x4x32x32_S1x4x32x32_2_0_0_0) (selB lit6)⟩,
    ⟨S512x256, bandB (extractStridedSlice S1x4x32x32 ![3, 0, 0, 0] (transpose S4x4x32x32 [2, 3, 1, 0] w transposes_S32x32x4x4_S4x4x32x32_2_3_1_0) slices_S4x4x32x32_S1x4x32x32_3_0_0_0) (selB lit7)⟩] concatenates_S512x256_S512x256_S512x256_S512x256_S2048x256_d0

/-- The second layer's banded weights at an index. -/
theorem layB_apply (w : FVec Ideal S32x32x4x4 .f32) (ky : Fin 4) (x : Fin 16) (c : Fin 32) (X : Fin 8) (o : Fin 32) :
    layB w (ix2 ⟨ky.val * 512 + (x.val * 32 + c.val), by omega⟩ ⟨X.val * 32 + o.val, by omega⟩) =
      ∑ kx : Fin 4, if x.val + 1 = kx.val + 2 * X.val then (w (ix4 o c ky kx) : EReal) else 0 := by
  rw [← selected]
  pointwise [layB, bandB]
  rcases (by omega : ky.val = 0 ∨ ky.val = 1 ∨ ky.val = 2 ∨ ky.val = 3) with hk | hk | hk | hk
  · have h0 : (ky.val * 512 + (x.val * 32 + c.val) < 512) := by omega
    rw [dif_pos h0]
    refine Finset.sum_congr rfl fun kx _ => ?_
    refine congrArg₂ (fun u v : EReal => u * v) (congrArg₂ (fun a b => (w (ix4 o a b kx) : EReal)) (Fin.ext ?_) (Fin.ext hk.symm))
      ((congrArg (fun q => (selB lit4 (ix3 q kx X) : EReal)) (Fin.ext ?_)).trans (selB_apply _ lit4_eq x kx X)) <;> first
      | omega
      | (dsimp only; omega)
      | rfl
  · have h0 : ¬ (ky.val * 512 + (x.val * 32 + c.val) < 512) := by omega
    have h1 : (ky.val * 512 + (x.val * 32 + c.val) - 512 < 512) := by omega
    rw [dif_neg h0, dif_pos h1]
    refine Finset.sum_congr rfl fun kx _ => ?_
    refine congrArg₂ (fun u v : EReal => u * v) (congrArg₂ (fun a b => (w (ix4 o a b kx) : EReal)) (Fin.ext ?_) (Fin.ext hk.symm))
      ((congrArg (fun q => (selB lit5 (ix3 q kx X) : EReal)) (Fin.ext ?_)).trans (selB_apply _ lit5_eq x kx X)) <;> first
      | omega
      | (dsimp only; omega)
      | rfl
  · have h0 : ¬ (ky.val * 512 + (x.val * 32 + c.val) < 512) := by omega
    have h1 : ¬ (ky.val * 512 + (x.val * 32 + c.val) - 512 < 512) := by omega
    have h2 : (ky.val * 512 + (x.val * 32 + c.val) - 512 - 512 < 512) := by omega
    rw [dif_neg h0, dif_neg h1, dif_pos h2]
    refine Finset.sum_congr rfl fun kx _ => ?_
    refine congrArg₂ (fun u v : EReal => u * v) (congrArg₂ (fun a b => (w (ix4 o a b kx) : EReal)) (Fin.ext ?_) (Fin.ext hk.symm))
      ((congrArg (fun q => (selB lit6 (ix3 q kx X) : EReal)) (Fin.ext ?_)).trans (selB_apply _ lit6_eq x kx X)) <;> first
      | omega
      | (dsimp only; omega)
      | rfl
  · have h0 : ¬ (ky.val * 512 + (x.val * 32 + c.val) < 512) := by omega
    have h1 : ¬ (ky.val * 512 + (x.val * 32 + c.val) - 512 < 512) := by omega
    have h2 : ¬ (ky.val * 512 + (x.val * 32 + c.val) - 512 - 512 < 512) := by omega
    rw [dif_neg h0, dif_neg h1, dif_neg h2]
    refine Finset.sum_congr rfl fun kx _ => ?_
    refine congrArg₂ (fun u v : EReal => u * v) (congrArg₂ (fun a b => (w (ix4 o a b kx) : EReal)) (Fin.ext ?_) (Fin.ext hk.symm))
      ((congrArg (fun q => (selB lit7 (ix3 q kx X) : EReal)) (Fin.ext ?_)).trans (selB_apply _ lit7_eq x kx X)) <;> first
      | omega
      | (dsimp only; omega)
      | rfl

/-- One window row of the third layer, banded. -/
def bandC (k : FVec Ideal S1x4x32x32 .f32) (s : FVec Ideal S8x4x4 .f32) : FVec Ideal S256x128 .f32 :=
  shapeCast S256x128 (transpose S8x32x4x32 [2, 0, 3, 1] (Host.dotGeneral (F := Ideal) dot_S4x32x32_S8x4x4_S32x32x8x4_0_1_12_02_n_n none
    (shapeCast S4x32x32 k shapeCasts_S1x4x32x32_S4x32x32) s) transposes_S32x32x8x4_S8x32x4x32_2_0_3_1)
    shapeCasts_S8x32x4x32_S256x128

/-- The third layer's banded weights. -/
def layC (w : FVec Ideal S32x32x4x4 .f32) : FVec Ideal S1024x128 .f32 :=
  concatenate S1024x128 0 [⟨S256x128, bandC (extractStridedSlice S1x4x32x32 ![0, 0, 0, 0] (transpose S4x4x32x32 [2, 3, 1, 0] w transposes_S32x32x4x4_S4x4x32x32_2_3_1_0) slices_S4x4x32x32_S1x4x32x32_0_0_0_0) (selC lit8)⟩,
    ⟨S256x128, bandC (extractStridedSlice S1x4x32x32 ![1, 0, 0, 0] (transpose S4x4x32x32 [2, 3, 1, 0] w transposes_S32x32x4x4_S4x4x32x32_2_3_1_0) slices_S4x4x32x32_S1x4x32x32_1_0_0_0) (selC lit9)⟩,
    ⟨S256x128, bandC (extractStridedSlice S1x4x32x32 ![2, 0, 0, 0] (transpose S4x4x32x32 [2, 3, 1, 0] w transposes_S32x32x4x4_S4x4x32x32_2_3_1_0) slices_S4x4x32x32_S1x4x32x32_2_0_0_0) (selC lit10)⟩,
    ⟨S256x128, bandC (extractStridedSlice S1x4x32x32 ![3, 0, 0, 0] (transpose S4x4x32x32 [2, 3, 1, 0] w transposes_S32x32x4x4_S4x4x32x32_2_3_1_0) slices_S4x4x32x32_S1x4x32x32_3_0_0_0) (selC lit11)⟩] concatenates_S256x128_S256x128_S256x128_S256x128_S1024x128_d0

/-- The third layer's banded weights at an index. -/
theorem layC_apply (w : FVec Ideal S32x32x4x4 .f32) (ky : Fin 4) (x : Fin 8) (c : Fin 32) (X : Fin 4) (o : Fin 32) :
    layC w (ix2 ⟨ky.val * 256 + (x.val * 32 + c.val), by omega⟩ ⟨X.val * 32 + o.val, by omega⟩) =
      ∑ kx : Fin 4, if x.val + 1 = kx.val + 2 * X.val then (w (ix4 o c ky kx) : EReal) else 0 := by
  rw [← selected]
  pointwise [layC, bandC]
  rcases (by omega : ky.val = 0 ∨ ky.val = 1 ∨ ky.val = 2 ∨ ky.val = 3) with hk | hk | hk | hk
  · have h0 : (ky.val * 256 + (x.val * 32 + c.val) < 256) := by omega
    rw [dif_pos h0]
    refine Finset.sum_congr rfl fun kx _ => ?_
    refine congrArg₂ (fun u v : EReal => u * v) (congrArg₂ (fun a b => (w (ix4 o a b kx) : EReal)) (Fin.ext ?_) (Fin.ext hk.symm))
      ((congrArg (fun q => (selC lit8 (ix3 q kx X) : EReal)) (Fin.ext ?_)).trans (selC_apply _ lit8_eq x kx X)) <;> first
      | omega
      | (dsimp only; omega)
      | rfl
  · have h0 : ¬ (ky.val * 256 + (x.val * 32 + c.val) < 256) := by omega
    have h1 : (ky.val * 256 + (x.val * 32 + c.val) - 256 < 256) := by omega
    rw [dif_neg h0, dif_pos h1]
    refine Finset.sum_congr rfl fun kx _ => ?_
    refine congrArg₂ (fun u v : EReal => u * v) (congrArg₂ (fun a b => (w (ix4 o a b kx) : EReal)) (Fin.ext ?_) (Fin.ext hk.symm))
      ((congrArg (fun q => (selC lit9 (ix3 q kx X) : EReal)) (Fin.ext ?_)).trans (selC_apply _ lit9_eq x kx X)) <;> first
      | omega
      | (dsimp only; omega)
      | rfl
  · have h0 : ¬ (ky.val * 256 + (x.val * 32 + c.val) < 256) := by omega
    have h1 : ¬ (ky.val * 256 + (x.val * 32 + c.val) - 256 < 256) := by omega
    have h2 : (ky.val * 256 + (x.val * 32 + c.val) - 256 - 256 < 256) := by omega
    rw [dif_neg h0, dif_neg h1, dif_pos h2]
    refine Finset.sum_congr rfl fun kx _ => ?_
    refine congrArg₂ (fun u v : EReal => u * v) (congrArg₂ (fun a b => (w (ix4 o a b kx) : EReal)) (Fin.ext ?_) (Fin.ext hk.symm))
      ((congrArg (fun q => (selC lit10 (ix3 q kx X) : EReal)) (Fin.ext ?_)).trans (selC_apply _ lit10_eq x kx X)) <;> first
      | omega
      | (dsimp only; omega)
      | rfl
  · have h0 : ¬ (ky.val * 256 + (x.val * 32 + c.val) < 256) := by omega
    have h1 : ¬ (ky.val * 256 + (x.val * 32 + c.val) - 256 < 256) := by omega
    have h2 : ¬ (ky.val * 256 + (x.val * 32 + c.val) - 256 - 256 < 256) := by omega
    rw [dif_neg h0, dif_neg h1, dif_neg h2]
    refine Finset.sum_congr rfl fun kx _ => ?_
    refine congrArg₂ (fun u v : EReal => u * v) (congrArg₂ (fun a b => (w (ix4 o a b kx) : EReal)) (Fin.ext ?_) (Fin.ext hk.symm))
      ((congrArg (fun q => (selC lit11 (ix3 q kx X) : EReal)) (Fin.ext ?_)).trans (selC_apply _ lit11_eq x kx X)) <;> first
      | omega
      | (dsimp only; omega)
      | rfl

/-- The first layer's bias, once per output column. -/
def biasA (b : FVec Ideal S32 .f32) : FVec Ideal S1x512 .f32 :=
  shapeCast S1x512 (shapeCast S512 (broadcastInDim S16x32 ![0, 1] bcast_S1x32_S16x32_0_1 (shapeCast S1x32 b shapeCasts_S32_S1x32)) shapeCasts_S16x32_S512)
    shapeCasts_S512_S1x512

/-- The first layer's bias at an index. -/
theorem biasA_apply (b : FVec Ideal S32 .f32) (X : Fin 16) (o : Fin 32) :
    biasA b (ix2 0 ⟨X.val * 32 + o.val, by omega⟩) = (b (ix1 o) : EReal) := by
  pointwise [biasA]
  try rfl

/-- The second layer's bias, once per output column. -/
def biasB (b : FVec Ideal S32 .f32) : FVec Ideal S1x256 .f32 :=
  shapeCast S1x256 (shapeCast S256 (broadcastInDim S8x32 ![0, 1] bcast_S1x32_S8x32_0_1 (shapeCast S1x32 b shapeCasts_S32_S1x32)) shapeCasts_S8x32_S256)
    shapeCasts_S256_S1x256

/-- The second layer's bias at an index. -/
theorem biasB_apply (b : FVec Ideal S32 .f32) (X : Fin 8) (o : Fin 32) :
    biasB b (ix2 0 ⟨X.val * 32 + o.val, by omega⟩) = (b (ix1 o) : EReal) := by
  pointwise [biasB]
  try rfl

/-- The third layer's bias, once per output column. -/
def biasC (b : FVec Ideal S32 .f32) : FVec Ideal S1x128 .f32 :=
  shapeCast S1x128 (shapeCast S128 (broadcastInDim S4x32 ![0, 1] bcast_S1x32_S4x32_0_1 (shapeCast S1x32 b shapeCasts_S32_S1x32)) shapeCasts_S4x32_S128)
    shapeCasts_S128_S1x128

/-- The third layer's bias at an index. -/
theorem biasC_apply (b : FVec Ideal S32 .f32) (X : Fin 4) (o : Fin 32) :
    biasC b (ix2 0 ⟨X.val * 32 + o.val, by omega⟩) = (b (ix1 o) : EReal) := by
  pointwise [biasC]
  try rfl

/-- The first dense layer's weights, its features ordered row, column, channel. -/
def layF (f : FVec Ideal S256x512 .f32) : FVec Ideal S512x256 .f32 :=
  shapeCast S512x256 (transpose S4x4x32x256 [2, 3, 1, 0] (shapeCast S256x32x4x4 f shapeCasts_S256x512_S256x32x4x4) transposes_S256x32x4x4_S4x4x32x256_2_3_1_0)
    shapeCasts_S4x4x32x256_S512x256

/-- The first dense layer's weights at an index. -/
theorem layF_apply (f : FVec Ideal S256x512 .f32) (k : Fin 256) (y x : Fin 4) (c : Fin 32) :
    layF f (ix2 ⟨y.val * 128 + (x.val * 32 + c.val), by omega⟩ k) = (f (ix2 k ⟨c.val * 16 + (y.val * 4 + x.val), by omega⟩) : EReal) := by
  pointwise [layF]
  exact congrArg (fun q => (f (ix2 k q) : EReal)) (Fin.ext (by dsimp only; omega))

end Cert.Lay

end
-- ==== Proof.Host.lean ====
/- What the first region finds: the host's layouts of the encoder's operands. -/
module

public import proofs.«01_k».proof.Proof.Lay
public import proofs.«01_k».proof.Proof.Gen.KernelIdeal.Frame
public import Idealize.ShloMosaic.Lib.Pipeline.ValueKit

@[expose] public section

set_option maxRecDepth 16384
set_option maxHeartbeats 2000000

noncomputable section

namespace Cert.Host

open Idealize.ShloMosaic Cert.KernelIdeal Cert.KernelIdeal.Gen

variable (m : (b : Loc nD τ sig) → Buf (Elt Ideal) b) (ρ : Dev nD → PrngReg)

/-- A selection as the encoder's operands find it. -/
theorem sel0 (c : Dev nD) : W2 m ρ c (Proc.devRef .tc main_cst) = Lay.selA lit0 :=
  (W2_of m ρ c _ (by decide)).trans (by
    show StableHlo.after hostOps0 (W0 m ρ c) (Proc.devRef .tc main_cst) = _
    after_results
    try rfl)

/-- Selection 1 as the encoder's operands find it. -/
theorem sel1 (c : Dev nD) : W2 m ρ c (Proc.devRef .tc main_cst_0) = Lay.selA lit1 :=
  (W2_of m ρ c _ (by decide)).trans (by
    show StableHlo.after hostOps0 (W0 m ρ c) (Proc.devRef .tc main_cst_0) = _
    after_results
    try rfl)

/-- Selection 2 as the encoder's operands find it. -/
theorem sel2 (c : Dev nD) : W2 m ρ c (Proc.devRef .tc main_cst_1) = Lay.selA lit2 :=
  (W2_of m ρ c _ (by decide)).trans (by
    show StableHlo.after hostOps0 (W0 m ρ c) (Proc.devRef .tc main_cst_1) = _
    after_results
    try rfl)

/-- Selection 3 as the encoder's operands find it. -/
theorem sel3 (c : Dev nD) : W2 m ρ c (Proc.devRef .tc main_cst_2) = Lay.selA lit3 :=
  (W2_of m ρ c _ (by decide)).trans (by
    show StableHlo.after hostOps0 (W0 m ρ c) (Proc.devRef .tc main_cst_2) = _
    after_results
    try rfl)

/-- Selection 4 as the encoder's operands find it. -/
theorem sel4 (c : Dev nD) : W2 m ρ c (Proc.devRef .tc main_cst_3) = Lay.selB lit4 :=
  (W2_of m ρ c _ (by decide)).trans (by
    show StableHlo.after hostOps0 (W0 m ρ c) (Proc.devRef .tc main_cst_3) = _
    after_results
    try rfl)

/-- Selection 5 as the encoder's operands find it. -/
theorem sel5 (c : Dev nD) : W2 m ρ c (Proc.devRef .tc main_cst_4) = Lay.selB lit5 :=
  (W2_of m ρ c _ (by decide)).trans (by
    show StableHlo.after hostOps0 (W0 m ρ c) (Proc.devRef .tc main_cst_4) = _
    after_results
    try rfl)

/-- Selection 6 as the encoder's operands find it. -/
theorem sel6 (c : Dev nD) : W2 m ρ c (Proc.devRef .tc main_cst_5) = Lay.selB lit6 :=
  (W2_of m ρ c _ (by decide)).trans (by
    show StableHlo.after hostOps0 (W0 m ρ c) (Proc.devRef .tc main_cst_5) = _
    after_results
    try rfl)

/-- Selection 7 as the encoder's operands find it. -/
theorem sel7 (c : Dev nD) : W2 m ρ c (Proc.devRef .tc main_cst_6) = Lay.selB lit7 :=
  (W2_of m ρ c _ (by decide)).trans (by
    show StableHlo.after hostOps0 (W0 m ρ c) (Proc.devRef .tc main_cst_6) = _
    after_results
    try rfl)

/-- Selection 8 as the encoder's operands find it. -/
theorem sel8 (c : Dev nD) : W2 m ρ c (Proc.devRef .tc main_cst_7) = Lay.selC lit8 :=
  (W2_of m ρ c _ (by decide)).trans (by
    show StableHlo.after hostOps0 (W0 m ρ c) (Proc.devRef .tc main_cst_7) = _
    after_results
    try rfl)

/-- Selection 9 as the encoder's operands find it. -/
theorem sel9 (c : Dev nD) : W2 m ρ c (Proc.devRef .tc main_cst_8) = Lay.selC lit9 :=
  (W2_of m ρ c _ (by decide)).trans (by
    show StableHlo.after hostOps0 (W0 m ρ c) (Proc.devRef .tc main_cst_8) = _
    after_results
    try rfl)

/-- Selection 10 as the encoder's operands find it. -/
theorem sel10 (c : Dev nD) : W2 m ρ c (Proc.devRef .tc main_cst_9) = Lay.selC lit10 :=
  (W2_of m ρ c _ (by decide)).trans (by
    show StableHlo.after hostOps0 (W0 m ρ c) (Proc.devRef .tc main_cst_9) = _
    after_results
    try rfl)

/-- Selection 11 as the encoder's operands find it. -/
theorem sel11 (c : Dev nD) : W2 m ρ c (Proc.devRef .tc main_cst_10) = Lay.selC lit11 :=
  (W2_of m ρ c _ (by decide)).trans (by
    show StableHlo.after hostOps0 (W0 m ρ c) (Proc.devRef .tc main_cst_10) = _
    after_results
    try rfl)

/-- The first layer's weights as the region finds them. -/
theorem v21 (c : Dev nD) : V3 m ρ c main_v21 = Lay.layA (m ((c.tc : Thread nD τ).loc main_arg1)) := by
  have ha : W2 m ρ c (Proc.devRef .tc main_arg1) = m ((c.tc : Thread nD τ).loc main_arg1) := W2_args m ρ c _ (by decide)
  have h0 : W2 m ρ c (Proc.devRef .tc main_cst) = Lay.selA lit0 := sel0 m ρ c
  have h1 : W2 m ρ c (Proc.devRef .tc main_cst_0) = Lay.selA lit1 := sel1 m ρ c
  have h2 : W2 m ρ c (Proc.devRef .tc main_cst_1) = Lay.selA lit2 := sel2 m ρ c
  have h3 : W2 m ρ c (Proc.devRef .tc main_cst_2) = Lay.selA lit3 := sel3 m ρ c
  show StableHlo.after hostOps0_2 (W2 m ρ c) (Proc.devRef .tc main_v21) = _
  generalize W2 m ρ c = U at *
  after_results
  simp only [Matrix.cons_val_zero, Matrix.cons_val_one, Matrix.cons_val]
  simp only [↓ StableHlo.readResult, ↓ StableHlo.readPieces, -eq_self]
  rw [ha, h0, h1, h2, h3]
  rfl

/-- The second layer's weights as the region finds them. -/
theorem v43 (c : Dev nD) : V3 m ρ c main_v43 = Lay.layB (m ((c.tc : Thread nD τ).loc main_arg3)) := by
  have ha : W2 m ρ c (Proc.devRef .tc main_arg3) = m ((c.tc : Thread nD τ).loc main_arg3) := W2_args m ρ c _ (by decide)
  have h4 : W2 m ρ c (Proc.devRef .tc main_cst_3) = Lay.selB lit4 := sel4 m ρ c
  have h5 : W2 m ρ c (Proc.devRef .tc main_cst_4) = Lay.selB lit5 := sel5 m ρ c
  have h6 : W2 m ρ c (Proc.devRef .tc main_cst_5) = Lay.selB lit6 := sel6 m ρ c
  have h7 : W2 m ρ c (Proc.devRef .tc main_cst_6) = Lay.selB lit7 := sel7 m ρ c
  show StableHlo.after hostOps0_2 (W2 m ρ c) (Proc.devRef .tc main_v43) = _
  generalize W2 m ρ c = U at *
  after_results
  simp only [Matrix.cons_val_zero, Matrix.cons_val_one, Matrix.cons_val]
  simp only [↓ StableHlo.readResult, ↓ StableHlo.readPieces, -eq_self]
  rw [ha, h4, h5, h6, h7]
  rfl

/-- The third layer's weights as the region finds them. -/
theorem v65 (c : Dev nD) : V3 m ρ c main_v65 = Lay.layC (m ((c.tc : Thread nD τ).loc main_arg5)) := by
  have ha : W2 m ρ c (Proc.devRef .tc main_arg5) = m ((c.tc : Thread nD τ).loc main_arg5) := W2_args m ρ c _ (by decide)
  have h8 : W2 m ρ c (Proc.devRef .tc main_cst_7) = Lay.selC lit8 := sel8 m ρ c
  have h9 : W2 m ρ c (Proc.devRef .tc main_cst_8) = Lay.selC lit9 := sel9 m ρ c
  have h10 : W2 m ρ c (Proc.devRef .tc main_cst_9) = Lay.selC lit10 := sel10 m ρ c
  have h11 : W2 m ρ c (Proc.devRef .tc main_cst_10) = Lay.selC lit11 := sel11 m ρ c
  show StableHlo.after hostOps0_2 (W2 m ρ c) (Proc.devRef .tc main_v65) = _
  generalize W2 m ρ c = U at *
  after_results
  simp only [Matrix.cons_val_zero, Matrix.cons_val_one, Matrix.cons_val]
  simp only [↓ StableHlo.readResult, ↓ StableHlo.readPieces, -eq_self]
  rw [ha, h8, h9, h10, h11]
  rfl

/-- The first layer's bias as the region finds it. -/
theorem v69 (c : Dev nD) : V3 m ρ c main_v69 = Lay.biasA (m ((c.tc : Thread nD τ).loc main_arg2)) := by
  have ha : W2 m ρ c (Proc.devRef .tc main_arg2) = m ((c.tc : Thread nD τ).loc main_arg2) := W2_args m ρ c _ (by decide)
  show StableHlo.after hostOps0_2 (W2 m ρ c) (Proc.devRef .tc main_v69) = _
  generalize W2 m ρ c = U at *
  after_results
  rw [ha]
  rfl

/-- The second layer's bias as the region finds it. -/
theorem v73 (c : Dev nD) : V3 m ρ c main_v73 = Lay.biasB (m ((c.tc : Thread nD τ).loc main_arg4)) := by
  have ha : W2 m ρ c (Proc.devRef .tc main_arg4) = m ((c.tc : Thread nD τ).loc main_arg4) := W2_args m ρ c _ (by decide)
  show StableHlo.after hostOps0_2 (W2 m ρ c) (Proc.devRef .tc main_v73) = _
  generalize W2 m ρ c = U at *
  after_results
  rw [ha]
  rfl

/-- The third layer's bias as the region finds it. -/
theorem v77 (c : Dev nD) : V3 m ρ c main_v77 = Lay.biasC (m ((c.tc : Thread nD τ).loc main_arg6)) := by
  have ha : W2 m ρ c (Proc.devRef .tc main_arg6) = m ((c.tc : Thread nD τ).loc main_arg6) := W2_args m ρ c _ (by decide)
  show StableHlo.after hostOps0_2 (W2 m ρ c) (Proc.devRef .tc main_v77) = _
  generalize W2 m ρ c = U at *
  after_results
  rw [ha]
  rfl

/-- The first dense layer's weights as the region finds them. -/
theorem v80 (c : Dev nD) : V3 m ρ c main_v80 = Lay.layF (m ((c.tc : Thread nD τ).loc main_arg7)) := by
  have ha : W2 m ρ c (Proc.devRef .tc main_arg7) = m ((c.tc : Thread nD τ).loc main_arg7) := W2_args m ρ c _ (by decide)
  show StableHlo.after hostOps0_2 (W2 m ρ c) (Proc.devRef .tc main_v80) = _
  generalize W2 m ρ c = U at *
  after_results
  rw [ha]
  rfl

/-- The first dense layer's bias as the region finds it. -/
theorem v81 (c : Dev nD) : V3 m ρ c main_v81 = (shapeCast S1x256 (α := Elt Ideal .f32) (m ((c.tc : Thread nD τ).loc main_arg8)) Cert.KernelIdeal.Gen.shapeCasts_S256_S1x256 : FVec Ideal S1x256 .f32) := by
  have ha : W2 m ρ c (Proc.devRef .tc main_arg8) = m ((c.tc : Thread nD τ).loc main_arg8) := W2_args m ρ c _ (by decide)
  show StableHlo.after hostOps0_2 (W2 m ρ c) (Proc.devRef .tc main_v81) = _
  generalize W2 m ρ c = U at *
  after_results
  rw [ha]
  rfl

/-- The second dense layer's weights as the region finds them. -/
theorem v82 (c : Dev nD) : V3 m ρ c main_v82 = (transpose S256x128 [1, 0] (α := Elt Ideal .f32) (m ((c.tc : Thread nD τ).loc main_arg9)) Cert.KernelIdeal.Gen.transposes_S128x256_S256x128_1_0 : FVec Ideal S256x128 .f32) := by
  have ha : W2 m ρ c (Proc.devRef .tc main_arg9) = m ((c.tc : Thread nD τ).loc main_arg9) := W2_args m ρ c _ (by decide)
  show StableHlo.after hostOps0_2 (W2 m ρ c) (Proc.devRef .tc main_v82) = _
  generalize W2 m ρ c = U at *
  after_results
  rw [ha]

/-- The second dense layer's bias as the region finds it. -/
theorem v83 (c : Dev nD) : V3 m ρ c main_v83 = (shapeCast S1x128 (α := Elt Ideal .f32) (m ((c.tc : Thread nD τ).loc main_arg10)) Cert.KernelIdeal.Gen.shapeCasts_S128_S1x128 : FVec Ideal S1x128 .f32) := by
  have ha : W2 m ρ c (Proc.devRef .tc main_arg10) = m ((c.tc : Thread nD τ).loc main_arg10) := W2_args m ρ c _ (by decide)
  show StableHlo.after hostOps0_2 (W2 m ρ c) (Proc.devRef .tc main_v83) = _
  generalize W2 m ρ c = U at *
  after_results
  rw [ha]
  rfl

/-- The images, padded with a zero row above and below, two rows to a line. -/
def padded (x : FVec Ideal S512x20x32x32 .f32) : FVec Ideal S10240x17x64 .f32 :=
  shapeCast S10240x17x64 (pad S10240x34x32 ![0, 1, 0] ![0, 1, 0] ![0, 0, 0]
    (shapeCast S10240x32x32 x Cert.KernelIdeal.Gen.shapeCasts_S512x20x32x32_S10240x32x32) (sitofp (F := Ideal) .f32 (constantI S_ 32 0#32))
    Cert.KernelIdeal.Gen.pads_S10240x32x32_S10240x34x32_000_110_000 Cert.KernelIdeal.Gen.h_S_) Cert.KernelIdeal.Gen.shapeCasts_S10240x34x32_S10240x17x64

/-- The images as the region finds them. -/
theorem v2 (c : Dev nD) : V3 m ρ c main_v2 = padded (m ((c.tc : Thread nD τ).loc main_arg0)) := by
  have ha : W0 m ρ c (Proc.devRef .tc main_arg0) = m ((c.tc : Thread nD τ).loc main_arg0) := W0_args m ρ c _ (by decide)
  show StableHlo.after hostOps0_2 (StableHlo.after hostOps0_1 (StableHlo.after hostOps0 (W0 m ρ c))) (Proc.devRef .tc main_v2) = _
  generalize W0 m ρ c = U at *
  after_results
  rw [ha]
  rfl

/-- A padded row of an image. -/
theorem padded_apply (x : FVec Ideal S512x20x32x32 .f32) (s : Fin 512) (t : Fin 20) (r : Fin 34) (q : Fin 32) :
    padded x (ix3 ⟨s.val * 20 + t.val, by omega⟩ ⟨r.val / 2, by omega⟩ ⟨r.val % 2 * 32 + q.val, by omega⟩) =
      if hr : 1 ≤ r.val ∧ r.val < 33 then (x (ix4 s t ⟨r.val - 1, by omega⟩ q) : EReal) else 0 := by
  have z : (((0#32 : BitVec 32).toInt : ℝ) : EReal) = 0 := by simp
  pointwise [padded]
  by_cases hr : 1 ≤ r.val ∧ r.val < 33
  · rw [dif_pos hr, dif_pos ⟨by omega, by omega, by omega⟩]
  · rw [dif_neg hr, dif_neg (fun h => hr ⟨h.2.1, by omega⟩)]
    exact z

/-- The encoder's operands are laid out as its layers need them. -/
theorem laid (c : Dev nD) : Stage.Laid (V3 m ρ c main_v21) (V3 m ρ c main_v69) (V3 m ρ c main_v43) (V3 m ρ c main_v73) (V3 m ρ c main_v65) (V3 m ρ c main_v77)
    (V3 m ρ c main_v80) (V3 m ρ c main_v81) (V3 m ρ c main_v82) (V3 m ρ c main_v83)
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) := by
  rw [v21, v69, v43, v73, v65, v77, v80, v81, v82, v83]
  constructor
  · exact Lay.layA_apply _
  · exact Lay.biasA_apply _
  · exact Lay.layB_apply _
  · exact Lay.biasB_apply _
  · exact Lay.layC_apply _
  · exact Lay.biasC_apply _
  · exact Lay.layF_apply _
  · intro k
    generalize (m ((c.tc : Thread nD τ).loc main_arg8) : FVec Ideal S256 .f32) = g
    pointwise []
  · intro k j
    generalize (m ((c.tc : Thread nD τ).loc main_arg9) : FVec Ideal S128x256 .f32) = g
    pointwise []
  · intro k
    generalize (m ((c.tc : Thread nD τ).loc main_arg10) : FVec Ideal S128 .f32) = g
    pointwise []

end Cert.Host

end
-- ==== Proof.Region0.lean ====
/- The encoder's output array: every block written is the reference's encoding of its images. -/
module

public import proofs.«01_k».proof.Proof.Host

@[expose] public section

set_option maxRecDepth 16384
set_option maxHeartbeats 2000000

noncomputable section

namespace Cert.Region0

open Idealize.ShloMosaic Cert.KernelIdeal Cert.KernelIdeal.Gen
open Idealize.ShloMosaic.Pipeline (Dat)

variable (m : (b : Loc nD τ sig) → Buf (Elt Ideal) b) (ρ : Dev nD → PrngReg)

/-- Where each window's block sits at each point. -/
theorem idx : ∀ t : Fin cfg0.N, win0_0.index t = ![t.val, 0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![t.val, 0] :=
  (by decide +kernel : ∀ t : Fin grid0.N, _)

/-- The encoded sequences, one image to a row. -/
def rows (E : FVec Ideal S512x20x128 .f32) : FVec Ideal S10240x128 .f32 :=
  fun i => E (ix3 ⟨(i 0).val / 20, by have : (i 0).val < 10240 := (i 0).isLt; omega⟩ ⟨(i 0).val % 20, Nat.mod_lt _ (by decide)⟩ (i 1))

/-- The launch's encoded sequences, before normalisation. -/
def encoding (c : Dev nD) : FVec Ideal S512x20x128 .f32 :=
  Spec.encoded (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- Block 1 is its whole array. -/
theorem blk1 (c : Dev nD) (t : Fin cfg0.N) : iblk0 (V3 m ρ) c 1 t = V3 m ρ c main_v21 := by
  funext y
  generalize hv : V3 m ρ = V
  blk_ext! [iblk0, idx t]

/-- Block 2 is its whole array. -/
theorem blk2 (c : Dev nD) (t : Fin cfg0.N) : iblk0 (V3 m ρ) c 2 t = V3 m ρ c main_v69 := by
  funext y
  generalize hv : V3 m ρ = V
  blk_ext! [iblk0, idx t]

/-- Block 3 is its whole array. -/
theorem blk3 (c : Dev nD) (t : Fin cfg0.N) : iblk0 (V3 m ρ) c 3 t = V3 m ρ c main_v43 := by
  funext y
  generalize hv : V3 m ρ = V
  blk_ext! [iblk0, idx t]

/-- Block 4 is its whole array. -/
theorem blk4 (c : Dev nD) (t : Fin cfg0.N) : iblk0 (V3 m ρ) c 4 t = V3 m ρ c main_v73 := by
  funext y
  generalize hv : V3 m ρ = V
  blk_ext! [iblk0, idx t]

/-- Block 5 is its whole array. -/
theorem blk5 (c : Dev nD) (t : Fin cfg0.N) : iblk0 (V3 m ρ) c 5 t = V3 m ρ c main_v65 := by
  funext y
  generalize hv : V3 m ρ = V
  blk_ext! [iblk0, idx t]

/-- Block 6 is its whole array. -/
theorem blk6 (c : Dev nD) (t : Fin cfg0.N) : iblk0 (V3 m ρ) c 6 t = V3 m ρ c main_v77 := by
  funext y
  generalize hv : V3 m ρ = V
  blk_ext! [iblk0, idx t]

/-- Block 7 is its whole array. -/
theorem blk7 (c : Dev nD) (t : Fin cfg0.N) : iblk0 (V3 m ρ) c 7 t = V3 m ρ c main_v80 := by
  funext y
  generalize hv : V3 m ρ = V
  blk_ext! [iblk0, idx t]

/-- Block 8 is its whole array. -/
theorem blk8 (c : Dev nD) (t : Fin cfg0.N) : iblk0 (V3 m ρ) c 8 t = V3 m ρ c main_v81 := by
  funext y
  generalize hv : V3 m ρ = V
  blk_ext! [iblk0, idx t]

/-- Block 9 is its whole array. -/
theorem blk9 (c : Dev nD) (t : Fin cfg0.N) : iblk0 (V3 m ρ) c 9 t = V3 m ρ c main_v82 := by
  funext y
  generalize hv : V3 m ρ = V
  blk_ext! [iblk0, idx t]

/-- Block 10 is its whole array. -/
theorem blk10 (c : Dev nD) (t : Fin cfg0.N) : iblk0 (V3 m ρ) c 10 t = V3 m ρ c main_v83 := by
  funext y
  generalize hv : V3 m ρ = V
  blk_ext! [iblk0, idx t]

/-- The images of a point's block. -/
theorem blk0 (c : Dev nD) (t : Fin cfg0.N) (n : Fin 64) (a : Fin 17) (b : Fin 64) :
    (iblk0 (V3 m ρ) c 0 t : FVec Ideal S64x17x64 .f32) (ix3 n a b) =
      (V3 m ρ c main_v2 : FVec Ideal S10240x17x64 .f32) (ix3 ⟨t.val * 64 + n.val, by have : t.val < 160 := t.isLt; omega⟩ a b) := by
  generalize hv : V3 m ρ = V
  blk_ext! [iblk0, idx t]

/-- What a point stores is the encoding of its images. -/
theorem point (c : Dev nD) (t : Fin cfg0.N) (y : S64x128.Idx) :
    k0_pay1 (F := Ideal) (k0_pay4 (F := Ideal) (k0_pay2 (F := Ideal) (iblk0 (V3 m ρ) c 0 t) (V3 m ρ c main_v21) (V3 m ρ c main_v69) (V3 m ρ c main_v43)
        (V3 m ρ c main_v73)) (k0_pay3 (F := Ideal)) (V3 m ρ c main_v65) (V3 m ρ c main_v77) (V3 m ρ c main_v80) (V3 m ρ c main_v81) (V3 m ρ c main_v82))
        (V3 m ρ c main_v83) y =
      rows (encoding m c) (((cfg0.win 11).blk t).view.emb y) := by
  have ht : t.val < 160 := t.isLt
  idx_vars y
  have hn : y0.val < 64 := y0.isLt
  have e : ((cfg0.win 11).blk t).view.emb (ix2 y0 y1) = (ix2 ⟨t.val * 64 + y0.val, by omega⟩ y1 : S10240x128.Idx) := by blk_ext [idx t]
  refine Eq.trans ?_ (congrArg (rows (encoding m c)) e.symm)
  refine Stage.block (Host.laid m ρ c) _ _ y0 ⟨(t.val * 64 + y0.val) / 20, by omega⟩ ⟨(t.val * 64 + y0.val) % 20, Nat.mod_lt _ (by decide)⟩ y1 fun r q => ?_
  rw [blk0, Host.v2]
  refine Eq.trans ?_ (Host.padded_apply _ ⟨(t.val * 64 + y0.val) / 20, by omega⟩ ⟨(t.val * 64 + y0.val) % 20, Nat.mod_lt _ (by decide)⟩ r q)
  refine congrArg (fun a => Host.padded (m ((c.tc : Thread nD τ).loc main_arg0)) (ix3 a _ _)) (Fin.ext ?_)
  dsimp only
  omega

/-- The encoder's output array. -/
theorem final (c : Dev nD) : (dat0 (V3 m ρ) c).arrAt 11 cfg0.N = rows (encoding m c) := by
  refine (dat0 (V3 m ρ) c).arrAt_eq_of_covers 11 _ (by decide +kernel) fun t _ y => ?_
  blk_simp
  rw [after0_11]
  frame_out
  rw [blk1, blk2, blk3, blk4, blk5, blk6, blk7, blk8, blk9, blk10]
  exact point m ρ c t y

end Cert.Region0

end
-- ==== Proof.Rows.lean ====
/- A block of 128 rows of the recurrence's arrays, and each value of the kernel's step on a block as the block of the reference's
   value. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Rows

open Idealize.ShloMosaic Cert.Spec Cert.KernelIdeal.Gen

/-- Row `i` of block `g`. -/
def row (g : Fin 4) (i : Fin 128) : Fin 512 := ⟨128 * g.val + i.val, by omega⟩

/-- Block `g` of an array of 512 rows. -/
def rows2 {n : ℕ} (g : Fin 4) (X : FVec Ideal ⟨2, ![512, n]⟩ .f32) : FVec Ideal ⟨2, ![128, n]⟩ .f32 :=
  fun j => X (ix2 (row g (j 0)) (j 1))

/-- Block `g` of an array of 512 matrices. -/
def rows3 {n k : ℕ} (g : Fin 4) (X : FVec Ideal ⟨3, ![512, n, k]⟩ .f32) : FVec Ideal ⟨3, ![128, n, k]⟩ .f32 :=
  fun j => X (ix3 (row g (j 0)) (j 1) (j 2))

theorem rows2_apply {n : ℕ} (g : Fin 4) (X : FVec Ideal ⟨2, ![512, n]⟩ .f32) (i : Fin 128) (j : Fin n) :
    rows2 g X (ix2 i j) = X (ix2 (row g i) j) := rfl

theorem rows3_apply {n k : ℕ} (g : Fin 4) (X : FVec Ideal ⟨3, ![512, n, k]⟩ .f32) (i : Fin 128) (j : Fin n) (l : Fin k) :
    rows3 g X (ix3 i j l) = X (ix3 (row g i) j l) := rfl

/-- A weight matrix, transposed. -/
def flip2 {n k : ℕ} (X : FVec Ideal ⟨2, ![n, k]⟩ .f32) : FVec Ideal ⟨2, ![k, n]⟩ .f32 := fun j => X (ix2 (j 1) (j 0))

theorem flip2_apply {n k : ℕ} (X : FVec Ideal ⟨2, ![n, k]⟩ .f32) (i : Fin k) (j : Fin n) : flip2 X (ix2 i j) = X (ix2 j i) := rfl

/-- A bias as a matrix of one row. -/
def asRow {n : ℕ} (X : FVec Ideal ⟨1, ![n]⟩ .f32) : FVec Ideal ⟨2, ![1, n]⟩ .f32 := fun j => X (ix1 (j 1))

theorem asRow_apply {n : ℕ} (X : FVec Ideal ⟨1, ![n]⟩ .f32) (i : Fin 1) (j : Fin n) : asRow X (ix2 i j) = X (ix1 j) := rfl

/-- Block `g` of a step's features, as the kernel slices them out of its scratch. -/
def slab {n : ℕ} (g : Fin 4) (X : FVec Ideal ⟨2, ![512, n]⟩ .f32) : FVec Ideal ⟨3, ![128, 1, n]⟩ .f32 :=
  fun j => X (ix2 (row g (j 0)) (j 2))

theorem slab_apply {n : ℕ} (g : Fin 4) (X : FVec Ideal ⟨2, ![512, n]⟩ .f32) (i : Fin 128) (u : Fin 1) (j : Fin n) :
    slab g X (ix3 i u j) = X (ix2 (row g i) j) := rfl

variable (g : Fin 4) (f : FVec Ideal Cert.Pre_distinct.S512x128 .f32) (h c r : FVec Ideal Cert.Pre_distinct.S512x256 .f32)
  (M : FVec Ideal Cert.Pre_distinct.S512x20x256 .f32)
  (wih : FVec Ideal Cert.Pre_distinct.S1024x384 .f32) (whh : FVec Ideal Cert.Pre_distinct.S1024x256 .f32)
  (b : FVec Ideal Cert.Pre_distinct.S1024 .f32) (key write erase : FVec Ideal Cert.Pre_distinct.S256x256 .f32)

/-- The new cell state of a block is the block of the new cell state. -/
theorem cell_c : k1_pay9 (F := Ideal) (flip2 wih) (flip2 whh) (asRow b) (rows2 g h) (rows2 g c) (rows2 g r) (slab g f) =
    rows2 g (Cert.Pre_distinct.fn_lstm (F := Ideal) f h c r wih whh b).2 := by
  funext j
  idx_vars j
  rw [rows2_apply]
  pointwise [Cert.Pre_distinct.fn_lstm, Cert.Pre_distinct.fn_lstm_part1, k1_pay9, k1_pay8, rows2_apply, slab_apply, flip2_apply, asRow_apply]
  rfl

/-- The new hidden state of a block is the block of the new hidden state. -/
theorem cell_h : k1_pay10 (F := Ideal) (flip2 wih) (flip2 whh) (asRow b) (rows2 g h) (rows2 g c) (rows2 g r) (slab g f) =
    rows2 g (Cert.Pre_distinct.fn_lstm (F := Ideal) f h c r wih whh b).1 := by
  unfold k1_pay10
  rw [cell_c]
  funext j
  idx_vars j
  rw [rows2_apply]
  pointwise [Cert.Pre_distinct.fn_lstm, Cert.Pre_distinct.fn_lstm_part1, k1_pay8, rows2_apply, slab_apply, flip2_apply, asRow_apply]
  rfl

/-- The similarities of a block are the block of the similarities. -/
theorem sims_rows : k1_pay11 (F := Ideal) (flip2 wih) (flip2 whh) (asRow b) (flip2 key) (rows2 g h) (rows2 g c) (rows2 g r) (rows3 g M) (slab g f) =
    rows2 g (Cert.Pre_distinct.fn_similarity (F := Ideal) (Cert.Pre_distinct.fn_lstm (F := Ideal) f h c r wih whh b).1 M key) := by
  unfold k1_pay11
  rw [cell_h]
  generalize (Cert.Pre_distinct.fn_lstm (F := Ideal) f h c r wih whh b).1 = H
  funext j
  idx_vars j
  rw [rows2_apply]
  pointwise [Cert.Pre_distinct.fn_similarity, rows2_apply, rows3_apply, flip2_apply]

theorem low : Ideal.ofBits FTy.f32 4286578688#32 = (⊥ : EReal) := by simp [Ideal.ofBits, Ideal.ieee]

/-- The running maximum from −∞ is the supremum. -/
theorem fold_max_bot {n : ℕ} (F : Fin n → EReal) : Finset.fold max (⊥ : EReal) F Finset.univ = Finset.univ.sup F := rfl

/-- The largest similarity of a row. -/
def top (S : FVec Ideal Cert.Pre_distinct.S512x20 .f32) (i : Fin 512) : EReal := Finset.univ.sup fun j : Fin 20 => (S (ix2 i j) : EReal)

/-- The kernel's row maximum. -/
theorem top_rows : k1_pay12 (F := Ideal) (flip2 wih) (flip2 whh) (asRow b) (flip2 key) (rows2 g h) (rows2 g c) (rows2 g r) (rows3 g M) (slab g f) =
    fun j => top (Cert.Pre_distinct.fn_similarity (F := Ideal) (Cert.Pre_distinct.fn_lstm (F := Ideal) f h c r wih whh b).1 M key) (row g (j 0)) := by
  unfold k1_pay12
  rw [sims_rows]
  generalize (Cert.Pre_distinct.fn_similarity (F := Ideal) (Cert.Pre_distinct.fn_lstm (F := Ideal) f h c r wih whh b).1 M key) = S
  funext j
  idx_vars j
  pointwise [rows2_apply, top]
  rw [low, fold_max_bot]

variable (S : FVec Ideal Cert.Pre_distinct.S512x20 .f32)

/-- The new memory of a block is the block of the new memory. -/
theorem write_rows : k1_pay6 (F := Ideal) (rows3 g M) (k1_pay15 (k1_pay2 (flip2 write)) (rows2 g h))
      (k1_pay16 (rows2 g S) (fun j => top S (row g (j 0)))) (k1_pay17 (k1_pay3 (flip2 erase)) (rows2 g h) (rows2 g S) (fun j => top S (row g (j 0))))
      k1_pay18 = rows3 g (Cert.Pre_distinct.fn_write (F := Ideal) S h M write erase) := by
  funext j
  idx_vars j
  rw [rows3_apply]
  pointwise [Cert.Pre_distinct.fn_write, Cert.Pre_distinct.fn_write_part1, k1_pay6, k1_pay15, k1_pay16, k1_pay17, k1_pay18, k1_pay2, k1_pay3,
    rows2_apply, rows3_apply, flip2_apply, top]
  simp only [low, fold_max_bot, bot_sup_eq, Ideal.logistic, max_eq_right bot_le]

variable (ow : FVec Ideal Cert.Pre_distinct.S8x512 .f32) (ob : FVec Ideal Cert.Pre_distinct.S8 .f32)

/-- The block's prediction is the block of the prediction. -/
theorem predict_rows : k1_pay7 (F := Ideal) (rows2 g h) (rows2 g r) (flip2 ow) (asRow ob) = rows2 g (Cert.Spec.predict h r ow ob) := by
  funext j
  idx_vars j
  rw [rows2_apply]
  pointwise [Cert.Spec.predict, k1_pay7, rows2_apply, flip2_apply, asRow_apply]

/-- A vector along the last axis of a rank-3 array. -/
def along {n : ℕ} (X : FVec Ideal ⟨1, ![n]⟩ .f32) : FVec Ideal ⟨3, ![1, 1, n]⟩ .f32 := fun j => X (ix1 (j 2))

theorem along_apply {n : ℕ} (X : FVec Ideal ⟨1, ![n]⟩ .f32) (u v : Fin 1) (j : Fin n) : along X (ix3 u v j) = X (ix1 j) := rfl

/-- The block's normalised sequence is the block of the normalised sequence. -/
theorem norm_rows (A : FVec Ideal Cert.Pre_distinct.S512x20x128 .f32) (ga be : FVec Ideal Cert.Pre_distinct.S128 .f32) :
    k1_pay19 (F := Ideal) (rows3 g A) (along ga) (along be) = rows3 g (Cert.Pre_distinct.fn_normalize (F := Ideal) A ga be) := by
  funext j
  idx_vars j
  rw [rows3_apply]
  pointwise [Cert.Pre_distinct.fn_normalize, Cert.Pre_distinct.fn_normalize_part1, k1_pay19, rows3_apply, along_apply]

/-- The memory every sequence starts with, on a block. -/
theorem start_M (w : Weights) : k1_pay4 (F := Ideal) w.mem = rows3 g (Cert.Spec.start w).M := by
  funext j
  idx_vars j
  pointwise [k1_pay4, Cert.Spec.start, rows3_apply]

/-- The zeros the other carried arrays start with. -/
theorem start_h (w : Weights) : k1_pay5 (F := Ideal) = rows2 g (Cert.Spec.start w).h := by
  funext j
  idx_vars j
  pointwise [k1_pay5, Cert.Spec.start, rows2_apply]

end Cert.Rows

end
-- ==== Proof.Select.lean ====
/- The four largest of a row, and what is read from memory with them: the kernel's three masked maxima pick the same entries as the
   reference's sort, when the row's five largest differ. -/
module

public import proofs.«01_k».proof.Proof.Rows
public import Idealize.ShloMosaic.Lib.SortFacts

@[expose] public section

set_option maxRecDepth 16384

noncomputable section

namespace Cert.Select

open Idealize.ShloMosaic Cert.Spec Cert.KernelIdeal.Gen Cert.Rows

/-- The order that puts a row's entries from largest to smallest, the earlier of two equal ones first. -/
def order (s : Fin 20 → EReal) : Fin 20 → Fin 20 := sortedFrom fun k k' => FloatOps.cmpfTotal (F := Ideal) (φ := .f32) .gt (s k) (s k') == 1#1

theorem order_injective (s : Fin 20 → EReal) : Function.Injective (order s) := sortedFrom_injective _

/-- What a sort from largest to smallest leaves is in order. -/
theorem sorted_le {n : ℕ} (s : Fin n → EReal) (B : Fin n → Fin n → Bool) (hB : ∀ a b, B a b = decide (s b < s a)) {i j : Fin n}
    (h : i < j) : s (sortedFrom B j) ≤ s (sortedFrom B i) := by
  have hb := sortedFrom_noInversion B B ?_ (fun _ _ h => h) ?_ i j h
  · rw [hB, decide_eq_false_iff_not, not_lt] at hb
    exact hb
  · intro a b hab
    rw [hB, decide_eq_true_eq] at hab
    rw [hB, decide_eq_false_iff_not, not_lt]
    exact hab.le
  · intro a b c hab hbc
    rw [hB, decide_eq_false_iff_not, not_lt] at hab hbc ⊢
    exact hab.trans hbc

/-- An entry after another in the order is no larger. -/
theorem order_le (s : Fin 20 → EReal) {i j : Fin 20} (h : i ≤ j) : s (order s j) ≤ s (order s i) := by
  rcases eq_or_lt_of_le h with rfl | h
  · exact le_rfl
  unfold order
  refine sorted_le s _ (fun a b => ?_) h
  show (BitVec.ofBool (decide (s b < s a)) == 1#1) = _
  cases decide (s b < s a) <;> rfl

/-- Every entry is somewhere in the order. -/
theorem order_surjective (s : Fin 20 → EReal) : Function.Surjective (order s) := sortedFrom_surjective _

attribute [irreducible] order

/-- A row with the entries at least `v` masked. -/
def drop (v : EReal) (f : Fin 20 → EReal) : Fin 20 → EReal := fun x => if v ≤ f x then ⊥ else f x

/-- The largest entry of a row. -/
def largest (f : Fin 20 → EReal) : EReal := Finset.univ.sup f

section
variable (s : Fin 20 → EReal)

/-- The `k`-th largest entry, from `0`. -/
def nth (k : Fin 20) : EReal := s (order s k)

/-- The largest entry is the first of the order. -/
theorem largest_eq : largest s = nth s 0 := by
  apply le_antisymm
  · refine Finset.sup_le fun x _ => ?_
    obtain ⟨m, rfl⟩ := order_surjective s x
    exact order_le s (Fin.zero_le m)
  · exact Finset.le_sup (f := s) (Finset.mem_univ (order s 0))

/-- With the entries from the `k`-th up masked, the largest left is the next one. -/
theorem largest_drop (k l : Fin 20) (hl : l.val = k.val + 1) (h : nth s l < nth s k) : largest (drop (nth s k) s) = nth s l := by
  apply le_antisymm
  · refine Finset.sup_le fun x _ => ?_
    obtain ⟨m, rfl⟩ := order_surjective s x
    unfold drop
    split
    · exact bot_le
    · rename_i hm
      refine order_le s ?_
      rw [Fin.le_def, hl]
      by_contra hmk
      exact hm (order_le s (Fin.le_def.mpr (by omega)))
  · have := Finset.le_sup (f := drop (nth s k) s) (Finset.mem_univ (order s l))
    rwa [show drop (nth s k) s (order s l) = nth s l from if_neg (not_le.mpr h)] at this

/-- Masking from the `k`-th up and then from a smaller one up is masking from the smaller one up. -/
theorem drop_drop (k l : Fin 20) (h : nth s l < nth s k) : drop (nth s l) (drop (nth s k) s) = drop (nth s l) s := by
  funext x
  unfold drop
  by_cases hk : nth s k ≤ s x
  · simp only [if_pos hk, if_pos (h.le.trans hk), ite_self]
  · simp only [if_neg hk]

variable (h1 : nth s 1 < nth s 0) (h2 : nth s 2 < nth s 1) (h3 : nth s 3 < nth s 2) (h4 : nth s 4 < nth s 3)

include h1 h2 h3 in
/-- The kernel's fourth threshold is the fourth largest entry. -/
theorem threshold (v1 : EReal) (hv1 : v1 = largest s) :
    largest (drop (largest (drop (largest (drop v1 s)) (drop v1 s))) (drop (largest (drop v1 s)) (drop v1 s))) = nth s 3 := by
  subst hv1
  rw [largest_eq s, largest_drop s 0 1 rfl h1, drop_drop s 0 1 h1, largest_drop s 1 2 rfl h2, drop_drop s 1 2 h2,
    largest_drop s 2 3 rfl h3]

/-- Whether an entry is at least the fourth largest: the first four of the order, no other. -/
theorem picked {s : Fin 20 → EReal} (h4 : nth s 4 < nth s 3) (m : Fin 20) : nth s 3 ≤ s (order s m) ↔ m.val < 4 := by
  constructor
  · intro h
    by_contra hm
    exact absurd (h.trans (order_le s (i := 4) (j := m) (Fin.le_def.mpr (by show 4 ≤ m.val; omega)))) (not_le.mpr h4)
  · intro hm
    exact order_le s (Fin.le_def.mpr (by show m.val ≤ 3; omega))

/-- A sum over a row is the sum over its four largest and the rest. -/
theorem sum_order (f : Fin 20 → EReal) :
    ∑ x, f x = ∑ m : Fin 4, f (order s (Fin.castAdd 16 m)) + ∑ m : Fin 16, f (order s (Fin.natAdd 4 m)) := by
  rw [← Fin.sum_univ_add (a := 4) (b := 16) (fun m : Fin (4 + 16) => f (order s m))]
  exact (Equiv.sum_comp (Equiv.ofBijective (order s) ⟨order_injective s, order_surjective s⟩) f).symm

/-- `1` for an entry at least `v`, else `0`. -/
def pick (v : EReal) (x : Fin 20) : EReal := if v ≤ s x then 1 else 0

include h4 in
/-- A sum over a row of what is picked is the sum over the four largest. -/
theorem sum_pick (f : Fin 20 → EReal) :
    ∑ x, f x * pick s (nth s 3) x = ∑ m : Fin 4, f (order s (Fin.castAdd 16 m)) := by
  rw [sum_order s]
  have ha : ∀ m : Fin 4, pick s (nth s 3) (order s (Fin.castAdd 16 m)) = 1 := fun m =>
    if_pos ((picked (s := s) h4 _).mpr m.isLt)
  have hb : ∀ m : Fin 16, pick s (nth s 3) (order s (Fin.natAdd 4 m)) = 0 := fun m =>
    if_neg (fun h => absurd ((picked (s := s) h4 _).mp h) (by simp))
  simp only [ha, hb, mul_one, mul_zero, Finset.sum_const_zero, add_zero]

/-- An exponential is not negative. -/
theorem exp_nonneg (x : EReal) : 0 ≤ Ideal.exp x := by
  induction x with
  | bot => exact le_rfl
  | top => exact le_top
  | coe r => exact EReal.coe_nonneg.mpr (Real.exp_pos r).le

include h1 in
/-- The four exponentials' sum is positive. -/
theorem total_pos (ht : nth s 0 ≠ ⊤) : ∑ m : Fin 4, Ideal.exp (nth s (Fin.castAdd 16 m) - nth s 0) ≠ 0 := by
  have hb : nth s 0 ≠ ⊥ := (bot_le.trans_lt h1).ne'
  have h0 : Ideal.exp (nth s (Fin.castAdd 16 (0 : Fin 4)) - nth s 0) = 1 := by
    show Ideal.exp (nth s 0 - nth s 0) = 1
    lift nth s 0 to ℝ using ⟨ht, hb⟩ with t
    rw [← EReal.coe_sub, sub_self]
    show ((Real.exp 0 : ℝ) : EReal) = 1
    rw [Real.exp_zero]; rfl
  have : (1 : EReal) ≤ ∑ m : Fin 4, Ideal.exp (nth s (Fin.castAdd 16 m) - nth s 0) := by
    rw [← h0]
    exact Finset.single_le_sum (f := fun m : Fin 4 => Ideal.exp (nth s (Fin.castAdd 16 m) - nth s 0))
      (fun m _ => exp_nonneg _) (Finset.mem_univ 0)
  exact (zero_lt_one.trans_le this).ne'

include h1 h4 in
/-- The read with masked weights over the whole row is the read over the four largest. -/
theorem read_eq (ht : nth s 0 ≠ ⊤) (M : Fin 20 → EReal) :
    ∑ x, Ideal.div (Ideal.exp (s x - nth s 0) * pick s (nth s 3) x) (∑ x, Ideal.exp (s x - nth s 0) * pick s (nth s 3) x) * M x
      = ∑ m : Fin 4, Ideal.div (Ideal.exp (nth s (Fin.castAdd 16 m) - nth s 0))
          (∑ m : Fin 4, Ideal.exp (nth s (Fin.castAdd 16 m) - nth s 0)) * M (order s (Fin.castAdd 16 m)) := by
  rw [sum_pick s h4 (fun x => Ideal.exp (s x - nth s 0))]
  have hz := total_pos s h1 ht
  have hd : ∀ x, Ideal.div x (∑ m : Fin 4, Ideal.exp (nth s (Fin.castAdd 16 m) - nth s 0))
      = x * (∑ m : Fin 4, Ideal.exp (nth s (Fin.castAdd 16 m) - nth s 0))⁻¹ := fun x => if_neg hz
  show ∑ x, Ideal.div _ (∑ m : Fin 4, Ideal.exp (nth s (Fin.castAdd 16 m) - nth s 0)) * M x = _
  simp only [hd]
  refine Eq.trans ?_ (sum_pick s h4 (fun x => Ideal.exp (s x - nth s 0) * (∑ m : Fin 4, Ideal.exp (nth s (Fin.castAdd 16 m) - nth s 0))⁻¹ * M x))
  refine Finset.sum_congr rfl fun x _ => ?_
  rw [mul_right_comm (Ideal.exp _) (pick s _ x), mul_right_comm _ (pick s _ x)]

end

/-- What the reference's sort of a row leaves first, values and positions. -/
theorem topK_apply {k : ℕ} (h : (⟨2, ![512, 20]⟩ : Shape).Slices (fun _ => 0) ⟨2, ![512, k]⟩)
    (S : FVec Ideal ⟨2, ![512, 20]⟩ .f32) (i : Fin 512) (j : Fin k) (hk : j.val < 20) :
    (Host.topK ⟨2, ![512, k]⟩ 1 (FloatOps.cmpfTotal (F := Ideal) (φ := .f32) .gt) S h).1 (ix2 i j)
        = nth (fun x => S (ix2 i x)) ⟨j.val, hk⟩
      ∧ (Host.topK ⟨2, ![512, k]⟩ 1 (FloatOps.cmpfTotal (F := Ideal) (φ := .f32) .gt) S h).2 (ix2 i j)
        = BitVec.ofNat 32 (order (fun x => S (ix2 i x)) ⟨j.val, hk⟩).val := by
  obtain ⟨j0, hj⟩ : ∃ j0 : (⟨2, ![512, 20]⟩ : Shape).Idx, j0 = fun a => ⟨0 + ((ix2 i j : (⟨2, ![512, k]⟩ : Shape).Idx) (a.cast h.1.symm)).val,
      Nat.lt_of_lt_of_le (Nat.add_lt_add_left ((ix2 i j : (⟨2, ![512, k]⟩ : Shape).Idx) _).isLt _) (h.2 a)⟩ := ⟨_, rfl⟩
  have hi : j0 = ix2 i ⟨j.val, hk⟩ := by
    rw [hj]
    funext a
    match a with
    | ⟨0, _⟩ => exact Fin.ext (Nat.zero_add _)
    | ⟨1, _⟩ => exact Fin.ext (Nat.zero_add _)
  have ha : ∀ (q : Fin 20), (ix2 i ⟨j.val, hk⟩ : (⟨2, ![512, 20]⟩ : Shape).Idx).along 1 q = ix2 i q := by
    intro q
    funext a
    match a with
    | ⟨0, _⟩ => rfl
    | ⟨1, _⟩ => rfl
  have hs : sortedFrom (fun k k' : Fin 20 => FloatOps.cmpfTotal (F := Ideal) (φ := .f32) .gt (S (j0.along 1 k)) (S (j0.along 1 k')) == 1#1) (j0 1)
      = order (fun x => S (ix2 i x)) ⟨j.val, hk⟩ := by
    rw [hi]
    unfold order
    simp only [ha]
    rfl
  constructor
  · refine Eq.trans (b := S (j0.along 1 (sortedFrom (fun k k' : Fin 20 => FloatOps.cmpfTotal (F := Ideal) (φ := .f32) .gt
      (S (j0.along 1 k)) (S (j0.along 1 k')) == 1#1) (j0 1)))) (by rw [hj]; rfl) ?_
    refine (congrArg (fun q => S (j0.along 1 q)) hs).trans ?_
    rw [hi]
    exact congrArg S (ha _)
  · refine Eq.trans (b := BitVec.ofNat 32 ((j0.along 1 (sortedFrom (fun k k' : Fin 20 => FloatOps.cmpfTotal (F := Ideal) (φ := .f32) .gt
      (S (j0.along 1 k)) (S (j0.along 1 k')) == 1#1) (j0 1))) 1).val) (by rw [hj]; rfl) ?_
    refine (congrArg (fun q => BitVec.ofNat 32 (j0.along 1 q 1).val) hs).trans ?_
    rw [hi]
    exact congrArg (fun y : (⟨2, ![512, 20]⟩ : Shape).Idx => BitVec.ofNat 32 (y 1).val) (ha _)

/-- How the reference's read along the memory's rows takes its operands. -/
abbrev along4 := Cert.Pre_distinct.gather_S512x20x256_S512x4x1_S512x4x256_2_1_0_0_1_2_11256

/-- The reference's read along the memory's rows, at positions in range. -/
theorem take_apply (M : FVec Ideal ⟨3, ![512, 20, 256]⟩ .f32) (idx : IVec ⟨3, ![512, 4, 1]⟩ 32) (i : Fin 512) (k : Fin 4) (j : Fin 256)
    (q : Fin 20) (hq : idx (ix3 i k 0) = BitVec.ofNat 32 q.val) :
    Host.gather Cert.Pre_distinct.gather_S512x20x256_S512x4x1_S512x4x256_2_1_0_0_1_2_11256 M idx (ix3 i k j) = M (ix3 i q j) := by
  unfold Host.gather
  congr 1
  funext a
  refine Fin.ext ?_
  have hw : ∀ q : Fin 20, (BitVec.ofNat 32 q.val).toInt.toNat = q.val := by decide
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  show along4.start (ix3 i k j) idx a + along4.batchCoord (ix3 i k j) a + along4.offCoord (ix3 i k j) a = _
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ along4.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ along4.startIndexMap from List.mem_singleton.mpr rfl)]
    have hsi : along4.siIdx (ix3 i k j) ⟨List.idxOf (1 : Fin 3) along4.startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi, hq, hw]
    show min q.val 19 = q.val
    omega
  · rw [GatherDims.batchCoord_eq_zero _ _ _ (by decide)]
    unfold GatherDims.start GatherDims.offCoord
    rw [dif_neg (by decide), dif_pos ((GatherDims.mem_sKept _ _).mpr ⟨by decide, by decide⟩)]
    simp only [Nat.zero_add]
    rfl

variable (g : Fin 4) (S : FVec Ideal Cert.Pre_distinct.S512x20 .f32) (M : FVec Ideal Cert.Pre_distinct.S512x20x256 .f32)

/-- The five largest of a row differ where the reference's check of it holds. -/
theorem apart (i : Fin 512) (h : ∀ j : Fin 4, Cert.Pre_distinct.fn_apart (F := Ideal) S (ix2 i j) = 1#1) (j : Fin 4) :
    nth (fun x => S (ix2 i x)) ⟨1 + j.val, by omega⟩ < nth (fun x => S (ix2 i x)) ⟨j.val, by omega⟩ := by
  have h := h j
  revert h
  pointwise [Cert.Pre_distinct.fn_apart]
  rw [(topK_apply _ S i (⟨1 + j.val, by omega⟩ : Fin 5) (show 1 + j.val < 20 by omega)).1,
    (topK_apply _ S i (⟨j.val, by omega⟩ : Fin 5) (show j.val < 20 by omega)).1]
  intro h
  by_contra hn
  rw [decide_eq_false hn] at h
  exact absurd h (by decide)

/-- The reference's read of a row. -/
theorem read_apply (i : Fin 512) (j : Fin 256) : Cert.Pre_distinct.fn_read (F := Ideal) S M (ix2 i j) =
    ∑ m : Fin 4, Ideal.div (Ideal.exp (nth (fun x => S (ix2 i x)) (Fin.castAdd 16 m) - nth (fun x => S (ix2 i x)) 0))
          (∑ m : Fin 4, Ideal.exp (nth (fun x => S (ix2 i x)) (Fin.castAdd 16 m) - nth (fun x => S (ix2 i x)) 0))
        * M (ix3 i (order (fun x => S (ix2 i x)) (Fin.castAdd 16 m)) j) := by
  pointwise [Cert.Pre_distinct.fn_read, Cert.Pre_distinct.fn_take_along_axis]
  have hv : ∀ m : Fin 4, (Host.topK Cert.Pre_distinct.S512x4 1 (FloatOps.cmpfTotal (F := Ideal) (φ := .f32) .gt) S
      Cert.Pre_distinct.Facts.sliceFits_S512x20_S512x4).1 (ix2 i m)
      = nth (fun x => S (ix2 i x)) (Fin.castAdd 16 m) := fun m => (topK_apply _ S i m (by omega)).1
  have hi : ∀ m : Fin 4, (Host.topK Cert.Pre_distinct.S512x4 1 (FloatOps.cmpfTotal (F := Ideal) (φ := .f32) .gt) S
      Cert.Pre_distinct.Facts.sliceFits_S512x20_S512x4).2 (ix2 i m)
      = BitVec.ofNat 32 (order (fun x => S (ix2 i x)) (Fin.castAdd 16 m)).val := fun m => (topK_apply _ S i m (by omega)).2
  have hm : max (⊥ : EReal) ((Finset.univ : Finset (Fin 4)).fold max ⊥ fun m => nth (fun x => S (ix2 i x)) (Fin.castAdd 16 m))
      = nth (fun x => S (ix2 i x)) 0 := by
    rw [fold_max_bot, bot_sup_eq]
    apply le_antisymm
    · exact Finset.sup_le fun m _ => order_le (fun x => S (ix2 i x)) (Fin.zero_le _)
    · exact Finset.le_sup (f := fun m : Fin 4 => nth (fun x => S (ix2 i x)) (Fin.castAdd 16 m)) (Finset.mem_univ 0)
  simp only [hv, low, hm]
  refine Finset.sum_congr rfl fun m _ => ?_
  congr 1
  refine take_apply M _ i m j _ ?_
  pointwise []
  rw [hi]
  generalize order (fun x => S (ix2 i x)) (Fin.castAdd 16 m) = q
  revert q
  decide

theorem read_rows (h : ∀ (i : Fin 128) (j : Fin 4), Cert.Pre_distinct.fn_apart (F := Ideal) S (ix2 (row g i) j) = 1#1)
    (hr : ∀ i x, S (ix2 i x) ≠ (⊤ : EReal)) :
  k1_pay14 (F := Ideal) (rows3 g M) (rows2 g S) (fun j => top S (row g (j 0)))
   (cmpf (F := Ideal) .oge (rows2 g S) (broadcastTo Cert.KernelIdeal.S128x20 ((fun j => top S (row g (j 0)) : FVec Ideal Cert.KernelIdeal.S128x1 .f32)) Cert.KernelIdeal.Gen.broadcasts_S128x1_S128x20)) (Named.named Cert.KernelIdeal.κ "mask" 0xF149F2CA#32) =
   rows2 g (Cert.Pre_distinct.fn_read (F := Ideal) S M) := by
  funext j
  idx_vars j
  rw [rows2_apply, read_apply]
  pointwise [k1_pay14, rows2_apply, rows3_apply]
  have hm : (Named.named KernelIdeal.κ "mask" 4048155338#32 : Ideal .f32) = (⊥ : EReal) := rfl
  have ht : top S (row g j0) = largest (fun x => S (ix2 (row g j0) x)) := rfl
  have h1 := apart S (row g j0) (h j0) 0
  have h2 := apart S (row g j0) (h j0) 1
  have h3 := apart S (row g j0) (h j0) 2
  have h4 := apart S (row g j0) (h j0) 3
  rw [← read_eq (fun x => S (ix2 (row g j0) x)) h1 h4 (hr _ _) (fun x => M (ix3 (row g j0) x j1))]
  have hth := threshold (fun x => S (ix2 (row g j0) x)) h1 h2 h3 _ rfl
  have hp : ∀ (v x : EReal), (FloatOps.sitofp (F := Ideal) FTy.f32 (BitVec.setWidth 32 (BitVec.ofBool (decide (v ≤ x)))) : EReal) = if v ≤ x then 1 else 0 := by
    intro v x
    by_cases h : v ≤ x
    · rw [if_pos h, decide_eq_true h]
      show ((((1#32 : BitVec 32).toInt : ℤ) : ℝ) : EReal) = 1
      simp
    · rw [if_neg h, decide_eq_false h]
      show ((((0#32 : BitVec 32).toInt : ℤ) : ℝ) : EReal) = 0
      simp
  simp only [hp, hm, low, fold_max_bot]
  rw [← largest_eq, ← hth, ht]
  rfl

end Cert.Select

end
-- ==== Proof.Finite.lean ====
/- A similarity is never +∞: each factor of its sum is a number over its row's length, and such a quotient is a real number whatever
   the row. -/
module

public import proofs.«01_k».proof.Proof.Spec

@[expose] public section

set_option maxRecDepth 16384

noncomputable section

namespace Cert.Finite

open Idealize.ShloMosaic Cert.Spec

/-- A real number. -/
def IsReal (x : EReal) : Prop := ∃ r : ℝ, x = (r : EReal)

/-- A product of real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of real numbers is one. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun i hi => h i (Finset.mem_insert_of_mem hi)
    exact ⟨x + y, by rw [hx, hy, EReal.coe_add]⟩

/-- A square is not negative. -/
theorem square_nonneg (x : EReal) : 0 ≤ x * x := by
  induction x with
  | bot => simp
  | top => simp
  | coe r => rw [← EReal.coe_mul]; exact EReal.coe_nonneg.mpr (mul_self_nonneg r)

/-- The small constant added to a length. -/
theorem eps_pos : ∃ e : ℝ, 0 < e ∧ Ideal.ofBits FTy.f32 841731191#32 = (e : EReal) := by
  refine ⟨(841731191 % 2 ^ 23 + 2 ^ 23 : ℕ) * (2 : ℝ) ^ (-50 : ℤ), by positivity, ?_⟩
  simp [Ideal.ofBits, Ideal.ieee]

/-- An entry over its row's length plus a little is a real number. -/
theorem unit_real {n : ℕ} (x : Fin n → EReal) (j : Fin n) :
    IsReal (Ideal.div (x j) (Ideal.sqrt (∑ i, x i * x i) + Ideal.ofBits FTy.f32 841731191#32)) := by
  obtain ⟨e, he, hE⟩ := eps_pos
  rw [hE]
  have h0 : 0 ≤ ∑ i, x i * x i := Finset.sum_nonneg fun i _ => square_nonneg _
  have hj : x j * x j ≤ ∑ i, x i * x i := Finset.single_le_sum (f := fun i => x i * x i) (fun i _ => square_nonneg _) (Finset.mem_univ j)
  generalize ∑ i, x i * x i = q at h0 hj
  induction q with
  | bot => exact absurd h0 (by simp)
  | top =>
    refine ⟨0, ?_⟩
    show Ideal.div (x j) (⊤ + (e : EReal)) = _
    rw [EReal.top_add_coe]
    unfold Ideal.div
    simp
  | coe r =>
    have hr : 0 ≤ r := EReal.coe_nonneg.mp h0
    have hx : IsReal (x j) := by
      generalize x j = y at hj
      induction y with
      | bot => simp at hj
      | top => simp at hj
      | coe y => exact ⟨y, rfl⟩
    obtain ⟨y, hy⟩ := hx
    have hs : Ideal.sqrt (r : EReal) = (Real.sqrt r : EReal) := if_neg (not_lt.mpr hr)
    have hp : 0 < Real.sqrt r + e := by positivity
    rw [hs, hy, ← EReal.coe_add]
    unfold Ideal.div
    rw [if_neg (by exact_mod_cast hp.ne'), ← EReal.coe_inv, ← EReal.coe_mul]
    exact ⟨_, rfl⟩

/-- Every similarity is a real number. -/
theorem similarity_real (h : FVec Ideal Cert.Pre_distinct.S512x256 .f32) (M : FVec Ideal Cert.Pre_distinct.S512x20x256 .f32)
    (key : FVec Ideal Cert.Pre_distinct.S256x256 .f32) (i : Fin 512) (x : Fin 20) :
    IsReal (Cert.Pre_distinct.fn_similarity (F := Ideal) h M key (ix2 i x)) := by
  pointwise [Cert.Pre_distinct.fn_similarity]
  exact IsReal.sum _ _ fun k _ => (unit_real (fun k => ∑ l, h (ix2 i l) * key (ix2 k l)) k).mul (unit_real (fun k => M (ix3 i x k)) k)

end Cert.Finite

end
-- ==== Proof.Recur.lean ====
/- The recurrence's loop on one block of sequences: what a trip yields, and what twenty of them leave. -/
module

public import proofs.«01_k».proof.Proof.Select
public import proofs.«01_k».proof.Proof.Finite
public import proofs.«01_k».proof.Proof.Gen.KernelIdeal.Loops

@[expose] public section

set_option maxRecDepth 16384

noncomputable section

namespace Cert.Recur

open Idealize.ShloMosaic Idealize.ShloMosaic.TcCoe Cert.KernelIdeal Cert.KernelIdeal.Gen

/-- What a trip yields from the carried value `a` and the step's features `f`. -/
def yielded (v30 : FVec Ideal S384x1024 .f32) (v32 : FVec Ideal S256x1024 .f32) (v34 : FVec Ideal S1x1024 .f32) (v35 v37 v39 : FVec Ideal S256x256 .f32) (f : FVec Ideal S128x1x128 .f32)
    (a : FVec Ideal S128x256 .f32 × FVec Ideal S128x256 .f32 × FVec Ideal S128x256 .f32 × FVec Ideal S128x20x256 .f32) :
    FVec Ideal S128x256 .f32 × FVec Ideal S128x256 .f32 × FVec Ideal S128x256 .f32 × FVec Ideal S128x20x256 .f32 :=
  (k1_pay10 v30 v32 v34 a.1 a.2.1 a.2.2.1 f, k1_pay9 v30 v32 v34 a.1 a.2.1 a.2.2.1 f,
    k1_pay14 a.2.2.2 (k1_pay11 v30 v32 v34 (k1_pay1 v35) a.1 a.2.1 a.2.2.1 a.2.2.2 f)
      (k1_pay12 v30 v32 v34 (k1_pay1 v35) a.1 a.2.1 a.2.2.1 a.2.2.2 f) (k1_pay13 v30 v32 v34 (k1_pay1 v35) a.1 a.2.1 a.2.2.1 a.2.2.2 f)
      (Named.named Cert.KernelIdeal.κ "mask" 0xF149F2CA#32),
    k1_pay6 a.2.2.2 (k1_pay15 (k1_pay2 v37) (k1_pay10 v30 v32 v34 a.1 a.2.1 a.2.2.1 f))
      (k1_pay16 (k1_pay11 v30 v32 v34 (k1_pay1 v35) a.1 a.2.1 a.2.2.1 a.2.2.2 f) (k1_pay12 v30 v32 v34 (k1_pay1 v35) a.1 a.2.1 a.2.2.1 a.2.2.2 f))
      (k1_pay17 (k1_pay3 v39) (k1_pay10 v30 v32 v34 a.1 a.2.1 a.2.2.1 f)
        (k1_pay11 v30 v32 v34 (k1_pay1 v35) a.1 a.2.1 a.2.2.1 a.2.2.2 f) (k1_pay12 v30 v32 v34 (k1_pay1 v35) a.1 a.2.1 a.2.2.1 a.2.2.2 f))
      (k1_pay18 (F := Ideal)))

/-- A trip yields that, its features read from the scratch buffer. -/
theorem trip_eq (𝒱 : Variants) (c : Dev nD) (bd : Option 𝒱.V) (i : grid1.Coords) (arg1 : Memref sig .tc .vmem S128x20x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S384x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S512x8 .f32) (harg10 : arg10.IsWhole) (arg11 : Memref sig .tc .vmem S1x8 .f32) (harg11 : arg11.IsWhole) (arg12 : Memref sig .tc .vmem S20x256 .f32) (harg12 : arg12.IsWhole) (arg13 : Memref sig .tc .vmem S128x8 .f32) (harg13 : arg13.IsWhole) (arg14 : Memref sig .tc .vmem S128x20x128 .f32) (harg14 : arg14.IsWhole) (v30 : FVec Ideal S384x1024 .f32) (v32 : FVec Ideal S256x1024 .f32) (v34 : FVec Ideal S1x1024 .f32) (v35 v37 v39 : FVec Ideal S256x256 .f32)
    (X : BufTy.Contents (Elt Ideal) arg14.view.ty) (k : Fin k1_t1_loop.trips)
    (a : FVec Ideal S128x256 .f32 × FVec Ideal S128x256 .f32 × FVec Ideal S128x256 .f32 × FVec Ideal S128x20x256 .f32) :
    tripR_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v30 v32 v34 v35 v37 v39 X k a =
      yielded v30 v32 v34 v35 v37 v39 (arg14.view.readAt (Elt Ideal) (Rect.unit (s := S128x20x128) (k1_off1 k) S128x1x128.size (Facts₀.k1_off1_inb k)).toLoadRect X) a := by
  unfold tripR_k1_t1
  unfold trip_k1_t1
  dsimp only
  rfl

/-- Trip `k` reads row `k` of each sequence. -/
theorem off : ∀ k : Fin k1_t1_loop.trips, k1_off1 k 0 = 0 ∧ k1_off1 k 1 = k.val ∧ k1_off1 k 2 = 0 := by decide +kernel

/-- What a trip reads of a scratch buffer holding `Y` is its own step's features. -/
theorem scratch_read (M : Memref sig .tc .vmem S128x20x128 .f32) (X : BufTy.Contents (Elt Ideal) M.view.ty) (k : Fin k1_t1_loop.trips)
    (Y : FVec Ideal S128x20x128 .f32) (h : M.view.read (Elt Ideal) X = Y) :
    M.view.readAt (Elt Ideal) (Rect.unit (s := S128x20x128) (k1_off1 k) S128x1x128.size (Facts₀.k1_off1_inb k)).toLoadRect X =
      (fun j => Y (ix3 (j 0) ⟨k.val, k.isLt.trans_le k1_t1_abs.2.1⟩ (j 2))) := by
  subst h
  funext j
  unfold View.readAt
  refine congrArg _ (funext fun a => Fin.ext ?_)
  obtain ⟨h0, h1, h2⟩ := off k
  have hj : (j 1).val = 0 := by have := (j 1).isLt; change (j 1).val < 1 at this; omega
  match a with
  | ⟨0, _⟩ => show k1_off1 k 0 + 1 * (j 0).val = (j 0).val; omega
  | ⟨1, _⟩ => show k1_off1 k 1 + 1 * (j 1).val = k.val; omega
  | ⟨2, _⟩ => show k1_off1 k 2 + 1 * (j 2).val = (j 2).val; omega

open Cert.Rows Cert.Spec

/-- The carried value of a block: the block of the state. -/
def carried (g : Fin 4) (s : State) :
    FVec Ideal S128x256 .f32 × FVec Ideal S128x256 .f32 × FVec Ideal S128x256 .f32 × FVec Ideal S128x20x256 .f32 :=
  (rows2 g s.h, rows2 g s.c, rows2 g s.r, rows3 g s.M)

/-- A trip takes the block of a state to the block of the next, where the step's kept similarities are apart. -/
theorem yielded_rows (g : Fin 4) (w : Weights) (f : FVec Ideal Cert.Pre_distinct.S512x128 .f32) (s : State)
    (h : ∀ j, Cert.Pre_distinct.fn_apart (F := Ideal) (sims w f s) j = 1#1) :
    yielded (flip2 w.wih) (flip2 w.whh) (asRow w.b) (flip2 w.key) (flip2 w.write) (flip2 w.erase) (slab g f) (carried g s) =
      carried g (step w f s) := by
  have e1 : k1_pay1 (F := Ideal) (flip2 w.key) = flip2 w.key := by
    funext j; idx_vars j; pointwise [k1_pay1]
  have e2 := cell_h g f s.h s.c s.r w.wih w.whh w.b
  have e3 := cell_c g f s.h s.c s.r w.wih w.whh w.b
  have e4 := sims_rows g f s.h s.c s.r s.M w.wih w.whh w.b w.key
  have e5 := top_rows g f s.h s.c s.r s.M w.wih w.whh w.b w.key
  have e6 : ∀ i x, (sims w f s) (ix2 i x) ≠ (⊤ : EReal) := fun i x => by
    obtain ⟨q, hq⟩ := Cert.Finite.similarity_real (cell w f s).1 s.M w.key i x
    unfold sims
    rw [hq]
    exact EReal.coe_ne_top q
  have e7 := Cert.Select.read_rows g (sims w f s) s.M (fun i j => h _) e6
  have e8 := write_rows g (cell w f s).1 s.M w.write w.erase (sims w f s)
  unfold yielded carried step k1_pay13
  dsimp only
  rw [e1, e2, e3, e4, e5]
  exact congrArg₂ Prod.mk rfl (congrArg₂ Prod.mk rfl (congrArg₂ Prod.mk e7 e8))

/-- One step more. -/
theorem state_succ (w : Weights) (A : FVec Ideal Cert.Pre_distinct.S512x20x128 .f32) (k : ℕ) (hk : k < 20) :
    Spec.state w A (k + 1) = step w (featAt A ⟨k, hk⟩) (Spec.state w A k) := by
  have e : (⟨k % 20, Nat.mod_lt _ (by decide)⟩ : Fin 20) = ⟨k, hk⟩ := Fin.ext (Nat.mod_eq_of_lt hk)
  rw [Spec.state, e]

/-- A step's features on a block are the block's features of the step. -/
theorem slab_row (g : Fin 4) (A : FVec Ideal Cert.Pre_distinct.S512x20x128 .f32) (k : Fin 20) :
    (fun j => rows3 g A (ix3 (j 0) k (j 2)) : FVec Ideal S128x1x128 .f32) = slab g (featAt A k) := rfl

/-- What the loop carries before trip `k`, on a block whose scratch buffer holds the normalised sequence `A`. -/
theorem carried_eq (𝒱 : Variants) (c : Dev nD) (bd : Option 𝒱.V) (i : grid1.Coords) (arg1 : Memref sig .tc .vmem S128x20x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S384x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S512x8 .f32) (harg10 : arg10.IsWhole) (arg11 : Memref sig .tc .vmem S1x8 .f32) (harg11 : arg11.IsWhole) (arg12 : Memref sig .tc .vmem S20x256 .f32) (harg12 : arg12.IsWhole) (arg13 : Memref sig .tc .vmem S128x8 .f32) (harg13 : arg13.IsWhole) (arg14 : Memref sig .tc .vmem S128x20x128 .f32) (harg14 : arg14.IsWhole)
    (X : BufTy.Contents (Elt Ideal) arg14.view.ty) (g : Fin 4) (w : Weights) (A : FVec Ideal Cert.Pre_distinct.S512x20x128 .f32)
    (hX : arg14.view.read (Elt Ideal) X = rows3 g A)
    (h : ∀ t : Fin 20, ∀ j, Cert.Pre_distinct.fn_apart (F := Ideal) (sims w (featAt A t) (Spec.state w A t.val)) j = 1#1) :
    ∀ k, k ≤ 20 → st_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 (flip2 w.wih) (flip2 w.whh) (asRow w.b) (flip2 w.key) (flip2 w.write) (flip2 w.erase) X
      (carried g (start w)) k = carried g (Spec.state w A k) := by
  intro k
  induction k with
  | zero => intro _; rfl
  | succ k ih =>
    intro hk
    have hl : k < k1_t1_loop.trips := lt_of_lt_of_eq (show k < 20 by omega) (by decide)
    have hs := h ⟨k, by omega⟩
    have e := yielded_rows g w (featAt A ⟨k, by omega⟩) (Spec.state w A k) hs
    rw [state_succ w A k (by omega), ← e, ← slab_row,
      st_k1_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 (flip2 w.wih) (flip2 w.whh) (asRow w.b) (flip2 w.key) (flip2 w.write) (flip2 w.erase) X _ ⟨k, hl⟩,
      trip_eq, ih (by omega), scratch_read _ _ _ _ hX]
    rfl

end Cert.Recur

end
-- ==== Proof.Block.lean ====
/- The recurrence kernel on one block of sequences: what it stores is the block of the prediction. -/
module

public import proofs.«01_k».proof.Proof.Recur
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.Block

open Idealize.ShloMosaic Idealize.ShloMosaic.TcCoe Cert.KernelIdeal Cert.KernelIdeal.Gen Cert.Rows Cert.Spec Cert.Recur

/-- The block the kernel stores, its inputs a block of the encoded sequence and the weights. -/
theorem stored (c : Dev nD) (i : grid1.Coords) (arg1 : Memref sig .tc .vmem S128x20x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S384x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S512x8 .f32) (harg10 : arg10.IsWhole) (arg11 : Memref sig .tc .vmem S1x8 .f32) (harg11 : arg11.IsWhole) (arg12 : Memref sig .tc .vmem S20x256 .f32) (harg12 : arg12.IsWhole) (arg13 : Memref sig .tc .vmem S128x8 .f32) (harg13 : arg13.IsWhole) (arg14 : Memref sig .tc .vmem S128x20x128 .f32) (harg14 : arg14.IsWhole) (g : Fin 4) (w : Weights) (A : FVec Ideal Cert.Pre_distinct.S512x20x128 .f32)
    (ga be : FVec Ideal Cert.Pre_distinct.S128 .f32) (ow : FVec Ideal Cert.Pre_distinct.S8x512 .f32) (ob : FVec Ideal Cert.Pre_distinct.S8 .f32)
    (h : ∀ t : Fin 20, ∀ j, Cert.Pre_distinct.fn_apart (F := Ideal) (sims w (featAt (Cert.Pre_distinct.fn_normalize (F := Ideal) A ga be) t)
      (Spec.state w (Cert.Pre_distinct.fn_normalize (F := Ideal) A ga be) t.val)) j = 1#1) :
    out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 (rows3 g A) (along ga) (along be) (flip2 w.wih) (flip2 w.whh) (asRow w.b) (flip2 w.key) (flip2 w.write)
      (flip2 w.erase) (flip2 ow) (asRow ob) w.mem =
      rows2 g (Cert.Spec.predict (Spec.state w (Cert.Pre_distinct.fn_normalize (F := Ideal) A ga be) 20).h
        (Spec.state w (Cert.Pre_distinct.fn_normalize (F := Ideal) A ga be) 20).r ow ob) := by
  frame_out
  have e20 : k1_pay20 (F := Ideal) (flip2 w.wih) = flip2 w.wih := by
    funext j; idx_vars j; pointwise [k1_pay20]
  have e21 : k1_pay21 (F := Ideal) (flip2 w.whh) = flip2 w.whh := by
    funext j; idx_vars j; pointwise [k1_pay21]
  have e22 : k1_pay22 (F := Ideal) (asRow w.b) = asRow w.b := by
    funext j; idx_vars j; pointwise [k1_pay22]
  have et : Scf.trips (0#32) (Scalar.addi 0#32 20#32) 1#32 = 20 := by decide
  have e0 : ((k1_pay5 (F := Ideal), k1_pay5 (F := Ideal), k1_pay5 (F := Ideal), k1_pay4 (F := Ideal) w.mem) :
      FVec Ideal S128x256 .f32 × FVec Ideal S128x256 .f32 × FVec Ideal S128x256 .f32 × FVec Ideal S128x20x256 .f32) =
      carried g (start w) := by
    rw [start_M g, start_h g w]; rfl
  have eR : arg14.view.read (Elt Ideal) (arg14.view.writes (Elt Ideal) arg14.view.junk
            [⟨Rect.unit ![0, 0, 0] ![128, 20, 128] inb_S128x20x128_S128x20x128_0_0_0,
                k1_pay19 (F := Ideal) (rows3 g A) (along ga) (along be)⟩]) = rows3 g (Cert.Pre_distinct.fn_normalize (F := Ideal) A ga be) := by
    exact (View.read_writes_full arg14.view _ _ _ []).trans (norm_rows g A ga be)
  rw [e20, e21, e22, et, e0]
  rw [carried_eq Variants.none c none i arg1 harg1 arg2 harg2 arg3 harg3 arg4 harg4 arg5 harg5 arg6 harg6 arg7 harg7 arg8 harg8 arg9 harg9 arg10 harg10 arg11 harg11 arg12 harg12 arg13 harg13 arg14 harg14 _ g w (Cert.Pre_distinct.fn_normalize (F := Ideal) A ga be) eR h 20 le_rfl]
  unfold carried
  dsimp only
  generalize Spec.state w (Cert.Pre_distinct.fn_normalize (F := Ideal) A ga be) 20 = s
  exact predict_rows g s.h s.r ow ob

end Cert.Block

end
-- ==== Proof.Region1.lean ====
/- The recurrence's output: what the second region finds, the blocks it reads, and the two results the host returns. -/
module

public import proofs.«01_k».proof.Proof.Region0
public import proofs.«01_k».proof.Proof.Block

@[expose] public section

set_option maxRecDepth 16384
set_option maxHeartbeats 2000000

noncomputable section

namespace Cert.Region1

open Idealize.ShloMosaic Cert.KernelIdeal Cert.KernelIdeal.Gen
open Idealize.ShloMosaic.Pipeline (Dat)
open Cert.Region0 (rows encoding)
open Cert.Rows (rows2 rows3 flip2 asRow along row)

variable (m : (b : Loc nD τ sig) → Buf (Elt Ideal) b) (ρ : Dev nD → PrngReg)

/-- The launch's recurrence weights. -/
def weights (c : Dev nD) : Spec.Weights where
  wih := m ((c.tc : Thread nD τ).loc main_arg13)
  whh := m ((c.tc : Thread nD τ).loc main_arg14)
  b := m ((c.tc : Thread nD τ).loc main_arg15)
  key := m ((c.tc : Thread nD τ).loc main_arg16)
  write := m ((c.tc : Thread nD τ).loc main_arg17)
  erase := m ((c.tc : Thread nD τ).loc main_arg18)
  mem := m ((c.tc : Thread nD τ).loc main_arg21)

/-- The launch's encoded sequences, normalised. -/
def features (c : Dev nD) : FVec Ideal Cert.Pre_distinct.S512x20x128 .f32 :=
  Cert.Pre_distinct.fn_normalize (F := Ideal) (encoding m c) (m ((c.tc : Thread nD τ).loc main_arg11)) (m ((c.tc : Thread nD τ).loc main_arg12))

/-- The prediction the reference defines at the launch's arguments. -/
def prediction (c : Dev nD) : FVec Ideal S512x8 .f32 :=
  Spec.predict (Spec.state (weights m c) (features m c) 20).h (Spec.state (weights m c) (features m c) 20).r
    (m ((c.tc : Thread nD τ).loc main_arg19)) (m ((c.tc : Thread nD τ).loc main_arg20))

/-- The encoder's output array as the second stretch of host operations finds it. -/
theorem v84 (c : Dev nD) : W4 m ρ c (Proc.devRef .tc main_v84) = rows (encoding m c) :=
  (W4_arr m ρ c 11).trans (Region0.final m ρ c)

/-- One image to a row, laid out again as sequences. -/
theorem unrows (E : FVec Ideal S512x20x128 .f32) :
    shapeCast (α := Elt Ideal .f32) S512x20x128 (rows E) shapeCasts_S10240x128_S512x20x128 = E := by
  funext j
  idx_vars j
  pointwise [rows]
  congr 1
  idx_ext

/-- The encoded sequences as the second region finds them. -/
theorem v85 (c : Dev nD) : W5 m ρ c (Proc.devRef .tc main_v85) = encoding m c := by
  have ha := v84 m ρ c
  show StableHlo.after hostOps1 (W4 m ρ c) (Proc.devRef .tc main_v85) = _
  generalize W4 m ρ c = U at *
  after_results
  rw [ha]
  exact unrows _

/-- The input weights as the second region finds them. -/
theorem v86 (c : Dev nD) : W5 m ρ c (Proc.devRef .tc main_v86) = flip2 (m ((c.tc : Thread nD τ).loc main_arg13)) := by
  have ha : W4 m ρ c (Proc.devRef .tc main_arg13) = m ((c.tc : Thread nD τ).loc main_arg13) := W4_args m ρ c _ (by decide)
  show StableHlo.after hostOps1 (W4 m ρ c) (Proc.devRef .tc main_v86) = _
  generalize W4 m ρ c = U at *
  after_results
  rw [ha]
  generalize m ((c.tc : Thread nD τ).loc main_arg13) = X
  funext j
  idx_vars j
  pointwise [flip2]

/-- The hidden weights as the second region finds them. -/
theorem v87 (c : Dev nD) : W5 m ρ c (Proc.devRef .tc main_v87) = flip2 (m ((c.tc : Thread nD τ).loc main_arg14)) := by
  have ha : W4 m ρ c (Proc.devRef .tc main_arg14) = m ((c.tc : Thread nD τ).loc main_arg14) := W4_args m ρ c _ (by decide)
  show StableHlo.after hostOps1 (W4 m ρ c) (Proc.devRef .tc main_v87) = _
  generalize W4 m ρ c = U at *
  after_results
  rw [ha]
  generalize m ((c.tc : Thread nD τ).loc main_arg14) = X
  funext j
  idx_vars j
  pointwise [flip2]

/-- The key weights as the second region finds them. -/
theorem v88 (c : Dev nD) : W5 m ρ c (Proc.devRef .tc main_v88) = flip2 (m ((c.tc : Thread nD τ).loc main_arg16)) := by
  have ha : W4 m ρ c (Proc.devRef .tc main_arg16) = m ((c.tc : Thread nD τ).loc main_arg16) := W4_args m ρ c _ (by decide)
  show StableHlo.after hostOps1 (W4 m ρ c) (Proc.devRef .tc main_v88) = _
  generalize W4 m ρ c = U at *
  after_results
  rw [ha]
  generalize m ((c.tc : Thread nD τ).loc main_arg16) = X
  funext j
  idx_vars j
  pointwise [flip2]

/-- The write weights as the second region finds them. -/
theorem v89 (c : Dev nD) : W5 m ρ c (Proc.devRef .tc main_v89) = flip2 (m ((c.tc : Thread nD τ).loc main_arg17)) := by
  have ha : W4 m ρ c (Proc.devRef .tc main_arg17) = m ((c.tc : Thread nD τ).loc main_arg17) := W4_args m ρ c _ (by decide)
  show StableHlo.after hostOps1 (W4 m ρ c) (Proc.devRef .tc main_v89) = _
  generalize W4 m ρ c = U at *
  after_results
  rw [ha]
  generalize m ((c.tc : Thread nD τ).loc main_arg17) = X
  funext j
  idx_vars j
  pointwise [flip2]

/-- The erase weights as the second region finds them. -/
theorem v90 (c : Dev nD) : W5 m ρ c (Proc.devRef .tc main_v90) = flip2 (m ((c.tc : Thread nD τ).loc main_arg18)) := by
  have ha : W4 m ρ c (Proc.devRef .tc main_arg18) = m ((c.tc : Thread nD τ).loc main_arg18) := W4_args m ρ c _ (by decide)
  show StableHlo.after hostOps1 (W4 m ρ c) (Proc.devRef .tc main_v90) = _
  generalize W4 m ρ c = U at *
  after_results
  rw [ha]
  generalize m ((c.tc : Thread nD τ).loc main_arg18) = X
  funext j
  idx_vars j
  pointwise [flip2]

/-- The output weights as the second region finds them. -/
theorem v91 (c : Dev nD) : W5 m ρ c (Proc.devRef .tc main_v91) = flip2 (m ((c.tc : Thread nD τ).loc main_arg19)) := by
  have ha : W4 m ρ c (Proc.devRef .tc main_arg19) = m ((c.tc : Thread nD τ).loc main_arg19) := W4_args m ρ c _ (by decide)
  show StableHlo.after hostOps1 (W4 m ρ c) (Proc.devRef .tc main_v91) = _
  generalize W4 m ρ c = U at *
  after_results
  rw [ha]
  generalize m ((c.tc : Thread nD τ).loc main_arg19) = X
  funext j
  idx_vars j
  pointwise [flip2]

/-- The scale as the second region finds it. -/
theorem v92 (c : Dev nD) : W5 m ρ c (Proc.devRef .tc main_v92) = along (m ((c.tc : Thread nD τ).loc main_arg11)) := by
  have ha : W4 m ρ c (Proc.devRef .tc main_arg11) = m ((c.tc : Thread nD τ).loc main_arg11) := W4_args m ρ c _ (by decide)
  show StableHlo.after hostOps1 (W4 m ρ c) (Proc.devRef .tc main_v92) = _
  generalize W4 m ρ c = U at *
  after_results
  rw [ha]
  generalize m ((c.tc : Thread nD τ).loc main_arg11) = X
  funext j
  idx_vars j
  pointwise [along]

/-- The shift as the second region finds it. -/
theorem v93 (c : Dev nD) : W5 m ρ c (Proc.devRef .tc main_v93) = along (m ((c.tc : Thread nD τ).loc main_arg12)) := by
  have ha : W4 m ρ c (Proc.devRef .tc main_arg12) = m ((c.tc : Thread nD τ).loc main_arg12) := W4_args m ρ c _ (by decide)
  show StableHlo.after hostOps1 (W4 m ρ c) (Proc.devRef .tc main_v93) = _
  generalize W4 m ρ c = U at *
  after_results
  rw [ha]
  generalize m ((c.tc : Thread nD τ).loc main_arg12) = X
  funext j
  idx_vars j
  pointwise [along]

/-- The bias of the recurrence as the second region finds it. -/
theorem v94 (c : Dev nD) : W5 m ρ c (Proc.devRef .tc main_v94) = asRow (m ((c.tc : Thread nD τ).loc main_arg15)) := by
  have ha : W4 m ρ c (Proc.devRef .tc main_arg15) = m ((c.tc : Thread nD τ).loc main_arg15) := W4_args m ρ c _ (by decide)
  show StableHlo.after hostOps1 (W4 m ρ c) (Proc.devRef .tc main_v94) = _
  generalize W4 m ρ c = U at *
  after_results
  rw [ha]
  generalize m ((c.tc : Thread nD τ).loc main_arg15) = X
  funext j
  idx_vars j
  pointwise [asRow]

/-- The bias of the output as the second region finds it. -/
theorem v95 (c : Dev nD) : W5 m ρ c (Proc.devRef .tc main_v95) = asRow (m ((c.tc : Thread nD τ).loc main_arg20)) := by
  have ha : W4 m ρ c (Proc.devRef .tc main_arg20) = m ((c.tc : Thread nD τ).loc main_arg20) := W4_args m ρ c _ (by decide)
  show StableHlo.after hostOps1 (W4 m ρ c) (Proc.devRef .tc main_v95) = _
  generalize W4 m ρ c = U at *
  after_results
  rw [ha]
  generalize m ((c.tc : Thread nD τ).loc main_arg20) = X
  funext j
  idx_vars j
  pointwise [asRow]

/-- Where each window's block sits at each point. -/
theorem idx : ∀ t : Fin cfg1.N, win1_0.index t = ![t.val, 0, 0] ∧ win1_1.index t = ![0, 0, 0] ∧ win1_2.index t = ![0, 0, 0] ∧ win1_3.index t = ![0, 0] ∧
    win1_4.index t = ![0, 0] ∧ win1_5.index t = ![0, 0] ∧ win1_6.index t = ![0, 0] ∧ win1_7.index t = ![0, 0] ∧ win1_8.index t = ![0, 0] ∧
    win1_9.index t = ![0, 0] ∧ win1_10.index t = ![0, 0] ∧ win1_11.index t = ![0, 0] ∧ win1_12.index t = ![t.val, 0] :=
  (by decide +kernel : ∀ t : Fin grid1.N, _)

/-- The point's block of sequences. -/
theorem blk0 (c : Dev nD) (t : Fin cfg1.N) :
    (iblk1 (V5 m ρ) c 0 t : FVec Ideal S128x20x128 .f32) = rows3 ⟨t.val, t.isLt⟩ (V5 m ρ c main_v85) := by
  funext y
  generalize hv : V5 m ρ = V
  idx_vars y
  blk_ext! [iblk1, idx t, rows3, row]

/-- Block 1 is its whole array. -/
theorem blk1 (c : Dev nD) (t : Fin cfg1.N) : iblk1 (V5 m ρ) c 1 t = V5 m ρ c main_v92 := by
  funext y
  generalize hv : V5 m ρ = V
  blk_ext! [iblk1, idx t]

/-- Block 2 is its whole array. -/
theorem blk2 (c : Dev nD) (t : Fin cfg1.N) : iblk1 (V5 m ρ) c 2 t = V5 m ρ c main_v93 := by
  funext y
  generalize hv : V5 m ρ = V
  blk_ext! [iblk1, idx t]

/-- Block 3 is its whole array. -/
theorem blk3 (c : Dev nD) (t : Fin cfg1.N) : iblk1 (V5 m ρ) c 3 t = V5 m ρ c main_v86 := by
  funext y
  generalize hv : V5 m ρ = V
  blk_ext! [iblk1, idx t]

/-- Block 4 is its whole array. -/
theorem blk4 (c : Dev nD) (t : Fin cfg1.N) : iblk1 (V5 m ρ) c 4 t = V5 m ρ c main_v87 := by
  funext y
  generalize hv : V5 m ρ = V
  blk_ext! [iblk1, idx t]

/-- Block 5 is its whole array. -/
theorem blk5 (c : Dev nD) (t : Fin cfg1.N) : iblk1 (V5 m ρ) c 5 t = V5 m ρ c main_v94 := by
  funext y
  generalize hv : V5 m ρ = V
  blk_ext! [iblk1, idx t]

/-- Block 6 is its whole array. -/
theorem blk6 (c : Dev nD) (t : Fin cfg1.N) : iblk1 (V5 m ρ) c 6 t = V5 m ρ c main_v88 := by
  funext y
  generalize hv : V5 m ρ = V
  blk_ext! [iblk1, idx t]

/-- Block 7 is its whole array. -/
theorem blk7 (c : Dev nD) (t : Fin cfg1.N) : iblk1 (V5 m ρ) c 7 t = V5 m ρ c main_v89 := by
  funext y
  generalize hv : V5 m ρ = V
  blk_ext! [iblk1, idx t]

/-- Block 8 is its whole array. -/
theorem blk8 (c : Dev nD) (t : Fin cfg1.N) : iblk1 (V5 m ρ) c 8 t = V5 m ρ c main_v90 := by
  funext y
  generalize hv : V5 m ρ = V
  blk_ext! [iblk1, idx t]

/-- Block 9 is its whole array. -/
theorem blk9 (c : Dev nD) (t : Fin cfg1.N) : iblk1 (V5 m ρ) c 9 t = V5 m ρ c main_v91 := by
  funext y
  generalize hv : V5 m ρ = V
  blk_ext! [iblk1, idx t]

/-- Block 10 is its whole array. -/
theorem blk10 (c : Dev nD) (t : Fin cfg1.N) : iblk1 (V5 m ρ) c 10 t = V5 m ρ c main_v95 := by
  funext y
  generalize hv : V5 m ρ = V
  blk_ext! [iblk1, idx t]

/-- Block 11 is its whole array. -/
theorem blk11 (c : Dev nD) (t : Fin cfg1.N) : iblk1 (V5 m ρ) c 11 t = V5 m ρ c main_arg21 := by
  funext y
  generalize hv : V5 m ρ = V
  blk_ext! [iblk1, idx t]

/-- No two of the five largest similarities are equal at any step: what the precondition gives. -/
def Apart (c : Dev nD) : Prop :=
  ∀ t : Fin 20, ∀ j, Cert.Pre_distinct.fn_apart (F := Ideal) (Spec.sims (weights m c) (Spec.featAt (features m c) t)
    (Spec.state (weights m c) (features m c) t.val)) j = 1#1

/-- What a point stores is its block of the prediction. -/
theorem point (c : Dev nD) (h : Apart m c) (t : Fin cfg1.N) :
    outsAt1 (V5 m ρ) c t = rows2 ⟨t.val, t.isLt⟩ (prediction m c) := by
  unfold outsAt1
  rw [blk0, blk1, blk2, blk3, blk4, blk5, blk6, blk7, blk8, blk9, blk10, blk11,
    show V5 m ρ c main_v85 = _ from v85 m ρ c, show V5 m ρ c main_v86 = _ from v86 m ρ c, show V5 m ρ c main_v87 = _ from v87 m ρ c,
    show V5 m ρ c main_v88 = _ from v88 m ρ c, show V5 m ρ c main_v89 = _ from v89 m ρ c, show V5 m ρ c main_v90 = _ from v90 m ρ c,
    show V5 m ρ c main_v91 = _ from v91 m ρ c, show V5 m ρ c main_v92 = _ from v92 m ρ c, show V5 m ρ c main_v93 = _ from v93 m ρ c,
    show V5 m ρ c main_v94 = _ from v94 m ρ c, show V5 m ρ c main_v95 = _ from v95 m ρ c,
    show V5 m ρ c main_arg21 = m ((c.tc : Thread nD τ).loc main_arg21) from W5_args m ρ c _ (by decide)]
  exact Block.stored c _ _ _ _ _ _ _ _ _ _ _ _ _ _ _ _ _ _ _ _ _ _ _ _ _ _ _ _ _ ⟨t.val, t.isLt⟩ (weights m c) (encoding m c)
    (m ((c.tc : Thread nD τ).loc main_arg11)) (m ((c.tc : Thread nD τ).loc main_arg12)) (m ((c.tc : Thread nD τ).loc main_arg19))
    (m ((c.tc : Thread nD τ).loc main_arg20)) h

/-- The recurrence's output array. -/
theorem final (c : Dev nD) (h : Apart m c) : (dat1 (V5 m ρ) c).arrAt 12 cfg1.N = prediction m c := by
  refine (dat1 (V5 m ρ) c).arrAt_eq_of_covers 12 _ (by decide +kernel) fun t _ y => ?_
  blk_simp
  rw [after1_12, point m ρ c h]
  have ht : t.val < 4 := t.isLt
  generalize prediction m c = P
  idx_vars y
  have hn : y0.val < 128 := y0.isLt
  have e : ((cfg1.win 12).blk t).view.emb (ix2 y0 y1) = (ix2 (row ⟨t.val, ht⟩ y0) y1 : S512x8.Idx) := by blk_ext [idx t, row]
  refine Eq.trans ?_ (congrArg P e.symm)
  rfl

/-- The first result: the prediction. -/
theorem predicted (c : Dev nD) (h : Apart m c) : W7 m ρ c (Proc.devRef .tc main_v96) = prediction m c :=
  (W7_of m ρ c _ (by decide)).trans ((W6_arr m ρ c 12).trans (final m ρ c h))

/-- The second result: the index of each row's largest prediction. -/
theorem class_ (c : Dev nD) (h : Apart m c) : W7 m ρ c (Proc.devRef .tc main_v97) = Spec.best (prediction m c) := by
  have ha : W6 m ρ c (Proc.devRef .tc main_v96) = prediction m c := (W6_arr m ρ c 12).trans (final m ρ c h)
  show StableHlo.after hostOps2 (W6 m ρ c) (Proc.devRef .tc main_v97) = _
  generalize W6 m ρ c = U at *
  rw [← ha]
  after_results
  rfl

end Cert.Region1

end
-- ==== Proof.Run.lean ====
/- The kernel's run: every buffer the program does not scope ends at the last stretch's contents, so the two results end at the
   prediction and its class. -/
module

public import proofs.«01_k».proof.Proof.Region1
public import Idealize.ShloMosaic.Adequacy

@[expose] public section

set_option maxRecDepth 16384
set_option maxHeartbeats 2000000

noncomputable section

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (b : Loc nD τ sig) → Buf (Elt Ideal) b) (ρ : Dev nD → PrngReg)

/-- Every weakly fair run of the kernel ends with each unscoped buffer at the contents the last host stretch leaves. -/
theorem ends : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- What the kernel's run leaves: the prediction, its class, and every argument as it was. -/
theorem results (h : ∀ c, Region1.Apart m c) : θ_run (defs (F := Ideal)) (onTc (τ := τ) (main (F := Ideal))) ⟨m, fun _ => 0, ρ⟩
    (fun r => ∀ c : Dev nD,
      r.2.mem ((c.tc : Thread nD τ).loc main_v96) = Region1.prediction m c
      ∧ r.2.mem ((c.tc : Thread nD τ).loc main_v97) = Spec.best (Region1.prediction m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := Ideal)) _ _).mono (fun r H c =>
    ⟨(H c _ (mem_uc main_v96 (by decide))).trans (Region1.predicted m ρ c (h c)),
     (H c _ (mem_uc main_v97 (by decide))).trans (Region1.class_ m ρ c (h c)),
     (H c _ (mem_uc main_arg0 (by decide))).trans (W7_main_arg0 m ρ c),
     (H c _ (mem_uc main_arg1 (by decide))).trans (W7_main_arg1 m ρ c),
     (H c _ (mem_uc main_arg2 (by decide))).trans (W7_main_arg2 m ρ c),
     (H c _ (mem_uc main_arg3 (by decide))).trans (W7_main_arg3 m ρ c),
     (H c _ (mem_uc main_arg4 (by decide))).trans (W7_main_arg4 m ρ c),
     (H c _ (mem_uc main_arg5 (by decide))).trans (W7_main_arg5 m ρ c),
     (H c _ (mem_uc main_arg6 (by decide))).trans (W7_main_arg6 m ρ c),
     (H c _ (mem_uc main_arg7 (by decide))).trans (W7_main_arg7 m ρ c),
     (H c _ (mem_uc main_arg8 (by decide))).trans (W7_main_arg8 m ρ c),
     (H c _ (mem_uc main_arg9 (by decide))).trans (W7_main_arg9 m ρ c),
     (H c _ (mem_uc main_arg10 (by decide))).trans (W7_main_arg10 m ρ c),
     (H c _ (mem_uc main_arg11 (by decide))).trans (W7_main_arg11 m ρ c),
     (H c _ (mem_uc main_arg12 (by decide))).trans (W7_main_arg12 m ρ c),
     (H c _ (mem_uc main_arg13 (by decide))).trans (W7_main_arg13 m ρ c),
     (H c _ (mem_uc main_arg14 (by decide))).trans (W7_main_arg14 m ρ c),
     (H c _ (mem_uc main_arg15 (by decide))).trans (W7_main_arg15 m ρ c),
     (H c _ (mem_uc main_arg16 (by decide))).trans (W7_main_arg16 m ρ c),
     (H c _ (mem_uc main_arg17 (by decide))).trans (W7_main_arg17 m ρ c),
     (H c _ (mem_uc main_arg18 (by decide))).trans (W7_main_arg18 m ρ c),
     (H c _ (mem_uc main_arg19 (by decide))).trans (W7_main_arg19 m ρ c),
     (H c _ (mem_uc main_arg20 (by decide))).trans (W7_main_arg20 m ρ c),
     (H c _ (mem_uc main_arg21 (by decide))).trans (W7_main_arg21 m ρ c)⟩) (ends m ρ)

end Cert.Run

end
-- ==== Proof.Apart.lean ====
/- The check of the five largest similarities, step by step, over the states of the recurrence. -/
module

public import proofs.«01_k».proof.Proof.Spec

@[expose] public section

set_option maxRecDepth 16384

noncomputable section

namespace Cert.Apart

open Idealize.ShloMosaic Cert.Pre_distinct Cert.Pre_distinct.Facts Cert.Spec

/-- One step's features lie inside the sequence's. -/
theorem slice_fits (t : ℕ) (ht : t < 20) : S512x20x128.Slices ![0, t, 0] S512x1x128 :=
  ⟨rfl, fun a => match a with
    | ⟨0, _⟩ => by show 0 + 512 ≤ 512; omega
    | ⟨1, _⟩ => by show t + 1 ≤ 20; omega
    | ⟨2, _⟩ => by show 0 + 128 ≤ 128; omega⟩

/-- The features of step `t`, as the check slices them out. -/
def part (A : FVec Ideal S512x20x128 .f32) (t : ℕ) (ht : t < 20) : FVec Ideal S512x128 .f32 :=
  shapeCast S512x128 (extractStridedSlice S512x1x128 ![0, t, 0] A (slice_fits t ht)) shapeCasts_S512x1x128_S512x128

/-- They are the recurrence's features of that step. -/
theorem part_eq (A : FVec Ideal S512x20x128 .f32) (t : ℕ) (ht : t < 20) : part A t ht = featAt A ⟨t, ht⟩ := by
  funext j
  idx_vars j
  pointwise [part, featAt]

variable (w : Weights) (A : FVec Ideal S512x20x128 .f32) (acc : IVec S512x4 1)

/-- Whether the five largest similarities of each row differ at each of the first `k` steps, an entry for each neighbouring pair. -/
def agrees : ℕ → IVec S512x4 1
  | 0 => fun _ => 1#1
  | k + 1 => andi (agrees k) (fn_apart (F := Ideal) (sims w (featAt A ⟨k % 20, Nat.mod_lt _ (by decide)⟩) (Cert.Spec.state w A k)))

/-- A stretch of the check: three steps from any state. -/
theorem stretch1 (f : FVec Ideal S512x128 .f32) (s : State) :
    Cert.Pre_distinct.fn_part1 (F := Ideal) w.wih w.whh w.b w.key w.write w.erase A s.M (Cert.Spec.cell w f s).1 (Cert.Spec.cell w f s).2 (Cert.Spec.sims w f s) acc (Cert.Pre_distinct.fn_read (F := Ideal) (Cert.Spec.sims w f s) s.M) =
    Cert.Pre_distinct.fn_part2 (F := Ideal) w.wih w.whh w.b w.key w.write w.erase A (andi (andi acc (Cert.Pre_distinct.fn_apart (F := Ideal) (Cert.Spec.sims w (part A 1 (by decide)) (Cert.Spec.step w f s)))) (Cert.Pre_distinct.fn_apart (F := Ideal) (Cert.Spec.sims w (part A 2 (by decide)) (Cert.Spec.step w (part A 1 (by decide)) (Cert.Spec.step w f s))))) (Cert.Spec.step w (part A 2 (by decide)) (Cert.Spec.step w (part A 1 (by decide)) (Cert.Spec.step w f s))).M (Cert.Spec.cell w (part A 3 (by decide)) (Cert.Spec.step w (part A 2 (by decide)) (Cert.Spec.step w (part A 1 (by decide)) (Cert.Spec.step w f s)))).1 (Cert.Spec.cell w (part A 3 (by decide)) (Cert.Spec.step w (part A 2 (by decide)) (Cert.Spec.step w (part A 1 (by decide)) (Cert.Spec.step w f s)))).2 (Cert.Spec.sims w (part A 3 (by decide)) (Cert.Spec.step w (part A 2 (by decide)) (Cert.Spec.step w (part A 1 (by decide)) (Cert.Spec.step w f s)))) := rfl

/-- The check's part 1, at the recurrence's states. -/
theorem part1_eq : Cert.Pre_distinct.fn_part1 (F := Ideal) w.wih w.whh w.b w.key w.write w.erase A (Cert.Spec.state w A 0).M (Cert.Spec.cell w (featAt A 0) (Cert.Spec.state w A 0)).1 (Cert.Spec.cell w (featAt A 0) (Cert.Spec.state w A 0)).2 (Cert.Spec.sims w (featAt A 0) (Cert.Spec.state w A 0)) (agrees w A 1) (Cert.Pre_distinct.fn_read (F := Ideal) (Cert.Spec.sims w (featAt A 0) (Cert.Spec.state w A 0)) (Cert.Spec.state w A 0).M) =
    Cert.Pre_distinct.fn_part2 (F := Ideal) w.wih w.whh w.b w.key w.write w.erase A (agrees w A 3) (Cert.Spec.state w A 3).M (Cert.Spec.cell w (featAt A 3) (Cert.Spec.state w A 3)).1 (Cert.Spec.cell w (featAt A 3) (Cert.Spec.state w A 3)).2 (Cert.Spec.sims w (featAt A 3) (Cert.Spec.state w A 3)) := by
  have h := stretch1 w A (agrees w A 1) (featAt A 0) (Cert.Spec.state w A 0)
  simp only [part_eq] at h
  exact h

/-- A stretch of the check: three steps from any state. -/
theorem stretch2 (f : FVec Ideal S512x128 .f32) (s : State) :
    Cert.Pre_distinct.fn_part2 (F := Ideal) w.wih w.whh w.b w.key w.write w.erase A acc s.M (Cert.Spec.cell w f s).1 (Cert.Spec.cell w f s).2 (Cert.Spec.sims w f s) =
    Cert.Pre_distinct.fn_part3 (F := Ideal) w.wih w.whh w.b w.key w.write w.erase A (Cert.Spec.cell w (part A 5 (by decide)) (Cert.Spec.step w (part A 4 (by decide)) (Cert.Spec.step w f s))).1 (Cert.Spec.cell w (part A 5 (by decide)) (Cert.Spec.step w (part A 4 (by decide)) (Cert.Spec.step w f s))).2 (andi (andi (andi acc (Cert.Pre_distinct.fn_apart (F := Ideal) (Cert.Spec.sims w f s))) (Cert.Pre_distinct.fn_apart (F := Ideal) (Cert.Spec.sims w (part A 4 (by decide)) (Cert.Spec.step w f s)))) (Cert.Pre_distinct.fn_apart (F := Ideal) (Cert.Spec.sims w (part A 5 (by decide)) (Cert.Spec.step w (part A 4 (by decide)) (Cert.Spec.step w f s))))) (Cert.Spec.step w (part A 5 (by decide)) (Cert.Spec.step w (part A 4 (by decide)) (Cert.Spec.step w f s))).r (Cert.Spec.step w (part A 5 (by decide)) (Cert.Spec.step w (part A 4 (by decide)) (Cert.Spec.step w f s))).M (part A 6 (by decide)) := rfl

/-- The check's part 2, at the recurrence's states. -/
theorem part2_eq : Cert.Pre_distinct.fn_part2 (F := Ideal) w.wih w.whh w.b w.key w.write w.erase A (agrees w A 3) (Cert.Spec.state w A 3).M (Cert.Spec.cell w (featAt A 3) (Cert.Spec.state w A 3)).1 (Cert.Spec.cell w (featAt A 3) (Cert.Spec.state w A 3)).2 (Cert.Spec.sims w (featAt A 3) (Cert.Spec.state w A 3)) =
    Cert.Pre_distinct.fn_part3 (F := Ideal) w.wih w.whh w.b w.key w.write w.erase A (Cert.Spec.cell w (featAt A 5) (Cert.Spec.state w A 5)).1 (Cert.Spec.cell w (featAt A 5) (Cert.Spec.state w A 5)).2 (agrees w A 6) (Cert.Spec.state w A 6).r (Cert.Spec.state w A 6).M (featAt A 6) := by
  have h := stretch2 w A (agrees w A 3) (featAt A 3) (Cert.Spec.state w A 3)
  simp only [part_eq] at h
  exact h

/-- A stretch of the check: three steps from any state. -/
theorem stretch3 (f : FVec Ideal S512x128 .f32) (s : State) :
    Cert.Pre_distinct.fn_part3 (F := Ideal) w.wih w.whh w.b w.key w.write w.erase A (Cert.Spec.cell w f s).1 (Cert.Spec.cell w f s).2 acc (Cert.Spec.step w f s).r (Cert.Spec.step w f s).M (part A 6 (by decide)) =
    Cert.Pre_distinct.fn_part4 (F := Ideal) w.wih w.whh w.b w.key w.write w.erase A (Cert.Spec.step w (part A 7 (by decide)) (Cert.Spec.step w (part A 6 (by decide)) (Cert.Spec.step w f s))).M (Cert.Spec.cell w (part A 8 (by decide)) (Cert.Spec.step w (part A 7 (by decide)) (Cert.Spec.step w (part A 6 (by decide)) (Cert.Spec.step w f s)))).1 (Cert.Spec.cell w (part A 8 (by decide)) (Cert.Spec.step w (part A 7 (by decide)) (Cert.Spec.step w (part A 6 (by decide)) (Cert.Spec.step w f s)))).2 (Cert.Spec.sims w (part A 8 (by decide)) (Cert.Spec.step w (part A 7 (by decide)) (Cert.Spec.step w (part A 6 (by decide)) (Cert.Spec.step w f s)))) (andi (andi (andi acc (Cert.Pre_distinct.fn_apart (F := Ideal) (Cert.Spec.sims w (part A 6 (by decide)) (Cert.Spec.step w f s)))) (Cert.Pre_distinct.fn_apart (F := Ideal) (Cert.Spec.sims w (part A 7 (by decide)) (Cert.Spec.step w (part A 6 (by decide)) (Cert.Spec.step w f s))))) (Cert.Pre_distinct.fn_apart (F := Ideal) (Cert.Spec.sims w (part A 8 (by decide)) (Cert.Spec.step w (part A 7 (by decide)) (Cert.Spec.step w (part A 6 (by decide)) (Cert.Spec.step w f s)))))) (Cert.Pre_distinct.fn_read (F := Ideal) (Cert.Spec.sims w (part A 8 (by decide)) (Cert.Spec.step w (part A 7 (by decide)) (Cert.Spec.step w (part A 6 (by decide)) (Cert.Spec.step w f s)))) (Cert.Spec.step w (part A 7 (by decide)) (Cert.Spec.step w (part A 6 (by decide)) (Cert.Spec.step w f s))).M) := rfl

/-- The check's part 3, at the recurrence's states. -/
theorem part3_eq : Cert.Pre_distinct.fn_part3 (F := Ideal) w.wih w.whh w.b w.key w.write w.erase A (Cert.Spec.cell w (featAt A 5) (Cert.Spec.state w A 5)).1 (Cert.Spec.cell w (featAt A 5) (Cert.Spec.state w A 5)).2 (agrees w A 6) (Cert.Spec.state w A 6).r (Cert.Spec.state w A 6).M (featAt A 6) =
    Cert.Pre_distinct.fn_part4 (F := Ideal) w.wih w.whh w.b w.key w.write w.erase A (Cert.Spec.state w A 8).M (Cert.Spec.cell w (featAt A 8) (Cert.Spec.state w A 8)).1 (Cert.Spec.cell w (featAt A 8) (Cert.Spec.state w A 8)).2 (Cert.Spec.sims w (featAt A 8) (Cert.Spec.state w A 8)) (agrees w A 9) (Cert.Pre_distinct.fn_read (F := Ideal) (Cert.Spec.sims w (featAt A 8) (Cert.Spec.state w A 8)) (Cert.Spec.state w A 8).M) := by
  have h := stretch3 w A (agrees w A 6) (featAt A 5) (Cert.Spec.state w A 5)
  simp only [part_eq] at h
  exact h

/-- A stretch of the check: three steps from any state. -/
theorem stretch4 (f : FVec Ideal S512x128 .f32) (s : State) :
    Cert.Pre_distinct.fn_part4 (F := Ideal) w.wih w.whh w.b w.key w.write w.erase A s.M (Cert.Spec.cell w f s).1 (Cert.Spec.cell w f s).2 (Cert.Spec.sims w f s) acc (Cert.Pre_distinct.fn_read (F := Ideal) (Cert.Spec.sims w f s) s.M) =
    Cert.Pre_distinct.fn_part5 (F := Ideal) w.wih w.whh w.b w.key w.write w.erase A (andi (andi acc (Cert.Pre_distinct.fn_apart (F := Ideal) (Cert.Spec.sims w (part A 9 (by decide)) (Cert.Spec.step w f s)))) (Cert.Pre_distinct.fn_apart (F := Ideal) (Cert.Spec.sims w (part A 10 (by decide)) (Cert.Spec.step w (part A 9 (by decide)) (Cert.Spec.step w f s))))) (Cert.Spec.step w (part A 10 (by decide)) (Cert.Spec.step w (part A 9 (by decide)) (Cert.Spec.step w f s))).M (Cert.Spec.cell w (part A 11 (by decide)) (Cert.Spec.step w (part A 10 (by decide)) (Cert.Spec.step w (part A 9 (by decide)) (Cert.Spec.step w f s)))).1 (Cert.Spec.cell w (part A 11 (by decide)) (Cert.Spec.step w (part A 10 (by decide)) (Cert.Spec.step w (part A 9 (by decide)) (Cert.Spec.step w f s)))).2 (Cert.Spec.sims w (part A 11 (by decide)) (Cert.Spec.step w (part A 10 (by decide)) (Cert.Spec.step w (part A 9 (by decide)) (Cert.Spec.step w f s)))) := rfl

/-- The check's part 4, at the recurrence's states. -/
theorem part4_eq : Cert.Pre_distinct.fn_part4 (F := Ideal) w.wih w.whh w.b w.key w.write w.erase A (Cert.Spec.state w A 8).M (Cert.Spec.cell w (featAt A 8) (Cert.Spec.state w A 8)).1 (Cert.Spec.cell w (featAt A 8) (Cert.Spec.state w A 8)).2 (Cert.Spec.sims w (featAt A 8) (Cert.Spec.state w A 8)) (agrees w A 9) (Cert.Pre_distinct.fn_read (F := Ideal) (Cert.Spec.sims w (featAt A 8) (Cert.Spec.state w A 8)) (Cert.Spec.state w A 8).M) =
    Cert.Pre_distinct.fn_part5 (F := Ideal) w.wih w.whh w.b w.key w.write w.erase A (agrees w A 11) (Cert.Spec.state w A 11).M (Cert.Spec.cell w (featAt A 11) (Cert.Spec.state w A 11)).1 (Cert.Spec.cell w (featAt A 11) (Cert.Spec.state w A 11)).2 (Cert.Spec.sims w (featAt A 11) (Cert.Spec.state w A 11)) := by
  have h := stretch4 w A (agrees w A 9) (featAt A 8) (Cert.Spec.state w A 8)
  simp only [part_eq] at h
  exact h

/-- A stretch of the check: three steps from any state. -/
theorem stretch5 (f : FVec Ideal S512x128 .f32) (s : State) :
    Cert.Pre_distinct.fn_part5 (F := Ideal) w.wih w.whh w.b w.key w.write w.erase A acc s.M (Cert.Spec.cell w f s).1 (Cert.Spec.cell w f s).2 (Cert.Spec.sims w f s) =
    Cert.Pre_distinct.fn_part6 (F := Ideal) w.wih w.whh w.b w.key w.write w.erase A (Cert.Spec.cell w (part A 13 (by decide)) (Cert.Spec.step w (part A 12 (by decide)) (Cert.Spec.step w f s))).1 (Cert.Spec.cell w (part A 13 (by decide)) (Cert.Spec.step w (part A 12 (by decide)) (Cert.Spec.step w f s))).2 (andi (andi (andi acc (Cert.Pre_distinct.fn_apart (F := Ideal) (Cert.Spec.sims w f s))) (Cert.Pre_distinct.fn_apart (F := Ideal) (Cert.Spec.sims w (part A 12 (by decide)) (Cert.Spec.step w f s)))) (Cert.Pre_distinct.fn_apart (F := Ideal) (Cert.Spec.sims w (part A 13 (by decide)) (Cert.Spec.step w (part A 12 (by decide)) (Cert.Spec.step w f s))))) (Cert.Spec.step w (part A 13 (by decide)) (Cert.Spec.step w (part A 12 (by decide)) (Cert.Spec.step w f s))).r (Cert.Spec.step w (part A 13 (by decide)) (Cert.Spec.step w (part A 12 (by decide)) (Cert.Spec.step w f s))).M (part A 14 (by decide)) := rfl

/-- The check's part 5, at the recurrence's states. -/
theorem part5_eq : Cert.Pre_distinct.fn_part5 (F := Ideal) w.wih w.whh w.b w.key w.write w.erase A (agrees w A 11) (Cert.Spec.state w A 11).M (Cert.Spec.cell w (featAt A 11) (Cert.Spec.state w A 11)).1 (Cert.Spec.cell w (featAt A 11) (Cert.Spec.state w A 11)).2 (Cert.Spec.sims w (featAt A 11) (Cert.Spec.state w A 11)) =
    Cert.Pre_distinct.fn_part6 (F := Ideal) w.wih w.whh w.b w.key w.write w.erase A (Cert.Spec.cell w (featAt A 13) (Cert.Spec.state w A 13)).1 (Cert.Spec.cell w (featAt A 13) (Cert.Spec.state w A 13)).2 (agrees w A 14) (Cert.Spec.state w A 14).r (Cert.Spec.state w A 14).M (featAt A 14) := by
  have h := stretch5 w A (agrees w A 11) (featAt A 11) (Cert.Spec.state w A 11)
  simp only [part_eq] at h
  exact h

/-- A stretch of the check: three steps from any state. -/
theorem stretch6 (f : FVec Ideal S512x128 .f32) (s : State) :
    Cert.Pre_distinct.fn_part6 (F := Ideal) w.wih w.whh w.b w.key w.write w.erase A (Cert.Spec.cell w f s).1 (Cert.Spec.cell w f s).2 acc (Cert.Spec.step w f s).r (Cert.Spec.step w f s).M (part A 14 (by decide)) =
    Cert.Pre_distinct.fn_part7 (F := Ideal) w.wih w.whh w.b w.key w.write w.erase A (Cert.Spec.step w (part A 15 (by decide)) (Cert.Spec.step w (part A 14 (by decide)) (Cert.Spec.step w f s))).M (Cert.Spec.cell w (part A 16 (by decide)) (Cert.Spec.step w (part A 15 (by decide)) (Cert.Spec.step w (part A 14 (by decide)) (Cert.Spec.step w f s)))).1 (Cert.Spec.cell w (part A 16 (by decide)) (Cert.Spec.step w (part A 15 (by decide)) (Cert.Spec.step w (part A 14 (by decide)) (Cert.Spec.step w f s)))).2 (Cert.Spec.sims w (part A 16 (by decide)) (Cert.Spec.step w (part A 15 (by decide)) (Cert.Spec.step w (part A 14 (by decide)) (Cert.Spec.step w f s)))) (andi (andi (andi acc (Cert.Pre_distinct.fn_apart (F := Ideal) (Cert.Spec.sims w (part A 14 (by decide)) (Cert.Spec.step w f s)))) (Cert.Pre_distinct.fn_apart (F := Ideal) (Cert.Spec.sims w (part A 15 (by decide)) (Cert.Spec.step w (part A 14 (by decide)) (Cert.Spec.step w f s))))) (Cert.Pre_distinct.fn_apart (F := Ideal) (Cert.Spec.sims w (part A 16 (by decide)) (Cert.Spec.step w (part A 15 (by decide)) (Cert.Spec.step w (part A 14 (by decide)) (Cert.Spec.step w f s)))))) (Cert.Pre_distinct.fn_read (F := Ideal) (Cert.Spec.sims w (part A 16 (by decide)) (Cert.Spec.step w (part A 15 (by decide)) (Cert.Spec.step w (part A 14 (by decide)) (Cert.Spec.step w f s)))) (Cert.Spec.step w (part A 15 (by decide)) (Cert.Spec.step w (part A 14 (by decide)) (Cert.Spec.step w f s))).M) := rfl

/-- The check's part 6, at the recurrence's states. -/
theorem part6_eq : Cert.Pre_distinct.fn_part6 (F := Ideal) w.wih w.whh w.b w.key w.write w.erase A (Cert.Spec.cell w (featAt A 13) (Cert.Spec.state w A 13)).1 (Cert.Spec.cell w (featAt A 13) (Cert.Spec.state w A 13)).2 (agrees w A 14) (Cert.Spec.state w A 14).r (Cert.Spec.state w A 14).M (featAt A 14) =
    Cert.Pre_distinct.fn_part7 (F := Ideal) w.wih w.whh w.b w.key w.write w.erase A (Cert.Spec.state w A 16).M (Cert.Spec.cell w (featAt A 16) (Cert.Spec.state w A 16)).1 (Cert.Spec.cell w (featAt A 16) (Cert.Spec.state w A 16)).2 (Cert.Spec.sims w (featAt A 16) (Cert.Spec.state w A 16)) (agrees w A 17) (Cert.Pre_distinct.fn_read (F := Ideal) (Cert.Spec.sims w (featAt A 16) (Cert.Spec.state w A 16)) (Cert.Spec.state w A 16).M) := by
  have h := stretch6 w A (agrees w A 14) (featAt A 13) (Cert.Spec.state w A 13)
  simp only [part_eq] at h
  exact h

/-- A stretch of the check: three steps from any state. -/
theorem stretch7 (f : FVec Ideal S512x128 .f32) (s : State) :
    Cert.Pre_distinct.fn_part7 (F := Ideal) w.wih w.whh w.b w.key w.write w.erase A s.M (Cert.Spec.cell w f s).1 (Cert.Spec.cell w f s).2 (Cert.Spec.sims w f s) acc (Cert.Pre_distinct.fn_read (F := Ideal) (Cert.Spec.sims w f s) s.M) =
    Cert.Pre_distinct.fn_part8 (F := Ideal) w.write w.erase (andi (andi acc (Cert.Pre_distinct.fn_apart (F := Ideal) (Cert.Spec.sims w (part A 17 (by decide)) (Cert.Spec.step w f s)))) (Cert.Pre_distinct.fn_apart (F := Ideal) (Cert.Spec.sims w (part A 18 (by decide)) (Cert.Spec.step w (part A 17 (by decide)) (Cert.Spec.step w f s))))) (Cert.Spec.step w (part A 18 (by decide)) (Cert.Spec.step w (part A 17 (by decide)) (Cert.Spec.step w f s))).M (Cert.Spec.cell w (part A 19 (by decide)) (Cert.Spec.step w (part A 18 (by decide)) (Cert.Spec.step w (part A 17 (by decide)) (Cert.Spec.step w f s)))).1 (Cert.Spec.sims w (part A 19 (by decide)) (Cert.Spec.step w (part A 18 (by decide)) (Cert.Spec.step w (part A 17 (by decide)) (Cert.Spec.step w f s)))) := rfl

/-- The check's part 7, at the recurrence's states. -/
theorem part7_eq : Cert.Pre_distinct.fn_part7 (F := Ideal) w.wih w.whh w.b w.key w.write w.erase A (Cert.Spec.state w A 16).M (Cert.Spec.cell w (featAt A 16) (Cert.Spec.state w A 16)).1 (Cert.Spec.cell w (featAt A 16) (Cert.Spec.state w A 16)).2 (Cert.Spec.sims w (featAt A 16) (Cert.Spec.state w A 16)) (agrees w A 17) (Cert.Pre_distinct.fn_read (F := Ideal) (Cert.Spec.sims w (featAt A 16) (Cert.Spec.state w A 16)) (Cert.Spec.state w A 16).M) =
    Cert.Pre_distinct.fn_part8 (F := Ideal) w.write w.erase (agrees w A 19) (Cert.Spec.state w A 19).M (Cert.Spec.cell w (featAt A 19) (Cert.Spec.state w A 19)).1 (Cert.Spec.sims w (featAt A 19) (Cert.Spec.state w A 19)) := by
  have h := stretch7 w A (agrees w A 17) (featAt A 16) (Cert.Spec.state w A 16)
  simp only [part_eq] at h
  exact h

/-- The check's last part, at the recurrence's last state. -/
theorem part8_eq : Cert.Pre_distinct.fn_part8 (F := Ideal) w.write w.erase (agrees w A 19) (Cert.Spec.state w A 19).M (Cert.Spec.cell w (featAt A 19) (Cert.Spec.state w A 19)).1 (Cert.Spec.sims w (featAt A 19) (Cert.Spec.state w A 19)) = agrees w A 20 := rfl

/-- The check's first state is the recurrence's. -/
theorem start_eq (x : FVec Ideal S512x20x32x32 .f32) :
    broadcastInDim S512x256 ![0, 1] bcast_S512x1_S512x256_0_1 (mulf (F := Ideal) (broadcastInDim S512x1 ![] bcast_S_S512x1 (constant S_ .f32 0x00000000#32))
      (shapeCast S512x1 (extractStridedSlice S512x1x1x1 ![0, 0, 0, 0] x slices_S512x20x32x32_S512x1x1x1_0_0_0_0) shapeCasts_S512x1x1x1_S512x1))
      = (fun _ => (0 : EReal)) := by
  funext j
  idx_vars j
  pointwise []
  exact zero_mul _

/-- The check's first memory is the recurrence's. -/
theorem start_M_eq (mem : FVec Ideal S20x256 .f32) :
    broadcastInDim S512x20x256 ![0, 1, 2] bcast_S1x20x256_S512x20x256_0_1_2 (broadcastInDim S1x20x256 ![1, 2] bcast_S20x256_S1x20x256_1_2 mem)
      = (fun j => mem (ix2 (j 1) (j 2)) : FVec Ideal S512x20x256 .f32) := by
  funext j
  idx_vars j
  pointwise []

/-- The whole check: every step of the recurrence over the normalised encoded sequence. -/
theorem check_eq (x : FVec Ideal S512x20x32x32 .f32) (w1 : FVec Ideal S32x1x4x4 .f32) (b1 : FVec Ideal S32 .f32)
    (w2 : FVec Ideal S32x32x4x4 .f32) (b2 : FVec Ideal S32 .f32) (w3 : FVec Ideal S32x32x4x4 .f32) (b3 : FVec Ideal S32 .f32)
    (f1 : FVec Ideal S256x512 .f32) (g1 : FVec Ideal S256 .f32) (f2 : FVec Ideal S128x256 .f32) (g2 : FVec Ideal S128 .f32)
    (ga be : FVec Ideal S128 .f32) (ow : FVec Ideal S8x512 .f32) (ob : FVec Ideal S8 .f32) (w : Weights) :
    Cert.Pre_distinct.fn (F := Ideal) x w1 b1 w2 b2 w3 b3 f1 g1 f2 g2 ga be w.wih w.whh w.b w.key w.write w.erase ow ob w.mem
      = agrees w (fn_normalize (F := Ideal) (Cert.Spec.encoded x w1 b1 w2 b2 w3 b3 f1 g1 f2 g2) ga be) 20 := by
  generalize hA : fn_normalize (F := Ideal) (Cert.Spec.encoded x w1 b1 w2 b2 w3 b3 f1 g1 f2 g2) ga be = A
  refine Eq.trans ?_ ((part1_eq w A).trans <| (part2_eq w A).trans <| (part3_eq w A).trans <| (part4_eq w A).trans <|
    (part5_eq w A).trans <| (part6_eq w A).trans <| (part7_eq w A).trans (part8_eq w A))
  subst hA
  have h0 := start_eq x
  have hM := start_M_eq w.mem
  have hf : ∀ A : FVec Ideal S512x20x128 .f32, shapeCast S512x128 (extractStridedSlice S512x1x128 ![0, 0, 0] A
      slices_S512x20x128_S512x1x128_0_0_0) shapeCasts_S512x1x128_S512x128 = featAt A 0 := fun A => part_eq A 0 (by decide)
  unfold Cert.Pre_distinct.fn
  simp only [h0, hM, hf]
  rfl

/-- Where the check holds, the five largest similarities of every row differ at every step. -/
theorem agrees_apart (h : ∀ j, agrees w A 20 j = 1#1) (t : Fin 20) (j : S512x4.Idx) :
    fn_apart (F := Ideal) (sims w (featAt A t) (Cert.Spec.state w A t.val)) j = 1#1 := by
  have hb : ∀ a b : BitVec 1, a &&& b = 1#1 → a = 1#1 ∧ b = 1#1 := by decide
  have hk : ∀ k, k ≤ 20 → agrees w A k j = 1#1 := by
    intro k hk
    induction hd : 20 - k generalizing k with
    | zero => obtain rfl : k = 20 := by omega
              exact h j
    | succ n ih => exact (hb _ _ (ih (k + 1) (by omega) (by omega))).1
  have := (hb _ _ (hk (t.val + 1) t.isLt)).2
  have ht : (⟨t.val % 20, Nat.mod_lt _ (by decide)⟩ : Fin 20) = t := Fin.ext (Nat.mod_eq_of_lt t.isLt)
  rw [ht] at this
  exact this

end Cert.Apart

end
-- ==== Proof.Agree.lean ====
/- The two programs' predictions as one function of the twenty-two arguments, and what the precondition gives the kernel's side. -/
module

public import proofs.«01_k».proof.Proof.Run
public import proofs.«01_k».proof.Proof.Apart
public import proofs.«01_k».proof.Proof.RefFinal

@[expose] public section

set_option maxRecDepth 16384
set_option maxHeartbeats 2000000

noncomputable section

namespace Cert.Agree

open Idealize.ShloMosaic Idealize.SL.Sem

/-- The prediction as a function of the arguments. -/
def answer (x : FVec Ideal Cert.Pre_distinct.S512x20x32x32 .f32) (w1 : FVec Ideal Cert.Pre_distinct.S32x1x4x4 .f32) (b1 : FVec Ideal Cert.Pre_distinct.S32 .f32) (w2 : FVec Ideal Cert.Pre_distinct.S32x32x4x4 .f32) (b2 : FVec Ideal Cert.Pre_distinct.S32 .f32) (w3 : FVec Ideal Cert.Pre_distinct.S32x32x4x4 .f32) (b3 : FVec Ideal Cert.Pre_distinct.S32 .f32) (f1 : FVec Ideal Cert.Pre_distinct.S256x512 .f32) (g1 : FVec Ideal Cert.Pre_distinct.S256 .f32) (f2 : FVec Ideal Cert.Pre_distinct.S128x256 .f32) (g2 : FVec Ideal Cert.Pre_distinct.S128 .f32) (ga : FVec Ideal Cert.Pre_distinct.S128 .f32) (be : FVec Ideal Cert.Pre_distinct.S128 .f32) (wih : FVec Ideal Cert.Pre_distinct.S1024x384 .f32) (whh : FVec Ideal Cert.Pre_distinct.S1024x256 .f32) (b : FVec Ideal Cert.Pre_distinct.S1024 .f32) (key : FVec Ideal Cert.Pre_distinct.S256x256 .f32) (write : FVec Ideal Cert.Pre_distinct.S256x256 .f32) (erase : FVec Ideal Cert.Pre_distinct.S256x256 .f32) (ow : FVec Ideal Cert.Pre_distinct.S8x512 .f32) (ob : FVec Ideal Cert.Pre_distinct.S8 .f32) (mem : FVec Ideal Cert.Pre_distinct.S20x256 .f32) :
    FVec Ideal Cert.ReferenceIdeal.S512x8 .f32 :=
  let w : Spec.Weights := ⟨wih, whh, b, key, write, erase, mem⟩
  let A := Cert.Pre_distinct.fn_normalize (F := Ideal) (Spec.encoded x w1 b1 w2 b2 w3 b3 f1 g1 f2 g2) ga be
  Spec.predict (Spec.state w A 20).h (Spec.state w A 20).r ow ob

/-- Equal arguments give equal predictions. -/
theorem answer_congr {x x' : FVec Ideal Cert.Pre_distinct.S512x20x32x32 .f32} {w1 w1' : FVec Ideal Cert.Pre_distinct.S32x1x4x4 .f32} {b1 b1' : FVec Ideal Cert.Pre_distinct.S32 .f32} {w2 w2' : FVec Ideal Cert.Pre_distinct.S32x32x4x4 .f32} {b2 b2' : FVec Ideal Cert.Pre_distinct.S32 .f32} {w3 w3' : FVec Ideal Cert.Pre_distinct.S32x32x4x4 .f32} {b3 b3' : FVec Ideal Cert.Pre_distinct.S32 .f32} {f1 f1' : FVec Ideal Cert.Pre_distinct.S256x512 .f32} {g1 g1' : FVec Ideal Cert.Pre_distinct.S256 .f32} {f2 f2' : FVec Ideal Cert.Pre_distinct.S128x256 .f32} {g2 g2' : FVec Ideal Cert.Pre_distinct.S128 .f32} {ga ga' : FVec Ideal Cert.Pre_distinct.S128 .f32} {be be' : FVec Ideal Cert.Pre_distinct.S128 .f32} {wih wih' : FVec Ideal Cert.Pre_distinct.S1024x384 .f32} {whh whh' : FVec Ideal Cert.Pre_distinct.S1024x256 .f32} {b b' : FVec Ideal Cert.Pre_distinct.S1024 .f32} {key key' : FVec Ideal Cert.Pre_distinct.S256x256 .f32} {write write' : FVec Ideal Cert.Pre_distinct.S256x256 .f32} {erase erase' : FVec Ideal Cert.Pre_distinct.S256x256 .f32} {ow ow' : FVec Ideal Cert.Pre_distinct.S8x512 .f32} {ob ob' : FVec Ideal Cert.Pre_distinct.S8 .f32} {mem mem' : FVec Ideal Cert.Pre_distinct.S20x256 .f32}
    (e0 : x' = x) (e1 : w1' = w1) (e2 : b1' = b1) (e3 : w2' = w2) (e4 : b2' = b2) (e5 : w3' = w3) (e6 : b3' = b3) (e7 : f1' = f1) (e8 : g1' = g1) (e9 : f2' = f2) (e10 : g2' = g2) (e11 : ga' = ga) (e12 : be' = be) (e13 : wih' = wih) (e14 : whh' = whh) (e15 : b' = b) (e16 : key' = key) (e17 : write' = write) (e18 : erase' = erase) (e19 : ow' = ow) (e20 : ob' = ob) (e21 : mem' = mem) :
    answer x' w1' b1' w2' b2' w3' b3' f1' g1' f2' g2' ga' be' wih' whh' b' key' write' erase' ow' ob' mem' = answer x w1 b1 w2 b2 w3 b3 f1 g1 f2 g2 ga be wih whh b key write erase ow ob mem := by
  subst e0 e1 e2 e3 e4 e5 e6 e7 e8 e9 e10 e11 e12 e13 e14 e15 e16 e17 e18 e19 e20 e21
  rfl

/-- The kernel's prediction is that function of its arguments. -/
theorem kernel_answer (m : (b : Loc Cert.KernelIdeal.nD Cert.KernelIdeal.τ Cert.KernelIdeal.sig) → Buf (Elt Ideal) b) (c : Dev Cert.KernelIdeal.nD) :
    Region1.prediction m c = answer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)) := rfl

/-- The reference's prediction is that function of its arguments. -/
theorem reference_answer (m : (b : Loc Cert.ReferenceIdeal.nD Cert.ReferenceIdeal.τ Cert.ReferenceIdeal.sig) → Buf (Elt Ideal) b) (c : Dev Cert.ReferenceIdeal.nD) :
    RefFinal.prediction (RefFinal.launch m c) = answer
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17))
      (m ((c.tc : Thread Cert.ReferenceIdeal.nD Cert.ReferenceIdeal.τ).loc Cert.ReferenceIdeal.main_arg18))
      (m ((c.tc : Thread Cert.ReferenceIdeal.nD Cert.ReferenceIdeal.τ).loc Cert.ReferenceIdeal.main_arg19))
      (m ((c.tc : Thread Cert.ReferenceIdeal.nD Cert.ReferenceIdeal.τ).loc Cert.ReferenceIdeal.main_arg20))
      (m ((c.tc : Thread Cert.ReferenceIdeal.nD Cert.ReferenceIdeal.τ).loc Cert.ReferenceIdeal.main_arg21)) := rfl

/-- The precondition at the kernel's arguments: no two of the five largest similarities are equal at any step. -/
theorem apart (m : (b : Loc Cert.KernelIdeal.nD Cert.KernelIdeal.τ Cert.KernelIdeal.sig) → Buf (Elt Ideal) b) (c : Dev Cert.KernelIdeal.nD)
    (h : Cert.Pre_distinct.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      = fun _ => 1#1) : Region1.Apart m c :=
  fun t j => Apart.agrees_apart (Region1.weights m c) (Region1.features m c)
    (fun j => (congrFun ((Apart.check_eq _ _ _ _ _ _ _ _ _ _ _ _ _ _ _ (Region1.weights m c)).symm.trans h) j)) t j

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_distinct
public import proofs.«01_k».proof.Proof.RefFrame
public import proofs.«01_k».proof.Proof.RefRun
public import proofs.«01_k».proof.Proof.Agree
public import Idealize.ShloMosaic.Adequacy
public import Idealize.ShloMosaic.Init

@[expose] public section

set_option maxRecDepth 16384

noncomputable section

namespace Cert.Proof

open Idealize.ShloMosaic Idealize.SL.Sem

set_option maxHeartbeats 20000000 in
/-- From memories agreeing on the arguments, with no ties among the five largest similarities, the idealized kernel and the
    reference end with equal predictions and equal classes, the arguments unchanged. -/
theorem algebraic : @Cert.algebraic_KernelIdeal_ReferenceIdeal_pre_distinct Cert.KernelIdeal.Gen.facts Cert.ReferenceIdeal.Gen.facts
    Cert.Pre_distinct.Gen.facts := by
  intro m g m' g' hpre hargs
  refine ⟨fun c => Region1.prediction m c, fun c => Spec.best (Region1.prediction m c),
    Run.results m g fun c => Agree.apart m c (hpre c), ?_⟩
  refine (θ_run Cert.ReferenceIdeal.defs _ _).mono (fun r H c => ?_) (RefRun.results m' g')
  have key : RefFinal.prediction (RefFinal.launch m' c) = Region1.prediction m c := by
    obtain ⟨e0, e1, e2, e3, e4, e5, e6, e7, e8, e9, e10, e11, e12, e13, e14, e15, e16, e17, e18, e19, e20, e21⟩ := hargs c
    exact (Agree.reference_answer m' c).trans ((Agree.answer_congr e0 e1 e2 e3 e4 e5 e6 e7 e8 e9 e10 e11 e12 e13 e14 e15 e16 e17 e18 e19 e20 e21).trans (Agree.kernel_answer m c).symm)
  obtain ⟨h0, h1, hr⟩ := H c
  exact ⟨h0.trans key, h1.trans (congrArg Spec.best key), hr⟩

/-- The certificate's claim. -/
theorem claim : Cert.Claim := ⟨Cert.Kernel.Gen.facts, Cert.KernelIdeal.Gen.facts, Cert.ReferenceIdeal.Gen.facts, Cert.Pre_distinct.Gen.facts,
  fun m ρ _ => Cert.Kernel.Gen.frame m ρ,
  fun m ρ _ => Cert.KernelIdeal.Gen.frame m ρ,
  fun m ρ _ => Cert.KernelIdeal.Gen.frame m ρ,
  Cert.RefFrame.frame,
  fun m ρ _ => Cert.RefFrame.frame m ρ trivial,
  IdealRules.named_const.statement _ _ _ _ _ rfl,
  algebraic⟩

end Cert.Proof

end
